-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x8192 : Shape := ⟨2, ![768, 8192]⟩
abbrev S2x512x8x64 : Shape := ⟨4, ![2, 512, 8, 64]⟩
abbrev S8192x768 : Shape := ⟨2, ![8192, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x8192 : S_.BroadcastsInDim S768x8192 (![] : Fin 0 → Fin S768x8192.rank)
  reducesTo_S768x8192_S_d0_1 : S768x8192.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x8192 .f32) (main_arg2 : FVec F S2x512x8x64 .f32) (main_arg3 : FVec F S2x512x8x64 .f32) (main_arg4 : FVec F S8192x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x8192 .f32 := Host.absf main_arg1
  let main_cst_0 : FVec F S_ .f32 := constant S_ .f32 0x7F800000#32
  let main_v5 : FVec F S768x8192 .f32 := broadcastInDim S768x8192 ![] bcast_S_S768x8192 main_cst_0
  let main_v6 : IVec S768x8192 1 := cmpf .olt main_v4 main_v5
  let main_c_1 : IVec S_ 1 := constantI S_ 1 1#1
  let main_v7 : IVec S_ 1 := (fun x v => Host.reduce IntOp.andi x v reducesTo_S768x8192_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x8192 : S_.BroadcastsInDim S768x8192 (![] : Fin 0 → Fin S768x8192.rank)
  reducesTo_S768x8192_S_d0_1 : S768x8192.ReducesTo [0, 1] S_
  bcast_S_S2x512x128x64 : S_.BroadcastsInDim S2x512x128x64 (![] : Fin 0 → Fin S2x512x128x64.rank)
  reducesTo_S2x512x128x64_S_d0_1_2_3 : S2x512x128x64.ReducesTo [0, 1, 2, 3] S_

variable [Facts]

def fn {F : FTy → Type} [FloatOps F] (main_arg0 : FVec F S2x512x768 .f32) (main_arg1 : FVec F S768x8192 .f32) (main_arg2 : FVec F S2x512x128x64 .f32) (main_arg3 : FVec F S2x512x128x64 .f32) (main_arg4 : FVec F S8192x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x8192 .f32 := Host.absf main_arg1
  let main_cst_0 : FVec F S_ .f32 := constant S_ .f32 0x7F800000#32
  let main_v5 : FVec F S768x8192 .f32 := broadcastInDim S768x8192 ![] bcast_S_S768x8192 main_cst_0
  let main_v6 : IVec S768x8192 1 := cmpf .olt main_v4 main_v5
  let main_c_1 : IVec S_ 1 := constantI S_ 1 1#1
  let main_v7 : IVec S_ 1 := (fun x v => Host.reduce IntOp.andi x v reducesTo_S768x8192_S_d0_1 h_S_) main_v6 main_c_1
  let main_v8 : IVec S_ 1 := andi main_v3 main_v7
  let main_v9 : FVec F S2x512x128x64 .f32 := Host.absf main_arg2
  let main_cst_2 : FVec F S_ .f32 := constant S_ .f32 0x7F800000#32
  let main_v10 : FVec F S2x512x128x64 .f32 := broadcastInDim S2x512x128x64 ![] bcast_S_S2x512x128x64 main_cst_2
  let main_v11 : IVec S2x512x128x64 1 := cmpf .olt main_v9 main_v10
  let main_c_3 : IVec S_ 1 := constantI S_ 1 1#1
  let main_v12 : IVec S_ 1 := (fun x v => Host.reduce IntOp.andi x v reducesTo_S2x512x128x64_S_d0_1_2_3 h_S_) main_v11 main_c_3
  let main_v13 : IVec S_ 1 := andi main_v8 main_v12
  main_v13
-- ==== Kernel.lean ====
abbrev S2x512x768 : Shape := ⟨3, ![2, 512, 768]⟩
abbrev S768x8192 : Shape := ⟨2, ![768, 8192]⟩
abbrev S2x512x8x64 : Shape := ⟨4, ![2, 512, 8, 64]⟩
abbrev S8192x768 : Shape := ⟨2, ![8192, 768]⟩
abbrev S_ : Shape := ⟨0, ![]⟩
abbrev S768x512 : Shape := ⟨2, ![768, 512]⟩
abbrev S512x768 : Shape := ⟨2, ![512, 768]⟩
abbrev S2x8x512x64 : Shape := ⟨4, ![2, 8, 512, 64]⟩
abbrev S16x64x768 : Shape := ⟨3, ![16, 64, 768]⟩
abbrev S15x64x768 : Shape := ⟨3, ![15, 64, 768]⟩
abbrev S64x768 : Shape := ⟨2, ![64, 768]⟩
abbrev S15 : Shape := ⟨1, ![15]⟩
abbrev S1x512x768 : Shape := ⟨3, ![1, 512, 768]⟩
abbrev S512x512 : Shape := ⟨2, ![512, 512]⟩
abbrev S512x64 : Shape := ⟨2, ![512, 64]⟩
abbrev S1x512x64 : Shape := ⟨3, ![1, 512, 64]⟩
abbrev S8x512x64 : Shape := ⟨3, ![8, 512, 64]⟩
abbrev S8x64x64 : Shape := ⟨3, ![8, 64, 64]⟩
abbrev S8x128x64 : Shape := ⟨3, ![8, 128, 64]⟩
abbrev S1x8x64x64 : Shape := ⟨4, ![1, 8, 64, 64]⟩
abbrev S8x128x128 : Shape := ⟨3, ![8, 128, 128]⟩
abbrev S8x128 : Shape := ⟨2, ![8, 128]⟩
abbrev S8x128x1 : Shape := ⟨3, ![8, 128, 1]⟩
abbrev S1x128x64 : Shape := ⟨3, ![1, 128, 64]⟩
abbrev S128x64 : Shape := ⟨2, ![128, 64]⟩
abbrev S128x512 : Shape := ⟨2, ![128, 512]⟩
abbrev S128x768 : Shape := ⟨2, ![128, 768]⟩
abbrev S1x64x768 : Shape := ⟨3, ![1, 64, 768]⟩
abbrev S1 : Shape := ⟨1, ![1]⟩

abbrev nBuf : Space → Nat
  | .hbm => 37
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x8192, .f32⟩
  | .hbm, ⟨2, _⟩ => ⟨S2x512x8x64, .f32⟩
  | .hbm, ⟨3, _⟩ => ⟨S2x512x8x64, .f32⟩
  | .hbm, ⟨4, _⟩ => ⟨S8192x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S768x512, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S512x768, .f32⟩
  | .hbm, ⟨29, _⟩ => ⟨S2x512x768, .bf16⟩
  | .hbm, ⟨30, _⟩ => ⟨S768x512, .bf16⟩
  | .hbm, ⟨31, _⟩ => ⟨S512x768, .bf16⟩
  | .hbm, ⟨32, _⟩ => ⟨S2x512x8x64, .bf16⟩
  | .hbm, ⟨33, _⟩ => ⟨S2x8x512x64, .bf16⟩
  | .hbm, ⟨34, _⟩ => ⟨S2x512x8x64, .bf16⟩
  | .hbm, ⟨35, _⟩ => ⟨S2x8x512x64, .bf16⟩
  | .hbm, ⟨36, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x8x512x64, .bf16⟩
  | .local _ .vmem, ⟨3, _⟩ => ⟨S2x8x512x64, .bf16⟩
  | .local _ .vmem, ⟨4, _⟩ => ⟨S512x768, .bf16⟩
  | .local _ .vmem, ⟨5, _⟩ => ⟨S2x512x768, .f32⟩
  | .local _ .vmem, ⟨6, _⟩ => ⟨S16x64x768, .bf16⟩
  | .local _ .vmem, ⟨7, _⟩ => ⟨S15x64x768, .bf16⟩
  | .local _ .vmem, ⟨8, _⟩ => ⟨S64x768, .bf16⟩
  | .local _ .vmem, ⟨9, _⟩ => ⟨S15x64x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_92 : BitVec 32 := 0#32
  let v140 : BitVec 1 := Scalar.cmpi .ne v2 c0_i32_92
  let v141 : BitVec 32 := Scalar.extui v140
  let c0_i32_93 : BitVec 32 := 0#32
  let v142 : BitVec 1 := Scalar.cmpi .ne v141 c0_i32_93
  v142

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_737 : BitVec 32 := 0#32
  let v964 : BitVec 32 := Scalar.subi v2 c0_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_737 : BitVec 32 := 0#32
  let v964 : BitVec 32 := Scalar.subi v2 c0_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev16 : Nat :=
  let c0_i32_742 : BitVec 32 := 0#32
  let c0_i32_740 : BitVec 32 := 0#32
  let c1_i32_741 : BitVec 32 := 1#32
  let v967 : BitVec 32 := Scalar.muli c0_i32_740 c1_i32_741
  let v968 : BitVec 32 := Scalar.addi c0_i32_742 v967
  v968.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_94 : BitVec 32 := 4#32
  let v143 : BitVec 1 := Scalar.cmpi .ne v2 c4_i32_94
  let v144 : BitVec 32 := Scalar.extui v143
  let c0_i32_95 : BitVec 32 := 0#32
  let v145 : BitVec 1 := Scalar.cmpi .ne v144 c0_i32_95
  v145

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_737 : BitVec 32 := 4#32
  let v964 : BitVec 32 := Scalar.subi v2 c4_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_737 : BitVec 32 := 4#32
  let v964 : BitVec 32 := Scalar.subi v2 c4_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev17 : Nat :=
  let c0_i32_742 : BitVec 32 := 0#32
  let c4_i32_740 : BitVec 32 := 4#32
  let c1_i32_741 : BitVec 32 := 1#32
  let v967 : BitVec 32 := Scalar.muli c4_i32_740 c1_i32_741
  let v968 : BitVec 32 := Scalar.addi c0_i32_742 v967
  v968.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_119 : BitVec 32 := 1#32
  let v197 : BitVec 1 := Scalar.cmpi .ne v2 c1_i32_119
  let v198 : BitVec 32 := Scalar.extui v197
  let c0_i32_120 : BitVec 32 := 0#32
  let v199 : BitVec 1 := Scalar.cmpi .ne v198 c0_i32_120
  v199

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_737 : BitVec 32 := 1#32
  let v964 : BitVec 32 := Scalar.subi v2 c1_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_737 : BitVec 32 := 1#32
  let v964 : BitVec 32 := Scalar.subi v2 c1_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev18 : Nat :=
  let c0_i32_742 : BitVec 32 := 0#32
  let c1_i32_740 : BitVec 32 := 1#32
  let c1_i32_741 : BitVec 32 := 1#32
  let v967 : BitVec 32 := Scalar.muli c1_i32_740 c1_i32_741
  let v968 : BitVec 32 := Scalar.addi c0_i32_742 v967
  v968.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_121 : BitVec 32 := 5#32
  let v200 : BitVec 1 := Scalar.cmpi .ne v2 c5_i32_121
  let v201 : BitVec 32 := Scalar.extui v200
  let c0_i32_122 : BitVec 32 := 0#32
  let v202 : BitVec 1 := Scalar.cmpi .ne v201 c0_i32_122
  v202

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_737 : BitVec 32 := 5#32
  let v964 : BitVec 32 := Scalar.subi v2 c5_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_737 : BitVec 32 := 5#32
  let v964 : BitVec 32 := Scalar.subi v2 c5_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev19 : Nat :=
  let c0_i32_742 : BitVec 32 := 0#32
  let c5_i32_740 : BitVec 32 := 5#32
  let c1_i32_741 : BitVec 32 := 1#32
  let v967 : BitVec 32 := Scalar.muli c5_i32_740 c1_i32_741
  let v968 : BitVec 32 := Scalar.addi c0_i32_742 v967
  v968.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_146 : BitVec 32 := 2#32
  let v254 : BitVec 1 := Scalar.cmpi .ne v2 c2_i32_146
  let v255 : BitVec 32 := Scalar.extui v254
  let c0_i32_147 : BitVec 32 := 0#32
  let v256 : BitVec 1 := Scalar.cmpi .ne v255 c0_i32_147
  v256

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_737 : BitVec 32 := 2#32
  let v964 : BitVec 32 := Scalar.subi v2 c2_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_737 : BitVec 32 := 2#32
  let v964 : BitVec 32 := Scalar.subi v2 c2_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev20 : Nat :=
  let c0_i32_742 : BitVec 32 := 0#32
  let c2_i32_740 : BitVec 32 := 2#32
  let c1_i32_741 : BitVec 32 := 1#32
  let v967 : BitVec 32 := Scalar.muli c2_i32_740 c1_i32_741
  let v968 : BitVec 32 := Scalar.addi c0_i32_742 v967
  v968.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_148 : BitVec 32 := 6#32
  let v257 : BitVec 1 := Scalar.cmpi .ne v2 c6_i32_148
  let v258 : BitVec 32 := Scalar.extui v257
  let c0_i32_149 : BitVec 32 := 0#32
  let v259 : BitVec 1 := Scalar.cmpi .ne v258 c0_i32_149
  v259

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_737 : BitVec 32 := 6#32
  let v964 : BitVec 32 := Scalar.subi v2 c6_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_737 : BitVec 32 := 6#32
  let v964 : BitVec 32 := Scalar.subi v2 c6_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev21 : Nat :=
  let c0_i32_742 : BitVec 32 := 0#32
  let c6_i32_740 : BitVec 32 := 6#32
  let c1_i32_741 : BitVec 32 := 1#32
  let v967 : BitVec 32 := Scalar.muli c6_i32_740 c1_i32_741
  let v968 : BitVec 32 := Scalar.addi c0_i32_742 v967
  v968.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_173 : BitVec 32 := 3#32
  let v311 : BitVec 1 := Scalar.cmpi .ne v2 c3_i32_173
  let v312 : BitVec 32 := Scalar.extui v311
  let c0_i32_174 : BitVec 32 := 0#32
  let v313 : BitVec 1 := Scalar.cmpi .ne v312 c0_i32_174
  v313

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_737 : BitVec 32 := 3#32
  let v964 : BitVec 32 := Scalar.subi v2 c3_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_737 : BitVec 32 := 3#32
  let v964 : BitVec 32 := Scalar.subi v2 c3_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev22 : Nat :=
  let c0_i32_742 : BitVec 32 := 0#32
  let c3_i32_740 : BitVec 32 := 3#32
  let c1_i32_741 : BitVec 32 := 1#32
  let v967 : BitVec 32 := Scalar.muli c3_i32_740 c1_i32_741
  let v968 : BitVec 32 := Scalar.addi c0_i32_742 v967
  v968.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_175 : BitVec 32 := 7#32
  let v314 : BitVec 1 := Scalar.cmpi .ne v2 c7_i32_175
  let v315 : BitVec 32 := Scalar.extui v314
  let c0_i32_176 : BitVec 32 := 0#32
  let v316 : BitVec 1 := Scalar.cmpi .ne v315 c0_i32_176
  v316

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_737 : BitVec 32 := 7#32
  let v964 : BitVec 32 := Scalar.subi v2 c7_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_737 : BitVec 32 := 7#32
  let v964 : BitVec 32 := Scalar.subi v2 c7_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev23 : Nat :=
  let c0_i32_742 : BitVec 32 := 0#32
  let c7_i32_740 : BitVec 32 := 7#32
  let c1_i32_741 : BitVec 32 := 1#32
  let v967 : BitVec 32 := Scalar.muli c7_i32_740 c1_i32_741
  let v968 : BitVec 32 := Scalar.addi c0_i32_742 v967
  v968.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_177 : BitVec 32 := 8#32
  let v317 : BitVec 1 := Scalar.cmpi .slt v2 c8_i32_177
  let v318 : BitVec 32 := Scalar.extui v317
  let c0_i32_178 : BitVec 32 := 0#32
  let v319 : BitVec 1 := Scalar.cmpi .ne v318 c0_i32_178
  v319

def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v964 : Index := Scalar.indexCast v2
  let c0_737 : Index := 0#32
  let c0_738 : Index := 0#32
  ![v964.toNat, 0, 0]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_921 : BitVec 32 := 8#32
  let v1152 : BitVec 32 := Scalar.divsi v2 c8_i32_921
  let v1155 : Index := Scalar.indexCast v1152
  let c8_i32_922 : BitVec 32 := 8#32
  let v1153 : BitVec 32 := Scalar.remsi v2 c8_i32_922
  let c64_i32_923 : BitVec 32 := 64#32
  let v1154 : BitVec 32 := Scalar.muli v1153 c64_i32_923
  let v1156 : Index := Scalar.indexCast v1154
  let c0_924 : Index := 0#32
  ![v1155.toNat, v1156.toNat, 0]
def k0_dev24 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_925 : BitVec 32 := 1#32
  let v1160 : BitVec 32 := Scalar.addi v2 c1_i32_925
  let c16_i32_926 : BitVec 32 := 16#32
  let v1161 : BitVec 32 := Scalar.remsi v1160 c16_i32_926
  let c1_i32_929 : BitVec 32 := 1#32
  let v1162 : BitVec 32 := Scalar.muli v1161 c1_i32_929
  let v1163 : BitVec 32 := Scalar.addi c0_i32_930 v1162
  v1163.toNat
def k0_dev25 (d0 : Dev nD) : Nat :=
  let c0_i32_938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_933 : BitVec 32 := 2#32
  let v1168 : BitVec 32 := Scalar.addi v2 c2_i32_933
  let c16_i32_934 : BitVec 32 := 16#32
  let v1169 : BitVec 32 := Scalar.remsi v1168 c16_i32_934
  let c1_i32_937 : BitVec 32 := 1#32
  let v1170 : BitVec 32 := Scalar.muli v1169 c1_i32_937
  let v1171 : BitVec 32 := Scalar.addi c0_i32_938 v1170
  v1171.toNat
def k0_dev26 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_941 : BitVec 32 := 3#32
  let v1176 : BitVec 32 := Scalar.addi v2 c3_i32_941
  let c16_i32_942 : BitVec 32 := 16#32
  let v1177 : BitVec 32 := Scalar.remsi v1176 c16_i32_942
  let c1_i32_945 : BitVec 32 := 1#32
  let v1178 : BitVec 32 := Scalar.muli v1177 c1_i32_945
  let v1179 : BitVec 32 := Scalar.addi c0_i32_946 v1178
  v1179.toNat
def k0_dev27 (d0 : Dev nD) : Nat :=
  let c0_i32_954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_949 : BitVec 32 := 4#32
  let v1184 : BitVec 32 := Scalar.addi v2 c4_i32_949
  let c16_i32_950 : BitVec 32 := 16#32
  let v1185 : BitVec 32 := Scalar.remsi v1184 c16_i32_950
  let c1_i32_953 : BitVec 32 := 1#32
  let v1186 : BitVec 32 := Scalar.muli v1185 c1_i32_953
  let v1187 : BitVec 32 := Scalar.addi c0_i32_954 v1186
  v1187.toNat
def k0_dev28 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_957 : BitVec 32 := 5#32
  let v1192 : BitVec 32 := Scalar.addi v2 c5_i32_957
  let c16_i32_958 : BitVec 32 := 16#32
  let v1193 : BitVec 32 := Scalar.remsi v1192 c16_i32_958
  let c1_i32_961 : BitVec 32 := 1#32
  let v1194 : BitVec 32 := Scalar.muli v1193 c1_i32_961
  let v1195 : BitVec 32 := Scalar.addi c0_i32_962 v1194
  v1195.toNat
def k0_dev29 (d0 : Dev nD) : Nat :=
  let c0_i32_970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_965 : BitVec 32 := 6#32
  let v1200 : BitVec 32 := Scalar.addi v2 c6_i32_965
  let c16_i32_966 : BitVec 32 := 16#32
  let v1201 : BitVec 32 := Scalar.remsi v1200 c16_i32_966
  let c1_i32_969 : BitVec 32 := 1#32
  let v1202 : BitVec 32 := Scalar.muli v1201 c1_i32_969
  let v1203 : BitVec 32 := Scalar.addi c0_i32_970 v1202
  v1203.toNat
def k0_dev30 (d0 : Dev nD) : Nat :=
  let c0_i32_978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_973 : BitVec 32 := 7#32
  let v1208 : BitVec 32 := Scalar.addi v2 c7_i32_973
  let c16_i32_974 : BitVec 32 := 16#32
  let v1209 : BitVec 32 := Scalar.remsi v1208 c16_i32_974
  let c1_i32_977 : BitVec 32 := 1#32
  let v1210 : BitVec 32 := Scalar.muli v1209 c1_i32_977
  let v1211 : BitVec 32 := Scalar.addi c0_i32_978 v1210
  v1211.toNat
def k0_dev31 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_981 : BitVec 32 := 8#32
  let v1216 : BitVec 32 := Scalar.addi v2 c8_i32_981
  let c16_i32_982 : BitVec 32 := 16#32
  let v1217 : BitVec 32 := Scalar.remsi v1216 c16_i32_982
  let c1_i32_985 : BitVec 32 := 1#32
  let v1218 : BitVec 32 := Scalar.muli v1217 c1_i32_985
  let v1219 : BitVec 32 := Scalar.addi c0_i32_986 v1218
  v1219.toNat
def k0_dev32 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_989 : BitVec 32 := 9#32
  let v1224 : BitVec 32 := Scalar.addi v2 c9_i32_989
  let c16_i32_990 : BitVec 32 := 16#32
  let v1225 : BitVec 32 := Scalar.remsi v1224 c16_i32_990
  let c1_i32_993 : BitVec 32 := 1#32
  let v1226 : BitVec 32 := Scalar.muli v1225 c1_i32_993
  let v1227 : BitVec 32 := Scalar.addi c0_i32_994 v1226
  v1227.toNat
def k0_dev33 (d0 : Dev nD) : Nat :=
  let c0_i32_1002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_997 : BitVec 32 := 10#32
  let v1232 : BitVec 32 := Scalar.addi v2 c10_i32_997
  let c16_i32_998 : BitVec 32 := 16#32
  let v1233 : BitVec 32 := Scalar.remsi v1232 c16_i32_998
  let c1_i32_1001 : BitVec 32 := 1#32
  let v1234 : BitVec 32 := Scalar.muli v1233 c1_i32_1001
  let v1235 : BitVec 32 := Scalar.addi c0_i32_1002 v1234
  v1235.toNat
def k0_dev34 (d0 : Dev nD) : Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1005 : BitVec 32 := 11#32
  let v1240 : BitVec 32 := Scalar.addi v2 c11_i32_1005
  let c16_i32_1006 : BitVec 32 := 16#32
  let v1241 : BitVec 32 := Scalar.remsi v1240 c16_i32_1006
  let c1_i32_1009 : BitVec 32 := 1#32
  let v1242 : BitVec 32 := Scalar.muli v1241 c1_i32_1009
  let v1243 : BitVec 32 := Scalar.addi c0_i32_1010 v1242
  v1243.toNat
def k0_dev35 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1013 : BitVec 32 := 12#32
  let v1248 : BitVec 32 := Scalar.addi v2 c12_i32_1013
  let c16_i32_1014 : BitVec 32 := 16#32
  let v1249 : BitVec 32 := Scalar.remsi v1248 c16_i32_1014
  let c1_i32_1017 : BitVec 32 := 1#32
  let v1250 : BitVec 32 := Scalar.muli v1249 c1_i32_1017
  let v1251 : BitVec 32 := Scalar.addi c0_i32_1018 v1250
  v1251.toNat
def k0_dev36 (d0 : Dev nD) : Nat :=
  let c0_i32_1026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1021 : BitVec 32 := 13#32
  let v1256 : BitVec 32 := Scalar.addi v2 c13_i32_1021
  let c16_i32_1022 : BitVec 32 := 16#32
  let v1257 : BitVec 32 := Scalar.remsi v1256 c16_i32_1022
  let c1_i32_1025 : BitVec 32 := 1#32
  let v1258 : BitVec 32 := Scalar.muli v1257 c1_i32_1025
  let v1259 : BitVec 32 := Scalar.addi c0_i32_1026 v1258
  v1259.toNat
def k0_dev37 (d0 : Dev nD) : Nat :=
  let c0_i32_1034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1029 : BitVec 32 := 14#32
  let v1264 : BitVec 32 := Scalar.addi v2 c14_i32_1029
  let c16_i32_1030 : BitVec 32 := 16#32
  let v1265 : BitVec 32 := Scalar.remsi v1264 c16_i32_1030
  let c1_i32_1033 : BitVec 32 := 1#32
  let v1266 : BitVec 32 := Scalar.muli v1265 c1_i32_1033
  let v1267 : BitVec 32 := Scalar.addi c0_i32_1034 v1266
  v1267.toNat
def k0_dev38 (d0 : Dev nD) : Nat :=
  let c0_i32_1042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1037 : BitVec 32 := 15#32
  let v1272 : BitVec 32 := Scalar.addi v2 c15_i32_1037
  let c16_i32_1038 : BitVec 32 := 16#32
  let v1273 : BitVec 32 := Scalar.remsi v1272 c16_i32_1038
  let c1_i32_1041 : BitVec 32 := 1#32
  let v1274 : BitVec 32 := Scalar.muli v1273 c1_i32_1041
  let v1275 : BitVec 32 := Scalar.addi c0_i32_1042 v1274
  v1275.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_210 : BitVec 32 := 8#32
  let v394 : BitVec 1 := Scalar.cmpi .ne v2 c8_i32_210
  let v395 : BitVec 32 := Scalar.extui v394
  let c0_i32_211 : BitVec 32 := 0#32
  let v396 : BitVec 1 := Scalar.cmpi .ne v395 c0_i32_211
  v396

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_737 : BitVec 32 := 8#32
  let v964 : BitVec 32 := Scalar.subi v2 c8_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_737 : BitVec 32 := 8#32
  let v964 : BitVec 32 := Scalar.subi v2 c8_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev39 : Nat :=
  let c0_i32_742 : BitVec 32 := 0#32
  let c8_i32_740 : BitVec 32 := 8#32
  let c1_i32_741 : BitVec 32 := 1#32
  let v967 : BitVec 32 := Scalar.muli c8_i32_740 c1_i32_741
  let v968 : BitVec 32 := Scalar.addi c0_i32_742 v967
  v968.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_212 : BitVec 32 := 12#32
  let v397 : BitVec 1 := Scalar.cmpi .ne v2 c12_i32_212
  let v398 : BitVec 32 := Scalar.extui v397
  let c0_i32_213 : BitVec 32 := 0#32
  let v399 : BitVec 1 := Scalar.cmpi .ne v398 c0_i32_213
  v399

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_737 : BitVec 32 := 12#32
  let v964 : BitVec 32 := Scalar.subi v2 c12_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_737 : BitVec 32 := 12#32
  let v964 : BitVec 32 := Scalar.subi v2 c12_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev40 : Nat :=
  let c0_i32_742 : BitVec 32 := 0#32
  let c12_i32_740 : BitVec 32 := 12#32
  let c1_i32_741 : BitVec 32 := 1#32
  let v967 : BitVec 32 := Scalar.muli c12_i32_740 c1_i32_741
  let v968 : BitVec 32 := Scalar.addi c0_i32_742 v967
  v968.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_239 : BitVec 32 := 9#32
  let v451 : BitVec 1 := Scalar.cmpi .ne v2 c9_i32_239
  let v452 : BitVec 32 := Scalar.extui v451
  let c0_i32_240 : BitVec 32 := 0#32
  let v453 : BitVec 1 := Scalar.cmpi .ne v452 c0_i32_240
  v453

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_737 : BitVec 32 := 9#32
  let v964 : BitVec 32 := Scalar.subi v2 c9_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_737 : BitVec 32 := 9#32
  let v964 : BitVec 32 := Scalar.subi v2 c9_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev41 : Nat :=
  let c0_i32_742 : BitVec 32 := 0#32
  let c9_i32_740 : BitVec 32 := 9#32
  let c1_i32_741 : BitVec 32 := 1#32
  let v967 : BitVec 32 := Scalar.muli c9_i32_740 c1_i32_741
  let v968 : BitVec 32 := Scalar.addi c0_i32_742 v967
  v968.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_241 : BitVec 32 := 13#32
  let v454 : BitVec 1 := Scalar.cmpi .ne v2 c13_i32_241
  let v455 : BitVec 32 := Scalar.extui v454
  let c0_i32_242 : BitVec 32 := 0#32
  let v456 : BitVec 1 := Scalar.cmpi .ne v455 c0_i32_242
  v456

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_737 : BitVec 32 := 13#32
  let v964 : BitVec 32 := Scalar.subi v2 c13_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_737 : BitVec 32 := 13#32
  let v964 : BitVec 32 := Scalar.subi v2 c13_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev42 : Nat :=
  let c0_i32_742 : BitVec 32 := 0#32
  let c13_i32_740 : BitVec 32 := 13#32
  let c1_i32_741 : BitVec 32 := 1#32
  let v967 : BitVec 32 := Scalar.muli c13_i32_740 c1_i32_741
  let v968 : BitVec 32 := Scalar.addi c0_i32_742 v967
  v968.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_268 : BitVec 32 := 10#32
  let v508 : BitVec 1 := Scalar.cmpi .ne v2 c10_i32_268
  let v509 : BitVec 32 := Scalar.extui v508
  let c0_i32_269 : BitVec 32 := 0#32
  let v510 : BitVec 1 := Scalar.cmpi .ne v509 c0_i32_269
  v510

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_737 : BitVec 32 := 10#32
  let v964 : BitVec 32 := Scalar.subi v2 c10_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_737 : BitVec 32 := 10#32
  let v964 : BitVec 32 := Scalar.subi v2 c10_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev43 : Nat :=
  let c0_i32_742 : BitVec 32 := 0#32
  let c10_i32_740 : BitVec 32 := 10#32
  let c1_i32_741 : BitVec 32 := 1#32
  let v967 : BitVec 32 := Scalar.muli c10_i32_740 c1_i32_741
  let v968 : BitVec 32 := Scalar.addi c0_i32_742 v967
  v968.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_270 : BitVec 32 := 14#32
  let v511 : BitVec 1 := Scalar.cmpi .ne v2 c14_i32_270
  let v512 : BitVec 32 := Scalar.extui v511
  let c0_i32_271 : BitVec 32 := 0#32
  let v513 : BitVec 1 := Scalar.cmpi .ne v512 c0_i32_271
  v513

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_737 : BitVec 32 := 14#32
  let v964 : BitVec 32 := Scalar.subi v2 c14_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_737 : BitVec 32 := 14#32
  let v964 : BitVec 32 := Scalar.subi v2 c14_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev44 : Nat :=
  let c0_i32_742 : BitVec 32 := 0#32
  let c14_i32_740 : BitVec 32 := 14#32
  let c1_i32_741 : BitVec 32 := 1#32
  let v967 : BitVec 32 := Scalar.muli c14_i32_740 c1_i32_741
  let v968 : BitVec 32 := Scalar.addi c0_i32_742 v967
  v968.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_297 : BitVec 32 := 11#32
  let v565 : BitVec 1 := Scalar.cmpi .ne v2 c11_i32_297
  let v566 : BitVec 32 := Scalar.extui v565
  let c0_i32_298 : BitVec 32 := 0#32
  let v567 : BitVec 1 := Scalar.cmpi .ne v566 c0_i32_298
  v567

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_737 : BitVec 32 := 11#32
  let v964 : BitVec 32 := Scalar.subi v2 c11_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_737 : BitVec 32 := 11#32
  let v964 : BitVec 32 := Scalar.subi v2 c11_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev45 : Nat :=
  let c0_i32_742 : BitVec 32 := 0#32
  let c11_i32_740 : BitVec 32 := 11#32
  let c1_i32_741 : BitVec 32 := 1#32
  let v967 : BitVec 32 := Scalar.muli c11_i32_740 c1_i32_741
  let v968 : BitVec 32 := Scalar.addi c0_i32_742 v967
  v968.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_299 : BitVec 32 := 15#32
  let v568 : BitVec 1 := Scalar.cmpi .ne v2 c15_i32_299
  let v569 : BitVec 32 := Scalar.extui v568
  let c0_i32_300 : BitVec 32 := 0#32
  let v570 : BitVec 1 := Scalar.cmpi .ne v569 c0_i32_300
  v570

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_737 : BitVec 32 := 15#32
  let v964 : BitVec 32 := Scalar.subi v2 c15_i32_737
  let c31_i32 : BitVec 32 := 31#32
  let v965 : BitVec 32 := Scalar.addi v964 c31_i32
  let c16_i32_738 : BitVec 32 := 16#32
  let v966 : BitVec 32 := Scalar.remsi v965 c16_i32_738
  ![v966.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_737 : BitVec 32 := 15#32
  let v964 : BitVec 32 := Scalar.subi v2 c15_i32_737
  let c31_i32 : BitVec 32 := 31#32
  let v965 : BitVec 32 := Scalar.addi v964 c31_i32
  let c16_i32_738 : BitVec 32 := 16#32
  let v966 : BitVec 32 := Scalar.remsi v965 c16_i32_738
  let c0_i32_743 : BitVec 32 := 0#32
  let c0_i32_744 : BitVec 32 := 0#32
  ![v966.toNat, 0, 0]
def k0_dev46 : Nat :=
  let c0_i32_742 : BitVec 32 := 0#32
  let c15_i32_740 : BitVec 32 := 15#32
  let c1_i32_741 : BitVec 32 := 1#32
  let v967 : BitVec 32 := Scalar.muli c15_i32_740 c1_i32_741
  let v968 : BitVec 32 := Scalar.addi c0_i32_742 v967
  v968.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_301 : BitVec 32 := 8#32
  let v571 : BitVec 1 := Scalar.cmpi .sge v2 c8_i32_301
  let v572 : BitVec 32 := Scalar.extui v571
  let c0_i32_302 : BitVec 32 := 0#32
  let v573 : BitVec 1 := Scalar.cmpi .ne v572 c0_i32_302
  v573

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v964 : Index := Scalar.indexCast v2
  let c0_737 : Index := 0#32
  let c0_738 : Index := 0#32
  ![v964.toNat, 0, 0]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_921 : BitVec 32 := 8#32
  let v1152 : BitVec 32 := Scalar.divsi v2 c8_i32_921
  let v1155 : Index := Scalar.indexCast v1152
  let c8_i32_922 : BitVec 32 := 8#32
  let v1153 : BitVec 32 := Scalar.remsi v2 c8_i32_922
  let c64_i32_923 : BitVec 32 := 64#32
  let v1154 : BitVec 32 := Scalar.muli v1153 c64_i32_923
  let v1156 : Index := Scalar.indexCast v1154
  let c0_924 : Index := 0#32
  ![v1155.toNat, v1156.toNat, 0]
def k0_dev47 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_925 : BitVec 32 := 1#32
  let v1160 : BitVec 32 := Scalar.addi v2 c1_i32_925
  let c16_i32_926 : BitVec 32 := 16#32
  let v1161 : BitVec 32 := Scalar.remsi v1160 c16_i32_926
  let c1_i32_929 : BitVec 32 := 1#32
  let v1162 : BitVec 32 := Scalar.muli v1161 c1_i32_929
  let v1163 : BitVec 32 := Scalar.addi c0_i32_930 v1162
  v1163.toNat
def k0_dev48 (d0 : Dev nD) : Nat :=
  let c0_i32_938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_933 : BitVec 32 := 2#32
  let v1168 : BitVec 32 := Scalar.addi v2 c2_i32_933
  let c16_i32_934 : BitVec 32 := 16#32
  let v1169 : BitVec 32 := Scalar.remsi v1168 c16_i32_934
  let c1_i32_937 : BitVec 32 := 1#32
  let v1170 : BitVec 32 := Scalar.muli v1169 c1_i32_937
  let v1171 : BitVec 32 := Scalar.addi c0_i32_938 v1170
  v1171.toNat
def k0_dev49 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_941 : BitVec 32 := 3#32
  let v1176 : BitVec 32 := Scalar.addi v2 c3_i32_941
  let c16_i32_942 : BitVec 32 := 16#32
  let v1177 : BitVec 32 := Scalar.remsi v1176 c16_i32_942
  let c1_i32_945 : BitVec 32 := 1#32
  let v1178 : BitVec 32 := Scalar.muli v1177 c1_i32_945
  let v1179 : BitVec 32 := Scalar.addi c0_i32_946 v1178
  v1179.toNat
def k0_dev50 (d0 : Dev nD) : Nat :=
  let c0_i32_954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_949 : BitVec 32 := 4#32
  let v1184 : BitVec 32 := Scalar.addi v2 c4_i32_949
  let c16_i32_950 : BitVec 32 := 16#32
  let v1185 : BitVec 32 := Scalar.remsi v1184 c16_i32_950
  let c1_i32_953 : BitVec 32 := 1#32
  let v1186 : BitVec 32 := Scalar.muli v1185 c1_i32_953
  let v1187 : BitVec 32 := Scalar.addi c0_i32_954 v1186
  v1187.toNat
def k0_dev51 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_957 : BitVec 32 := 5#32
  let v1192 : BitVec 32 := Scalar.addi v2 c5_i32_957
  let c16_i32_958 : BitVec 32 := 16#32
  let v1193 : BitVec 32 := Scalar.remsi v1192 c16_i32_958
  let c1_i32_961 : BitVec 32 := 1#32
  let v1194 : BitVec 32 := Scalar.muli v1193 c1_i32_961
  let v1195 : BitVec 32 := Scalar.addi c0_i32_962 v1194
  v1195.toNat
def k0_dev52 (d0 : Dev nD) : Nat :=
  let c0_i32_970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_965 : BitVec 32 := 6#32
  let v1200 : BitVec 32 := Scalar.addi v2 c6_i32_965
  let c16_i32_966 : BitVec 32 := 16#32
  let v1201 : BitVec 32 := Scalar.remsi v1200 c16_i32_966
  let c1_i32_969 : BitVec 32 := 1#32
  let v1202 : BitVec 32 := Scalar.muli v1201 c1_i32_969
  let v1203 : BitVec 32 := Scalar.addi c0_i32_970 v1202
  v1203.toNat
def k0_dev53 (d0 : Dev nD) : Nat :=
  let c0_i32_978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_973 : BitVec 32 := 7#32
  let v1208 : BitVec 32 := Scalar.addi v2 c7_i32_973
  let c16_i32_974 : BitVec 32 := 16#32
  let v1209 : BitVec 32 := Scalar.remsi v1208 c16_i32_974
  let c1_i32_977 : BitVec 32 := 1#32
  let v1210 : BitVec 32 := Scalar.muli v1209 c1_i32_977
  let v1211 : BitVec 32 := Scalar.addi c0_i32_978 v1210
  v1211.toNat
def k0_dev54 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_981 : BitVec 32 := 8#32
  let v1216 : BitVec 32 := Scalar.addi v2 c8_i32_981
  let c16_i32_982 : BitVec 32 := 16#32
  let v1217 : BitVec 32 := Scalar.remsi v1216 c16_i32_982
  let c1_i32_985 : BitVec 32 := 1#32
  let v1218 : BitVec 32 := Scalar.muli v1217 c1_i32_985
  let v1219 : BitVec 32 := Scalar.addi c0_i32_986 v1218
  v1219.toNat
def k0_dev55 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_989 : BitVec 32 := 9#32
  let v1224 : BitVec 32 := Scalar.addi v2 c9_i32_989
  let c16_i32_990 : BitVec 32 := 16#32
  let v1225 : BitVec 32 := Scalar.remsi v1224 c16_i32_990
  let c1_i32_993 : BitVec 32 := 1#32
  let v1226 : BitVec 32 := Scalar.muli v1225 c1_i32_993
  let v1227 : BitVec 32 := Scalar.addi c0_i32_994 v1226
  v1227.toNat
def k0_dev56 (d0 : Dev nD) : Nat :=
  let c0_i32_1002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_997 : BitVec 32 := 10#32
  let v1232 : BitVec 32 := Scalar.addi v2 c10_i32_997
  let c16_i32_998 : BitVec 32 := 16#32
  let v1233 : BitVec 32 := Scalar.remsi v1232 c16_i32_998
  let c1_i32_1001 : BitVec 32 := 1#32
  let v1234 : BitVec 32 := Scalar.muli v1233 c1_i32_1001
  let v1235 : BitVec 32 := Scalar.addi c0_i32_1002 v1234
  v1235.toNat
def k0_dev57 (d0 : Dev nD) : Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1005 : BitVec 32 := 11#32
  let v1240 : BitVec 32 := Scalar.addi v2 c11_i32_1005
  let c16_i32_1006 : BitVec 32 := 16#32
  let v1241 : BitVec 32 := Scalar.remsi v1240 c16_i32_1006
  let c1_i32_1009 : BitVec 32 := 1#32
  let v1242 : BitVec 32 := Scalar.muli v1241 c1_i32_1009
  let v1243 : BitVec 32 := Scalar.addi c0_i32_1010 v1242
  v1243.toNat
def k0_dev58 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1013 : BitVec 32 := 12#32
  let v1248 : BitVec 32 := Scalar.addi v2 c12_i32_1013
  let c16_i32_1014 : BitVec 32 := 16#32
  let v1249 : BitVec 32 := Scalar.remsi v1248 c16_i32_1014
  let c1_i32_1017 : BitVec 32 := 1#32
  let v1250 : BitVec 32 := Scalar.muli v1249 c1_i32_1017
  let v1251 : BitVec 32 := Scalar.addi c0_i32_1018 v1250
  v1251.toNat
def k0_dev59 (d0 : Dev nD) : Nat :=
  let c0_i32_1026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1021 : BitVec 32 := 13#32
  let v1256 : BitVec 32 := Scalar.addi v2 c13_i32_1021
  let c16_i32_1022 : BitVec 32 := 16#32
  let v1257 : BitVec 32 := Scalar.remsi v1256 c16_i32_1022
  let c1_i32_1025 : BitVec 32 := 1#32
  let v1258 : BitVec 32 := Scalar.muli v1257 c1_i32_1025
  let v1259 : BitVec 32 := Scalar.addi c0_i32_1026 v1258
  v1259.toNat
def k0_dev60 (d0 : Dev nD) : Nat :=
  let c0_i32_1034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1029 : BitVec 32 := 14#32
  let v1264 : BitVec 32 := Scalar.addi v2 c14_i32_1029
  let c16_i32_1030 : BitVec 32 := 16#32
  let v1265 : BitVec 32 := Scalar.remsi v1264 c16_i32_1030
  let c1_i32_1033 : BitVec 32 := 1#32
  let v1266 : BitVec 32 := Scalar.muli v1265 c1_i32_1033
  let v1267 : BitVec 32 := Scalar.addi c0_i32_1034 v1266
  v1267.toNat
def k0_dev61 (d0 : Dev nD) : Nat :=
  let c0_i32_1042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1037 : BitVec 32 := 15#32
  let v1272 : BitVec 32 := Scalar.addi v2 c15_i32_1037
  let c16_i32_1038 : BitVec 32 := 16#32
  let v1273 : BitVec 32 := Scalar.remsi v1272 c16_i32_1038
  let c1_i32_1041 : BitVec 32 := 1#32
  let v1274 : BitVec 32 := Scalar.muli v1273 c1_i32_1041
  let v1275 : BitVec 32 := Scalar.addi c0_i32_1042 v1274
  v1275.toNat
def k0_off37 (d0 : Dev nD) (c0_i32_312 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v582 : BitVec 32 := Scalar.addi v2 c0_i32_312
  let c1_i32_313 : BitVec 32 := 1#32
  let v583 : BitVec 32 := Scalar.addi v582 c1_i32_313
  let c16_i32_314 : BitVec 32 := 16#32
  let v584 : BitVec 32 := Scalar.remsi v583 c16_i32_314
  let c8_i32_318 : BitVec 32 := 8#32
  let v588 : BitVec 32 := Scalar.divsi v584 c8_i32_318
  let v591 : Index := Scalar.indexCast v588
  let c8_i32_319 : BitVec 32 := 8#32
  let v589 : BitVec 32 := Scalar.remsi v584 c8_i32_319
  let c64_i32 : BitVec 32 := 64#32
  let v590 : BitVec 32 := Scalar.muli v589 c64_i32
  let v592 : Index := Scalar.indexCast v590
  let c0_320 : Index := 0#32
  ![v591.toNat, v592.toNat, 0]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 137
  | .vmem => 0
  | .smem => 0
  | _ => 0

abbrev hbmTy0_0 (i : Nat) : BufTy := match i % 128 with
  | 0 => ⟨S2x512x768, .f32⟩
  | 1 => ⟨S768x8192, .f32⟩
  | 2 => ⟨S2x512x128x64, .f32⟩
  | 3 => ⟨S2x512x128x64, .f32⟩
  | 4 => ⟨S8192x768, .f32⟩
  | 5 => ⟨S2x512x8192, .f32⟩
  | 6 => ⟨S2x512x128x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S512x512, .i32⟩
  | 48 => ⟨S512x512, .i32⟩
  | 49 => ⟨S512x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x512, .i32⟩
  | 95 => ⟨S512x512, .i32⟩
  | 96 => ⟨S512x512, .i1⟩
  | 97 => ⟨S512x512, .i1⟩
  | 98 => ⟨S2x128x512x512, .f32⟩
  | 99 => ⟨S_, .f32⟩
  | 100 => ⟨S2x128x512x512, .f32⟩
  | 101 => ⟨S2x128x512x512, .f32⟩
  | 102 => ⟨S1x1x512x512, .i1⟩
  | 103 => ⟨S_, .f32⟩
  | 104 => ⟨S_, .f32⟩
  | 105 => ⟨S2x128x512x512, .i1⟩
  | 106 => ⟨S2x128x512x512, .f32⟩
  | 107 => ⟨S2x128x512x512, .f32⟩
  | 108 => ⟨S_, .f32⟩
  | 109 => ⟨S2x128x512, .f32⟩
  | 110 => ⟨S2x128x512x1, .f32⟩
  | 111 => ⟨S2x128x512x512, .f32⟩
  | 112 => ⟨S2x128x512x512, .f32⟩
  | 113 => ⟨S2x128x512x512, .f32⟩
  | 114 => ⟨S_, .i1⟩
  | 115 => ⟨S512, .i1⟩
  | 116 => ⟨S1x1x512x1, .i1⟩
  | 117 => ⟨S_, .f32⟩
  | 118 => ⟨S2x128x512, .f32⟩
  | 119 => ⟨S2x128x512x1, .f32⟩
  | 120 => ⟨S_, .f32⟩
  | 121 => ⟨S_, .f32⟩
  | 122 => ⟨S2x128x512x1, .i1⟩
  | 123 => ⟨S2x128x512x1, .f32⟩
  | 124 => ⟨S2x128x512x1, .f32⟩
  | 125 => ⟨S2x128x512x512, .f32⟩
  | 126 => ⟨S2x128x512x512, .f32⟩
  | 127 => ⟨S1x1x512x1, .i1⟩
  | _ => ⟨S2x512x768, .f32⟩

abbrev hbmTy0_1 (i : Nat) : BufTy := match i % 128 with
  | 0 => ⟨S_, .f32⟩
  | 1 => ⟨S_, .f32⟩
  | 2 => ⟨S2x128x512x512, .i1⟩
  | 3 => ⟨S2x128x512x512, .f32⟩
  | 4 => ⟨S2x128x512x512, .f32⟩
  | 5 => ⟨S2x128x64x512, .f32⟩
  | 6 => ⟨S2x512x128x64, .f32⟩
  | 7 => ⟨S2x512x8192, .f32⟩
  | 8 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Proto.lean ====
/-
  The protocol of the sixteen devices: the cells, who pays them what, and what each payment hands over.

  Device c sends chunk t of its partial product to device t (reduce-scatter), and later sends the reduced chunk c to every other
  device (all-gather). Both copies land in slot `sl c t` of device t. Every cell has one round.
-/
module

public import Idealize.ShloMosaic.Lib.Pipeline.Regions
public import Idealize.ShloMosaic.Lib.Pipeline.Kit
public import Idealize.ShloMosaic.Lib.Rounds
public import Idealize.ShloMosaic.Lib.Rounds.Family
public import Idealize.ShloMosaic.Lib.StableHlo
public import Idealize.ShloMosaic.Lib.Tactic
public import Idealize.ShloMosaic.PureOps
public import Idealize.ShloMosaic.Lib.Pipeline.RegionTalk
public import Idealize.ShloMosaic.Lib.Pipeline.TalkSites
public import Idealize.ShloMosaic.Lib.SparseCore.ProtocolKit
public import Idealize.ShloMosaic.Lib.MemrefSat
public import Idealize.ShloMosaic.Lib.Pipeline.BigSepL
public import Idealize.ShloMosaic.Harness.Basic
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type}

/-- The rounds component, and the pipeline's copy beside it. -/
abbrev UT : Type := URounds (GSem nD τ sig) (Dev nD)
@[inherit_doc UT] abbrev UU : Type := UR sig nD τ × UT

local notation "𝕄" => MT nD τ sig ℕ (Elt F) ℕ UU ℕ

/-- Assertions. -/
abbrev Prp (F : FTy → Type) : Type := sProp (MT nD τ sig ℕ (Elt F) ℕ UU ℕ)

abbrev EP : Emb (UR sig nD τ) (MT nD τ sig ℕ (Elt F) ℕ UU ℕ) := embL
abbrev ER : Emb UT (MT nD τ sig ℕ (Elt F) ℕ UU ℕ) := embR

/-- A chunk: 64 rows. -/
abbrev Chunk (F : FTy → Type) : Type := Vec F S1x64x768 .bf16
/-- A chunk without its leading axis. -/
abbrev Flat (F : FTy → Type) : Type := Vec F S64x768 .bf16

/-- A flat chunk with a leading axis. -/
def up (X : Flat F) : Chunk F := fun j => X ((Shape.reshapeEquiv squeezes_S1x64x768_S64x768.numel_eq).symm j)
/-- A chunk without its leading axis. -/
def down (X : Chunk F) : Flat F := fun i => X (Shape.reshapeEquiv squeezes_S1x64x768_S64x768.numel_eq i)
theorem down_up (X : Flat F) : down (up X) = X := funext fun i => congrArg X (Equiv.symm_apply_apply _ _)
theorem up_down (X : Chunk F) : up (down X) = X := funext fun i => congrArg X (Equiv.apply_symm_apply _ _)
theorem down_inj {X Y : Chunk F} (h : down X = down Y) : X = Y := by rw [← up_down X, h, up_down]

/-! ## The memory -/

abbrev accA : Memref sig .tc .vmem S16x64x768 .bf16 := Memref.whole cc0_scratch0
abbrev rsA : Memref sig .tc .vmem S15x64x768 .bf16 := Memref.whole cc0_scratch1
abbrev srcA : Memref sig .tc .vmem S64x768 .bf16 := Memref.whole cc0_scratch2
abbrev agA : Memref sig .tc .vmem S15x64x768 .bf16 := Memref.whole cc0_scratch3
abbrev outA : Memref sig .tc .vmem S2x512x768 .f32 := Memref.whole cc0_stg5_0

theorem inb16 (t : Fin 16) : ∀ a, (![t.val, 0, 0] : Fin 3 → ℕ) a + S1x64x768.size a ≤ S16x64x768.size a := by revert t; decide
theorem inb15 (j : Fin 15) : ∀ a, (![j.val, 0, 0] : Fin 3 → ℕ) a + S1x64x768.size a ≤ S15x64x768.size a := by revert j; decide
theorem inbOut (t : Fin 16) : ∀ a, (![t.val / 8, 64 * (t.val % 8), 0] : Fin 3 → ℕ) a + S1x64x768.size a ≤ S2x512x768.size a := by revert t; decide

/-- Chunk t of the partial products; slot j of either landing buffer; chunk t of the output. -/
abbrev rAcc (t : Fin 16) : Rect S16x64x768 := Rect.unit (s := S16x64x768) ![t.val, 0, 0] S1x64x768.size (inb16 t)
@[inherit_doc rAcc] abbrev rSlot (j : Fin 15) : Rect S15x64x768 := Rect.unit (s := S15x64x768) ![j.val, 0, 0] S1x64x768.size (inb15 j)
@[inherit_doc rAcc] abbrev rOut (t : Fin 16) : Rect S2x512x768 := Rect.unit (s := S2x512x768) ![t.val / 8, 64 * (t.val % 8), 0] S1x64x768.size (inbOut t)
abbrev accM (t : Fin 16) : Memref sig .tc .vmem S1x64x768 .bf16 := accA.slice (rAcc t) (fun _ => rfl)
abbrev rsM (j : Fin 15) : Memref sig .tc .vmem S1x64x768 .bf16 := rsA.slice (rSlot j) (fun _ => rfl)
abbrev agM (j : Fin 15) : Memref sig .tc .vmem S1x64x768 .bf16 := agA.slice (rSlot j) (fun _ => rfl)
abbrev outM (t : Fin 16) : Memref sig .tc .vmem S1x64x768 .f32 := outA.slice (rOut t) (fun _ => rfl)

/-! ## Devices and slots -/

/-- The device o places on. -/
def fwd (c : Dev nD) (o : ℕ) : Dev nD := ⟨(c.val + o) % 16, Nat.mod_lt _ (by decide)⟩
/-- The slot of device p that device c writes. -/
def sl (c p : Dev nD) : Fin 15 := if h : (c.val + 31 - p.val) % 16 < 15 then ⟨(c.val + 31 - p.val) % 16, h⟩ else 0
/-- The device that writes slot j of device x. -/
abbrev snd (x : Dev nD) (j : Fin 15) : Dev nD := fwd x (j.val + 1)

theorem snd_sl (c p : Dev nD) (h : p ≠ c) : snd p (sl c p) = c := by revert c p; decide
theorem sl_fwd (c : Dev nD) (o : Fin 15) : sl c (fwd c (o.val + 1)) = ⟨14 - o.val, by omega⟩ := by revert c o; decide
theorem fwd_ne (c : Dev nD) (o : Fin 15) : fwd c (o.val + 1) ≠ c := by revert c o; decide
theorem snd_ne (x : Dev nD) (j : Fin 15) : snd x j ≠ x := by revert x j; decide
theorem sl_snd (x : Dev nD) (j : Fin 15) : sl (snd x j) x = j := by revert x j; decide

/-! ## The cells -/

abbrev barS : Sem sig := sig.barrier 0 rfl
abbrev rsSendS : DmaSem sig := 6
abbrev agSendS : DmaSem sig := 7
def rsRecvS (j : Fin 15) : DmaSem sig := ⟨8 + j.val, by have := j.isLt; show 8 + j.val < 38; omega⟩
def agRecvS (j : Fin 15) : DmaSem sig := ⟨23 + j.val, by have := j.isLt; show 23 + j.val < 38; omega⟩
abbrev barCell (c : Dev nD) : GSem nD τ sig := ((c.tc : Thread nD τ), .reg barS)
abbrev rsSendCell (c : Dev nD) : GSem nD τ sig := ((c.tc : Thread nD τ), .dma rsSendS)
abbrev agSendCell (c : Dev nD) : GSem nD τ sig := ((c.tc : Thread nD τ), .dma agSendS)
abbrev rsRecvCell (c : Dev nD) (j : Fin 15) : GSem nD τ sig := ((c.tc : Thread nD τ), .dma (rsRecvS j))
abbrev agRecvCell (c : Dev nD) (j : Fin 15) : GSem nD τ sig := ((c.tc : Thread nD τ), .dma (agRecvS j))

/-- A chunk's memref without its leading axis. -/
abbrev fl (m : Memref sig .tc .vmem S1x64x768 .bf16) : Memref sig .tc .vmem S64x768 .bf16 := m.squeeze S64x768 squeezes_S1x64x768_S64x768
theorem exists_N : ∃ n, n = (fl (rsM 0)).view.dmaCredit := ⟨_, rfl⟩
/-- The credit of one chunk's copy. -/
def N : ℕ := Classical.choose exists_N
theorem N_eq : N = (fl (rsM 0)).view.dmaCredit := Classical.choose_spec exists_N
theorem N_pos : 0 < N := by rw [N_eq]; exact View.dmaCredit_pos _ (by decide)
theorem credit_acc {off : Fin 3 → ℕ} {hin sq} : ((accA.slice (Rect.unit (s := S16x64x768) off S1x64x768.size hin) (fun _ => rfl)).squeeze S64x768 sq).view.dmaCredit = N := by rw [N_eq]
theorem credit_rs {off : Fin 3 → ℕ} {hin sq} : ((rsA.slice (Rect.unit (s := S15x64x768) off S1x64x768.size hin) (fun _ => rfl)).squeeze S64x768 sq).view.dmaCredit = N := by rw [N_eq]
theorem credit_ag {off : Fin 3 → ℕ} {hin sq} : ((agA.slice (Rect.unit (s := S15x64x768) off S1x64x768.size hin) (fun _ => rfl)).squeeze S64x768 sq).view.dmaCredit = N := by rw [N_eq]
theorem credit_src : srcA.view.dmaCredit = N := by rw [N_eq]

/-- What is left of a full share after k halvings. -/
def sh : ℕ → PosShare TreeShare
  | 0 => fullShare
  | k + 1 => (sh k).right

/-- How many places on device p is from device c. -/
def dist (c p : Dev nD) : ℕ := (p.val + 16 - c.val) % 16

theorem dist_fwd (c : Dev nD) (o : Fin 15) : dist c (fwd c (o.val + 1)) - 1 = o.val := by revert c o; decide

/-! ## The contents -/

/-- What the protocol carries: device d's partial product of chunk t, and device t's reduced chunk. -/
structure Cont (F : FTy → Type) where
  val : Dev nD → Dev nD → Chunk F
  red : Dev nD → Flat F

variable (C : Cont F)

/-! ## The payloads -/

/-- Handed by device p to device x with p's barrier signal: p's slots that x writes, and that the cells of these slots are open. -/
def barPay (x p : Dev nD) : sProp 𝕄 :=
  iprop((∃ X, owns (p.tc : Thread nD τ) (rsM (sl x p)) fullShare X) ∗ (∃ X, owns (p.tc : Thread nD τ) (agM (sl x p)) fullShare X)
    ∗ reached ER (rsRecvCell p (sl x p)) 0 ∗ reached ER (agRecvCell p (sl x p)) 0)

/-- What the DMA cell s of device x is paid by duty d. -/
def dmaPay (x : Dev nD) (s : DmaSem sig) (d : Dev nD) : sProp 𝕄 :=
  if s.val = 6 then owns (x.tc : Thread nD τ) (accM d) fullShare (C.val x d)
  else if s.val = 7 then owns (x.tc : Thread nD τ) srcA (sh (dist x d - 1)).left (C.red x)
  else if h : s.val - 8 < 15 then owns (x.tc : Thread nD τ) (rsM ⟨s.val - 8, h⟩) fullShare (C.val d x)
  else if h : s.val - 23 < 15 then owns (x.tc : Thread nD τ) (agM ⟨s.val - 23, h⟩) fullShare (up (C.red d))
  else iprop(emp)

/-- The duties of the DMA cell s of device x. -/
def dmaDuties (x : Dev nD) (s : DmaSem sig) : Finset (Dev nD) :=
  if s.val < 6 then ∅ else if s.val < 8 then Finset.univ.erase x
  else if s.val < 23 then {fwd x (s.val - 8 + 1)} else {fwd x (s.val - 23 + 1)}

/-- One round on every cell of the kernel's own. -/
def Rd : Rounds.Schedule (GSem nD τ sig) (Dev nD) 𝕄 where
  duties g r := if r = 0 ∧ g.1.2 = .tc then (match g.2 with | .reg _ => Finset.univ.erase g.1.1 | .dma s => dmaDuties g.1.1 s) else ∅
  unitless _ := False
  amount g _ _ := match g.2 with | .reg _ => 1 | .dma _ => N
  payload g _ d := match g.2 with | .reg _ => barPay g.1.1 d | .dma s => dmaPay C g.1.1 s d
  amount_pos g _ _ _ := by
    rcases g with ⟨t, s | s⟩
    · exact Nat.one_pos
    · exact N_pos

instance Rd_payload_storable (g : GSem nD τ sig) (r : ℕ) (d : Dev nD) :
    BI.Storable (upEmb : UEmb _ 𝕄) ((Rd C).payload g r d) := by
  rcases g with ⟨t, s | s⟩
  · show BI.Storable upEmb (barPay t.1 d); unfold barPay; infer_instance
  · show BI.Storable upEmb (dmaPay C t.1 s d); unfold dmaPay
    (repeat' split) <;> infer_instance

section Sched

variable (c : Dev nD) (j : Fin 15) (d : Dev nD)

theorem duties_tc (sm : SemLoc sig) : (Rd C).duties ((c.tc : Thread nD τ), sm) 0
    = (match sm with | .reg _ => Finset.univ.erase c | .dma s => dmaDuties c s) := by
  dsimp only [Rd]; exact if_pos ⟨rfl, rfl⟩
theorem duties_bar : (Rd C).duties (barCell c) 0 = Finset.univ.erase c := duties_tc C c _
theorem duties_rsSend : (Rd C).duties (rsSendCell c) 0 = Finset.univ.erase c := duties_tc C c _
theorem duties_agSend : (Rd C).duties (agSendCell c) 0 = Finset.univ.erase c := duties_tc C c _
theorem dmaDuties_rs : dmaDuties c (rsRecvS j) = {snd c j} := by revert c j; decide
theorem dmaDuties_ag : dmaDuties c (agRecvS j) = {snd c j} := by revert c j; decide
theorem duties_rsRecv : (Rd C).duties (rsRecvCell c j) 0 = {snd c j} := (duties_tc C c _).trans (dmaDuties_rs c j)
theorem duties_agRecv : (Rd C).duties (agRecvCell c j) 0 = {snd c j} := (duties_tc C c _).trans (dmaDuties_ag c j)
theorem duties_later (g : GSem nD τ sig) : ∀ r, 1 ≤ r → (Rd C).duties g r = ∅ := fun r hr => if_neg fun h => by omega

theorem expect_bar : (Rd C).expect (barCell c) 0 = 15 := by
  unfold Schedule.expect Schedule.amountOf; rw [duties_bar]
  show ∑ _d ∈ Finset.univ.erase c, 1 = 15
  rw [Finset.sum_const, Finset.card_erase_of_mem (Finset.mem_univ _)]; rfl
theorem expect_rsSend : (Rd C).expect (rsSendCell c) 0 = 15 * N := by
  unfold Schedule.expect Schedule.amountOf; rw [duties_rsSend]
  show ∑ _d ∈ Finset.univ.erase c, N = 15 * N
  rw [Finset.sum_const, Finset.card_erase_of_mem (Finset.mem_univ _)]; rfl
theorem expect_agSend : (Rd C).expect (agSendCell c) 0 = 15 * N := by
  unfold Schedule.expect Schedule.amountOf; rw [duties_agSend]
  show ∑ _d ∈ Finset.univ.erase c, N = 15 * N
  rw [Finset.sum_const, Finset.card_erase_of_mem (Finset.mem_univ _)]; rfl
theorem expect_rsRecv : (Rd C).expect (rsRecvCell c j) 0 = N := by
  unfold Schedule.expect Schedule.amountOf; rw [duties_rsRecv, Finset.sum_singleton]; rfl
theorem expect_agRecv : (Rd C).expect (agRecvCell c j) 0 = N := by
  unfold Schedule.expect Schedule.amountOf; rw [duties_agRecv, Finset.sum_singleton]; rfl

theorem payload_bar : (Rd C).payload (barCell c) 0 d = barPay c d := rfl
theorem payload_rsSend : (Rd C).payload (rsSendCell c) 0 d = owns (c.tc : Thread nD τ) (accM d) fullShare (C.val c d) := rfl
theorem payload_agSend : (Rd C).payload (agSendCell c) 0 d = owns (c.tc : Thread nD τ) srcA (sh (dist c d - 1)).left (C.red c) := rfl
theorem payload_rsRecv : (Rd C).payload (rsRecvCell c j) 0 d = owns (c.tc : Thread nD τ) (rsM j) fullShare (C.val d c) := by
  show dmaPay C c (rsRecvS j) d = _
  have h1 : (rsRecvS j).val = 8 + j.val := rfl
  have h : (rsRecvS j).val - 8 < 15 := by have := j.isLt; omega
  unfold dmaPay; rw [if_neg (by omega), if_neg (by omega), dif_pos h]
  have : (⟨(rsRecvS j).val - 8, h⟩ : Fin 15) = j := Fin.ext (by show (rsRecvS j).val - 8 = j.val; omega)
  rw [this]
theorem payload_agRecv : (Rd C).payload (agRecvCell c j) 0 d = owns (c.tc : Thread nD τ) (agM j) fullShare (up (C.red d)) := by
  show dmaPay C c (agRecvS j) d = _
  have h1 : (agRecvS j).val = 23 + j.val := rfl
  have h : (agRecvS j).val - 23 < 15 := by have := j.isLt; omega
  unfold dmaPay; rw [if_neg (by omega), if_neg (by omega), dif_neg (by omega), dif_pos h]
  have : (⟨(agRecvS j).val - 23, h⟩ : Fin 15) = j := Fin.ext (by show (agRecvS j).val - 23 = j.val; omega)
  rw [this]

theorem rest_rsRecv : bigSep ((Rd C).duties (rsRecvCell c j) 0 \ ∅) (fun u => (Rd C).payload (rsRecvCell c j) 0 u)
    = owns (c.tc : Thread nD τ) (rsM j) fullShare (C.val (snd c j) c) := by
  rw [Finset.sdiff_empty, duties_rsRecv, bigSep_singleton, payload_rsRecv]
theorem rest_agRecv : bigSep ((Rd C).duties (agRecvCell c j) 0 \ ∅) (fun u => (Rd C).payload (agRecvCell c j) 0 u)
    = owns (c.tc : Thread nD τ) (agM j) fullShare (up (C.red (snd c j))) := by
  rw [Finset.sdiff_empty, duties_agRecv, bigSep_singleton, payload_agRecv]
theorem rest_bar : bigSep ((Rd C).duties (barCell c) 0 \ ∅) (fun u => (Rd C).payload (barCell c) 0 u)
    = bigSep (Finset.univ.erase c) fun p => barPay c p := by
  rw [Finset.sdiff_empty, duties_bar]; rfl

end Sched

/-! ## What the devices owe, and the levels

Index 0: the staging copies. 1: the barrier. 2, 3: the reduce-scatter's arrivals on the first eight devices and on the others. 4: the
all-gather's arrivals. 5: the send cells. -/

/-- The index of the reduce-scatter's arrivals at device x. -/
def rsIx (x : Dev nD) : ℕ := if x.val < 8 then 2 else 3

abbrev Tal : Type := CellTallies nD τ sig ℕ
/-- What device c owes device p: a barrier signal, chunk p, the reduced chunk c. -/
def dBar (c : Dev nD) (o : ℕ) : Tal := tallyAt (barCell (fwd c o)) 1 1
@[inherit_doc dBar] def dRs (c p : Dev nD) : Tal := if p = c then 0 else tallyAt (rsRecvCell p (sl c p)) (rsIx p) N
@[inherit_doc dBar] def dAg (c : Dev nD) (o : ℕ) : Tal := tallyAt (agRecvCell (fwd c o) (sl c (fwd c o))) 4 N

/-- Everything the levels are given on. -/
abbrev LL : GSem nD τ sig → Finset ℕ := SiteBlocks.L 6
abbrev lv : GSem nD τ sig → ℕ → ℕ := SiteBlocks.lv

/-- All that is owed lies above index i. -/
def Over (i : ℕ) (O : Tal) : Prop := ∀ g k, 0 < O g k → k ∈ LL g ∧ i < k
theorem Over.zero (i : ℕ) : Over i 0 := fun _ _ h => absurd h (Nat.lt_irrefl 0)
theorem Over.add {i : ℕ} {O O' : Tal} (h : Over i O) (h' : Over i O') : Over i (O + O') := fun g k hg => by
  rcases Nat.eq_zero_or_pos (O g k) with h0 | h0
  · refine h' g k ?_
    have : (O + O') g k = O g k + O' g k := rfl
    omega
  · exact h g k h0
theorem Over.at {i ι n : ℕ} (hi : i < ι) (hι : ι < 6) (c : Dev nD) (sm : SemLoc sig) : Over i (tallyAt ((c.tc : Thread nD τ), sm) ι n) := fun g k hg => by
  rw [tallyAt_apply] at hg
  by_cases h : g = ((c.tc : Thread nD τ), sm) ∧ k = ι
  · rw [h.1, h.2]; exact ⟨SiteBlocks.mem_L c sm hι, hi⟩
  · rw [if_neg h] at hg; exact absurd hg (Nat.lt_irrefl 0)
theorem over_dBar (c : Dev nD) (o : ℕ) : Over 0 (dBar c o) := Over.at (by decide) (by decide) _ _
theorem over_dAg {i : ℕ} (hi : i < 4) (c : Dev nD) (o : ℕ) : Over i (dAg c o) := Over.at hi (by decide) _ _
theorem over_dRs {i : ℕ} (c p : Dev nD) (hi : i < rsIx p) : Over i (dRs c p) := by
  unfold dRs; split
  · exact Over.zero _
  · exact Over.at hi (by unfold rsIx; split <;> decide) _ _
theorem mayWait {i : ℕ} (hi : i < 6) (c : Dev nD) (s : SemLoc sig) (O : Tal) (h : Over i O) : (levAts LL lv : sProp 𝕄) ⊢ MayWait (c.tc : Thread nD τ) s i O :=
  SiteBlocks.mayWait_of hi c s O h

/-- The sums of what is owed, in the order of payment. -/
def sumBar (c : Dev nD) : ℕ → ℕ → Tal
  | _, 0 => 0
  | o, n + 1 => dBar c o + sumBar c (o + 1) n
def sumAg (c : Dev nD) : ℕ → ℕ → Tal
  | _, 0 => 0
  | o, n + 1 => dAg c o + sumAg c (o + 1) n
def sumRs (c : Dev nD) : List (Dev nD) → Tal
  | [] => 0
  | p :: l => dRs c p + sumRs c l
abbrev ord1 : List (Dev nD) := [0, 4, 1, 5, 2, 6, 3, 7]
abbrev ord2 : List (Dev nD) := [8, 12, 9, 13, 10, 14, 11, 15]

theorem over_sumBar (c : Dev nD) (o n : ℕ) : Over 0 (sumBar c o n) := by
  induction n generalizing o with
  | zero => exact Over.zero _
  | succ n ih => exact (over_dBar c o).add (ih _)
theorem over_sumAg {i : ℕ} (hi : i < 4) (c : Dev nD) (o n : ℕ) : Over i (sumAg c o n) := by
  induction n generalizing o with
  | zero => exact Over.zero _
  | succ n ih => exact (over_dAg hi c o).add (ih _)
theorem over_sumRs {i : ℕ} (c : Dev nD) (l : List (Dev nD)) (h : ∀ p ∈ l, i < rsIx p) : Over i (sumRs c l) := by
  induction l with
  | nil => exact Over.zero _
  | cons p l ih => exact (over_dRs c p (h p (List.mem_cons_self ..))).add (ih fun q hq => h q (List.mem_cons_of_mem _ hq))

/-- What device c owes at launch. -/
def O₀ (c : Dev nD) : Tal := sumBar c 1 15 + (sumRs c ord1 + (sumRs c ord2 + sumAg c 1 15))

/-- The device owes O, whatever waits are recorded. -/
def owing (c : Dev nD) (O : Tal) : sProp 𝕄 := iprop(∃ W, owes (c.tc : Thread nD τ) O W)

/-! ## The launch family -/

/-- The duties device c pays. -/
def toksOf (c : Dev nD) : Finset (GSem nD τ sig × ℕ × Dev nD) :=
  (Finset.univ.erase c).biUnion fun p =>
    {(barCell p, 0, c), (rsSendCell c, 0, p), (rsRecvCell p (sl c p), 0, c), (agSendCell c, 0, p), (agRecvCell p (sl c p), 0, c)}

/-- The kernel's own scoped semaphores. -/
def osems : Finset (SemLoc sig) := (Finset.univ.filter fun s : DmaSem sig => 6 ≤ s.val).image SemLoc.dma

def fam : TalkSites.Fam nD τ sig (Dev nD) 1 where
  bar := .reg barS
  dorm _ := osems
  toks c _ := toksOf c
  semKey _ := 0
  hsem _ _ _ := Subsingleton.elim _ _
  hbar _ h := by
    obtain ⟨s, -, e⟩ := Finset.mem_image.mp h
    cases e
  tokKey x := (match x.1.2 with | .reg _ => x.2.2 | .dma s => if s.val < 8 then x.1.1.1 else x.2.2, 0)
  htok c j x hx := by
    obtain ⟨p, -, hx⟩ := Finset.mem_biUnion.mp hx
    have e8 (j : Fin 15) : ¬ (rsRecvS j).val < 8 := by show ¬ 8 + j.val < 8; omega
    have e9 (j : Fin 15) : ¬ (agRecvS j).val < 8 := by show ¬ 23 + j.val < 8; omega
    simp only [Finset.mem_insert, Finset.mem_singleton] at hx
    rcases hx with rfl | rfl | rfl | rfl | rfl
    · exact Prod.ext rfl (Subsingleton.elim _ _)
    · exact Prod.ext rfl (Subsingleton.elim _ _)
    · exact Prod.ext (if_neg (e8 _)) (Subsingleton.elim _ _)
    · exact Prod.ext rfl (Subsingleton.elim _ _)
    · exact Prod.ext (if_neg (e9 _)) (Subsingleton.elim _ _)

theorem exists_Invs (κ : GSem nD τ sig → ℕ) : ∃ P : sProp 𝕄, P = fam.cellInvs ER (Rd C) κ := ⟨_, rfl⟩
/-- Every cell under its invariant. -/
def Invs (κ : GSem nD τ sig → ℕ) : sProp 𝕄 := Classical.choose (exists_Invs C κ)
theorem Invs_eq (κ : GSem nD τ sig → ℕ) : Invs C κ = fam.cellInvs ER (Rd C) κ := Classical.choose_spec (exists_Invs C κ)
instance Invs_persistent (κ : GSem nD τ sig → ℕ) : BI.Persistent (Invs C κ) := by rw [Invs_eq]; infer_instance

theorem mem_osems (s : DmaSem sig) (h : 6 ≤ s.val) : (SemLoc.dma s : SemLoc sig) ∈ fam.dorm 0 :=
  Finset.mem_image_of_mem _ (Finset.mem_filter.mpr ⟨Finset.mem_univ _, h⟩)
theorem inv_bar (κ : GSem nD τ sig → ℕ) (c : Dev nD) : Invs C κ ⊢ cellInv ER (Rd C) (κ (barCell c)) (barCell c) := by
  rw [Invs_eq]; exact fam.cellInvs_bar ER (Rd C) κ c
theorem inv_dma (κ : GSem nD τ sig → ℕ) (c : Dev nD) (s : DmaSem sig) (h : 6 ≤ s.val) : Invs C κ ⊢ cellInv ER (Rd C) (κ ((c.tc : Thread nD τ), .dma s)) ((c.tc : Thread nD τ), .dma s) := by
  rw [Invs_eq]; exact fam.cellInvs_dorm ER (Rd C) κ c (mem_osems s h)
theorem inv_rsSend (κ : GSem nD τ sig → ℕ) (c : Dev nD) : Invs C κ ⊢ cellInv ER (Rd C) (κ (rsSendCell c)) (rsSendCell c) := inv_dma C κ c _ (by decide)
theorem inv_agSend (κ : GSem nD τ sig → ℕ) (c : Dev nD) : Invs C κ ⊢ cellInv ER (Rd C) (κ (agSendCell c)) (agSendCell c) := inv_dma C κ c _ (by decide)
theorem inv_rsRecv (κ : GSem nD τ sig → ℕ) (c : Dev nD) (j : Fin 15) : Invs C κ ⊢ cellInv ER (Rd C) (κ (rsRecvCell c j)) (rsRecvCell c j) :=
  inv_dma C κ c _ (by show 6 ≤ 8 + j.val; omega)
theorem inv_agRecv (κ : GSem nD τ sig → ℕ) (c : Dev nD) (j : Fin 15) : Invs C κ ⊢ cellInv ER (Rd C) (κ (agRecvCell c j)) (agRecvCell c j) :=
  inv_dma C κ c _ (by show 6 ≤ 23 + j.val; omega)

end Cert.KernelIdeal.Talk
-- ==== Proof.Steps.lean ====
/-
  One step of the kernel at a time, on device c, over the protocol's resources: loads and stores of chunks, barrier signals and the barrier
  wait, the sends of chunks, the waits for arrivals and for the sends.
-/
module

public import proofs.«01_k».proof.Proof.Proto

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

abbrev 𝒱₀ : Variants := Variants.none

/-- The weakest precondition of a program of device c's kernel. -/
abbrev WP (c : Dev nD) {α : Type} (p : Prog (TpuEff nD τ sig (Elt F) Λ₀ .tc) α) (Q : α → Prp F) : Prp F :=
  wp frame (wpE (defs₀ (F := F)) 𝒱₀ (c.tc : Thread nD τ) none) Set.univ p Q

/-! ## Loads and stores -/

section Mem

variable (c : Dev nD) {α : Type} {Q : α → Prp F}

/-- A load of a rectangle of a memref owned at X reads X there. -/
theorem ld {sh : Shape} {e : EltTy} {m : Memref sig .tc .vmem sh e} {r : Rect sh} {hl : m.view.LoadsAt r.toLoadRect} {q : PosShare TreeShare} {X : sh.Idx → Elt F e}
    {k : (r.shape.Idx → Elt F e) → Prog (TpuEff nD τ sig (Elt F) Λ₀ .tc) α} :
    (owns (c.tc : Thread nD τ) m q X : sProp 𝕄)
      ⊢ iprop((owns (c.tc : Thread nD τ) m q X -∗ WP c (k fun i => X (r.emb i)) Q) -∗ WP c (.op (.load m r.toLoadRect hl) k) Q) := by
  iintro H Hk
  ihave H' := (show owns (c.tc : Thread nD τ) m q X ⊢ iprop(∃ g, ⌜m.view.read (Elt F) g = X⌝ ∗ m.view.loc (c.tc : Thread nD τ) ↦[m.view.set]{q} g) from .rfl) $$ H
  icases H' with ⟨%g, %hg, H⟩
  subst hg
  iapply (wp_load_rect 𝒱₀ (c.tc : Thread nD τ) none Set.univ (m := m) (r := r) (hl := hl) (S := m.view.set) (f := g) (View.set_slice_subset _ _)) $$ H
  iintro H
  iapply Hk
  iapply (owns_intro (c.tc : Thread nD τ) m q g) $$ H

/-- A load of exactly an owned slice. -/
theorem ldS {sh : Shape} {e : EltTy} {m : Memref sig .tc .vmem sh e} {r : Rect sh} {hr : ∀ a, r.stride a = 1} {hl : m.view.LoadsAt r.toLoadRect} {q : PosShare TreeShare} {X : r.shape.Idx → Elt F e}
    {k : (r.shape.Idx → Elt F e) → Prog (TpuEff nD τ sig (Elt F) Λ₀ .tc) α} :
    (owns (c.tc : Thread nD τ) (m.slice r hr) q X : sProp 𝕄)
      ⊢ iprop((owns (c.tc : Thread nD τ) (m.slice r hr) q X -∗ WP c (k X) Q) -∗ WP c (.op (.load m r.toLoadRect hl) k) Q) := by
  iintro H Hk
  ihave H' := (show owns (c.tc : Thread nD τ) (m.slice r hr) q X ⊢ iprop(∃ g, ⌜(m.slice r hr).view.read (Elt F) g = X⌝ ∗ (m.slice r hr).view.loc (c.tc : Thread nD τ) ↦[(m.slice r hr).view.set]{q} g) from .rfl) $$ H
  icases H' with ⟨%g, %hg, H⟩
  subst hg
  iapply (wp_load_rect 𝒱₀ (c.tc : Thread nD τ) none Set.univ (m := m) (r := r) (hl := hl) (S := (m.slice r hr).view.set) (f := g) (Finset.Subset.refl _)) $$ H
  iintro H
  iapply Hk
  iapply (owns_intro (c.tc : Thread nD τ) (m.slice r hr) q g) $$ H

/-- A store of exactly an owned slice. -/
theorem stS {sh : Shape} {e : EltTy} {m : Memref sig .tc .vmem sh e} {r : Rect sh} {hr : ∀ a, r.stride a = 1} {X w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} :
    (owns (c.tc : Thread nD τ) (m.slice r hr) fullShare X : sProp 𝕄)
      ⊢ iprop((owns (c.tc : Thread nD τ) (m.slice r hr) fullShare w -∗ WP c (k ⟨⟩) Q) -∗ WP c (.op (.store m r w Finset.univ hx hm) k) Q) := by
  iintro H Hk
  ihave H' := (show owns (c.tc : Thread nD τ) (m.slice r hr) fullShare X ⊢ iprop(∃ g, ⌜(m.slice r hr).view.read (Elt F) g = X⌝ ∗ (m.slice r hr).view.loc (c.tc : Thread nD τ) ↦[(m.slice r hr).view.set]{fullShare} g) from .rfl) $$ H
  icases H' with ⟨%g, -, H⟩
  iapply (wp_store 𝒱₀ (c.tc : Thread nD τ) none Set.univ (m := m) (r := r) (w := w) (Mk := Finset.univ) (hx := hx) (hm := hm) (S := (m.slice r hr).view.set) (f := g) (Finset.Subset.refl _)) $$ H
  iintro H
  iapply Hk
  ihave H2 := (owns_intro (c.tc : Thread nD τ) (m.slice r hr) fullShare _) $$ H
  have e : (m.slice r hr).view.read (Elt F) ((m.access r).write (Elt F) g w Finset.univ) = w := View.read_write_univ ..
  rw [e]
  iexact H2

end Mem

/-! ## The chunks of the buffers, at the program's offsets -/

section Chunks

variable (c : Dev nD) {α : Type} {Q : α → Prp F}

theorem ldAcc (t : Fin 16) {off : Fin 3 → ℕ} (ho : off = ![t.val, 0, 0]) {hin} {hl} {X : Chunk F} {k : Chunk F → Prog (TpuEff nD τ sig (Elt F) Λ₀ .tc) α} :
    (owns (c.tc : Thread nD τ) (accM t) fullShare X : sProp 𝕄)
      ⊢ iprop((owns (c.tc : Thread nD τ) (accM t) fullShare X -∗ WP c (k X) Q)
        -∗ WP c (.op (.load accA (Rect.unit (s := S16x64x768) off S1x64x768.size hin).toLoadRect hl) k) Q) := by
  subst ho; exact ldS c
theorem stAcc (t : Fin 16) {off : Fin 3 → ℕ} (ho : off = ![t.val, 0, 0]) {hin} {hx} {hm} {X w : Chunk F} {k : PUnit → Prog (TpuEff nD τ sig (Elt F) Λ₀ .tc) α} :
    (owns (c.tc : Thread nD τ) (accM t) fullShare X : sProp 𝕄)
      ⊢ iprop((owns (c.tc : Thread nD τ) (accM t) fullShare w -∗ WP c (k ⟨⟩) Q)
        -∗ WP c (.op (.store accA (Rect.unit (s := S16x64x768) off S1x64x768.size hin) w Finset.univ hx hm) k) Q) := by
  subst ho; exact stS c
theorem ldRs (j : Fin 15) {off : Fin 3 → ℕ} (ho : off = ![j.val, 0, 0]) {hin} {hl} {X : Chunk F} {k : Chunk F → Prog (TpuEff nD τ sig (Elt F) Λ₀ .tc) α} :
    (owns (c.tc : Thread nD τ) (rsM j) fullShare X : sProp 𝕄)
      ⊢ iprop((owns (c.tc : Thread nD τ) (rsM j) fullShare X -∗ WP c (k X) Q)
        -∗ WP c (.op (.load rsA (Rect.unit (s := S15x64x768) off S1x64x768.size hin).toLoadRect hl) k) Q) := by
  subst ho; exact ldS c
theorem ldAg (j : Fin 15) {off : Fin 3 → ℕ} (ho : off = ![j.val, 0, 0]) {hin} {hl} {X : Chunk F} {k : Chunk F → Prog (TpuEff nD τ sig (Elt F) Λ₀ .tc) α} :
    (owns (c.tc : Thread nD τ) (agM j) fullShare X : sProp 𝕄)
      ⊢ iprop((owns (c.tc : Thread nD τ) (agM j) fullShare X -∗ WP c (k X) Q)
        -∗ WP c (.op (.load agA (Rect.unit (s := S15x64x768) off S1x64x768.size hin).toLoadRect hl) k) Q) := by
  subst ho; exact ldS c
theorem ldOut (t : Fin 16) {off : Fin 3 → ℕ} (ho : off = ![t.val / 8, 64 * (t.val % 8), 0]) {hin} {hl} {X : Vec F S1x64x768 .f32} {k : Vec F S1x64x768 .f32 → Prog (TpuEff nD τ sig (Elt F) Λ₀ .tc) α} :
    (owns (c.tc : Thread nD τ) (outM t) fullShare X : sProp 𝕄)
      ⊢ iprop((owns (c.tc : Thread nD τ) (outM t) fullShare X -∗ WP c (k X) Q)
        -∗ WP c (.op (.load outA (Rect.unit (s := S2x512x768) off S1x64x768.size hin).toLoadRect hl) k) Q) := by
  subst ho; exact ldS c
theorem stOut (t : Fin 16) {off : Fin 3 → ℕ} (ho : off = ![t.val / 8, 64 * (t.val % 8), 0]) {hin} {hx} {hm} {X w : Vec F S1x64x768 .f32} {k : PUnit → Prog (TpuEff nD τ sig (Elt F) Λ₀ .tc) α} :
    (owns (c.tc : Thread nD τ) (outM t) fullShare X : sProp 𝕄)
      ⊢ iprop((owns (c.tc : Thread nD τ) (outM t) fullShare w -∗ WP c (k ⟨⟩) Q)
        -∗ WP c (.op (.store outA (Rect.unit (s := S2x512x768) off S1x64x768.size hin) w Finset.univ hx hm) k) Q) := by
  subst ho; exact stS c

end Chunks

/-! ## The flat views of chunks -/

theorem read_fl (m : Memref sig .tc .vmem S1x64x768 .bf16) (f : m.view.ty.Contents (Elt F)) : (fl m).view.read (Elt F) f = down (m.view.read (Elt F) f) := rfl
theorem set_fl (m : Memref sig .tc .vmem S1x64x768 .bf16) : (fl m).view.set = m.view.set := View.set_reshape ..
/-- A chunk whose flat view is rewritten whole reads what was written, with the leading axis. -/
theorem read_write_fl (m : Memref sig .tc .vmem S1x64x768 .bf16) (f : m.view.ty.Contents (Elt F)) (X : Flat F) :
    m.view.read (Elt F) ((fl m).view.write (Elt F) f X Finset.univ) = up X := by
  have h : down (m.view.read (Elt F) ((fl m).view.write (Elt F) f X Finset.univ)) = X := (read_fl m _).symm.trans (View.read_write_univ ..)
  exact down_inj (h.trans (down_up X).symm)

/-! ## Semaphores at the program's offsets -/

theorem bar_sem : (SemArray.scalar (sig.barrier 0 rfl) : Sems sig S_).sem = barS := rfl
theorem rsSend_sem : (cc0_scratch4 : DmaSems sig S_).sem = rsSendS := rfl
theorem agSend_sem : (cc0_scratch5 : DmaSems sig S_).sem = agSendS := rfl
theorem rsRecv_sem (j : Fin 15) {off : Fin 1 → ℕ} (ho : off = ![j.val]) {hin} {sq} :
    ((cc0_scratch6.slice (Rect.unit (s := S15) off S1.size hin)).squeeze S_ sq).sem = rsRecvS j := by
  subst ho; revert j; decide
theorem agRecv_sem (j : Fin 15) {off : Fin 1 → ℕ} (ho : off = ![j.val]) {hin} {sq} :
    ((cc0_scratch7.slice (Rect.unit (s := S15) off S1.size hin)).squeeze S_ sq).sem = agRecvS j := by
  subst ho; revert j; decide

end Cert.KernelIdeal.Talk
-- ==== Proof.Comm.lean ====
/-
  The kernel's communication, one step at a time, on device c: barrier signals and the barrier wait, the sends of chunks, the waits for
  arrivals and for the sends.
-/
module

public import proofs.«01_k».proof.Proof.Steps

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (C : Cont F) (κ : GSem nD τ sig → ℕ) (c : Dev nD) {α : Type} {Q : α → Prp F}

/-! ## What device c holds for each peer -/

/-- For the barrier signal to device p: the duty's token, what is handed over, and that the cell is open. -/
def barKit (p : Dev nD) : Prp F := iprop(dutyTok ER (barCell p) 0 c ∗ barPay p c ∗ reached ER (barCell p) 0)
/-- For the send of chunk p to device p, p another device: the tokens of the two duties, the slot it lands in, that its cell is open. -/
def rsKit (p : Dev nD) : Prp F := if p = c then iprop(emp) else
  iprop(dutyTok ER (rsSendCell c) 0 p ∗ dutyTok ER (rsRecvCell p (sl c p)) 0 c
    ∗ (∃ X, owns (p.tc : Thread nD τ) (rsM (sl c p)) fullShare X) ∗ reached ER (rsRecvCell p (sl c p)) 0)
/-- For the send of the reduced chunk to device p. -/
def agKit (p : Dev nD) : Prp F :=
  iprop(dutyTok ER (agSendCell c) 0 p ∗ dutyTok ER (agRecvCell p (sl c p)) 0 c
    ∗ (∃ X, owns (p.tc : Thread nD τ) (agM (sl c p)) fullShare X) ∗ reached ER (agRecvCell p (sl c p)) 0)
/-- Chunk p of the partial products once its send is started: kept if it is the device's own, else a right to wait for the send. -/
def rsOut (p : Dev nD) : Prp F := if p = c then owns (c.tc : Thread nD τ) (accM p) fullShare (C.val c p) else cred (tallyAt (rsSendCell c) 5 N)

/-- The kits of n peers, from the one o places on. -/
def barKits : ℕ → ℕ → Prp F
  | _, 0 => iprop(emp)
  | o, n + 1 => iprop(barKit c (fwd c o) ∗ barKits (o + 1) n)
@[inherit_doc barKits] def agKits : ℕ → ℕ → Prp F
  | _, 0 => iprop(emp)
  | o, n + 1 => iprop(agKit c (fwd c o) ∗ agKits (o + 1) n)

theorem sumBar_step (o n : ℕ) (O : Tal) : sumBar c o (n + 1) + O = (sumBar c (o + 1) n + O) + tallyAt (barCell (fwd c o)) 1 1 := by
  show (dBar c o + sumBar c (o + 1) n) + O = _
  rw [add_assoc, add_comm]; rfl
theorem sumAg_step (o n : ℕ) (O : Tal) : sumAg c o (n + 1) + O = (sumAg c (o + 1) n + O) + tallyAt (agRecvCell (fwd c o) (sl c (fwd c o))) 4 N := by
  show (dAg c o + sumAg c (o + 1) n) + O = _
  rw [add_assoc, add_comm]; rfl

theorem dRs_step {t : Dev nD} (ht : t ≠ c) (O : Tal) : dRs c t + O = O + tallyAt (rsRecvCell t (sl c t)) (rsIx t) N := by
  unfold dRs; rw [if_neg ht, add_comm]

/-! ## The barrier -/

/-- A barrier signal to the device o places on. -/
theorem sigStep {o n : ℕ} {O : Tal} {d : Dev nD} (hd : d = fwd c o) (ho : fwd c o ≠ c)
    {k : PUnit → Prog (TpuEff nD τ sig (Elt F) Λ₀ .tc) α} :
    iprop(Invs C κ ∗ owing c (sumBar c o (n + 1) + O) ∗ barKits c o (n + 1))
      ⊢ iprop(((owing c (sumBar c (o + 1) n + O) ∗ barKits c (o + 1) n) -∗ WP c (k ⟨⟩) Q)
        -∗ WP c (.op (.semSignal (d.tc : Thread nD τ) barS (1#32 : BitVec 32).toInt) k) Q) := by
  subst hd
  rw [show (1#32 : BitVec 32).toInt = ((1 : ℕ) : ℤ) from by decide]
  unfold owing
  iintro ⟨#HI, ⟨%W, HO⟩, Hk⟩ HK
  ihave Hk' := (show barKits c o (n + 1) ⊢ iprop(barKit c (fwd c o) ∗ barKits c (o + 1) n) from .rfl) $$ Hk
  unfold barKit
  icases Hk' with ⟨⟨Ht, Hp, Hr⟩, Hks⟩
  iapply (Rounds.wp_signal 𝒱₀ ER (Rd C) (c.tc : Thread nD τ) none (dst := ((fwd c o).tc : Thread nD τ)) (sem := barS) (r := 0) (d := c) (κ := κ (barCell (fwd c o)))
      (by rw [duties_bar]; exact Finset.mem_erase.mpr ⟨ho.symm, Finset.mem_univ _⟩) rfl 1 (sumBar c (o + 1) n + O)
      (sumBar_step c o n O)) $$ [HO Ht Hp Hr]
  · isplitr; · iapply (inv_bar C κ (fwd c o)); iexact HI
    isplitl [HO]; · iexact HO
    isplitl [Ht]; · iexact Ht
    isplitl [Hp]; · rw [payload_bar]; iexact Hp
    iexact Hr
  iintro HO
  iapply HK
  isplitl [HO]
  · iexists W; iexact HO
  iexact Hks

/-- The wait for the fifteen signals. -/
theorem barStep {O : Tal} (hO : Over 1 O) {k : PUnit → Prog (TpuEff nD τ sig (Elt F) Λ₀ .tc) α} :
    iprop(Invs C κ ∗ levAts LL lv ∗ cred (tallyAt (barCell c) 1 15) ∗ owing c O ∗ atPos ER (barCell c) 0 ∅ 0)
      ⊢ iprop(((owing c O ∗ atPos ER (barCell c) 1 ∅ 0 ∗ bigSep (Finset.univ.erase c) fun p => barPay c p) -∗ WP c (k ⟨⟩) Q)
        -∗ WP c (.op (.semWait barS (15#32 : BitVec 32).toInt) k) Q) := by
  rw [show (15#32 : BitVec 32).toInt = ((15 : ℕ) : ℤ) from by decide]
  unfold owing
  iintro ⟨#HI, #Hl, Hc, ⟨%W, HO⟩, Ha⟩ HK
  iapply (Rounds.wp_wait_rest_token 𝒱₀ ER (Rd C) (c.tc : Thread nD τ) none (κ := κ (barCell c))
      (wpE_semWait_eq 𝒱₀ (c.tc : Thread nD τ) none Set.univ) (Set.mem_univ _) 1 (O := O) (W := W) (R := 0) (m := 0) (T := ∅)
      ((Nat.zero_add 15).trans (expect_bar C c).symm)) $$ [Hc HO Ha]
  · isplitr; · iapply (inv_bar C κ c); iexact HI
    isplitl [Hc]; · iexact Hc
    isplitl [HO]; · iexact HO
    isplitr; · iapply (mayWait (by decide) c _ O hO); iexact Hl
    iexact Ha
  iintro ⟨HO, Ha, -, Hp⟩
  ihave Hp' := (Entails.of_eq (rest_bar C c)) $$ Hp
  iapply HK
  isplitl [HO]
  · iexists _; iexact HO
  isplitl [Ha] <;> iassumption

/-! ## The sends -/

/-- The send of chunk t to device t, another device. -/
theorem rsSend {t : Dev nD} (ht : t ≠ c) {O : Tal} {off off2 : Fin 3 → ℕ} (ho : off = ![t.val, 0, 0]) (ho2 : off2 = ![(sl c t).val, 0, 0]) {hin hin2}
    {d : Dev nD} (hd : d = t) {s : DmaSem sig} (hs : s = rsRecvS (sl c t)) {sq sq2} {hsc} {hw1 hw2} {hty}
    {k : PUnit → Prog (TpuEff nD τ sig (Elt F) Λ₀ .tc) α} :
    iprop(Invs C κ ∗ reached ER (rsSendCell c) 0 ∗ owing c (dRs c t + O) ∗ rsKit c t ∗ owns (c.tc : Thread nD τ) (accM t) fullShare (C.val c t))
      ⊢ iprop(((owing c O ∗ rsOut C c t) -∗ WP c (k ⟨⟩) Q)
        -∗ WP c (.op (.enqueueDma ((accA.slice (Rect.unit (s := S16x64x768) off S1x64x768.size hin) (fun _ => rfl)).squeeze S64x768 sq)
          (.remote (d.tc : Thread nD τ) ((rsA.slice (Rect.unit (s := S15x64x768) off2 S1x64x768.size hin2) (fun _ => rfl)).squeeze S64x768 sq2) (.dma rsSendS) hsc)
          (.dma s) hw1 hw2 hty) k) Q) := by
  subst ho ho2 hd hs
  unfold owing rsKit rsOut
  rw [if_neg ht, if_neg ht]
  iintro ⟨#HI, #HrS, ⟨%W, HO⟩, ⟨Ht1, Ht2, ⟨%X, Hd⟩, #Hr⟩, Hs⟩ HK
  ihave Hd' := (show owns (d.tc : Thread nD τ) (rsM (sl c d)) fullShare X ⊢ iprop(∃ g, ⌜(rsM (sl c d)).view.read (Elt F) g = X⌝ ∗ (rsM (sl c d)).view.loc (d.tc : Thread nD τ) ↦[(rsM (sl c d)).view.set]{fullShare} g) from .rfl) $$ Hd
  icases Hd' with ⟨%fd, -, Hd⟩
  ihave Hs' := (show owns (c.tc : Thread nD τ) (accM d) fullShare (C.val c d) ⊢ iprop(∃ g, ⌜(accM d).view.read (Elt F) g = C.val c d⌝ ∗ (accM d).view.loc (c.tc : Thread nD τ) ↦[(accM d).view.set]{fullShare} g) from .rfl) $$ Hs
  icases Hs' with ⟨%fs, %hfs, Hs⟩
  rw [← set_fl (rsM (sl c d)), ← set_fl (accM d)]
  iapply (Rounds.wp_send_pointsTo 𝒱₀ ER (Rd C) (c.tc : Thread nD τ) none (c' := (d.tc : Thread nD τ)) (src := fl (accM d)) (dst := fl (rsM (sl c d)))
      (sS := .dma rsSendS) (sem := .dma (rsRecvS (sl c d))) (q := fullShare) (fs := fs) (κ₁ := κ (rsSendCell c)) (κ₂ := κ (rsRecvCell d (sl c d)))
      (r₁ := 0) (r₂ := 0) (d₁ := d) (d₂ := c) (fd := fd)
      (by rw [duties_rsSend]; exact Finset.mem_erase.mpr ⟨ht, Finset.mem_univ _⟩) (by rw [duties_rsRecv, snd_sl c d ht]; exact Finset.mem_singleton_self _)
      (rsIx d) 5 N credit_rs rfl rfl O (dRs_step c ht O) (W := W)
      (by rw [payload_rsSend, ← hfs, set_fl]; exact owns_intro (c.tc : Thread nD τ) (accM d) fullShare fs)
      (by
        rw [payload_rsRecv, set_fl]
        have e := read_write_fl (rsM (sl c d)) fd ((fl (accM d)).view.read (Elt F) fs)
        rw [read_fl, hfs, up_down] at e
        rw [← e]; rw [read_fl, hfs]
        exact owns_intro (d.tc : Thread nD τ) (rsM (sl c d)) fullShare _)) $$ [Hs Hd HO Ht1 Ht2]
  · isplitr; · iapply (inv_rsSend C κ c); iexact HI
    isplitr; · iapply (inv_rsRecv C κ d (sl c d)); iexact HI
    isplitl [Hs]; · iexact Hs
    isplitl [Hd]; · iexact Hd
    isplitl [HO]; · iexact HO
    isplitl [Ht1]; · iexact Ht1
    isplitr; · iexact HrS
    isplitl [Ht2]; · iexact Ht2
    iexact Hr
  iintro ⟨Hc, HO⟩
  iapply HK
  isplitl [HO]
  · iexists W; iexact HO
  iexact Hc

/-- The send of the reduced chunk to the device o + 1 places on. -/
theorem agSend {o n : ℕ} (hon : o < 15) {O : Tal} {off2 : Fin 3 → ℕ} (ho2 : off2 = ![14 - o, 0, 0]) {hin2}
    {d : Dev nD} (hd : d = fwd c (o + 1)) {s : DmaSem sig} (hs : s = agRecvS ⟨14 - o, by omega⟩) {sq2} {hsc} {hw1 hw2} {hty}
    {k : PUnit → Prog (TpuEff nD τ sig (Elt F) Λ₀ .tc) α} :
    iprop(Invs C κ ∗ reached ER (agSendCell c) 0 ∗ owing c (sumAg c (o + 1) (n + 1) + O) ∗ agKits c (o + 1) (n + 1) ∗ owns (c.tc : Thread nD τ) srcA (sh o) (C.red c))
      ⊢ iprop(((owing c (sumAg c (o + 2) n + O) ∗ agKits c (o + 2) n ∗ owns (c.tc : Thread nD τ) srcA (sh (o + 1)) (C.red c) ∗ cred (tallyAt (agSendCell c) 5 N)) -∗ WP c (k ⟨⟩) Q)
        -∗ WP c (.op (.enqueueDma srcA
          (.remote (d.tc : Thread nD τ) ((agA.slice (Rect.unit (s := S15x64x768) off2 S1x64x768.size hin2) (fun _ => rfl)).squeeze S64x768 sq2) (.dma agSendS) hsc)
          (.dma s) hw1 hw2 hty) k) Q) := by
  have hsl : sl c (fwd c (o + 1)) = ⟨14 - o, by omega⟩ := sl_fwd c ⟨o, hon⟩
  have hne : fwd c (o + 1) ≠ c := fwd_ne c ⟨o, hon⟩
  have hdist : dist c (fwd c (o + 1)) - 1 = o := dist_fwd c ⟨o, hon⟩
  rw [← hsl] at hs
  have ho2' : off2 = ![(sl c (fwd c (o + 1))).val, 0, 0] := by rw [hsl]; exact ho2
  subst ho2' hs
  subst hd
  generalize hp : fwd c (o + 1) = p at *
  iintro ⟨#HI, #HrS, HO', Hkt, Hs⟩ HK
  unfold owing
  icases HO' with ⟨%W, HO⟩
  ihave Hkt' := (show agKits c (o + 1) (n + 1) ⊢ iprop(agKit c (fwd c (o + 1)) ∗ agKits c (o + 2) n) from .rfl) $$ Hkt
  rw [hp]
  unfold agKit
  icases Hkt' with ⟨⟨Ht1, Ht2, ⟨%X, Hd⟩, #Hr⟩, Hks⟩
  ihave Hs2 := (owns_halves (c.tc : Thread nD τ) srcA (sh o) (C.red c)).1 $$ Hs
  icases Hs2 with ⟨Hs, Hsr⟩
  ihave Hd' := (show owns (p.tc : Thread nD τ) (agM (sl c p)) fullShare X ⊢ iprop(∃ g, ⌜(agM (sl c p)).view.read (Elt F) g = X⌝ ∗ (agM (sl c p)).view.loc (p.tc : Thread nD τ) ↦[(agM (sl c p)).view.set]{fullShare} g) from .rfl) $$ Hd
  icases Hd' with ⟨%fd, -, Hd⟩
  ihave Hs' := (show owns (c.tc : Thread nD τ) srcA (sh o).left (C.red c) ⊢ iprop(∃ g, ⌜srcA.view.read (Elt F) g = C.red c⌝ ∗ srcA.view.loc (c.tc : Thread nD τ) ↦[srcA.view.set]{(sh o).left} g) from .rfl) $$ Hs
  icases Hs' with ⟨%fs, %hfs, Hs⟩
  rw [← set_fl (agM (sl c p))]
  iapply (Rounds.wp_send_pointsTo 𝒱₀ ER (Rd C) (c.tc : Thread nD τ) none (c' := (p.tc : Thread nD τ)) (src := srcA) (dst := fl (agM (sl c p)))
      (sS := .dma agSendS) (sem := .dma (agRecvS (sl c p))) (q := (sh o).left) (fs := fs) (κ₁ := κ (agSendCell c)) (κ₂ := κ (agRecvCell p (sl c p)))
      (r₁ := 0) (r₂ := 0) (d₁ := p) (d₂ := c) (fd := fd)
      (by rw [duties_agSend]; exact Finset.mem_erase.mpr ⟨hne, Finset.mem_univ _⟩) (by rw [duties_agRecv, snd_sl c p hne]; exact Finset.mem_singleton_self _)
      4 5 N credit_ag rfl rfl (sumAg c (o + 2) n + O) (show sumAg c (o + 1) (n + 1) + O = _ from by rw [sumAg_step, hp])
      (W := W)
      (by rw [payload_agSend, hdist, ← hfs]; exact owns_intro (c.tc : Thread nD τ) srcA (sh o).left fs)
      (by
        rw [payload_agRecv, set_fl]
        have e := read_write_fl (agM (sl c p)) fd (srcA.view.read (Elt F) fs)
        rw [hfs] at e
        rw [← e, hfs]
        exact owns_intro (p.tc : Thread nD τ) (agM (sl c p)) fullShare _)) $$ [Hs Hd HO Ht1 Ht2]
  · isplitr; · iapply (inv_agSend C κ c); iexact HI
    isplitr; · iapply (inv_agRecv C κ p (sl c p)); iexact HI
    isplitl [Hs]; · iexact Hs
    isplitl [Hd]; · iexact Hd
    isplitl [HO]; · iexact HO
    isplitl [Ht1]; · iexact Ht1
    isplitr; · iexact HrS
    isplitl [Ht2]; · iexact Ht2
    iexact Hr
  iintro ⟨Hc, HO⟩
  iapply HK
  isplitl [HO]
  · iexists W; iexact HO
  isplitl [Hks]; · iexact Hks
  isplitl [Hsr]; · iexact Hsr
  iexact Hc

/-! ## The waits -/

/-- A wait on a DMA semaphore, sized by a view of a chunk's credit, waits for N units. -/
theorem wait_eq {s : DmaSem sig} {sp sp' : Space} {sh sh' : Shape} {e e' : EltTy} {src : Memref sig .tc sp' sh' e'} {dst : Memref sig .tc sp sh e} {hw1 : src.view.WordExact} {hw2 : dst.view.WordExact}
    (h : dst.view.dmaCredit = N) (K : PUnit → Prp F) :
    wpE (defs₀ (F := F)) 𝒱₀ (c.tc : Thread nD τ) none Set.univ (.waitDma2 s src dst hw1 hw2) K = waitSpec (c.tc : Thread nD τ) Set.univ (.dma s) N K := by
  rw [← h]; exact wpE_waitDma2_eq 𝒱₀ (c.tc : Thread nD τ) none Set.univ K

/-- The wait for the arrival in slot j of the reduce-scatter. -/
theorem rsWait (j : Fin 15) {O : Tal} (hO : Over (rsIx c) O) {s : DmaSem sig} (hs : s = rsRecvS j) {off1 off2 : Fin 3 → ℕ} {hin1 hin2 sq1 sq2 hw1 hw2}
    {k : PUnit → Prog (TpuEff nD τ sig (Elt F) Λ₀ .tc) α} :
    iprop(Invs C κ ∗ levAts LL lv ∗ owing c O ∗ cred (tallyAt (rsRecvCell c j) (rsIx c) N) ∗ atPos ER (rsRecvCell c j) 0 ∅ 0)
      ⊢ iprop(((owing c O ∗ atPos ER (rsRecvCell c j) 1 ∅ 0 ∗ owns (c.tc : Thread nD τ) (rsM j) fullShare (C.val (snd c j) c)) -∗ WP c (k ⟨⟩) Q)
        -∗ WP c (.op (.waitDma2 s ((rsA.slice (Rect.unit (s := S15x64x768) off1 S1x64x768.size hin1) (fun _ => rfl)).squeeze S64x768 sq1)
          ((rsA.slice (Rect.unit (s := S15x64x768) off2 S1x64x768.size hin2) (fun _ => rfl)).squeeze S64x768 sq2) hw1 hw2) k) Q) := by
  subst hs
  unfold owing
  iintro ⟨#HI, #Hl, ⟨%W, HO⟩, Hc, Ha⟩ HK
  iapply (Rounds.wp_wait_rest_token 𝒱₀ ER (Rd C) (c.tc : Thread nD τ) none (κ := κ (rsRecvCell c j))
      (wait_eq c credit_rs) (Set.mem_univ _) (rsIx c) (O := O) (W := W) (R := 0) (m := 0) (T := ∅)
      ((Nat.zero_add _).trans (expect_rsRecv C c j).symm)) $$ [Hc HO Ha]
  · isplitr; · iapply (inv_rsRecv C κ c j); iexact HI
    isplitl [Hc]; · iexact Hc
    isplitl [HO]; · iexact HO
    isplitr; · iapply (mayWait (by unfold rsIx; split <;> decide) c _ O hO); iexact Hl
    iexact Ha
  iintro ⟨HO, Ha, -, Hp⟩
  ihave Hp' := (Entails.of_eq (rest_rsRecv C c j)) $$ Hp
  iapply HK
  isplitl [HO]
  · iexists _; iexact HO
  isplitl [Ha] <;> iassumption

/-- The wait for the arrival in slot j of the all-gather, owing nothing. -/
theorem agWait (j : Fin 15) {s : DmaSem sig} (hs : s = agRecvS j) {off1 off2 : Fin 3 → ℕ} {hin1 hin2 sq1 sq2 hw1 hw2}
    {k : PUnit → Prog (TpuEff nD τ sig (Elt F) Λ₀ .tc) α} :
    iprop(Invs C κ ∗ levAts LL lv ∗ owing c 0 ∗ cred (tallyAt (agRecvCell c j) 4 N) ∗ atPos ER (agRecvCell c j) 0 ∅ 0)
      ⊢ iprop(((owing c 0 ∗ atPos ER (agRecvCell c j) 1 ∅ 0 ∗ owns (c.tc : Thread nD τ) (agM j) fullShare (up (C.red (snd c j)))) -∗ WP c (k ⟨⟩) Q)
        -∗ WP c (.op (.waitDma2 s ((agA.slice (Rect.unit (s := S15x64x768) off1 S1x64x768.size hin1) (fun _ => rfl)).squeeze S64x768 sq1)
          ((agA.slice (Rect.unit (s := S15x64x768) off2 S1x64x768.size hin2) (fun _ => rfl)).squeeze S64x768 sq2) hw1 hw2) k) Q) := by
  subst hs
  unfold owing
  iintro ⟨#HI, #Hl, ⟨%W, HO⟩, Hc, Ha⟩ HK
  iapply (Rounds.wp_wait_rest_token 𝒱₀ ER (Rd C) (c.tc : Thread nD τ) none (κ := κ (agRecvCell c j))
      (wait_eq c credit_ag) (Set.mem_univ _) 4 (O := 0) (W := W) (R := 0) (m := 0) (T := ∅)
      ((Nat.zero_add _).trans (expect_agRecv C c j).symm)) $$ [Hc HO Ha]
  · isplitr; · iapply (inv_agRecv C κ c j); iexact HI
    isplitl [Hc]; · iexact Hc
    isplitl [HO]; · iexact HO
    isplitr; · iapply (mayWait (i := 4) (by decide) c _ 0 (Over.zero 4)); iexact Hl
    iexact Ha
  iintro ⟨HO, Ha, -, Hp⟩
  ihave Hp' := (Entails.of_eq (rest_agRecv C c j)) $$ Hp
  iapply HK
  isplitl [HO]
  · iexists _; iexact HO
  isplitl [Ha] <;> iassumption

/-- A wait for one send, on a cell with fifteen. -/
theorem sendWait {s : DmaSem sig} {i : ℕ} {sp sp' : Space} {sh sh' : Shape} {e e' : EltTy} {src : Memref sig .tc sp' sh' e'} {dst : Memref sig .tc sp sh e} {hw1 : src.view.WordExact} {hw2 : dst.view.WordExact}
    (h : dst.view.dmaCredit = N) {O : Tal} {W : Waits sig ℕ} {m : ℕ} {T : Finset (Dev nD)}
    {k : PUnit → Prog (TpuEff nD τ sig (Elt F) Λ₀ .tc) α} :
    iprop(cellInv ER (Rd C) (κ ((c.tc : Thread nD τ), .dma s)) ((c.tc : Thread nD τ), .dma s) ∗ cred (tallyAt ((c.tc : Thread nD τ), .dma s) i N)
        ∗ owes (c.tc : Thread nD τ) O W ∗ MayWait (c.tc : Thread nD τ) (.dma s) i O ∗ atPos ER ((c.tc : Thread nD τ), .dma s) 0 T m)
      ⊢ iprop((∀ S : Finset (Dev nD), (⌜T ⊆ S ∧ S ⊆ (Rd C).duties ((c.tc : Thread nD τ), .dma s) 0 ∧ m + N + ((Rd C).duties ((c.tc : Thread nD τ), .dma s) 0 \ S).card ≤ (Rd C).expect ((c.tc : Thread nD τ), .dma s) 0⌝ ∗ owes (c.tc : Thread nD τ) O (W ∪ {(.dma s, i)})
            ∗ atPos ER ((c.tc : Thread nD τ), .dma s) 0 S (m + N) ∗ bigSep (S \ T) (fun u => (Rd C).payload ((c.tc : Thread nD τ), .dma s) 0 u)) -∗ WP c (k ⟨⟩) Q)
          -∗ WP c (.op (.waitDma2 s src dst hw1 hw2) k) Q) := by
  have h1 : Util.total (Finsupp.single i N) = N := by rw [Util.total_single]
  have h2 := image_single_subset (SemLoc.dma s : SemLoc sig) i N
  have key := Rounds.wp_wait 𝒱₀ ER (Rd C) (c.tc : Thread nD τ) none (κ := κ ((c.tc : Thread nD τ), .dma s)) (wait_eq (F := F) (src := src) (hw1 := hw1) (hw2 := hw2) c h) (Set.mem_univ _) (k := k) (Q := Q)
    (O := O) (W := W) (R := 0) (m := m) (T := T) {(SemLoc.dma s, i)} h1 h2
  exact key

/-- One of the fifteen waits for the reduce-scatter's sends. -/
theorem rsDrain {n : ℕ} {off1 off2 : Fin 3 → ℕ} {hin1 hin2 sq1 sq2 hw1 hw2}
    {k : PUnit → Prog (TpuEff nD τ sig (Elt F) Λ₀ .tc) α} :
    iprop(Invs C κ ∗ levAts LL lv ∗ owing c 0 ∗ cred (tallyAt (rsSendCell c) 5 N) ∗ drained ER (Rd C) (rsSendCell c) 0 N n)
      ⊢ iprop(((owing c 0 ∗ drained ER (Rd C) (rsSendCell c) 0 N (n + 1)) -∗ WP c (k ⟨⟩) Q)
        -∗ WP c (.op (.waitDma2 rsSendS ((accA.slice (Rect.unit (s := S16x64x768) off1 S1x64x768.size hin1) (fun _ => rfl)).squeeze S64x768 sq1)
          ((accA.slice (Rect.unit (s := S16x64x768) off2 S1x64x768.size hin2) (fun _ => rfl)).squeeze S64x768 sq2) hw1 hw2) k) Q) := by
  unfold owing
  iintro ⟨#HI, #Hl, ⟨%W, HO⟩, Hc, Ha⟩ HK
  iapply (wp_drain_step (E := ER) (Rd := Rd C) (g := rsSendCell c) (R := 0) (N := N) (k := n)
    (A := cellInv ER (Rd C) (κ (rsSendCell c)) (rsSendCell c)) (B := cred (tallyAt (rsSendCell c) 5 N)) (C := owes (c.tc : Thread nD τ) 0 W)
    (M := MayWait (c.tc : Thread nD τ) (.dma rsSendS) 5 0) (fun T => sendWait C κ c credit_acc)) $$ [Hc HO Ha]
  · isplitr; · iapply (inv_rsSend C κ c); iexact HI
    isplitl [Hc]; · iexact Hc
    isplitl [HO]; · iexact HO
    isplitr; · iapply (mayWait (i := 5) (by decide) c _ 0 (Over.zero 5)); iexact Hl
    iexact Ha
  iintro ⟨HO, Hd⟩
  iapply HK
  isplitl [HO]; · iexists _; iexact HO
  iexact Hd

/-- One of the fifteen waits for the all-gather's sends. -/
theorem agDrain {n : ℕ} {hw1 hw2}
    {k : PUnit → Prog (TpuEff nD τ sig (Elt F) Λ₀ .tc) α} :
    iprop(Invs C κ ∗ levAts LL lv ∗ owing c 0 ∗ cred (tallyAt (agSendCell c) 5 N) ∗ drained ER (Rd C) (agSendCell c) 0 N n)
      ⊢ iprop(((owing c 0 ∗ drained ER (Rd C) (agSendCell c) 0 N (n + 1)) -∗ WP c (k ⟨⟩) Q)
        -∗ WP c (.op (.waitDma2 agSendS srcA srcA hw1 hw2) k) Q) := by
  unfold owing
  iintro ⟨#HI, #Hl, ⟨%W, HO⟩, Hc, Ha⟩ HK
  iapply (wp_drain_step (E := ER) (Rd := Rd C) (g := agSendCell c) (R := 0) (N := N) (k := n)
    (A := cellInv ER (Rd C) (κ (agSendCell c)) (agSendCell c)) (B := cred (tallyAt (agSendCell c) 5 N)) (C := owes (c.tc : Thread nD τ) 0 W)
    (M := MayWait (c.tc : Thread nD τ) (.dma agSendS) 5 0) (fun T => sendWait C κ c credit_src)) $$ [Hc HO Ha]
  · isplitr; · iapply (inv_agSend C κ c); iexact HI
    isplitl [Hc]; · iexact Hc
    isplitl [HO]; · iexact HO
    isplitr; · iapply (mayWait (i := 5) (by decide) c _ 0 (Over.zero 5)); iexact Hl
    iexact Ha
  iintro ⟨HO, Hd⟩
  iapply HK
  isplitl [HO]; · iexists _; iexact HO
  iexact Hd

end Cert.KernelIdeal.Talk
-- ==== Proof.More.lean ====
/-
  Further steps on device c: the conditional send of a chunk, the waits with what they need bundled, the loads of the staged inputs, and the
  buffer of the reduced chunk.
-/
module

public import proofs.«01_k».proof.Proof.Comm

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (C : Cont F) (κ : GSem nD τ sig → ℕ) (c : Dev nD) {α : Type} {Q : α → Prp F}

theorem sumRs_step (p : Dev nD) (l : List (Dev nD)) (O : Tal) : sumRs c (p :: l) + O = dRs c p + (sumRs c l + O) := add_assoc ..

/-- The end of a program. -/
theorem wpDone {v v' : α} (h : v = v') : Q v' ⊢ WP c (.ret v : Prog (TpuEff nD τ sig (Elt F) Λ₀ .tc) α) Q := by
  subst h
  show _ ⊢ wp frame (wpE (defs₀ (F := F)) 𝒱₀ (c.tc : Thread nD τ) none) Set.univ (.ret v) Q
  rw [wp_ret]
  iintro H
  imodintro
  iexact H
/-- A program run in two stretches. -/
theorem wpBind {β : Type} {p : Prog (TpuEff nD τ sig (Elt F) Λ₀ .tc) β} {k : β → Prog (TpuEff nD τ sig (Elt F) Λ₀ .tc) α} :
    WP c p (fun v => WP c (k v) Q) ⊢ WP c (p >>= k) Q := Entails.of_eq (wp_bind ..).symm
theorem wpDevice {k : Dev nD → Prog (TpuEff nD τ sig (Elt F) Λ₀ .tc) α} : WP c (k c) Q ⊢ WP c (.op .deviceId k) Q := Entails.of_eq (wp_deviceId ..).symm

/-- The send of chunk t if device c is not device t; otherwise nothing. -/
theorem sendIf {t : Dev nD} {l : List (Dev nD)} {O : Tal} {cnd : BitVec 1} (hc : cnd = 1#1 ↔ t ≠ c) {off off2 : Fin 3 → ℕ} {off1 : Fin 1 → ℕ}
    (ho : off = ![t.val, 0, 0]) (ho1 : cnd = 1#1 → off1 = ![(sl c t).val]) (ho2 : cnd = 1#1 → off2 = ![(sl c t).val, 0, 0])
    {d : cnd = 1#1 → Dev nD} (hd : ∀ h, d h = t) {hin} {hin1 : cnd = 1#1 → ∀ a, off1 a + S1.size a ≤ S15.size a}
    {hin2 : cnd = 1#1 → ∀ a, off2 a + S1x64x768.size a ≤ S15x64x768.size a} {sq sq2 : S1x64x768.Squeezes S64x768} {sq1 : S1.Squeezes S_}
    {hw1 : ∀ _h : cnd = 1#1, _} {hw2 : ∀ _h : cnd = 1#1, _} {hty : ∀ _h : cnd = 1#1, _}
    {k : Prog (TpuEff nD τ sig (Elt F) Λ₀ .tc) α} :
    iprop(Invs C κ ∗ reached ER (rsSendCell c) 0 ∗ owing c (sumRs c (t :: l) + O) ∗ rsKit c t ∗ owns (c.tc : Thread nD τ) (accM t) fullShare (C.val c t))
      ⊢ iprop(((owing c (sumRs c l + O) ∗ rsOut C c t) -∗ WP c k Q)
        -∗ WP c (if h : cnd = 1#1 then
            (.op (.enqueueDma ((accA.slice (Rect.unit (s := S16x64x768) off S1x64x768.size hin) (fun _ => rfl)).squeeze S64x768 sq)
              (.remote ((d h).tc : Thread nD τ) ((rsA.slice (Rect.unit (s := S15x64x768) off2 S1x64x768.size (hin2 h)) (fun _ => rfl)).squeeze S64x768 sq2) (.dma (cc0_scratch4 : DmaSems sig S_).sem))
              (.dma ((cc0_scratch6.slice (Rect.unit (s := S15) off1 S1.size (hin1 h))).squeeze S_ sq1).sem) (hw1 h) (hw2 h) (hty h)) fun _ => k)
            else k) Q) := by
  rw [sumRs_step]
  by_cases h : cnd = 1#1
  · rw [dif_pos h]
    exact rsSend C κ c (k := fun _ => k) (hc.mp h) ho (ho2 h) (hd h) (rsRecv_sem (sl c t) (ho1 h))
  · rw [dif_neg h]
    have ht : t = c := by by_contra h'; exact h (hc.mpr h')
    subst ht
    unfold dRs rsOut
    rw [if_pos rfl, if_pos rfl, zero_add]
    iintro ⟨#HI, #Hr, HO, Hk, Ha⟩ HK
    iapply HK
    isplitl [HO] <;> iassumption

/-- The right to wait for slot j of the reduce-scatter; slot j landed. -/
def rsIn (j : Fin 15) : Prp F := iprop(cred (tallyAt (rsRecvCell c j) (rsIx c) N) ∗ atPos ER (rsRecvCell c j) 0 ∅ 0)
@[inherit_doc rsIn] abbrev rsHas (j : Fin 15) : Prp F := owns (c.tc : Thread nD τ) (rsM j) fullShare (C.val (snd c j) c)
/-- The right to wait for slot j of the all-gather; slot j landed. -/
def agIn (j : Fin 15) : Prp F := iprop(cred (tallyAt (agRecvCell c j) 4 N) ∗ atPos ER (agRecvCell c j) 0 ∅ 0)
@[inherit_doc agIn] abbrev agHas (j : Fin 15) : Prp F := owns (c.tc : Thread nD τ) (agM j) fullShare (up (C.red (snd c j)))

theorem rsGet (j : Fin 15) {O : Tal} (hO : Over (rsIx c) O) {off : Fin 1 → ℕ} (ho : off = ![j.val]) {hin sq} {off1 off2 : Fin 3 → ℕ} {hin1 hin2 sq1 sq2 hw1 hw2}
    {k : PUnit → Prog (TpuEff nD τ sig (Elt F) Λ₀ .tc) α} :
    iprop(Invs C κ ∗ levAts LL lv ∗ owing c O ∗ rsIn c j)
      ⊢ iprop(((owing c O ∗ atPos ER (rsRecvCell c j) 1 ∅ 0 ∗ rsHas C c j) -∗ WP c (k ⟨⟩) Q)
        -∗ WP c (.op (.waitDma2 ((cc0_scratch6.slice (Rect.unit (s := S15) off S1.size hin)).squeeze S_ sq).sem ((rsA.slice (Rect.unit (s := S15x64x768) off1 S1x64x768.size hin1) (fun _ => rfl)).squeeze S64x768 sq1)
          ((rsA.slice (Rect.unit (s := S15x64x768) off2 S1x64x768.size hin2) (fun _ => rfl)).squeeze S64x768 sq2) hw1 hw2) k) Q) := by
  unfold rsIn
  exact rsWait C κ c j hO (rsRecv_sem j ho)

theorem agGet (j : Fin 15) {off : Fin 1 → ℕ} (ho : off = ![j.val]) {hin sq} {off1 off2 : Fin 3 → ℕ} {hin1 hin2 sq1 sq2 hw1 hw2}
    {k : PUnit → Prog (TpuEff nD τ sig (Elt F) Λ₀ .tc) α} :
    iprop(Invs C κ ∗ levAts LL lv ∗ owing c 0 ∗ agIn c j)
      ⊢ iprop(((owing c 0 ∗ atPos ER (agRecvCell c j) 1 ∅ 0 ∗ agHas C c j) -∗ WP c (k ⟨⟩) Q)
        -∗ WP c (.op (.waitDma2 ((cc0_scratch7.slice (Rect.unit (s := S15) off S1.size hin)).squeeze S_ sq).sem ((agA.slice (Rect.unit (s := S15x64x768) off1 S1x64x768.size hin1) (fun _ => rfl)).squeeze S64x768 sq1)
          ((agA.slice (Rect.unit (s := S15x64x768) off2 S1x64x768.size hin2) (fun _ => rfl)).squeeze S64x768 sq2) hw1 hw2) k) Q) := by
  unfold agIn
  exact agWait C κ c j (agRecv_sem j ho)

/-- n rights to wait for one arrival at g. -/
def creds (g : GSem nD τ sig) : ℕ → Prp F
  | 0 => iprop(emp)
  | n + 1 => iprop(cred (tallyAt g 5 N) ∗ creds g n)

/-- The all-gather's sends with o of them started and n left. -/
def agSt (O : Tal) (o n : ℕ) : Prp F :=
  iprop(owing c (sumAg c (o + 1) n + O) ∗ agKits c (o + 1) n ∗ owns (c.tc : Thread nD τ) srcA (sh o) (C.red c) ∗ creds (agSendCell c) o)

/-- The send of the reduced chunk, o + 1 places on. -/
theorem agPut (o : ℕ) {n : ℕ} (hon : o < 15) {O : Tal} {off1 : Fin 1 → ℕ} (ho1 : off1 = ![14 - o]) {off2 : Fin 3 → ℕ} (ho2 : off2 = ![14 - o, 0, 0]) {hin1 hin2}
    {d : Dev nD} (hd : d = fwd c (o + 1)) {sq1 sq2} {hsc} {hw1 hw2} {hty}
    {k : PUnit → Prog (TpuEff nD τ sig (Elt F) Λ₀ .tc) α} :
    iprop(Invs C κ ∗ reached ER (agSendCell c) 0 ∗ agSt C c O o (n + 1))
      ⊢ iprop((agSt C c O (o + 1) n -∗ WP c (k ⟨⟩) Q)
        -∗ WP c (.op (.enqueueDma srcA
          (.remote (d.tc : Thread nD τ) ((agA.slice (Rect.unit (s := S15x64x768) off2 S1x64x768.size hin2) (fun _ => rfl)).squeeze S64x768 sq2) (.dma (cc0_scratch5 : DmaSems sig S_).sem) hsc)
          (.dma ((cc0_scratch7.slice (Rect.unit (s := S15) off1 S1.size hin1)).squeeze S_ sq1).sem) hw1 hw2 hty) k) Q) := by
  unfold agSt
  iintro ⟨#HI, #Hr, HO, Hk, Hs, Hc⟩ HK
  iapply (agSend C κ c hon ho2 hd (agRecv_sem ⟨14 - o, by omega⟩ ho1)) $$ [HO Hk Hs]
  · isplitr; · iexact HI
    isplitr; · iexact Hr
    isplitl [HO]; · iexact HO
    isplitl [Hk] <;> iassumption
  iintro ⟨HO, Hk, Hs, Hn⟩
  iapply HK
  isplitl [HO]; · iexact HO
  isplitl [Hk]; · iexact Hk
  isplitl [Hs]; · iexact Hs
  iapply (show iprop(cred (tallyAt (agSendCell c) 5 N) ∗ creds (agSendCell c) o) ⊢ creds (agSendCell c) (o + 1) from .rfl)
  isplitl [Hn] <;> iassumption

/-- n of the reduce-scatter's sends waited for, m left. -/
def rsDr (n m : ℕ) : Prp F := iprop(drained ER (Rd C) (rsSendCell c) 0 N n ∗ creds (rsSendCell c) m)
/-- n of the all-gather's sends waited for, m left. -/
def agDr (n m : ℕ) : Prp F := iprop(drained ER (Rd C) (agSendCell c) 0 N n ∗ creds (agSendCell c) m)

theorem rsDone {n m : ℕ} {off1 off2 : Fin 3 → ℕ} {hin1 hin2 sq1 sq2 hw1 hw2}
    {k : PUnit → Prog (TpuEff nD τ sig (Elt F) Λ₀ .tc) α} :
    iprop(Invs C κ ∗ levAts LL lv ∗ owing c 0 ∗ rsDr C c n (m + 1))
      ⊢ iprop(((owing c 0 ∗ rsDr C c (n + 1) m) -∗ WP c (k ⟨⟩) Q)
        -∗ WP c (.op (.waitDma2 (cc0_scratch4 : DmaSems sig S_).sem ((accA.slice (Rect.unit (s := S16x64x768) off1 S1x64x768.size hin1) (fun _ => rfl)).squeeze S64x768 sq1)
          ((accA.slice (Rect.unit (s := S16x64x768) off2 S1x64x768.size hin2) (fun _ => rfl)).squeeze S64x768 sq2) hw1 hw2) k) Q) := by
  unfold rsDr
  iintro ⟨#HI, #Hl, HO, Hd, Hc⟩ HK
  ihave Hc' := (show creds (rsSendCell c) (m + 1) ⊢ iprop(cred (tallyAt (rsSendCell c) 5 N) ∗ creds (rsSendCell c) m) from .rfl) $$ Hc
  icases Hc' with ⟨Hc, Hm⟩
  iapply (rsDrain C κ c) $$ [HO Hd Hc]
  · isplitr; · iexact HI
    isplitr; · iexact Hl
    isplitl [HO]; · iexact HO
    isplitl [Hc] <;> iassumption
  iintro ⟨HO, Hd⟩
  iapply HK
  isplitl [HO]; · iexact HO
  isplitl [Hd] <;> iassumption
theorem agDone {n m : ℕ} {hw1 hw2}
    {k : PUnit → Prog (TpuEff nD τ sig (Elt F) Λ₀ .tc) α} :
    iprop(Invs C κ ∗ levAts LL lv ∗ owing c 0 ∗ agDr C c n (m + 1))
      ⊢ iprop(((owing c 0 ∗ agDr C c (n + 1) m) -∗ WP c (k ⟨⟩) Q)
        -∗ WP c (.op (.waitDma2 (cc0_scratch5 : DmaSems sig S_).sem srcA srcA hw1 hw2) k) Q) := by
  unfold agDr
  iintro ⟨#HI, #Hl, HO, Hd, Hc⟩ HK
  ihave Hc' := (show creds (agSendCell c) (m + 1) ⊢ iprop(cred (tallyAt (agSendCell c) 5 N) ∗ creds (agSendCell c) m) from .rfl) $$ Hc
  icases Hc' with ⟨Hc, Hm⟩
  iapply (agDrain C κ c) $$ [HO Hd Hc]
  · isplitr; · iexact HI
    isplitr; · iexact Hl
    isplitl [HO]; · iexact HO
    isplitl [Hc] <;> iassumption
  iintro ⟨HO, Hd⟩
  iapply HK
  isplitl [HO]; · iexact HO
  isplitl [Hd] <;> iassumption

/-! ## The staged inputs -/

/-- What the five input windows hold. -/
structure Ins (F : FTy → Type) where
  x : Vec F S2x512x768 .bf16
  wq : Vec F S768x512 .bf16
  K : Vec F S2x8x512x64 .bf16
  V : Vec F S2x8x512x64 .bf16
  wo : Vec F S512x768 .bf16

abbrev xA : Memref sig .tc .vmem S2x512x768 .bf16 := Memref.whole cc0_stg0_0
abbrev wqA : Memref sig .tc .vmem S768x512 .bf16 := Memref.whole cc0_stg1_0
abbrev kA : Memref sig .tc .vmem S2x8x512x64 .bf16 := Memref.whole cc0_stg2_0
abbrev vA : Memref sig .tc .vmem S2x8x512x64 .bf16 := Memref.whole cc0_stg3_0
abbrev woA : Memref sig .tc .vmem S512x768 .bf16 := Memref.whole cc0_stg4_0

/-- The staged inputs, at I. -/
def ins (I : Ins F) : Prp F :=
  iprop(owns (c.tc : Thread nD τ) xA fullShare I.x ∗ owns (c.tc : Thread nD τ) wqA fullShare I.wq ∗ owns (c.tc : Thread nD τ) kA fullShare I.K
    ∗ owns (c.tc : Thread nD τ) vA fullShare I.V ∗ owns (c.tc : Thread nD τ) woA fullShare I.wo)

section Inputs

variable {I : Ins F}

theorem ldX {r} {hl} {k : (r.shape.Idx → Elt F .bf16) → Prog (TpuEff nD τ sig (Elt F) Λ₀ .tc) α} :
    ins c I ⊢ iprop((ins c I -∗ WP c (k fun i => I.x (r.emb i)) Q) -∗ WP c (.op (.load xA (Rect.toLoadRect r) hl) k) Q) := by
  unfold ins
  iintro ⟨H0, H1, H2, H3, H4⟩ HK
  iapply (ld c) $$ H0
  iintro H0
  iapply HK
  isplitl [H0]; · iexact H0
  isplitl [H1]; · iexact H1
  isplitl [H2]; · iexact H2
  isplitl [H3]; · iexact H3
  iexact H4
theorem ldWq {r} {hl} {k : (r.shape.Idx → Elt F .bf16) → Prog (TpuEff nD τ sig (Elt F) Λ₀ .tc) α} :
    ins c I ⊢ iprop((ins c I -∗ WP c (k fun i => I.wq (r.emb i)) Q) -∗ WP c (.op (.load wqA (Rect.toLoadRect r) hl) k) Q) := by
  unfold ins
  iintro ⟨H0, H1, H2, H3, H4⟩ HK
  iapply (ld c) $$ H1
  iintro H1
  iapply HK
  isplitl [H0]; · iexact H0
  isplitl [H1]; · iexact H1
  isplitl [H2]; · iexact H2
  isplitl [H3]; · iexact H3
  iexact H4
theorem ldK {r} {hl} {k : (r.shape.Idx → Elt F .bf16) → Prog (TpuEff nD τ sig (Elt F) Λ₀ .tc) α} :
    ins c I ⊢ iprop((ins c I -∗ WP c (k fun i => I.K (r.emb i)) Q) -∗ WP c (.op (.load kA (Rect.toLoadRect r) hl) k) Q) := by
  unfold ins
  iintro ⟨H0, H1, H2, H3, H4⟩ HK
  iapply (ld c) $$ H2
  iintro H2
  iapply HK
  isplitl [H0]; · iexact H0
  isplitl [H1]; · iexact H1
  isplitl [H2]; · iexact H2
  isplitl [H3]; · iexact H3
  iexact H4
theorem ldV {r} {hl} {k : (r.shape.Idx → Elt F .bf16) → Prog (TpuEff nD τ sig (Elt F) Λ₀ .tc) α} :
    ins c I ⊢ iprop((ins c I -∗ WP c (k fun i => I.V (r.emb i)) Q) -∗ WP c (.op (.load vA (Rect.toLoadRect r) hl) k) Q) := by
  unfold ins
  iintro ⟨H0, H1, H2, H3, H4⟩ HK
  iapply (ld c) $$ H3
  iintro H3
  iapply HK
  isplitl [H0]; · iexact H0
  isplitl [H1]; · iexact H1
  isplitl [H2]; · iexact H2
  isplitl [H3]; · iexact H3
  iexact H4
theorem ldWo {r} {hl} {k : (r.shape.Idx → Elt F .bf16) → Prog (TpuEff nD τ sig (Elt F) Λ₀ .tc) α} :
    ins c I ⊢ iprop((ins c I -∗ WP c (k fun i => I.wo (r.emb i)) Q) -∗ WP c (.op (.load woA (Rect.toLoadRect r) hl) k) Q) := by
  unfold ins
  iintro ⟨H0, H1, H2, H3, H4⟩ HK
  iapply (ld c) $$ H4
  iintro H4
  iapply HK
  isplitl [H0]; · iexact H0
  isplitl [H1]; · iexact H1
  isplitl [H2]; · iexact H2
  isplitl [H3]; · iexact H3
  iexact H4

end Inputs

/-! ## The reduced chunk's buffer -/

/-- What a store through the whole of a memref leaves. -/
theorem read_write_all {sh : Shape} {e : EltTy} (m : Memref sig .tc .vmem sh e) {off : Fin sh.rank → ℕ} (ho : off = fun _ => 0) (hin : ∀ a, off a + sh.size a ≤ sh.size a)
    (f : m.view.ty.Contents (Elt F)) (w : sh.Idx → Elt F e) :
    m.view.read (Elt F) ((m.access (Rect.unit off sh.size hin)).write (Elt F) f w Finset.univ) = w := by
  subst ho
  have h := View.read_write_univ (v := m.access (Rect.whole sh)) f w
  funext i
  have he : (Rect.whole sh).emb i = i := Rect.emb_whole_apply sh i
  have h' := congrFun h i
  refine Eq.trans ?_ h'
  show _ = m.view.read (Elt F) _ ((Rect.whole sh).emb i)
  rw [he]
  rfl

/-- A store of the whole buffer. -/
theorem stSrc {X w : Flat F} {off : Fin 2 → ℕ} (ho : off = fun _ => 0) {hin} {hx} {hm}
    {k : PUnit → Prog (TpuEff nD τ sig (Elt F) Λ₀ .tc) α} :
    (owns (c.tc : Thread nD τ) srcA fullShare X : Prp F)
      ⊢ iprop((owns (c.tc : Thread nD τ) srcA fullShare w -∗ WP c (k ⟨⟩) Q)
        -∗ WP c (.op (.store srcA (Rect.unit (s := S64x768) off S64x768.size hin) w Finset.univ hx hm) k) Q) := by
  iintro H Hk
  ihave H' := (show owns (c.tc : Thread nD τ) srcA fullShare X ⊢ iprop(∃ g, ⌜srcA.view.read (Elt F) g = X⌝ ∗ srcA.view.loc (c.tc : Thread nD τ) ↦[srcA.view.set]{fullShare} g) from .rfl) $$ H
  icases H' with ⟨%g, -, H⟩
  iapply (wp_store 𝒱₀ (c.tc : Thread nD τ) none Set.univ (m := srcA) (w := w) (Mk := Finset.univ) (hx := hx) (hm := hm) (S := srcA.view.set) (f := g) (View.set_slice_subset _ _)) $$ H
  iintro H
  iapply Hk
  ihave H2 := (owns_intro (c.tc : Thread nD τ) srcA fullShare _) $$ H
  rw [read_write_all srcA ho hin g w]
  iexact H2

end Cert.KernelIdeal.Talk
-- ==== Proof.Data.lean ====
/-
  What the kernel computes on each device: every value it keeps, as a function of what the device's input windows hold; the chunks of the
  partial product, the reduced chunk, the places the program's conditions and offsets name.
-/
module

public import proofs.«01_k».proof.Proof.More

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

/-! ## The values, under the numbers the program gives them -/

def v64 (I : Ins F) : Vec F S512x768 .bf16 := fun i => I.wo ((Rect.unit (s := S512x768) ![0, 0] S512x768.size inb_S512x768_S512x768_0_0).emb i)
def v66 (I : Ins F) : Vec F S1x512x768 .bf16 := fun i => I.x ((Rect.unit (s := S2x512x768) ![0, 0, 0] S1x512x768.size inb_S2x512x768_S1x512x768_0_0_0).emb i)
def v68 (I : Ins F) : Vec F S768x512 .bf16 := fun i => I.wq ((Rect.unit (s := S768x512) ![0, 0] S768x512.size inb_S768x512_S768x512_0_0).emb i)
def v65 (I : Ins F) : FVec F S512x768 .bf16 := k0_pay21 (v64 I)
def v71 (I : Ins F) : FVec F S512x512 .bf16 := k0_pay22 (v66 I) (v68 I)
def v72 (I : Ins F) : FVec F S512x64 .bf16 := k0_pay23 (v66 I) (v68 I)
def v73 (I : Ins F) : FVec F S512x64 .bf16 := k0_pay24 (v66 I) (v68 I)
def v74 (I : Ins F) : FVec F S512x64 .bf16 := k0_pay25 (v66 I) (v68 I)
def v75 (I : Ins F) : FVec F S512x64 .bf16 := k0_pay26 (v66 I) (v68 I)
def v92 (I : Ins F) : Vec F S1x8x64x64 .bf16 := fun i => I.K ((Rect.unit (s := S2x8x512x64) ![0, 0, 0, 0] S1x8x64x64.size inb_S2x8x512x64_S1x8x64x64_0_0_0_0).emb i)
def v94 (I : Ins F) : Vec F S1x8x64x64 .bf16 := fun i => I.K ((Rect.unit (s := S2x8x512x64) ![0, 0, 256, 0] S1x8x64x64.size inb_S2x8x512x64_S1x8x64x64_0_0_256_0).emb i)
def v97 (I : Ins F) : Vec F S1x8x64x64 .bf16 := fun i => I.V ((Rect.unit (s := S2x8x512x64) ![0, 0, 0, 0] S1x8x64x64.size inb_S2x8x512x64_S1x8x64x64_0_0_0_0).emb i)
def v99 (I : Ins F) : Vec F S1x8x64x64 .bf16 := fun i => I.V ((Rect.unit (s := S2x8x512x64) ![0, 0, 256, 0] S1x8x64x64.size inb_S2x8x512x64_S1x8x64x64_0_0_256_0).emb i)
def v88 (I : Ins F) : FVec F S8x512x64 .bf16 := k0_pay27 (v71 I) (v72 I) (v73 I) (v74 I) (v75 I)
def v112 (I : Ins F) : FVec F S8x128x64 .bf16 := k0_pay28 (v71 I) (v72 I) (v73 I) (v74 I) (v75 I) (v92 I) (v94 I) (v97 I) (v99 I)
def v114 (I : Ins F) : FVec F S128x64 .bf16 := k0_pay29 (v71 I) (v72 I) (v73 I) (v74 I) (v75 I) (v92 I) (v94 I) (v97 I) (v99 I)
def v115 (I : Ins F) : FVec F S1x128x64 .bf16 := k0_pay30 (v71 I) (v72 I) (v73 I) (v74 I) (v75 I) (v92 I) (v94 I) (v97 I) (v99 I)
def v149 (I : Ins F) : Vec F S1x8x64x64 .bf16 := fun i => I.K ((Rect.unit (s := S2x8x512x64) ![0, 0, 64, 0] S1x8x64x64.size inb_S2x8x512x64_S1x8x64x64_0_0_64_0).emb i)
def v151 (I : Ins F) : Vec F S1x8x64x64 .bf16 := fun i => I.K ((Rect.unit (s := S2x8x512x64) ![0, 0, 320, 0] S1x8x64x64.size inb_S2x8x512x64_S1x8x64x64_0_0_320_0).emb i)
def v148 (I : Ins F) : FVec F S8x128x64 .bf16 := k0_pay34 (v88 I)
def v150 (I : Ins F) : FVec F S8x64x64 .bf16 := k0_pay35 (v149 I)
def v152 (I : Ins F) : FVec F S8x64x64 .bf16 := k0_pay36 (v151 I)
/-- Chunk 0 of the partial product. -/
def acc0 (I : Ins F) : Chunk F := (k0_pay32 (v65 I) (v112 I) (v114 I) (v115 I))
/-- Chunk 4 of the partial product. -/
def acc4 (I : Ins F) : Chunk F := (k0_pay33 (v65 I) (v112 I) (v114 I) (v115 I))
def v154 (I : Ins F) : Vec F S1x8x64x64 .bf16 := fun i => I.V ((Rect.unit (s := S2x8x512x64) ![0, 0, 64, 0] S1x8x64x64.size inb_S2x8x512x64_S1x8x64x64_0_0_64_0).emb i)
def v156 (I : Ins F) : Vec F S1x8x64x64 .bf16 := fun i => I.V ((Rect.unit (s := S2x8x512x64) ![0, 0, 320, 0] S1x8x64x64.size inb_S2x8x512x64_S1x8x64x64_0_0_320_0).emb i)
def v193 (I : Ins F) : FVec F S64x768 .bf16 := (k0_pay39 (v65 I) (v148 I) (v150 I) (v152 I) (v154 I) (v156 I))
/-- Chunk 1 of the partial product. -/
def acc1 (I : Ins F) : Chunk F := (k0_pay38 (v65 I) (v148 I) (v150 I) (v152 I) (v154 I) (v156 I))
def v206 (I : Ins F) : Vec F S1x8x64x64 .bf16 := fun i => I.K ((Rect.unit (s := S2x8x512x64) ![0, 0, 128, 0] S1x8x64x64.size inb_S2x8x512x64_S1x8x64x64_0_0_128_0).emb i)
def v208 (I : Ins F) : Vec F S1x8x64x64 .bf16 := fun i => I.K ((Rect.unit (s := S2x8x512x64) ![0, 0, 384, 0] S1x8x64x64.size inb_S2x8x512x64_S1x8x64x64_0_0_384_0).emb i)
def v211 (I : Ins F) : Vec F S1x8x64x64 .bf16 := fun i => I.V ((Rect.unit (s := S2x8x512x64) ![0, 0, 128, 0] S1x8x64x64.size inb_S2x8x512x64_S1x8x64x64_0_0_128_0).emb i)
def v213 (I : Ins F) : Vec F S1x8x64x64 .bf16 := fun i => I.V ((Rect.unit (s := S2x8x512x64) ![0, 0, 384, 0] S1x8x64x64.size inb_S2x8x512x64_S1x8x64x64_0_0_384_0).emb i)
def v225 (I : Ins F) : FVec F S8x128x64 .f32 := (k0_pay41 (v88 I) (v206 I) (v208 I) (v211 I) (v213 I))
/-- Chunk 5 of the partial product. -/
def acc5 (I : Ins F) : Chunk F := (k0_pay40 (v193 I))
def v263 (I : Ins F) : Vec F S1x8x64x64 .bf16 := fun i => I.K ((Rect.unit (s := S2x8x512x64) ![0, 0, 192, 0] S1x8x64x64.size inb_S2x8x512x64_S1x8x64x64_0_0_192_0).emb i)
def v262 (I : Ins F) : FVec F S8x128x64 .bf16 := k0_pay45 (v88 I)
def v264 (I : Ins F) : FVec F S8x64x64 .bf16 := k0_pay46 (v263 I)
/-- Chunk 2 of the partial product. -/
def acc2 (I : Ins F) : Chunk F := (k0_pay43 (v65 I) (v225 I))
/-- Chunk 6 of the partial product. -/
def acc6 (I : Ins F) : Chunk F := (k0_pay44 (v65 I) (v225 I))
def v265 (I : Ins F) : Vec F S1x8x64x64 .bf16 := fun i => I.K ((Rect.unit (s := S2x8x512x64) ![0, 0, 448, 0] S1x8x64x64.size inb_S2x8x512x64_S1x8x64x64_0_0_448_0).emb i)
def v268 (I : Ins F) : Vec F S1x8x64x64 .bf16 := fun i => I.V ((Rect.unit (s := S2x8x512x64) ![0, 0, 192, 0] S1x8x64x64.size inb_S2x8x512x64_S1x8x64x64_0_0_192_0).emb i)
def v270 (I : Ins F) : Vec F S1x8x64x64 .bf16 := fun i => I.V ((Rect.unit (s := S2x8x512x64) ![0, 0, 448, 0] S1x8x64x64.size inb_S2x8x512x64_S1x8x64x64_0_0_448_0).emb i)
def v302 (I : Ins F) : FVec F S128x768 .bf16 := k0_pay47 (v65 I) (v262 I) (v264 I) (v265 I) (v268 I) (v270 I)
def v306 (I : Ins F) : FVec F S1x64x768 .bf16 := k0_pay48 (v65 I) (v262 I) (v264 I) (v265 I) (v268 I) (v270 I)
def v320 (I : Ins F) : Vec F S1x512x768 .bf16 := fun i => I.x ((Rect.unit (s := S2x512x768) ![1, 0, 0] S1x512x768.size inb_S2x512x768_S1x512x768_1_0_0).emb i)
def v322 (I : Ins F) : Vec F S768x512 .bf16 := fun i => I.wq ((Rect.unit (s := S768x512) ![0, 0] S768x512.size inb_S768x512_S768x512_0_0).emb i)
def v342 (I : Ins F) : FVec F S8x512x64 .bf16 := k0_pay50 (v320 I) (v322 I)
def v345 (I : Ins F) : FVec F S8x128x64 .bf16 := k0_pay51 (v320 I) (v322 I)
/-- Chunk 3 of the partial product. -/
def acc3 (I : Ins F) : Chunk F := (v306 I)
/-- Chunk 7 of the partial product. -/
def acc7 (I : Ins F) : Chunk F := (k0_pay49 (v302 I))
def v346 (I : Ins F) : Vec F S1x8x64x64 .bf16 := fun i => I.K ((Rect.unit (s := S2x8x512x64) ![1, 0, 0, 0] S1x8x64x64.size inb_S2x8x512x64_S1x8x64x64_1_0_0_0).emb i)
def v348 (I : Ins F) : Vec F S1x8x64x64 .bf16 := fun i => I.K ((Rect.unit (s := S2x8x512x64) ![1, 0, 256, 0] S1x8x64x64.size inb_S2x8x512x64_S1x8x64x64_1_0_256_0).emb i)
def v351 (I : Ins F) : Vec F S1x8x64x64 .bf16 := fun i => I.V ((Rect.unit (s := S2x8x512x64) ![1, 0, 0, 0] S1x8x64x64.size inb_S2x8x512x64_S1x8x64x64_1_0_0_0).emb i)
def v353 (I : Ins F) : Vec F S1x8x64x64 .bf16 := fun i => I.V ((Rect.unit (s := S2x8x512x64) ![1, 0, 256, 0] S1x8x64x64.size inb_S2x8x512x64_S1x8x64x64_1_0_256_0).emb i)
def v385 (I : Ins F) : FVec F S128x768 .bf16 := (k0_pay52 (v65 I) (v345 I) (v346 I) (v348 I) (v351 I) (v353 I))
def v403 (I : Ins F) : Vec F S1x8x64x64 .bf16 := fun i => I.K ((Rect.unit (s := S2x8x512x64) ![1, 0, 64, 0] S1x8x64x64.size inb_S2x8x512x64_S1x8x64x64_1_0_64_0).emb i)
def v405 (I : Ins F) : Vec F S1x8x64x64 .bf16 := fun i => I.K ((Rect.unit (s := S2x8x512x64) ![1, 0, 320, 0] S1x8x64x64.size inb_S2x8x512x64_S1x8x64x64_1_0_320_0).emb i)
def v408 (I : Ins F) : Vec F S1x8x64x64 .bf16 := fun i => I.V ((Rect.unit (s := S2x8x512x64) ![1, 0, 64, 0] S1x8x64x64.size inb_S2x8x512x64_S1x8x64x64_1_0_64_0).emb i)
def v410 (I : Ins F) : Vec F S1x8x64x64 .bf16 := fun i => I.V ((Rect.unit (s := S2x8x512x64) ![1, 0, 320, 0] S1x8x64x64.size inb_S2x8x512x64_S1x8x64x64_1_0_320_0).emb i)
def v412 (I : Ins F) : FVec F S8x128x64 .bf16 := k0_pay55 (v408 I) (v410 I)
def v413 (I : Ins F) : FVec F S8x128x128 .f32 := k0_pay56 (v342 I) (v403 I) (v405 I)
/-- Chunk 8 of the partial product. -/
def acc8 (I : Ins F) : Chunk F := (k0_pay53 (v385 I))
/-- Chunk 12 of the partial product. -/
def acc12 (I : Ins F) : Chunk F := (k0_pay54 (v385 I))
/-- Chunk 9 of the partial product. -/
def acc9 (I : Ins F) : Chunk F := (k0_pay58 (v65 I) (v412 I) (v413 I) (Scalar.ofBits .f32 0x3E000000#32))
/-- Chunk 13 of the partial product. -/
def acc13 (I : Ins F) : Chunk F := (k0_pay59 (v65 I) (v412 I) (v413 I) (Scalar.ofBits .f32 0x3E000000#32))
def v460 (I : Ins F) : Vec F S1x8x64x64 .bf16 := fun i => I.K ((Rect.unit (s := S2x8x512x64) ![1, 0, 128, 0] S1x8x64x64.size inb_S2x8x512x64_S1x8x64x64_1_0_128_0).emb i)
def v462 (I : Ins F) : Vec F S1x8x64x64 .bf16 := fun i => I.K ((Rect.unit (s := S2x8x512x64) ![1, 0, 384, 0] S1x8x64x64.size inb_S2x8x512x64_S1x8x64x64_1_0_384_0).emb i)
def v465 (I : Ins F) : Vec F S1x8x64x64 .bf16 := fun i => I.V ((Rect.unit (s := S2x8x512x64) ![1, 0, 128, 0] S1x8x64x64.size inb_S2x8x512x64_S1x8x64x64_1_0_128_0).emb i)
def v467 (I : Ins F) : Vec F S1x8x64x64 .bf16 := fun i => I.V ((Rect.unit (s := S2x8x512x64) ![1, 0, 384, 0] S1x8x64x64.size inb_S2x8x512x64_S1x8x64x64_1_0_384_0).emb i)
def v482 (I : Ins F) : FVec F S128x64 .bf16 := k0_pay61 (v342 I) (v460 I) (v462 I) (v465 I) (v467 I)
def v484 (I : Ins F) : FVec F S128x64 .bf16 := k0_pay62 (v342 I) (v460 I) (v462 I) (v465 I) (v467 I)
def v486 (I : Ins F) : FVec F S128x64 .bf16 := k0_pay63 (v342 I) (v460 I) (v462 I) (v465 I) (v467 I)
def v488 (I : Ins F) : FVec F S128x64 .bf16 := k0_pay64 (v342 I) (v460 I) (v462 I) (v465 I) (v467 I)
def v490 (I : Ins F) : FVec F S128x64 .bf16 := k0_pay65 (v342 I) (v460 I) (v462 I) (v465 I) (v467 I)
def v492 (I : Ins F) : FVec F S128x64 .bf16 := k0_pay66 (v342 I) (v460 I) (v462 I) (v465 I) (v467 I)
def v494 (I : Ins F) : FVec F S128x64 .bf16 := k0_pay67 (v342 I) (v460 I) (v462 I) (v465 I) (v467 I)
def v496 (I : Ins F) : FVec F S128x64 .bf16 := k0_pay68 (v342 I) (v460 I) (v462 I) (v465 I) (v467 I)
def v517 (I : Ins F) : Vec F S1x8x64x64 .bf16 := fun i => I.K ((Rect.unit (s := S2x8x512x64) ![1, 0, 192, 0] S1x8x64x64.size inb_S2x8x512x64_S1x8x64x64_1_0_192_0).emb i)
def v519 (I : Ins F) : Vec F S1x8x64x64 .bf16 := fun i => I.K ((Rect.unit (s := S2x8x512x64) ![1, 0, 448, 0] S1x8x64x64.size inb_S2x8x512x64_S1x8x64x64_1_0_448_0).emb i)
def v522 (I : Ins F) : Vec F S1x8x64x64 .bf16 := fun i => I.V ((Rect.unit (s := S2x8x512x64) ![1, 0, 192, 0] S1x8x64x64.size inb_S2x8x512x64_S1x8x64x64_1_0_192_0).emb i)
def v524 (I : Ins F) : Vec F S1x8x64x64 .bf16 := fun i => I.V ((Rect.unit (s := S2x8x512x64) ![1, 0, 448, 0] S1x8x64x64.size inb_S2x8x512x64_S1x8x64x64_1_0_448_0).emb i)
def v516 (I : Ins F) : FVec F S8x128x64 .bf16 := k0_pay72 (v342 I)
def v521 (I : Ins F) : FVec F S8x128x64 .bf16 := k0_pay73 (v517 I) (v519 I)
def v523 (I : Ins F) : FVec F S8x64x64 .bf16 := k0_pay74 (v522 I)
def v525 (I : Ins F) : FVec F S8x64x64 .bf16 := k0_pay75 (v524 I)
/-- Chunk 10 of the partial product. -/
def acc10 (I : Ins F) : Chunk F := (k0_pay70 (v65 I) (v482 I) (v484 I) (v486 I) (v488 I) (v490 I) (v492 I) (v494 I) (v496 I))
/-- Chunk 14 of the partial product. -/
def acc14 (I : Ins F) : Chunk F := (k0_pay71 (v65 I) (v482 I) (v484 I) (v486 I) (v488 I) (v490 I) (v492 I) (v494 I) (v496 I))
/-- Chunk 11 of the partial product. -/
def acc11 (I : Ins F) : Chunk F := (k0_pay77 (v65 I) (v516 I) (v521 I) (v523 I) (v525 I))
/-- Chunk 15 of the partial product. -/
def acc15 (I : Ins F) : Chunk F := (k0_pay78 (v65 I) (v516 I) (v521 I) (v523 I) (v525 I))

/-- The sixteen chunks of the partial product. -/
def chunk (I : Ins F) : Fin 16 → Chunk F := ![acc0 I, acc1 I, acc2 I, acc3 I, acc4 I, acc5 I, acc6 I, acc7 I, acc8 I, acc9 I, acc10 I, acc11 I, acc12 I, acc13 I, acc14 I, acc15 I]

/-! ## The sum of sixteen chunks -/

def r991 (X : Chunk F) (Y : Fin 15 → Chunk F) : FVec F S64x768 .f32 := k0_pay1 X (Y 0) (Y 1)
def r1015 (X : Chunk F) (Y : Fin 15 → Chunk F) : FVec F S64x768 .f32 := (k0_pay2 (r991 X Y) (Y 2) (Y 3))
def r1039 (X : Chunk F) (Y : Fin 15 → Chunk F) : FVec F S64x768 .f32 := k0_pay3 (r1015 X Y) (Y 4) (Y 5)
def r1050 (X : Chunk F) (Y : Fin 15 → Chunk F) : FVec F S64x768 .f32 := k0_pay4 (Y 6)
def r1075 (X : Chunk F) (Y : Fin 15 → Chunk F) : FVec F S64x768 .f32 := (k0_pay5 (r1039 X Y) (r1050 X Y) (Y 7) (Y 8))
def r1099 (X : Chunk F) (Y : Fin 15 → Chunk F) : FVec F S64x768 .f32 := (k0_pay6 (r1075 X Y) (Y 9) (Y 10))
def r1135 (X : Chunk F) (Y : Fin 15 → Chunk F) : FVec F S64x768 .f32 := k0_pay7 (r1099 X Y) (Y 11) (Y 12) (Y 13)
/-- The reduced chunk, from the own one and the fifteen received. -/
def redOf (X : Chunk F) (Y : Fin 15 → Chunk F) : Flat F := (k0_pay9 (r1135 X Y) (Y 14))
/-- What goes to the own place of the output. -/
def ownOf (X : Chunk F) (Y : Fin 15 → Chunk F) : Vec F S1x64x768 .f32 := (k0_pay10 (r1135 X Y) (Y 14))

/-- The contents of the exchanged chunks, from the inputs of every device. -/
def cont (J : Dev nD → Ins F) : Cont F where
  val d t := chunk (J d) t
  red t := redOf (chunk (J t) t) fun j => chunk (J (snd t j)) t

section

variable (J : Dev nD → Ins F) (c : Dev nD)

theorem val0 : (cont J).val c 0 = acc0 (J c) := rfl
theorem val1 : (cont J).val c 1 = acc1 (J c) := rfl
theorem val2 : (cont J).val c 2 = acc2 (J c) := rfl
theorem val3 : (cont J).val c 3 = acc3 (J c) := rfl
theorem val4 : (cont J).val c 4 = acc4 (J c) := rfl
theorem val5 : (cont J).val c 5 = acc5 (J c) := rfl
theorem val6 : (cont J).val c 6 = acc6 (J c) := rfl
theorem val7 : (cont J).val c 7 = acc7 (J c) := rfl
theorem val8 : (cont J).val c 8 = acc8 (J c) := rfl
theorem val9 : (cont J).val c 9 = acc9 (J c) := rfl
theorem val10 : (cont J).val c 10 = acc10 (J c) := rfl
theorem val11 : (cont J).val c 11 = acc11 (J c) := rfl
theorem val12 : (cont J).val c 12 = acc12 (J c) := rfl
theorem val13 : (cont J).val c 13 = acc13 (J c) := rfl
theorem val14 : (cont J).val c 14 = acc14 (J c) := rfl
theorem val15 : (cont J).val c 15 = acc15 (J c) := rfl

/-- The own chunk and those received, on device c. -/
abbrev own : Chunk F := (cont J).val c c
@[inherit_doc own] abbrev peer (j : Fin 15) : Chunk F := (cont J).val (snd c j) c
theorem red_eq : (cont J).red c = redOf (own J c) (peer J c) := rfl

theorem chunkAt (t : Fin 16) {X Y : Chunk F} (h : X = Y) :
    (owns (c.tc : Thread nD τ) (accM t) fullShare X : Prp F) ⊢ owns (c.tc : Thread nD τ) (accM t) fullShare Y := by subst h; exact .rfl
theorem flatAt {X Y : Flat F} (h : X = Y) :
    (owns (c.tc : Thread nD τ) srcA fullShare X : Prp F) ⊢ owns (c.tc : Thread nD τ) srcA fullShare Y := by subst h; exact .rfl

end

/-! ## Places -/

/-- The device's number as the program computes it. -/
def w2 (c : Dev nD) : BitVec 32 := Scalar.remsi (Scalar.divsi (Dev.word c) 1#32) 16#32

set_option maxRecDepth 65536

theorem place0 (c : Dev nD) : (k0_cond1 c = 1#1 ↔ (0 : Dev nD) ≠ c) ∧ (k0_cond1 c = 1#1 → k0_off1 c = ![(sl c 0).val]) ∧ (k0_cond1 c = 1#1 → k0_off2 c = ![(sl c 0).val, 0, 0]) := by
  revert c; decide
theorem place4 (c : Dev nD) : (k0_cond2 c = 1#1 ↔ (4 : Dev nD) ≠ c) ∧ (k0_cond2 c = 1#1 → k0_off3 c = ![(sl c 4).val]) ∧ (k0_cond2 c = 1#1 → k0_off4 c = ![(sl c 4).val, 0, 0]) := by
  revert c; decide
theorem place1 (c : Dev nD) : (k0_cond3 c = 1#1 ↔ (1 : Dev nD) ≠ c) ∧ (k0_cond3 c = 1#1 → k0_off5 c = ![(sl c 1).val]) ∧ (k0_cond3 c = 1#1 → k0_off6 c = ![(sl c 1).val, 0, 0]) := by
  revert c; decide
theorem place5 (c : Dev nD) : (k0_cond4 c = 1#1 ↔ (5 : Dev nD) ≠ c) ∧ (k0_cond4 c = 1#1 → k0_off7 c = ![(sl c 5).val]) ∧ (k0_cond4 c = 1#1 → k0_off8 c = ![(sl c 5).val, 0, 0]) := by
  revert c; decide
theorem place2 (c : Dev nD) : (k0_cond5 c = 1#1 ↔ (2 : Dev nD) ≠ c) ∧ (k0_cond5 c = 1#1 → k0_off9 c = ![(sl c 2).val]) ∧ (k0_cond5 c = 1#1 → k0_off10 c = ![(sl c 2).val, 0, 0]) := by
  revert c; decide
theorem place6 (c : Dev nD) : (k0_cond6 c = 1#1 ↔ (6 : Dev nD) ≠ c) ∧ (k0_cond6 c = 1#1 → k0_off11 c = ![(sl c 6).val]) ∧ (k0_cond6 c = 1#1 → k0_off12 c = ![(sl c 6).val, 0, 0]) := by
  revert c; decide
theorem place3 (c : Dev nD) : (k0_cond7 c = 1#1 ↔ (3 : Dev nD) ≠ c) ∧ (k0_cond7 c = 1#1 → k0_off13 c = ![(sl c 3).val]) ∧ (k0_cond7 c = 1#1 → k0_off14 c = ![(sl c 3).val, 0, 0]) := by
  revert c; decide
theorem place7 (c : Dev nD) : (k0_cond8 c = 1#1 ↔ (7 : Dev nD) ≠ c) ∧ (k0_cond8 c = 1#1 → k0_off15 c = ![(sl c 7).val]) ∧ (k0_cond8 c = 1#1 → k0_off16 c = ![(sl c 7).val, 0, 0]) := by
  revert c; decide
theorem place8 (c : Dev nD) : (k0_cond10 c = 1#1 ↔ (8 : Dev nD) ≠ c) ∧ (k0_cond10 c = 1#1 → k0_off19 c = ![(sl c 8).val]) ∧ (k0_cond10 c = 1#1 → k0_off20 c = ![(sl c 8).val, 0, 0]) := by
  revert c; decide
theorem place12 (c : Dev nD) : (k0_cond11 c = 1#1 ↔ (12 : Dev nD) ≠ c) ∧ (k0_cond11 c = 1#1 → k0_off21 c = ![(sl c 12).val]) ∧ (k0_cond11 c = 1#1 → k0_off22 c = ![(sl c 12).val, 0, 0]) := by
  revert c; decide
theorem place9 (c : Dev nD) : (k0_cond12 c = 1#1 ↔ (9 : Dev nD) ≠ c) ∧ (k0_cond12 c = 1#1 → k0_off23 c = ![(sl c 9).val]) ∧ (k0_cond12 c = 1#1 → k0_off24 c = ![(sl c 9).val, 0, 0]) := by
  revert c; decide
theorem place13 (c : Dev nD) : (k0_cond13 c = 1#1 ↔ (13 : Dev nD) ≠ c) ∧ (k0_cond13 c = 1#1 → k0_off25 c = ![(sl c 13).val]) ∧ (k0_cond13 c = 1#1 → k0_off26 c = ![(sl c 13).val, 0, 0]) := by
  revert c; decide
theorem place10 (c : Dev nD) : (k0_cond14 c = 1#1 ↔ (10 : Dev nD) ≠ c) ∧ (k0_cond14 c = 1#1 → k0_off27 c = ![(sl c 10).val]) ∧ (k0_cond14 c = 1#1 → k0_off28 c = ![(sl c 10).val, 0, 0]) := by
  revert c; decide
theorem place14 (c : Dev nD) : (k0_cond15 c = 1#1 ↔ (14 : Dev nD) ≠ c) ∧ (k0_cond15 c = 1#1 → k0_off29 c = ![(sl c 14).val]) ∧ (k0_cond15 c = 1#1 → k0_off30 c = ![(sl c 14).val, 0, 0]) := by
  revert c; decide
theorem place11 (c : Dev nD) : (k0_cond16 c = 1#1 ↔ (11 : Dev nD) ≠ c) ∧ (k0_cond16 c = 1#1 → k0_off31 c = ![(sl c 11).val]) ∧ (k0_cond16 c = 1#1 → k0_off32 c = ![(sl c 11).val, 0, 0]) := by
  revert c; decide
theorem place15 (c : Dev nD) : (k0_cond17 c = 1#1 ↔ (15 : Dev nD) ≠ c) ∧ (k0_cond17 c = 1#1 → k0_off33 c = ![(sl c 15).val]) ∧ (k0_cond17 c = 1#1 → k0_off34 c = ![(sl c 15).val, 0, 0]) := by
  revert c; decide
theorem first_iff (c : Dev nD) : k0_cond9 c = 1#1 ↔ c.val < 8 := by revert c; decide
theorem second_iff (c : Dev nD) : k0_cond18 c = 1#1 ↔ ¬ c.val < 8 := by revert c; decide
theorem off37 (c : Dev nD) (j : Fin 15) : k0_off37 c (BitVec.ofNat 32 j.val) = ![(snd c j).val / 8, 64 * ((snd c j).val % 8), 0] := k0_off37_eq c j

end Cert.KernelIdeal.Talk
-- ==== Proof.PartsA.lean ====
/-
  The first parts of the body: the barrier, and the chunks of the first half of the rows.
-/
module

public import proofs.«01_k».proof.Proof.Data

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

abbrev P23 := k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P24 := k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P25 := k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P26 := k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P27 := k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P28 := k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P29 := k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P30 := k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P31 := k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

variable (J : Dev nD → Ins F) (κ : GSem nD τ sig → ℕ) (c : Dev nD)

/-- No signal left to send. -/
theorem barNone (O : Tal) : (owing c (sumBar c 16 0 + O) : Prp F) ⊢ owing c O := by
  rw [show sumBar c 16 0 + O = O from zero_add O]

set_option maxHeartbeats 1000000 in
/-- Part 23 of the body on device c. -/
theorem wp23 (O : Tal) {Q : _ → Prp F} :
    iprop(Invs (cont J) κ ∗ levAts LL lv ∗ reached ER (rsSendCell c) 0 ∗ reached ER (agSendCell c) 0 ∗ owing c (sumBar c 1 15 + O) ∗ barKits c 1 15)
      ⊢ iprop(((owing c (sumBar c 6 10 + O) ∗ barKits c 6 10) -∗ Q ⟨c, (w2 c), (SemArray.scalar (sig.barrier 0 rfl)), (Scalar.addi (w2 c) 6#32), 16#32⟩) -∗ WP c (P23 ) Q) := by
  unfold P23
  rw [k0_part23_eq_skeleton]
  unfold k0_part23_skel
  simp only [Prog.lift, Prog.bind_op, Prog.bind_ret, Prog.pure_eq_ret, semSignalWord, semWaitWord]
  iintro ⟨#HI, #Hl, #HrS, #HrA, HO, Hbk⟩ HK
  iapply (wpDevice c)
  iapply (sigStep (cont J) κ c (o := 1) (n := 14) (O := O) (Fin.ext (k0_dev1_eq c)) (fwd_ne c 0)) $$ [HO Hbk]
  · isplitr; · iexact HI
    isplitl [HO]; · iexact HO
    iexact Hbk
  iintro ⟨HO, Hbk⟩
  iapply (sigStep (cont J) κ c (o := 2) (n := 13) (O := O) (Fin.ext (k0_dev2_eq c)) (fwd_ne c 1)) $$ [HO Hbk]
  · isplitr; · iexact HI
    isplitl [HO]; · iexact HO
    iexact Hbk
  iintro ⟨HO, Hbk⟩
  iapply (sigStep (cont J) κ c (o := 3) (n := 12) (O := O) (Fin.ext (k0_dev3_eq c)) (fwd_ne c 2)) $$ [HO Hbk]
  · isplitr; · iexact HI
    isplitl [HO]; · iexact HO
    iexact Hbk
  iintro ⟨HO, Hbk⟩
  iapply (sigStep (cont J) κ c (o := 4) (n := 11) (O := O) (Fin.ext (k0_dev4_eq c)) (fwd_ne c 3)) $$ [HO Hbk]
  · isplitr; · iexact HI
    isplitl [HO]; · iexact HO
    iexact Hbk
  iintro ⟨HO, Hbk⟩
  iapply (sigStep (cont J) κ c (o := 5) (n := 10) (O := O) (Fin.ext (k0_dev5_eq c)) (fwd_ne c 4)) $$ [HO Hbk]
  · isplitr; · iexact HI
    isplitl [HO]; · iexact HO
    iexact Hbk
  iintro ⟨HO, Hbk⟩
  iapply (wpDone c (show (⟨c, Scalar.remsi (Scalar.divsi (Dev.word c) 1#32) 16#32, SemArray.scalar (sig.barrier 0 rfl), Scalar.addi (Scalar.remsi (Scalar.divsi (Dev.word c) 1#32) 16#32) 6#32, 16#32⟩ : (Σ' (d0 : Dev nD) (v2 : BitVec 32) (v3 : Sems sig S_) (v24 : BitVec 32), BitVec 32)) = ⟨c, (w2 c), (SemArray.scalar (sig.barrier 0 rfl)), (Scalar.addi (w2 c) 6#32), 16#32⟩ from rfl))
  iapply HK
  isplitl [HO]
  · iexact HO
  iexact Hbk

set_option maxHeartbeats 1000000 in
/-- Part 24 of the body on device c. -/
theorem wp24 (O : Tal) (v2 : BitVec 32) (v24 : BitVec 32) (c16_i32_20 : BitVec 32) {Q : _ → Prp F} :
    iprop(Invs (cont J) κ ∗ levAts LL lv ∗ reached ER (rsSendCell c) 0 ∗ reached ER (agSendCell c) 0 ∗ owing c (sumBar c 6 10 + O) ∗ barKits c 6 10)
      ⊢ iprop(((owing c (sumBar c 12 4 + O) ∗ barKits c 12 4) -∗ Q ⟨(Scalar.addi v2 12#32), 16#32⟩) -∗ WP c (P24 c v2 (SemArray.scalar (sig.barrier 0 rfl)) v24 c16_i32_20) Q) := by
  unfold P24
  rw [k0_part24_eq_skeleton]
  unfold k0_part24_skel
  simp only [Prog.lift, Prog.bind_op, Prog.bind_ret, Prog.pure_eq_ret, semSignalWord, semWaitWord]
  iintro ⟨#HI, #Hl, #HrS, #HrA, HO, Hbk⟩ HK
  iapply (sigStep (cont J) κ c (o := 6) (n := 9) (O := O) (Fin.ext (k0_dev6_eq c)) (fwd_ne c 5)) $$ [HO Hbk]
  · isplitr; · iexact HI
    isplitl [HO]; · iexact HO
    iexact Hbk
  iintro ⟨HO, Hbk⟩
  iapply (sigStep (cont J) κ c (o := 7) (n := 8) (O := O) (Fin.ext (k0_dev7_eq c)) (fwd_ne c 6)) $$ [HO Hbk]
  · isplitr; · iexact HI
    isplitl [HO]; · iexact HO
    iexact Hbk
  iintro ⟨HO, Hbk⟩
  iapply (sigStep (cont J) κ c (o := 8) (n := 7) (O := O) (Fin.ext (k0_dev8_eq c)) (fwd_ne c 7)) $$ [HO Hbk]
  · isplitr; · iexact HI
    isplitl [HO]; · iexact HO
    iexact Hbk
  iintro ⟨HO, Hbk⟩
  iapply (sigStep (cont J) κ c (o := 9) (n := 6) (O := O) (Fin.ext (k0_dev9_eq c)) (fwd_ne c 8)) $$ [HO Hbk]
  · isplitr; · iexact HI
    isplitl [HO]; · iexact HO
    iexact Hbk
  iintro ⟨HO, Hbk⟩
  iapply (sigStep (cont J) κ c (o := 10) (n := 5) (O := O) (Fin.ext (k0_dev10_eq c)) (fwd_ne c 9)) $$ [HO Hbk]
  · isplitr; · iexact HI
    isplitl [HO]; · iexact HO
    iexact Hbk
  iintro ⟨HO, Hbk⟩
  iapply (sigStep (cont J) κ c (o := 11) (n := 4) (O := O) (Fin.ext (k0_dev11_eq c)) (fwd_ne c 10)) $$ [HO Hbk]
  · isplitr; · iexact HI
    isplitl [HO]; · iexact HO
    iexact Hbk
  iintro ⟨HO, Hbk⟩
  iapply (wpDone c rfl)
  iapply HK
  isplitl [HO]
  · iexact HO
  iexact Hbk

set_option maxHeartbeats 1000000 in
/-- Part 25 of the body on device c. -/
theorem wp25 (O : Tal) (hO : Over 1 O) (v2 : BitVec 32) (v48 : BitVec 32) (c16_i32_44 : BitVec 32) {Q : _ → Prp F} :
    iprop(Invs (cont J) κ ∗ levAts LL lv ∗ reached ER (rsSendCell c) 0 ∗ reached ER (agSendCell c) 0 ∗ owing c (sumBar c 12 4 + O) ∗ barKits c 12 4 ∗ cred (tallyAt (barCell c) 1 15) ∗ atPos ER (barCell c) 0 ∅ 0 ∗ ins c (J c))
      ⊢ iprop(((owing c (O) ∗ barKits c 16 0 ∗ atPos ER (barCell c) 1 ∅ 0 ∗ (bigSep (Finset.univ.erase c) fun p => barPay c p) ∗ ins c (J c)) -∗ Q ⟨(v65 (J c)), (v71 (J c)), (v72 (J c)), (v73 (J c)), (v74 (J c)), (v75 (J c))⟩) -∗ WP c (P25 c v2 (SemArray.scalar (sig.barrier 0 rfl)) v48 c16_i32_44) Q) := by
  unfold P25
  rw [k0_part25_eq_skeleton]
  unfold k0_part25_skel
  simp only [Prog.lift, Prog.bind_op, Prog.bind_ret, Prog.pure_eq_ret, semSignalWord, semWaitWord]
  iintro ⟨#HI, #Hl, #HrS, #HrA, HO, Hbk, Hbc, Hbp, Hin⟩ HK
  iapply (sigStep (cont J) κ c (o := 12) (n := 3) (O := O) (Fin.ext (k0_dev12_eq c)) (fwd_ne c 11)) $$ [HO Hbk]
  · isplitr; · iexact HI
    isplitl [HO]; · iexact HO
    iexact Hbk
  iintro ⟨HO, Hbk⟩
  iapply (sigStep (cont J) κ c (o := 13) (n := 2) (O := O) (Fin.ext (k0_dev13_eq c)) (fwd_ne c 12)) $$ [HO Hbk]
  · isplitr; · iexact HI
    isplitl [HO]; · iexact HO
    iexact Hbk
  iintro ⟨HO, Hbk⟩
  iapply (sigStep (cont J) κ c (o := 14) (n := 1) (O := O) (Fin.ext (k0_dev14_eq c)) (fwd_ne c 13)) $$ [HO Hbk]
  · isplitr; · iexact HI
    isplitl [HO]; · iexact HO
    iexact Hbk
  iintro ⟨HO, Hbk⟩
  iapply (sigStep (cont J) κ c (o := 15) (n := 0) (O := O) (Fin.ext (k0_dev15_eq c)) (fwd_ne c 14)) $$ [HO Hbk]
  · isplitr; · iexact HI
    isplitl [HO]; · iexact HO
    iexact Hbk
  iintro ⟨HO, Hbk⟩
  ihave HO := (barNone c O) $$ [HO]
  · iexact HO
  iapply (barStep (cont J) κ c hO) $$ [Hbc HO Hbp]
  · isplitr; · iexact HI
    isplitr; · iexact Hl
    isplitl [Hbc]; · iexact Hbc
    isplitl [HO]; · iexact HO
    iexact Hbp
  iintro ⟨HO, Hbp, Hall⟩
  iapply (ldWo c) $$ Hin
  iintro Hin
  iapply (ldX c) $$ Hin
  iintro Hin
  iapply (ldWq c) $$ Hin
  iintro Hin
  iapply (wpDone c (show (⟨k0_pay21 (v64 (J c)), k0_pay22 (v66 (J c)) (v68 (J c)), k0_pay23 (v66 (J c)) (v68 (J c)), k0_pay24 (v66 (J c)) (v68 (J c)), k0_pay25 (v66 (J c)) (v68 (J c)), k0_pay26 (v66 (J c)) (v68 (J c))⟩ : (Σ' (v65 : FVec F S512x768 .bf16) (v71 : FVec F S512x512 .bf16) (v72 : FVec F S512x64 .bf16) (v73 : FVec F S512x64 .bf16) (v74 : FVec F S512x64 .bf16), FVec F S512x64 .bf16)) = ⟨(v65 (J c)), (v71 (J c)), (v72 (J c)), (v73 (J c)), (v74 (J c)), (v75 (J c))⟩ from rfl))
  iapply HK
  isplitl [HO]
  · iexact HO
  isplitl [Hbk]
  · iexact Hbk
  isplitl [Hbp]
  · iexact Hbp
  isplitl [Hall]
  · iexact Hall
  iexact Hin

/-- Part 26 of the body on device c. -/
theorem wp26  {Q : _ → Prp F} :
    iprop(Invs (cont J) κ ∗ levAts LL lv ∗ reached ER (rsSendCell c) 0 ∗ reached ER (agSendCell c) 0 ∗ ins c (J c))
      ⊢ iprop(((ins c (J c)) -∗ Q ⟨(v88 (J c)), (v112 (J c)), (v114 (J c)), (v115 (J c))⟩) -∗ WP c (P26 (v71 (J c)) (v72 (J c)) (v73 (J c)) (v74 (J c)) (v75 (J c))) Q) := by
  unfold P26
  rw [k0_part26_eq_skeleton]
  unfold k0_part26_skel
  simp only [Prog.lift, Prog.bind_op, Prog.bind_ret, Prog.pure_eq_ret]
  iintro ⟨#HI, #Hl, #HrS, #HrA, Hin⟩ HK
  iapply (ldK c) $$ Hin
  iintro Hin
  iapply (ldK c) $$ Hin
  iintro Hin
  iapply (ldV c) $$ Hin
  iintro Hin
  iapply (ldV c) $$ Hin
  iintro Hin
  iapply (wpDone c (show (⟨k0_pay27 (v71 (J c)) (v72 (J c)) (v73 (J c)) (v74 (J c)) (v75 (J c)), k0_pay28 (v71 (J c)) (v72 (J c)) (v73 (J c)) (v74 (J c)) (v75 (J c)) (v92 (J c)) (v94 (J c)) (v97 (J c)) (v99 (J c)), k0_pay29 (v71 (J c)) (v72 (J c)) (v73 (J c)) (v74 (J c)) (v75 (J c)) (v92 (J c)) (v94 (J c)) (v97 (J c)) (v99 (J c)), k0_pay30 (v71 (J c)) (v72 (J c)) (v73 (J c)) (v74 (J c)) (v75 (J c)) (v92 (J c)) (v94 (J c)) (v97 (J c)) (v99 (J c))⟩ : (Σ' (v88 : FVec F S8x512x64 .bf16) (v112 : FVec F S8x128x64 .bf16) (v114 : FVec F S128x64 .bf16), FVec F S1x128x64 .bf16)) = ⟨(v88 (J c)), (v112 (J c)), (v114 (J c)), (v115 (J c))⟩ from rfl))
  iapply HK
  iexact Hin

/-- Part 27 of the body on device c. -/
theorem wp27 (O : Tal) (l : List (Dev nD)) (X0 : Chunk F) (X4 : Chunk F) (v2 : BitVec 32) {Q : _ → Prp F} :
    iprop(Invs (cont J) κ ∗ levAts LL lv ∗ reached ER (rsSendCell c) 0 ∗ reached ER (agSendCell c) 0 ∗ owns (c.tc : Thread nD τ) (accM 0) fullShare X0 ∗ owns (c.tc : Thread nD τ) (accM 4) fullShare X4 ∗ owing c (sumRs c (0 :: 4 :: l) + O) ∗ rsKit c 0 ∗ rsKit c 4 ∗ ins c (J c))
      ⊢ iprop(((rsOut (cont J) c 0 ∗ rsOut (cont J) c 4 ∗ owing c (sumRs c l + O) ∗ ins c (J c)) -∗ Q ⟨(v148 (J c)), (v150 (J c)), (v152 (J c))⟩) -∗ WP c (P27 c v2 (v65 (J c)) (v88 (J c)) (v112 (J c)) (v114 (J c)) (v115 (J c))) Q) := by
  unfold P27
  rw [k0_part27_eq_skeleton]
  unfold k0_part27_skel
  simp only [Prog.lift, Prog.bind_op, Prog.bind_ret, Prog.pure_eq_ret]
  iintro ⟨#HI, #Hl, #HrS, #HrA, Ha0, Ha4, HO, Hk0, Hk4, Hin⟩ HK
  iapply (ldAcc c 0 rfl) $$ Ha0
  iintro Ha0
  iapply (stAcc c 0 rfl) $$ Ha0
  iintro Ha0
  ihave Ha0 := (chunkAt c 0 ((show (k0_pay32 (v65 (J c)) (v112 (J c)) (v114 (J c)) (v115 (J c))) = acc0 (J c) from rfl).trans (val0 J c).symm)) $$ [Ha0]
  · iexact Ha0
  iapply (ldAcc c 4 rfl) $$ Ha4
  iintro Ha4
  iapply (stAcc c 4 rfl) $$ Ha4
  iintro Ha4
  ihave Ha4 := (chunkAt c 4 ((show (k0_pay33 (v65 (J c)) (v112 (J c)) (v114 (J c)) (v115 (J c))) = acc4 (J c) from rfl).trans (val4 J c).symm)) $$ [Ha4]
  · iexact Ha4
  iapply (sendIf (cont J) κ c (t := 0) (O := O) (place0 c).1 rfl (place0 c).2.1 (place0 c).2.2 (fun _ => Fin.ext k0_dev16_eq)) $$ [HO Hk0 Ha0]
  · isplitr; · iexact HI
    isplitr; · iexact HrS
    isplitl [HO]; · iexact HO
    isplitl [Hk0]; · iexact Hk0
    iexact Ha0
  iintro ⟨HO, Ha0⟩
  iapply (sendIf (cont J) κ c (t := 4) (O := O) (place4 c).1 rfl (place4 c).2.1 (place4 c).2.2 (fun _ => Fin.ext k0_dev17_eq)) $$ [HO Hk4 Ha4]
  · isplitr; · iexact HI
    isplitr; · iexact HrS
    isplitl [HO]; · iexact HO
    isplitl [Hk4]; · iexact Hk4
    iexact Ha4
  iintro ⟨HO, Ha4⟩
  iapply (ldK c) $$ Hin
  iintro Hin
  iapply (ldK c) $$ Hin
  iintro Hin
  iapply (wpDone c (show (⟨k0_pay34 (v88 (J c)), k0_pay35 (v149 (J c)), k0_pay36 (v151 (J c))⟩ : (Σ' (v148 : FVec F S8x128x64 .bf16) (v150 : FVec F S8x64x64 .bf16), FVec F S8x64x64 .bf16)) = ⟨(v148 (J c)), (v150 (J c)), (v152 (J c))⟩ from rfl))
  iapply HK
  isplitl [Ha0]
  · iexact Ha0
  isplitl [Ha4]
  · iexact Ha4
  isplitl [HO]
  · iexact HO
  iexact Hin

/-- Part 28 of the body on device c. -/
theorem wp28 (X1 : Chunk F) {Q : _ → Prp F} :
    iprop(Invs (cont J) κ ∗ levAts LL lv ∗ reached ER (rsSendCell c) 0 ∗ reached ER (agSendCell c) 0 ∗ ins c (J c) ∗ owns (c.tc : Thread nD τ) (accM 1) fullShare X1)
      ⊢ iprop(((ins c (J c) ∗ owns (c.tc : Thread nD τ) (accM 1) fullShare ((cont J).val c 1)) -∗ Q (v193 (J c))) -∗ WP c (P28 (v65 (J c)) (v148 (J c)) (v150 (J c)) (v152 (J c))) Q) := by
  unfold P28
  rw [k0_part28_eq_skeleton]
  unfold k0_part28_skel
  simp only [Prog.lift, Prog.bind_op, Prog.bind_ret, Prog.pure_eq_ret]
  iintro ⟨#HI, #Hl, #HrS, #HrA, Hin, Ha1⟩ HK
  iapply (ldV c) $$ Hin
  iintro Hin
  iapply (ldV c) $$ Hin
  iintro Hin
  iapply (ldAcc c 1 rfl) $$ Ha1
  iintro Ha1
  iapply (stAcc c 1 rfl) $$ Ha1
  iintro Ha1
  ihave Ha1 := (chunkAt c 1 ((show (k0_pay38 (v65 (J c)) (v148 (J c)) (v150 (J c)) (v152 (J c)) (v154 (J c)) (v156 (J c))) = acc1 (J c) from rfl).trans (val1 J c).symm)) $$ [Ha1]
  · iexact Ha1
  iapply (wpDone c (show ((k0_pay39 (v65 (J c)) (v148 (J c)) (v150 (J c)) (v152 (J c)) (v154 (J c)) (v156 (J c))) : (FVec F S64x768 .bf16)) = (v193 (J c)) from rfl))
  iapply HK
  isplitl [Hin]
  · iexact Hin
  iexact Ha1

/-- Part 29 of the body on device c. -/
theorem wp29 (O : Tal) (l : List (Dev nD)) (X5 : Chunk F) (v2 : BitVec 32) {Q : _ → Prp F} :
    iprop(Invs (cont J) κ ∗ levAts LL lv ∗ reached ER (rsSendCell c) 0 ∗ reached ER (agSendCell c) 0 ∗ owns (c.tc : Thread nD τ) (accM 5) fullShare X5 ∗ owing c (sumRs c (1 :: 5 :: l) + O) ∗ owns (c.tc : Thread nD τ) (accM 1) fullShare ((cont J).val c 1) ∗ rsKit c 1 ∗ rsKit c 5 ∗ ins c (J c))
      ⊢ iprop(((rsOut (cont J) c 5 ∗ owing c (sumRs c l + O) ∗ rsOut (cont J) c 1 ∗ ins c (J c)) -∗ Q (v225 (J c))) -∗ WP c (P29 c v2 (v88 (J c)) (v193 (J c))) Q) := by
  unfold P29
  rw [k0_part29_eq_skeleton]
  unfold k0_part29_skel
  simp only [Prog.lift, Prog.bind_op, Prog.bind_ret, Prog.pure_eq_ret]
  iintro ⟨#HI, #Hl, #HrS, #HrA, Ha5, HO, Ha1, Hk1, Hk5, Hin⟩ HK
  iapply (ldAcc c 5 rfl) $$ Ha5
  iintro Ha5
  iapply (stAcc c 5 rfl) $$ Ha5
  iintro Ha5
  ihave Ha5 := (chunkAt c 5 ((show (k0_pay40 (v193 (J c))) = acc5 (J c) from rfl).trans (val5 J c).symm)) $$ [Ha5]
  · iexact Ha5
  iapply (sendIf (cont J) κ c (t := 1) (O := O) (place1 c).1 rfl (place1 c).2.1 (place1 c).2.2 (fun _ => Fin.ext k0_dev18_eq)) $$ [HO Hk1 Ha1]
  · isplitr; · iexact HI
    isplitr; · iexact HrS
    isplitl [HO]; · iexact HO
    isplitl [Hk1]; · iexact Hk1
    iexact Ha1
  iintro ⟨HO, Ha1⟩
  iapply (sendIf (cont J) κ c (t := 5) (O := O) (place5 c).1 rfl (place5 c).2.1 (place5 c).2.2 (fun _ => Fin.ext k0_dev19_eq)) $$ [HO Hk5 Ha5]
  · isplitr; · iexact HI
    isplitr; · iexact HrS
    isplitl [HO]; · iexact HO
    isplitl [Hk5]; · iexact Hk5
    iexact Ha5
  iintro ⟨HO, Ha5⟩
  iapply (ldK c) $$ Hin
  iintro Hin
  iapply (ldK c) $$ Hin
  iintro Hin
  iapply (ldV c) $$ Hin
  iintro Hin
  iapply (ldV c) $$ Hin
  iintro Hin
  iapply (wpDone c (show ((k0_pay41 (v88 (J c)) (v206 (J c)) (v208 (J c)) (v211 (J c)) (v213 (J c))) : (FVec F S8x128x64 .f32)) = (v225 (J c)) from rfl))
  iapply HK
  isplitl [Ha5]
  · iexact Ha5
  isplitl [HO]
  · iexact HO
  isplitl [Ha1]
  · iexact Ha1
  iexact Hin

/-- Part 30 of the body on device c. -/
theorem wp30 (O : Tal) (l : List (Dev nD)) (X2 : Chunk F) (X6 : Chunk F) (v2 : BitVec 32) {Q : _ → Prp F} :
    iprop(Invs (cont J) κ ∗ levAts LL lv ∗ reached ER (rsSendCell c) 0 ∗ reached ER (agSendCell c) 0 ∗ owns (c.tc : Thread nD τ) (accM 2) fullShare X2 ∗ owns (c.tc : Thread nD τ) (accM 6) fullShare X6 ∗ owing c (sumRs c (2 :: 6 :: l) + O) ∗ rsKit c 2 ∗ rsKit c 6 ∗ ins c (J c))
      ⊢ iprop(((rsOut (cont J) c 2 ∗ rsOut (cont J) c 6 ∗ owing c (sumRs c l + O) ∗ ins c (J c)) -∗ Q ⟨(v262 (J c)), (v264 (J c))⟩) -∗ WP c (P30 c v2 (v65 (J c)) (v88 (J c)) (v225 (J c))) Q) := by
  unfold P30
  rw [k0_part30_eq_skeleton]
  unfold k0_part30_skel
  simp only [Prog.lift, Prog.bind_op, Prog.bind_ret, Prog.pure_eq_ret]
  iintro ⟨#HI, #Hl, #HrS, #HrA, Ha2, Ha6, HO, Hk2, Hk6, Hin⟩ HK
  iapply (ldAcc c 2 rfl) $$ Ha2
  iintro Ha2
  iapply (stAcc c 2 rfl) $$ Ha2
  iintro Ha2
  ihave Ha2 := (chunkAt c 2 ((show (k0_pay43 (v65 (J c)) (v225 (J c))) = acc2 (J c) from rfl).trans (val2 J c).symm)) $$ [Ha2]
  · iexact Ha2
  iapply (ldAcc c 6 rfl) $$ Ha6
  iintro Ha6
  iapply (stAcc c 6 rfl) $$ Ha6
  iintro Ha6
  ihave Ha6 := (chunkAt c 6 ((show (k0_pay44 (v65 (J c)) (v225 (J c))) = acc6 (J c) from rfl).trans (val6 J c).symm)) $$ [Ha6]
  · iexact Ha6
  iapply (sendIf (cont J) κ c (t := 2) (O := O) (place2 c).1 rfl (place2 c).2.1 (place2 c).2.2 (fun _ => Fin.ext k0_dev20_eq)) $$ [HO Hk2 Ha2]
  · isplitr; · iexact HI
    isplitr; · iexact HrS
    isplitl [HO]; · iexact HO
    isplitl [Hk2]; · iexact Hk2
    iexact Ha2
  iintro ⟨HO, Ha2⟩
  iapply (sendIf (cont J) κ c (t := 6) (O := O) (place6 c).1 rfl (place6 c).2.1 (place6 c).2.2 (fun _ => Fin.ext k0_dev21_eq)) $$ [HO Hk6 Ha6]
  · isplitr; · iexact HI
    isplitr; · iexact HrS
    isplitl [HO]; · iexact HO
    isplitl [Hk6]; · iexact Hk6
    iexact Ha6
  iintro ⟨HO, Ha6⟩
  iapply (ldK c) $$ Hin
  iintro Hin
  iapply (wpDone c (show (⟨k0_pay45 (v88 (J c)), k0_pay46 (v263 (J c))⟩ : (Σ' (v262 : FVec F S8x128x64 .bf16), FVec F S8x64x64 .bf16)) = ⟨(v262 (J c)), (v264 (J c))⟩ from rfl))
  iapply HK
  isplitl [Ha2]
  · iexact Ha2
  isplitl [Ha6]
  · iexact Ha6
  isplitl [HO]
  · iexact HO
  iexact Hin

/-- Part 31 of the body on device c. -/
theorem wp31 (X3 : Chunk F) {Q : _ → Prp F} :
    iprop(Invs (cont J) κ ∗ levAts LL lv ∗ reached ER (rsSendCell c) 0 ∗ reached ER (agSendCell c) 0 ∗ ins c (J c) ∗ owns (c.tc : Thread nD τ) (accM 3) fullShare X3)
      ⊢ iprop(((ins c (J c) ∗ owns (c.tc : Thread nD τ) (accM 3) fullShare X3) -∗ Q ⟨(v302 (J c)), (v306 (J c))⟩) -∗ WP c (P31 (v65 (J c)) (v262 (J c)) (v264 (J c))) Q) := by
  unfold P31
  rw [k0_part31_eq_skeleton]
  unfold k0_part31_skel
  simp only [Prog.lift, Prog.bind_op, Prog.bind_ret, Prog.pure_eq_ret]
  iintro ⟨#HI, #Hl, #HrS, #HrA, Hin, Ha3⟩ HK
  iapply (ldK c) $$ Hin
  iintro Hin
  iapply (ldV c) $$ Hin
  iintro Hin
  iapply (ldV c) $$ Hin
  iintro Hin
  iapply (ldAcc c 3 rfl) $$ Ha3
  iintro Ha3
  iapply (wpDone c (show (⟨k0_pay47 (v65 (J c)) (v262 (J c)) (v264 (J c)) (v265 (J c)) (v268 (J c)) (v270 (J c)), k0_pay48 (v65 (J c)) (v262 (J c)) (v264 (J c)) (v265 (J c)) (v268 (J c)) (v270 (J c))⟩ : (Σ' (v302 : FVec F S128x768 .bf16), FVec F S1x64x768 .bf16)) = ⟨(v302 (J c)), (v306 (J c))⟩ from rfl))
  iapply HK
  isplitl [Hin]
  · iexact Hin
  iexact Ha3

end Cert.KernelIdeal.Talk
-- ==== Proof.PartsB.lean ====
/-
  The chunks of the second half of the rows.
-/
module

public import proofs.«01_k».proof.Proof.Data

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

abbrev P33 := k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P34 := k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P35 := k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P36 := k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P37 := k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P38 := k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

variable (J : Dev nD → Ins F) (κ : GSem nD τ sig → ℕ) (c : Dev nD)

/-- Part 33 of the body on device c. -/
theorem wp33  {Q : _ → Prp F} :
    iprop(Invs (cont J) κ ∗ levAts LL lv ∗ reached ER (rsSendCell c) 0 ∗ reached ER (agSendCell c) 0 ∗ ins c (J c))
      ⊢ iprop(((ins c (J c)) -∗ Q (v385 (J c))) -∗ WP c (P33 (v65 (J c)) (v345 (J c))) Q) := by
  unfold P33
  rw [k0_part33_eq_skeleton]
  unfold k0_part33_skel
  simp only [Prog.lift, Prog.bind_op, Prog.bind_ret, Prog.pure_eq_ret]
  iintro ⟨#HI, #Hl, #HrS, #HrA, Hin⟩ HK
  iapply (ldK c) $$ Hin
  iintro Hin
  iapply (ldK c) $$ Hin
  iintro Hin
  iapply (ldV c) $$ Hin
  iintro Hin
  iapply (ldV c) $$ Hin
  iintro Hin
  iapply (wpDone c (show ((k0_pay52 (v65 (J c)) (v345 (J c)) (v346 (J c)) (v348 (J c)) (v351 (J c)) (v353 (J c))) : (FVec F S128x768 .bf16)) = (v385 (J c)) from rfl))
  iapply HK
  iexact Hin

/-- Part 34 of the body on device c. -/
theorem wp34 (O : Tal) (l : List (Dev nD)) (X8 : Chunk F) (X12 : Chunk F) (v2 : BitVec 32) {Q : _ → Prp F} :
    iprop(Invs (cont J) κ ∗ levAts LL lv ∗ reached ER (rsSendCell c) 0 ∗ reached ER (agSendCell c) 0 ∗ owns (c.tc : Thread nD τ) (accM 8) fullShare X8 ∗ owns (c.tc : Thread nD τ) (accM 12) fullShare X12 ∗ owing c (sumRs c (8 :: 12 :: l) + O) ∗ rsKit c 8 ∗ rsKit c 12 ∗ ins c (J c))
      ⊢ iprop(((rsOut (cont J) c 8 ∗ rsOut (cont J) c 12 ∗ owing c (sumRs c l + O) ∗ ins c (J c)) -∗ Q ⟨(v412 (J c)), (v413 (J c)), (Scalar.ofBits .f32 0x3E000000#32)⟩) -∗ WP c (P34 c v2 (v342 (J c)) (v385 (J c))) Q) := by
  unfold P34
  rw [k0_part34_eq_skeleton]
  unfold k0_part34_skel
  simp only [Prog.lift, Prog.bind_op, Prog.bind_ret, Prog.pure_eq_ret]
  iintro ⟨#HI, #Hl, #HrS, #HrA, Ha8, Ha12, HO, Hk8, Hk12, Hin⟩ HK
  iapply (ldAcc c 8 rfl) $$ Ha8
  iintro Ha8
  iapply (stAcc c 8 rfl) $$ Ha8
  iintro Ha8
  ihave Ha8 := (chunkAt c 8 ((show (k0_pay53 (v385 (J c))) = acc8 (J c) from rfl).trans (val8 J c).symm)) $$ [Ha8]
  · iexact Ha8
  iapply (ldAcc c 12 rfl) $$ Ha12
  iintro Ha12
  iapply (stAcc c 12 rfl) $$ Ha12
  iintro Ha12
  ihave Ha12 := (chunkAt c 12 ((show (k0_pay54 (v385 (J c))) = acc12 (J c) from rfl).trans (val12 J c).symm)) $$ [Ha12]
  · iexact Ha12
  iapply (sendIf (cont J) κ c (t := 8) (O := O) (place8 c).1 rfl (place8 c).2.1 (place8 c).2.2 (fun _ => Fin.ext k0_dev39_eq)) $$ [HO Hk8 Ha8]
  · isplitr; · iexact HI
    isplitr; · iexact HrS
    isplitl [HO]; · iexact HO
    isplitl [Hk8]; · iexact Hk8
    iexact Ha8
  iintro ⟨HO, Ha8⟩
  iapply (sendIf (cont J) κ c (t := 12) (O := O) (place12 c).1 rfl (place12 c).2.1 (place12 c).2.2 (fun _ => Fin.ext k0_dev40_eq)) $$ [HO Hk12 Ha12]
  · isplitr; · iexact HI
    isplitr; · iexact HrS
    isplitl [HO]; · iexact HO
    isplitl [Hk12]; · iexact Hk12
    iexact Ha12
  iintro ⟨HO, Ha12⟩
  iapply (ldK c) $$ Hin
  iintro Hin
  iapply (ldK c) $$ Hin
  iintro Hin
  iapply (ldV c) $$ Hin
  iintro Hin
  iapply (ldV c) $$ Hin
  iintro Hin
  iapply (wpDone c (show (⟨k0_pay55 (v408 (J c)) (v410 (J c)), k0_pay56 (v342 (J c)) (v403 (J c)) (v405 (J c)), (Scalar.ofBits .f32 0x3E000000#32)⟩ : (Σ' (v412 : FVec F S8x128x64 .bf16) (v413 : FVec F S8x128x128 .f32), F .f32)) = ⟨(v412 (J c)), (v413 (J c)), (Scalar.ofBits .f32 0x3E000000#32)⟩ from rfl))
  iapply HK
  isplitl [Ha8]
  · iexact Ha8
  isplitl [Ha12]
  · iexact Ha12
  isplitl [HO]
  · iexact HO
  iexact Hin

/-- Part 35 of the body on device c. -/
theorem wp35 (O : Tal) (l : List (Dev nD)) (X9 : Chunk F) (X13 : Chunk F) (v2 : BitVec 32) {Q : _ → Prp F} :
    iprop(Invs (cont J) κ ∗ levAts LL lv ∗ reached ER (rsSendCell c) 0 ∗ reached ER (agSendCell c) 0 ∗ owns (c.tc : Thread nD τ) (accM 9) fullShare X9 ∗ owns (c.tc : Thread nD τ) (accM 13) fullShare X13 ∗ owing c (sumRs c (9 :: 13 :: l) + O) ∗ rsKit c 9 ∗ rsKit c 13)
      ⊢ iprop(((rsOut (cont J) c 9 ∗ rsOut (cont J) c 13 ∗ owing c (sumRs c l + O)) -∗ Q ⟨⟩) -∗ WP c (P35 c v2 (v65 (J c)) (v412 (J c)) (v413 (J c)) (Scalar.ofBits .f32 0x3E000000#32)) Q) := by
  unfold P35
  rw [k0_part35_eq_skeleton]
  unfold k0_part35_skel
  simp only [Prog.lift, Prog.bind_op, Prog.bind_ret, Prog.pure_eq_ret]
  iintro ⟨#HI, #Hl, #HrS, #HrA, Ha9, Ha13, HO, Hk9, Hk13⟩ HK
  iapply (ldAcc c 9 rfl) $$ Ha9
  iintro Ha9
  iapply (stAcc c 9 rfl) $$ Ha9
  iintro Ha9
  ihave Ha9 := (chunkAt c 9 ((show (k0_pay58 (v65 (J c)) (v412 (J c)) (v413 (J c)) (Scalar.ofBits .f32 0x3E000000#32)) = acc9 (J c) from rfl).trans (val9 J c).symm)) $$ [Ha9]
  · iexact Ha9
  iapply (ldAcc c 13 rfl) $$ Ha13
  iintro Ha13
  iapply (stAcc c 13 rfl) $$ Ha13
  iintro Ha13
  ihave Ha13 := (chunkAt c 13 ((show (k0_pay59 (v65 (J c)) (v412 (J c)) (v413 (J c)) (Scalar.ofBits .f32 0x3E000000#32)) = acc13 (J c) from rfl).trans (val13 J c).symm)) $$ [Ha13]
  · iexact Ha13
  iapply (sendIf (cont J) κ c (t := 9) (O := O) (place9 c).1 rfl (place9 c).2.1 (place9 c).2.2 (fun _ => Fin.ext k0_dev41_eq)) $$ [HO Hk9 Ha9]
  · isplitr; · iexact HI
    isplitr; · iexact HrS
    isplitl [HO]; · iexact HO
    isplitl [Hk9]; · iexact Hk9
    iexact Ha9
  iintro ⟨HO, Ha9⟩
  iapply (sendIf (cont J) κ c (t := 13) (O := O) (place13 c).1 rfl (place13 c).2.1 (place13 c).2.2 (fun _ => Fin.ext k0_dev42_eq)) $$ [HO Hk13 Ha13]
  · isplitr; · iexact HI
    isplitr; · iexact HrS
    isplitl [HO]; · iexact HO
    isplitl [Hk13]; · iexact Hk13
    iexact Ha13
  iintro ⟨HO, Ha13⟩
  iapply (wpDone c rfl)
  iapply HK
  isplitl [Ha9]
  · iexact Ha9
  isplitl [Ha13]
  · iexact Ha13
  iexact HO

/-- Part 36 of the body on device c. -/
theorem wp36  {Q : _ → Prp F} :
    iprop(Invs (cont J) κ ∗ levAts LL lv ∗ reached ER (rsSendCell c) 0 ∗ reached ER (agSendCell c) 0 ∗ ins c (J c))
      ⊢ iprop(((ins c (J c)) -∗ Q ⟨(v482 (J c)), (v484 (J c)), (v486 (J c)), (v488 (J c)), (v490 (J c)), (v492 (J c)), (v494 (J c)), (v496 (J c))⟩) -∗ WP c (P36 (v342 (J c))) Q) := by
  unfold P36
  rw [k0_part36_eq_skeleton]
  unfold k0_part36_skel
  simp only [Prog.lift, Prog.bind_op, Prog.bind_ret, Prog.pure_eq_ret]
  iintro ⟨#HI, #Hl, #HrS, #HrA, Hin⟩ HK
  iapply (ldK c) $$ Hin
  iintro Hin
  iapply (ldK c) $$ Hin
  iintro Hin
  iapply (ldV c) $$ Hin
  iintro Hin
  iapply (ldV c) $$ Hin
  iintro Hin
  iapply (wpDone c (show (⟨k0_pay61 (v342 (J c)) (v460 (J c)) (v462 (J c)) (v465 (J c)) (v467 (J c)), k0_pay62 (v342 (J c)) (v460 (J c)) (v462 (J c)) (v465 (J c)) (v467 (J c)), k0_pay63 (v342 (J c)) (v460 (J c)) (v462 (J c)) (v465 (J c)) (v467 (J c)), k0_pay64 (v342 (J c)) (v460 (J c)) (v462 (J c)) (v465 (J c)) (v467 (J c)), k0_pay65 (v342 (J c)) (v460 (J c)) (v462 (J c)) (v465 (J c)) (v467 (J c)), k0_pay66 (v342 (J c)) (v460 (J c)) (v462 (J c)) (v465 (J c)) (v467 (J c)), k0_pay67 (v342 (J c)) (v460 (J c)) (v462 (J c)) (v465 (J c)) (v467 (J c)), k0_pay68 (v342 (J c)) (v460 (J c)) (v462 (J c)) (v465 (J c)) (v467 (J c))⟩ : (Σ' (v482 : FVec F S128x64 .bf16) (v484 : FVec F S128x64 .bf16) (v486 : FVec F S128x64 .bf16) (v488 : FVec F S128x64 .bf16) (v490 : FVec F S128x64 .bf16) (v492 : FVec F S128x64 .bf16) (v494 : FVec F S128x64 .bf16), FVec F S128x64 .bf16)) = ⟨(v482 (J c)), (v484 (J c)), (v486 (J c)), (v488 (J c)), (v490 (J c)), (v492 (J c)), (v494 (J c)), (v496 (J c))⟩ from rfl))
  iapply HK
  iexact Hin

/-- Part 37 of the body on device c. -/
theorem wp37 (O : Tal) (l : List (Dev nD)) (X10 : Chunk F) (X14 : Chunk F) (v2 : BitVec 32) {Q : _ → Prp F} :
    iprop(Invs (cont J) κ ∗ levAts LL lv ∗ reached ER (rsSendCell c) 0 ∗ reached ER (agSendCell c) 0 ∗ owns (c.tc : Thread nD τ) (accM 10) fullShare X10 ∗ owns (c.tc : Thread nD τ) (accM 14) fullShare X14 ∗ owing c (sumRs c (10 :: 14 :: l) + O) ∗ rsKit c 10 ∗ rsKit c 14 ∗ ins c (J c))
      ⊢ iprop(((rsOut (cont J) c 10 ∗ rsOut (cont J) c 14 ∗ owing c (sumRs c l + O) ∗ ins c (J c)) -∗ Q ⟨(v516 (J c)), (v521 (J c)), (v523 (J c)), (v525 (J c))⟩) -∗ WP c (P37 c v2 (v65 (J c)) (v342 (J c)) (v482 (J c)) (v484 (J c)) (v486 (J c)) (v488 (J c)) (v490 (J c)) (v492 (J c)) (v494 (J c)) (v496 (J c))) Q) := by
  unfold P37
  rw [k0_part37_eq_skeleton]
  unfold k0_part37_skel
  simp only [Prog.lift, Prog.bind_op, Prog.bind_ret, Prog.pure_eq_ret]
  iintro ⟨#HI, #Hl, #HrS, #HrA, Ha10, Ha14, HO, Hk10, Hk14, Hin⟩ HK
  iapply (ldAcc c 10 rfl) $$ Ha10
  iintro Ha10
  iapply (stAcc c 10 rfl) $$ Ha10
  iintro Ha10
  ihave Ha10 := (chunkAt c 10 ((show (k0_pay70 (v65 (J c)) (v482 (J c)) (v484 (J c)) (v486 (J c)) (v488 (J c)) (v490 (J c)) (v492 (J c)) (v494 (J c)) (v496 (J c))) = acc10 (J c) from rfl).trans (val10 J c).symm)) $$ [Ha10]
  · iexact Ha10
  iapply (ldAcc c 14 rfl) $$ Ha14
  iintro Ha14
  iapply (stAcc c 14 rfl) $$ Ha14
  iintro Ha14
  ihave Ha14 := (chunkAt c 14 ((show (k0_pay71 (v65 (J c)) (v482 (J c)) (v484 (J c)) (v486 (J c)) (v488 (J c)) (v490 (J c)) (v492 (J c)) (v494 (J c)) (v496 (J c))) = acc14 (J c) from rfl).trans (val14 J c).symm)) $$ [Ha14]
  · iexact Ha14
  iapply (sendIf (cont J) κ c (t := 10) (O := O) (place10 c).1 rfl (place10 c).2.1 (place10 c).2.2 (fun _ => Fin.ext k0_dev43_eq)) $$ [HO Hk10 Ha10]
  · isplitr; · iexact HI
    isplitr; · iexact HrS
    isplitl [HO]; · iexact HO
    isplitl [Hk10]; · iexact Hk10
    iexact Ha10
  iintro ⟨HO, Ha10⟩
  iapply (sendIf (cont J) κ c (t := 14) (O := O) (place14 c).1 rfl (place14 c).2.1 (place14 c).2.2 (fun _ => Fin.ext k0_dev44_eq)) $$ [HO Hk14 Ha14]
  · isplitr; · iexact HI
    isplitr; · iexact HrS
    isplitl [HO]; · iexact HO
    isplitl [Hk14]; · iexact Hk14
    iexact Ha14
  iintro ⟨HO, Ha14⟩
  iapply (ldK c) $$ Hin
  iintro Hin
  iapply (ldK c) $$ Hin
  iintro Hin
  iapply (ldV c) $$ Hin
  iintro Hin
  iapply (ldV c) $$ Hin
  iintro Hin
  iapply (wpDone c (show (⟨k0_pay72 (v342 (J c)), k0_pay73 (v517 (J c)) (v519 (J c)), k0_pay74 (v522 (J c)), k0_pay75 (v524 (J c))⟩ : (Σ' (v516 : FVec F S8x128x64 .bf16) (v521 : FVec F S8x128x64 .bf16) (v523 : FVec F S8x64x64 .bf16), FVec F S8x64x64 .bf16)) = ⟨(v516 (J c)), (v521 (J c)), (v523 (J c)), (v525 (J c))⟩ from rfl))
  iapply HK
  isplitl [Ha10]
  · iexact Ha10
  isplitl [Ha14]
  · iexact Ha14
  isplitl [HO]
  · iexact HO
  iexact Hin

/-- Part 38 of the body on device c. -/
theorem wp38 (O : Tal) (l : List (Dev nD)) (X11 : Chunk F) (X15 : Chunk F) (v2 : BitVec 32) {Q : _ → Prp F} :
    iprop(Invs (cont J) κ ∗ levAts LL lv ∗ reached ER (rsSendCell c) 0 ∗ reached ER (agSendCell c) 0 ∗ owns (c.tc : Thread nD τ) (accM 11) fullShare X11 ∗ owns (c.tc : Thread nD τ) (accM 15) fullShare X15 ∗ owing c (sumRs c (11 :: l) + O) ∗ rsKit c 11)
      ⊢ iprop(((rsOut (cont J) c 11 ∗ owns (c.tc : Thread nD τ) (accM 15) fullShare ((cont J).val c 15) ∗ owing c (sumRs c l + O)) -∗ Q (Scalar.cmpi .ne v2 15#32)) -∗ WP c (P38 c v2 (v65 (J c)) (v516 (J c)) (v521 (J c)) (v523 (J c)) (v525 (J c))) Q) := by
  unfold P38
  rw [k0_part38_eq_skeleton]
  unfold k0_part38_skel
  simp only [Prog.lift, Prog.bind_op, Prog.bind_ret, Prog.pure_eq_ret]
  iintro ⟨#HI, #Hl, #HrS, #HrA, Ha11, Ha15, HO, Hk11⟩ HK
  iapply (ldAcc c 11 rfl) $$ Ha11
  iintro Ha11
  iapply (stAcc c 11 rfl) $$ Ha11
  iintro Ha11
  ihave Ha11 := (chunkAt c 11 ((show (k0_pay77 (v65 (J c)) (v516 (J c)) (v521 (J c)) (v523 (J c)) (v525 (J c))) = acc11 (J c) from rfl).trans (val11 J c).symm)) $$ [Ha11]
  · iexact Ha11
  iapply (ldAcc c 15 rfl) $$ Ha15
  iintro Ha15
  iapply (stAcc c 15 rfl) $$ Ha15
  iintro Ha15
  ihave Ha15 := (chunkAt c 15 ((show (k0_pay78 (v65 (J c)) (v516 (J c)) (v521 (J c)) (v523 (J c)) (v525 (J c))) = acc15 (J c) from rfl).trans (val15 J c).symm)) $$ [Ha15]
  · iexact Ha15
  iapply (sendIf (cont J) κ c (t := 11) (O := O) (place11 c).1 rfl (place11 c).2.1 (place11 c).2.2 (fun _ => Fin.ext k0_dev45_eq)) $$ [HO Hk11 Ha11]
  · isplitr; · iexact HI
    isplitr; · iexact HrS
    isplitl [HO]; · iexact HO
    isplitl [Hk11]; · iexact Hk11
    iexact Ha11
  iintro ⟨HO, Ha11⟩
  iapply (wpDone c rfl)
  iapply HK
  isplitl [Ha11]
  · iexact Ha11
  isplitl [Ha15]
  · iexact Ha15
  iexact HO

end Cert.KernelIdeal.Talk
-- ==== Proof.PartsC.lean ====
/-
  The reduction and the all-gather sends, in the two places the body has them.
-/
module

public import proofs.«01_k».proof.Proof.Data

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

abbrev P1 := k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P2 := k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P3 := k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P4 := k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P5 := k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P6 := k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P7 := k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P8 := k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P9 := k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P10 := k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P12 := k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P13 := k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P14 := k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P15 := k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P16 := k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P17 := k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P18 := k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P19 := k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P20 := k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P21 := k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

variable (J : Dev nD → Ins F) (κ : GSem nD τ sig → ℕ) (c : Dev nD)

/-- Part 1 of the body on device c. -/
theorem wp1 (O : Tal) (hO : Over (rsIx c) (O)) (v2 : BitVec 32) (k0_h9 : k0_cond9 c = 1#1) {Q : _ → Prp F} :
    iprop(Invs (cont J) κ ∗ levAts LL lv ∗ reached ER (rsSendCell c) 0 ∗ reached ER (agSendCell c) 0 ∗ owns (c.tc : Thread nD τ) (accM c) fullShare ((cont J).val c c) ∗ owing c (O) ∗ rsIn c 0 ∗ rsIn c 1)
      ⊢ iprop(((owns (c.tc : Thread nD τ) (accM c) fullShare ((cont J).val c c) ∗ owing c (O) ∗ atPos ER (rsRecvCell c 0) 1 ∅ 0 ∗ rsHas (cont J) c 0 ∗ atPos ER (rsRecvCell c 1) 1 ∅ 0 ∗ rsHas (cont J) c 1) -∗ Q ⟨(r991 (own J c) (peer J c)), 1#32⟩) -∗ WP c (P1 c v2 k0_h9) Q) := by
  unfold P1
  rw [k0_part1_eq_skeleton]
  unfold k0_part1_skel
  simp only [Prog.lift, Prog.bind_op, Prog.bind_ret, Prog.pure_eq_ret]
  iintro ⟨#HI, #Hl, #HrS, #HrA, Hown, HO, Hw0, Hw1⟩ HK
  iapply (ldAcc c c (k0_off17_eq c)) $$ Hown
  iintro Hown
  iapply (rsGet (cont J) κ c 0 hO rfl) $$ [HO Hw0]
  · isplitr; · iexact HI
    isplitr; · iexact Hl
    isplitl [HO]; · iexact HO
    iexact Hw0
  iintro ⟨HO, Hp0, Hr0⟩
  iapply (ldRs c 0 rfl) $$ Hr0
  iintro Hr0
  iapply (rsGet (cont J) κ c 1 hO rfl) $$ [HO Hw1]
  · isplitr; · iexact HI
    isplitr; · iexact Hl
    isplitl [HO]; · iexact HO
    iexact Hw1
  iintro ⟨HO, Hp1, Hr1⟩
  iapply (ldRs c 1 rfl) $$ Hr1
  iintro Hr1
  iapply (wpDone c (show (⟨k0_pay1 (own J c) (peer J c 0) (peer J c 1), 1#32⟩ : (Σ' (v991 : FVec F S64x768 .f32), BitVec 32)) = ⟨(r991 (own J c) (peer J c)), 1#32⟩ from rfl))
  iapply HK
  isplitl [Hown]
  · iexact Hown
  isplitl [HO]
  · iexact HO
  isplitl [Hp0]
  · iexact Hp0
  isplitl [Hr0]
  · iexact Hr0
  isplitl [Hp1]
  · iexact Hp1
  iexact Hr1

/-- Part 2 of the body on device c. -/
theorem wp2 (O : Tal) (hO : Over (rsIx c) (O)) (v2 : BitVec 32) (c1_i32_766 : BitVec 32) {Q : _ → Prp F} :
    iprop(Invs (cont J) κ ∗ levAts LL lv ∗ reached ER (rsSendCell c) 0 ∗ reached ER (agSendCell c) 0 ∗ owing c (O) ∗ rsIn c 2 ∗ rsIn c 3)
      ⊢ iprop(((owing c (O) ∗ atPos ER (rsRecvCell c 2) 1 ∅ 0 ∗ rsHas (cont J) c 2 ∗ atPos ER (rsRecvCell c 3) 1 ∅ 0 ∗ rsHas (cont J) c 3) -∗ Q (r1015 (own J c) (peer J c))) -∗ WP c (P2 v2 (r991 (own J c) (peer J c)) c1_i32_766) Q) := by
  unfold P2
  rw [k0_part2_eq_skeleton]
  unfold k0_part2_skel
  simp only [Prog.lift, Prog.bind_op, Prog.bind_ret, Prog.pure_eq_ret]
  iintro ⟨#HI, #Hl, #HrS, #HrA, HO, Hw2, Hw3⟩ HK
  iapply (rsGet (cont J) κ c 2 hO rfl) $$ [HO Hw2]
  · isplitr; · iexact HI
    isplitr; · iexact Hl
    isplitl [HO]; · iexact HO
    iexact Hw2
  iintro ⟨HO, Hp2, Hr2⟩
  iapply (ldRs c 2 rfl) $$ Hr2
  iintro Hr2
  iapply (rsGet (cont J) κ c 3 hO rfl) $$ [HO Hw3]
  · isplitr; · iexact HI
    isplitr; · iexact Hl
    isplitl [HO]; · iexact HO
    iexact Hw3
  iintro ⟨HO, Hp3, Hr3⟩
  iapply (ldRs c 3 rfl) $$ Hr3
  iintro Hr3
  iapply (wpDone c (show ((k0_pay2 (r991 (own J c) (peer J c)) (peer J c 2) (peer J c 3)) : (FVec F S64x768 .f32)) = (r1015 (own J c) (peer J c)) from rfl))
  iapply HK
  isplitl [HO]
  · iexact HO
  isplitl [Hp2]
  · iexact Hp2
  isplitl [Hr2]
  · iexact Hr2
  isplitl [Hp3]
  · iexact Hp3
  iexact Hr3

/-- Part 3 of the body on device c. -/
theorem wp3 (O : Tal) (hO : Over (rsIx c) (O)) (v2 : BitVec 32) {Q : _ → Prp F} :
    iprop(Invs (cont J) κ ∗ levAts LL lv ∗ reached ER (rsSendCell c) 0 ∗ reached ER (agSendCell c) 0 ∗ owing c (O) ∗ rsIn c 4 ∗ rsIn c 5 ∗ rsIn c 6)
      ⊢ iprop(((owing c (O) ∗ atPos ER (rsRecvCell c 4) 1 ∅ 0 ∗ rsHas (cont J) c 4 ∗ atPos ER (rsRecvCell c 5) 1 ∅ 0 ∗ rsHas (cont J) c 5 ∗ atPos ER (rsRecvCell c 6) 1 ∅ 0 ∗ rsHas (cont J) c 6) -∗ Q ⟨(r1039 (own J c) (peer J c)), (r1050 (own J c) (peer J c))⟩) -∗ WP c (P3 v2 (r1015 (own J c) (peer J c))) Q) := by
  unfold P3
  rw [k0_part3_eq_skeleton]
  unfold k0_part3_skel
  simp only [Prog.lift, Prog.bind_op, Prog.bind_ret, Prog.pure_eq_ret]
  iintro ⟨#HI, #Hl, #HrS, #HrA, HO, Hw4, Hw5, Hw6⟩ HK
  iapply (rsGet (cont J) κ c 4 hO rfl) $$ [HO Hw4]
  · isplitr; · iexact HI
    isplitr; · iexact Hl
    isplitl [HO]; · iexact HO
    iexact Hw4
  iintro ⟨HO, Hp4, Hr4⟩
  iapply (ldRs c 4 rfl) $$ Hr4
  iintro Hr4
  iapply (rsGet (cont J) κ c 5 hO rfl) $$ [HO Hw5]
  · isplitr; · iexact HI
    isplitr; · iexact Hl
    isplitl [HO]; · iexact HO
    iexact Hw5
  iintro ⟨HO, Hp5, Hr5⟩
  iapply (ldRs c 5 rfl) $$ Hr5
  iintro Hr5
  iapply (rsGet (cont J) κ c 6 hO rfl) $$ [HO Hw6]
  · isplitr; · iexact HI
    isplitr; · iexact Hl
    isplitl [HO]; · iexact HO
    iexact Hw6
  iintro ⟨HO, Hp6, Hr6⟩
  iapply (ldRs c 6 rfl) $$ Hr6
  iintro Hr6
  iapply (wpDone c (show (⟨k0_pay3 (r1015 (own J c) (peer J c)) (peer J c 4) (peer J c 5), k0_pay4 (peer J c 6)⟩ : (Σ' (v1039 : FVec F S64x768 .f32), FVec F S64x768 .f32)) = ⟨(r1039 (own J c) (peer J c)), (r1050 (own J c) (peer J c))⟩ from rfl))
  iapply HK
  isplitl [HO]
  · iexact HO
  isplitl [Hp4]
  · iexact Hp4
  isplitl [Hr4]
  · iexact Hr4
  isplitl [Hp5]
  · iexact Hp5
  isplitl [Hr5]
  · iexact Hr5
  isplitl [Hp6]
  · iexact Hp6
  iexact Hr6

/-- Part 4 of the body on device c. -/
theorem wp4 (O : Tal) (hO : Over (rsIx c) (O)) (v2 : BitVec 32) {Q : _ → Prp F} :
    iprop(Invs (cont J) κ ∗ levAts LL lv ∗ reached ER (rsSendCell c) 0 ∗ reached ER (agSendCell c) 0 ∗ owing c (O) ∗ rsIn c 7 ∗ rsIn c 8)
      ⊢ iprop(((owing c (O) ∗ atPos ER (rsRecvCell c 7) 1 ∅ 0 ∗ rsHas (cont J) c 7 ∗ atPos ER (rsRecvCell c 8) 1 ∅ 0 ∗ rsHas (cont J) c 8) -∗ Q (r1075 (own J c) (peer J c))) -∗ WP c (P4 v2 (r1039 (own J c) (peer J c)) (r1050 (own J c) (peer J c))) Q) := by
  unfold P4
  rw [k0_part4_eq_skeleton]
  unfold k0_part4_skel
  simp only [Prog.lift, Prog.bind_op, Prog.bind_ret, Prog.pure_eq_ret]
  iintro ⟨#HI, #Hl, #HrS, #HrA, HO, Hw7, Hw8⟩ HK
  iapply (rsGet (cont J) κ c 7 hO rfl) $$ [HO Hw7]
  · isplitr; · iexact HI
    isplitr; · iexact Hl
    isplitl [HO]; · iexact HO
    iexact Hw7
  iintro ⟨HO, Hp7, Hr7⟩
  iapply (ldRs c 7 rfl) $$ Hr7
  iintro Hr7
  iapply (rsGet (cont J) κ c 8 hO rfl) $$ [HO Hw8]
  · isplitr; · iexact HI
    isplitr; · iexact Hl
    isplitl [HO]; · iexact HO
    iexact Hw8
  iintro ⟨HO, Hp8, Hr8⟩
  iapply (ldRs c 8 rfl) $$ Hr8
  iintro Hr8
  iapply (wpDone c (show ((k0_pay5 (r1039 (own J c) (peer J c)) (r1050 (own J c) (peer J c)) (peer J c 7) (peer J c 8)) : (FVec F S64x768 .f32)) = (r1075 (own J c) (peer J c)) from rfl))
  iapply HK
  isplitl [HO]
  · iexact HO
  isplitl [Hp7]
  · iexact Hp7
  isplitl [Hr7]
  · iexact Hr7
  isplitl [Hp8]
  · iexact Hp8
  iexact Hr8

/-- Part 5 of the body on device c. -/
theorem wp5 (O : Tal) (hO : Over (rsIx c) (O)) (v2 : BitVec 32) {Q : _ → Prp F} :
    iprop(Invs (cont J) κ ∗ levAts LL lv ∗ reached ER (rsSendCell c) 0 ∗ reached ER (agSendCell c) 0 ∗ owing c (O) ∗ rsIn c 9 ∗ rsIn c 10 ∗ rsIn c 11)
      ⊢ iprop(((owing c (O) ∗ atPos ER (rsRecvCell c 9) 1 ∅ 0 ∗ rsHas (cont J) c 9 ∗ atPos ER (rsRecvCell c 10) 1 ∅ 0 ∗ rsHas (cont J) c 10 ∗ atPos ER (rsRecvCell c 11) 1 ∅ 0 ∗ rsHas (cont J) c 11) -∗ Q (r1099 (own J c) (peer J c))) -∗ WP c (P5 v2 (r1075 (own J c) (peer J c))) Q) := by
  unfold P5
  rw [k0_part5_eq_skeleton]
  unfold k0_part5_skel
  simp only [Prog.lift, Prog.bind_op, Prog.bind_ret, Prog.pure_eq_ret]
  iintro ⟨#HI, #Hl, #HrS, #HrA, HO, Hw9, Hw10, Hw11⟩ HK
  iapply (rsGet (cont J) κ c 9 hO rfl) $$ [HO Hw9]
  · isplitr; · iexact HI
    isplitr; · iexact Hl
    isplitl [HO]; · iexact HO
    iexact Hw9
  iintro ⟨HO, Hp9, Hr9⟩
  iapply (ldRs c 9 rfl) $$ Hr9
  iintro Hr9
  iapply (rsGet (cont J) κ c 10 hO rfl) $$ [HO Hw10]
  · isplitr; · iexact HI
    isplitr; · iexact Hl
    isplitl [HO]; · iexact HO
    iexact Hw10
  iintro ⟨HO, Hp10, Hr10⟩
  iapply (ldRs c 10 rfl) $$ Hr10
  iintro Hr10
  iapply (rsGet (cont J) κ c 11 hO rfl) $$ [HO Hw11]
  · isplitr; · iexact HI
    isplitr; · iexact Hl
    isplitl [HO]; · iexact HO
    iexact Hw11
  iintro ⟨HO, Hp11, Hr11⟩
  iapply (wpDone c (show ((k0_pay6 (r1075 (own J c) (peer J c)) (peer J c 9) (peer J c 10)) : (FVec F S64x768 .f32)) = (r1099 (own J c) (peer J c)) from rfl))
  iapply HK
  isplitl [HO]
  · iexact HO
  isplitl [Hp9]
  · iexact Hp9
  isplitl [Hr9]
  · iexact Hr9
  isplitl [Hp10]
  · iexact Hp10
  isplitl [Hr10]
  · iexact Hr10
  isplitl [Hp11]
  · iexact Hp11
  iexact Hr11

/-- Part 6 of the body on device c. -/
theorem wp6 (O : Tal) (hO : Over (rsIx c) (O)) (v2 : BitVec 32) {Q : _ → Prp F} :
    iprop(Invs (cont J) κ ∗ levAts LL lv ∗ reached ER (rsSendCell c) 0 ∗ reached ER (agSendCell c) 0 ∗ rsHas (cont J) c 11 ∗ owing c (O) ∗ rsIn c 12 ∗ rsIn c 13)
      ⊢ iprop(((rsHas (cont J) c 11 ∗ owing c (O) ∗ atPos ER (rsRecvCell c 12) 1 ∅ 0 ∗ rsHas (cont J) c 12 ∗ atPos ER (rsRecvCell c 13) 1 ∅ 0 ∗ rsHas (cont J) c 13) -∗ Q ⟨(r1135 (own J c) (peer J c)), 1#32⟩) -∗ WP c (P6 v2 (r1099 (own J c) (peer J c))) Q) := by
  unfold P6
  rw [k0_part6_eq_skeleton]
  unfold k0_part6_skel
  simp only [Prog.lift, Prog.bind_op, Prog.bind_ret, Prog.pure_eq_ret]
  iintro ⟨#HI, #Hl, #HrS, #HrA, Hr11, HO, Hw12, Hw13⟩ HK
  iapply (ldRs c 11 rfl) $$ Hr11
  iintro Hr11
  iapply (rsGet (cont J) κ c 12 hO rfl) $$ [HO Hw12]
  · isplitr; · iexact HI
    isplitr; · iexact Hl
    isplitl [HO]; · iexact HO
    iexact Hw12
  iintro ⟨HO, Hp12, Hr12⟩
  iapply (ldRs c 12 rfl) $$ Hr12
  iintro Hr12
  iapply (rsGet (cont J) κ c 13 hO rfl) $$ [HO Hw13]
  · isplitr; · iexact HI
    isplitr; · iexact Hl
    isplitl [HO]; · iexact HO
    iexact Hw13
  iintro ⟨HO, Hp13, Hr13⟩
  iapply (ldRs c 13 rfl) $$ Hr13
  iintro Hr13
  iapply (wpDone c (show (⟨k0_pay7 (r1099 (own J c) (peer J c)) (peer J c 11) (peer J c 12) (peer J c 13), 1#32⟩ : (Σ' (v1135 : FVec F S64x768 .f32), BitVec 32)) = ⟨(r1135 (own J c) (peer J c)), 1#32⟩ from rfl))
  iapply HK
  isplitl [Hr11]
  · iexact Hr11
  isplitl [HO]
  · iexact HO
  isplitl [Hp12]
  · iexact Hp12
  isplitl [Hr12]
  · iexact Hr12
  isplitl [Hp13]
  · iexact Hp13
  iexact Hr13

/-- Part 7 of the body on device c. -/
theorem wp7 (O : Tal) (Xs : Flat F) (Xo : Vec F S1x64x768 .f32) (hO : Over (rsIx c) (sumAg c 1 15 + O)) (v2 : BitVec 32) (k0_h9 : k0_cond9 c = 1#1) (c1_i32_910 : BitVec 32) {Q : _ → Prp F} :
    iprop(Invs (cont J) κ ∗ levAts LL lv ∗ reached ER (rsSendCell c) 0 ∗ reached ER (agSendCell c) 0 ∗ owing c (sumAg c 1 15 + O) ∗ rsIn c 14 ∗ owns (c.tc : Thread nD τ) srcA fullShare Xs ∗ owns (c.tc : Thread nD τ) (outM c) fullShare Xo ∗ agKits c 1 15)
      ⊢ iprop(((atPos ER (rsRecvCell c 14) 1 ∅ 0 ∗ rsHas (cont J) c 14 ∗ owns (c.tc : Thread nD τ) (outM c) fullShare (ownOf (own J c) (peer J c)) ∗ agSt (cont J) c O 1 14) -∗ Q (Scalar.addi v2 2#32)) -∗ WP c (P7 c v2 k0_h9 (r1135 (own J c) (peer J c)) c1_i32_910) Q) := by
  unfold P7
  rw [k0_part7_eq_skeleton]
  unfold k0_part7_skel
  simp only [Prog.lift, Prog.bind_op, Prog.bind_ret, Prog.pure_eq_ret]
  iintro ⟨#HI, #Hl, #HrS, #HrA, HO, Hw14, Hs, Hoo, Hkk⟩ HK
  iapply (rsGet (cont J) κ c 14 hO rfl) $$ [HO Hw14]
  · isplitr; · iexact HI
    isplitr; · iexact Hl
    isplitl [HO]; · iexact HO
    iexact Hw14
  iintro ⟨HO, Hp14, Hr14⟩
  iapply (ldRs c 14 rfl) $$ Hr14
  iintro Hr14
  iapply (ld c) $$ Hs
  iintro Hs
  iapply (stSrc c (off := ![0, 0]) (by decide)) $$ Hs
  iintro Hs
  ihave Hs := (flatAt c (show (k0_pay9 (r1135 (own J c) (peer J c)) (peer J c 14)) = (cont J).red c from rfl)) $$ [Hs]
  · iexact Hs
  iapply (ldOut c c (k0_off18_eq c)) $$ Hoo
  iintro Hoo
  iapply (stOut c c (k0_off18_eq c)) $$ Hoo
  iintro Hoo
  ihave Hst := (show iprop(owing c (sumAg c 1 15 + O) ∗ agKits c 1 15 ∗ owns (c.tc : Thread nD τ) srcA fullShare ((cont J).red c) ∗ emp) ⊢ agSt (cont J) c O 0 15 from .rfl) $$ [HO Hkk Hs]
  · isplitl [HO]; · iexact HO
    isplitl [Hkk]; · iexact Hkk
    isplitl [Hs]; · iexact Hs
    iempintro
  iapply (agPut (cont J) κ c 0 (by decide) rfl rfl (Fin.ext (k0_dev24_eq c))) $$ [Hst]
  · isplitr; · iexact HI
    isplitr; · iexact HrA
    iexact Hst
  iintro Hst
  iapply (wpDone c rfl)
  iapply HK
  isplitl [Hp14]
  · iexact Hp14
  isplitl [Hr14]
  · iexact Hr14
  isplitl [Hoo]
  · iexact Hoo
  iexact Hst

/-- Part 8 of the body on device c. -/
theorem wp8 (O : Tal) (v2 : BitVec 32) (k0_h9 : k0_cond9 c = 1#1) (v1168 : BitVec 32) {Q : _ → Prp F} :
    iprop(Invs (cont J) κ ∗ levAts LL lv ∗ reached ER (rsSendCell c) 0 ∗ reached ER (agSendCell c) 0 ∗ agSt (cont J) c O 1 14)
      ⊢ iprop(((agSt (cont J) c O 4 11) -∗ Q ⟨⟩) -∗ WP c (P8 c v2 k0_h9 v1168) Q) := by
  unfold P8
  rw [k0_part8_eq_skeleton]
  unfold k0_part8_skel
  simp only [Prog.lift, Prog.bind_op, Prog.bind_ret, Prog.pure_eq_ret]
  iintro ⟨#HI, #Hl, #HrS, #HrA, Hst⟩ HK
  iapply (agPut (cont J) κ c 1 (by decide) rfl rfl (Fin.ext (k0_dev25_eq c))) $$ [Hst]
  · isplitr; · iexact HI
    isplitr; · iexact HrA
    iexact Hst
  iintro Hst
  iapply (agPut (cont J) κ c 2 (by decide) rfl rfl (Fin.ext (k0_dev26_eq c))) $$ [Hst]
  · isplitr; · iexact HI
    isplitr; · iexact HrA
    iexact Hst
  iintro Hst
  iapply (agPut (cont J) κ c 3 (by decide) rfl rfl (Fin.ext (k0_dev27_eq c))) $$ [Hst]
  · isplitr; · iexact HI
    isplitr; · iexact HrA
    iexact Hst
  iintro Hst
  iapply (wpDone c rfl)
  iapply HK
  iexact Hst

/-- Part 9 of the body on device c. -/
theorem wp9 (O : Tal) (v2 : BitVec 32) (k0_h9 : k0_cond9 c = 1#1) {Q : _ → Prp F} :
    iprop(Invs (cont J) κ ∗ levAts LL lv ∗ reached ER (rsSendCell c) 0 ∗ reached ER (agSendCell c) 0 ∗ agSt (cont J) c O 4 11)
      ⊢ iprop(((agSt (cont J) c O 8 7) -∗ Q ⟨(Scalar.addi v2 9#32), 16#32⟩) -∗ WP c (P9 c v2 k0_h9) Q) := by
  unfold P9
  rw [k0_part9_eq_skeleton]
  unfold k0_part9_skel
  simp only [Prog.lift, Prog.bind_op, Prog.bind_ret, Prog.pure_eq_ret]
  iintro ⟨#HI, #Hl, #HrS, #HrA, Hst⟩ HK
  iapply (agPut (cont J) κ c 4 (by decide) rfl rfl (Fin.ext (k0_dev28_eq c))) $$ [Hst]
  · isplitr; · iexact HI
    isplitr; · iexact HrA
    iexact Hst
  iintro Hst
  iapply (agPut (cont J) κ c 5 (by decide) rfl rfl (Fin.ext (k0_dev29_eq c))) $$ [Hst]
  · isplitr; · iexact HI
    isplitr; · iexact HrA
    iexact Hst
  iintro Hst
  iapply (agPut (cont J) κ c 6 (by decide) rfl rfl (Fin.ext (k0_dev30_eq c))) $$ [Hst]
  · isplitr; · iexact HI
    isplitr; · iexact HrA
    iexact Hst
  iintro Hst
  iapply (agPut (cont J) κ c 7 (by decide) rfl rfl (Fin.ext (k0_dev31_eq c))) $$ [Hst]
  · isplitr; · iexact HI
    isplitr; · iexact HrA
    iexact Hst
  iintro Hst
  iapply (wpDone c rfl)
  iapply HK
  iexact Hst

/-- Part 10 of the body on device c. -/
theorem wp10 (O : Tal) (v2 : BitVec 32) (k0_h9 : k0_cond9 c = 1#1) (v1224 : BitVec 32) (c16_i32_990 : BitVec 32) {Q : _ → Prp F} :
    iprop(Invs (cont J) κ ∗ levAts LL lv ∗ reached ER (rsSendCell c) 0 ∗ reached ER (agSendCell c) 0 ∗ agSt (cont J) c O 8 7)
      ⊢ iprop(((agSt (cont J) c O 11 4) -∗ Q ⟨⟩) -∗ WP c (P10 c v2 k0_h9 v1224 c16_i32_990) Q) := by
  unfold P10
  rw [k0_part10_eq_skeleton]
  unfold k0_part10_skel
  simp only [Prog.lift, Prog.bind_op, Prog.bind_ret, Prog.pure_eq_ret]
  iintro ⟨#HI, #Hl, #HrS, #HrA, Hst⟩ HK
  iapply (agPut (cont J) κ c 8 (by decide) rfl rfl (Fin.ext (k0_dev32_eq c))) $$ [Hst]
  · isplitr; · iexact HI
    isplitr; · iexact HrA
    iexact Hst
  iintro Hst
  iapply (agPut (cont J) κ c 9 (by decide) rfl rfl (Fin.ext (k0_dev33_eq c))) $$ [Hst]
  · isplitr; · iexact HI
    isplitr; · iexact HrA
    iexact Hst
  iintro Hst
  iapply (agPut (cont J) κ c 10 (by decide) rfl rfl (Fin.ext (k0_dev34_eq c))) $$ [Hst]
  · isplitr; · iexact HI
    isplitr; · iexact HrA
    iexact Hst
  iintro Hst
  iapply (wpDone c rfl)
  iapply HK
  iexact Hst

/-- Part 12 of the body on device c. -/
theorem wp12 (O : Tal) (hO : Over (rsIx c) (O)) (v2 : BitVec 32) (k0_h18 : k0_cond18 c = 1#1) {Q : _ → Prp F} :
    iprop(Invs (cont J) κ ∗ levAts LL lv ∗ reached ER (rsSendCell c) 0 ∗ reached ER (agSendCell c) 0 ∗ owns (c.tc : Thread nD τ) (accM c) fullShare ((cont J).val c c) ∗ owing c (O) ∗ rsIn c 0 ∗ rsIn c 1)
      ⊢ iprop(((owns (c.tc : Thread nD τ) (accM c) fullShare ((cont J).val c c) ∗ owing c (O) ∗ atPos ER (rsRecvCell c 0) 1 ∅ 0 ∗ rsHas (cont J) c 0 ∗ atPos ER (rsRecvCell c 1) 1 ∅ 0 ∗ rsHas (cont J) c 1) -∗ Q ⟨(r991 (own J c) (peer J c)), 1#32⟩) -∗ WP c (P12 c v2 k0_h18) Q) := by
  unfold P12
  rw [k0_part12_eq_skeleton]
  unfold k0_part12_skel
  simp only [Prog.lift, Prog.bind_op, Prog.bind_ret, Prog.pure_eq_ret]
  iintro ⟨#HI, #Hl, #HrS, #HrA, Hown, HO, Hw0, Hw1⟩ HK
  iapply (ldAcc c c (k0_off35_eq c)) $$ Hown
  iintro Hown
  iapply (rsGet (cont J) κ c 0 hO rfl) $$ [HO Hw0]
  · isplitr; · iexact HI
    isplitr; · iexact Hl
    isplitl [HO]; · iexact HO
    iexact Hw0
  iintro ⟨HO, Hp0, Hr0⟩
  iapply (ldRs c 0 rfl) $$ Hr0
  iintro Hr0
  iapply (rsGet (cont J) κ c 1 hO rfl) $$ [HO Hw1]
  · isplitr; · iexact HI
    isplitr; · iexact Hl
    isplitl [HO]; · iexact HO
    iexact Hw1
  iintro ⟨HO, Hp1, Hr1⟩
  iapply (ldRs c 1 rfl) $$ Hr1
  iintro Hr1
  iapply (wpDone c (show (⟨k0_pay11 (own J c) (peer J c 0) (peer J c 1), 1#32⟩ : (Σ' (v991 : FVec F S64x768 .f32), BitVec 32)) = ⟨(r991 (own J c) (peer J c)), 1#32⟩ from rfl))
  iapply HK
  isplitl [Hown]
  · iexact Hown
  isplitl [HO]
  · iexact HO
  isplitl [Hp0]
  · iexact Hp0
  isplitl [Hr0]
  · iexact Hr0
  isplitl [Hp1]
  · iexact Hp1
  iexact Hr1

/-- Part 13 of the body on device c. -/
theorem wp13 (O : Tal) (hO : Over (rsIx c) (O)) (v2 : BitVec 32) (c1_i32_766 : BitVec 32) {Q : _ → Prp F} :
    iprop(Invs (cont J) κ ∗ levAts LL lv ∗ reached ER (rsSendCell c) 0 ∗ reached ER (agSendCell c) 0 ∗ owing c (O) ∗ rsIn c 2 ∗ rsIn c 3)
      ⊢ iprop(((owing c (O) ∗ atPos ER (rsRecvCell c 2) 1 ∅ 0 ∗ rsHas (cont J) c 2 ∗ atPos ER (rsRecvCell c 3) 1 ∅ 0 ∗ rsHas (cont J) c 3) -∗ Q (r1015 (own J c) (peer J c))) -∗ WP c (P13 v2 (r991 (own J c) (peer J c)) c1_i32_766) Q) := by
  unfold P13
  rw [k0_part13_eq_skeleton]
  unfold k0_part13_skel
  simp only [Prog.lift, Prog.bind_op, Prog.bind_ret, Prog.pure_eq_ret]
  iintro ⟨#HI, #Hl, #HrS, #HrA, HO, Hw2, Hw3⟩ HK
  iapply (rsGet (cont J) κ c 2 hO rfl) $$ [HO Hw2]
  · isplitr; · iexact HI
    isplitr; · iexact Hl
    isplitl [HO]; · iexact HO
    iexact Hw2
  iintro ⟨HO, Hp2, Hr2⟩
  iapply (ldRs c 2 rfl) $$ Hr2
  iintro Hr2
  iapply (rsGet (cont J) κ c 3 hO rfl) $$ [HO Hw3]
  · isplitr; · iexact HI
    isplitr; · iexact Hl
    isplitl [HO]; · iexact HO
    iexact Hw3
  iintro ⟨HO, Hp3, Hr3⟩
  iapply (ldRs c 3 rfl) $$ Hr3
  iintro Hr3
  iapply (wpDone c (show ((k0_pay12 (r991 (own J c) (peer J c)) (peer J c 2) (peer J c 3)) : (FVec F S64x768 .f32)) = (r1015 (own J c) (peer J c)) from rfl))
  iapply HK
  isplitl [HO]
  · iexact HO
  isplitl [Hp2]
  · iexact Hp2
  isplitl [Hr2]
  · iexact Hr2
  isplitl [Hp3]
  · iexact Hp3
  iexact Hr3

/-- Part 14 of the body on device c. -/
theorem wp14 (O : Tal) (hO : Over (rsIx c) (O)) (v2 : BitVec 32) {Q : _ → Prp F} :
    iprop(Invs (cont J) κ ∗ levAts LL lv ∗ reached ER (rsSendCell c) 0 ∗ reached ER (agSendCell c) 0 ∗ owing c (O) ∗ rsIn c 4 ∗ rsIn c 5 ∗ rsIn c 6)
      ⊢ iprop(((owing c (O) ∗ atPos ER (rsRecvCell c 4) 1 ∅ 0 ∗ rsHas (cont J) c 4 ∗ atPos ER (rsRecvCell c 5) 1 ∅ 0 ∗ rsHas (cont J) c 5 ∗ atPos ER (rsRecvCell c 6) 1 ∅ 0 ∗ rsHas (cont J) c 6) -∗ Q ⟨(r1039 (own J c) (peer J c)), (r1050 (own J c) (peer J c))⟩) -∗ WP c (P14 v2 (r1015 (own J c) (peer J c))) Q) := by
  unfold P14
  rw [k0_part14_eq_skeleton]
  unfold k0_part14_skel
  simp only [Prog.lift, Prog.bind_op, Prog.bind_ret, Prog.pure_eq_ret]
  iintro ⟨#HI, #Hl, #HrS, #HrA, HO, Hw4, Hw5, Hw6⟩ HK
  iapply (rsGet (cont J) κ c 4 hO rfl) $$ [HO Hw4]
  · isplitr; · iexact HI
    isplitr; · iexact Hl
    isplitl [HO]; · iexact HO
    iexact Hw4
  iintro ⟨HO, Hp4, Hr4⟩
  iapply (ldRs c 4 rfl) $$ Hr4
  iintro Hr4
  iapply (rsGet (cont J) κ c 5 hO rfl) $$ [HO Hw5]
  · isplitr; · iexact HI
    isplitr; · iexact Hl
    isplitl [HO]; · iexact HO
    iexact Hw5
  iintro ⟨HO, Hp5, Hr5⟩
  iapply (ldRs c 5 rfl) $$ Hr5
  iintro Hr5
  iapply (rsGet (cont J) κ c 6 hO rfl) $$ [HO Hw6]
  · isplitr; · iexact HI
    isplitr; · iexact Hl
    isplitl [HO]; · iexact HO
    iexact Hw6
  iintro ⟨HO, Hp6, Hr6⟩
  iapply (ldRs c 6 rfl) $$ Hr6
  iintro Hr6
  iapply (wpDone c (show (⟨k0_pay13 (r1015 (own J c) (peer J c)) (peer J c 4) (peer J c 5), k0_pay14 (peer J c 6)⟩ : (Σ' (v1039 : FVec F S64x768 .f32), FVec F S64x768 .f32)) = ⟨(r1039 (own J c) (peer J c)), (r1050 (own J c) (peer J c))⟩ from rfl))
  iapply HK
  isplitl [HO]
  · iexact HO
  isplitl [Hp4]
  · iexact Hp4
  isplitl [Hr4]
  · iexact Hr4
  isplitl [Hp5]
  · iexact Hp5
  isplitl [Hr5]
  · iexact Hr5
  isplitl [Hp6]
  · iexact Hp6
  iexact Hr6

/-- Part 15 of the body on device c. -/
theorem wp15 (O : Tal) (hO : Over (rsIx c) (O)) (v2 : BitVec 32) {Q : _ → Prp F} :
    iprop(Invs (cont J) κ ∗ levAts LL lv ∗ reached ER (rsSendCell c) 0 ∗ reached ER (agSendCell c) 0 ∗ owing c (O) ∗ rsIn c 7 ∗ rsIn c 8)
      ⊢ iprop(((owing c (O) ∗ atPos ER (rsRecvCell c 7) 1 ∅ 0 ∗ rsHas (cont J) c 7 ∗ atPos ER (rsRecvCell c 8) 1 ∅ 0 ∗ rsHas (cont J) c 8) -∗ Q (r1075 (own J c) (peer J c))) -∗ WP c (P15 v2 (r1039 (own J c) (peer J c)) (r1050 (own J c) (peer J c))) Q) := by
  unfold P15
  rw [k0_part15_eq_skeleton]
  unfold k0_part15_skel
  simp only [Prog.lift, Prog.bind_op, Prog.bind_ret, Prog.pure_eq_ret]
  iintro ⟨#HI, #Hl, #HrS, #HrA, HO, Hw7, Hw8⟩ HK
  iapply (rsGet (cont J) κ c 7 hO rfl) $$ [HO Hw7]
  · isplitr; · iexact HI
    isplitr; · iexact Hl
    isplitl [HO]; · iexact HO
    iexact Hw7
  iintro ⟨HO, Hp7, Hr7⟩
  iapply (ldRs c 7 rfl) $$ Hr7
  iintro Hr7
  iapply (rsGet (cont J) κ c 8 hO rfl) $$ [HO Hw8]
  · isplitr; · iexact HI
    isplitr; · iexact Hl
    isplitl [HO]; · iexact HO
    iexact Hw8
  iintro ⟨HO, Hp8, Hr8⟩
  iapply (ldRs c 8 rfl) $$ Hr8
  iintro Hr8
  iapply (wpDone c (show ((k0_pay15 (r1039 (own J c) (peer J c)) (r1050 (own J c) (peer J c)) (peer J c 7) (peer J c 8)) : (FVec F S64x768 .f32)) = (r1075 (own J c) (peer J c)) from rfl))
  iapply HK
  isplitl [HO]
  · iexact HO
  isplitl [Hp7]
  · iexact Hp7
  isplitl [Hr7]
  · iexact Hr7
  isplitl [Hp8]
  · iexact Hp8
  iexact Hr8

/-- Part 16 of the body on device c. -/
theorem wp16 (O : Tal) (hO : Over (rsIx c) (O)) (v2 : BitVec 32) {Q : _ → Prp F} :
    iprop(Invs (cont J) κ ∗ levAts LL lv ∗ reached ER (rsSendCell c) 0 ∗ reached ER (agSendCell c) 0 ∗ owing c (O) ∗ rsIn c 9 ∗ rsIn c 10 ∗ rsIn c 11)
      ⊢ iprop(((owing c (O) ∗ atPos ER (rsRecvCell c 9) 1 ∅ 0 ∗ rsHas (cont J) c 9 ∗ atPos ER (rsRecvCell c 10) 1 ∅ 0 ∗ rsHas (cont J) c 10 ∗ atPos ER (rsRecvCell c 11) 1 ∅ 0 ∗ rsHas (cont J) c 11) -∗ Q (r1099 (own J c) (peer J c))) -∗ WP c (P16 v2 (r1075 (own J c) (peer J c))) Q) := by
  unfold P16
  rw [k0_part16_eq_skeleton]
  unfold k0_part16_skel
  simp only [Prog.lift, Prog.bind_op, Prog.bind_ret, Prog.pure_eq_ret]
  iintro ⟨#HI, #Hl, #HrS, #HrA, HO, Hw9, Hw10, Hw11⟩ HK
  iapply (rsGet (cont J) κ c 9 hO rfl) $$ [HO Hw9]
  · isplitr; · iexact HI
    isplitr; · iexact Hl
    isplitl [HO]; · iexact HO
    iexact Hw9
  iintro ⟨HO, Hp9, Hr9⟩
  iapply (ldRs c 9 rfl) $$ Hr9
  iintro Hr9
  iapply (rsGet (cont J) κ c 10 hO rfl) $$ [HO Hw10]
  · isplitr; · iexact HI
    isplitr; · iexact Hl
    isplitl [HO]; · iexact HO
    iexact Hw10
  iintro ⟨HO, Hp10, Hr10⟩
  iapply (ldRs c 10 rfl) $$ Hr10
  iintro Hr10
  iapply (rsGet (cont J) κ c 11 hO rfl) $$ [HO Hw11]
  · isplitr; · iexact HI
    isplitr; · iexact Hl
    isplitl [HO]; · iexact HO
    iexact Hw11
  iintro ⟨HO, Hp11, Hr11⟩
  iapply (wpDone c (show ((k0_pay16 (r1075 (own J c) (peer J c)) (peer J c 9) (peer J c 10)) : (FVec F S64x768 .f32)) = (r1099 (own J c) (peer J c)) from rfl))
  iapply HK
  isplitl [HO]
  · iexact HO
  isplitl [Hp9]
  · iexact Hp9
  isplitl [Hr9]
  · iexact Hr9
  isplitl [Hp10]
  · iexact Hp10
  isplitl [Hr10]
  · iexact Hr10
  isplitl [Hp11]
  · iexact Hp11
  iexact Hr11

/-- Part 17 of the body on device c. -/
theorem wp17 (O : Tal) (hO : Over (rsIx c) (O)) (v2 : BitVec 32) {Q : _ → Prp F} :
    iprop(Invs (cont J) κ ∗ levAts LL lv ∗ reached ER (rsSendCell c) 0 ∗ reached ER (agSendCell c) 0 ∗ rsHas (cont J) c 11 ∗ owing c (O) ∗ rsIn c 12 ∗ rsIn c 13)
      ⊢ iprop(((rsHas (cont J) c 11 ∗ owing c (O) ∗ atPos ER (rsRecvCell c 12) 1 ∅ 0 ∗ rsHas (cont J) c 12 ∗ atPos ER (rsRecvCell c 13) 1 ∅ 0 ∗ rsHas (cont J) c 13) -∗ Q ⟨(r1135 (own J c) (peer J c)), 1#32⟩) -∗ WP c (P17 v2 (r1099 (own J c) (peer J c))) Q) := by
  unfold P17
  rw [k0_part17_eq_skeleton]
  unfold k0_part17_skel
  simp only [Prog.lift, Prog.bind_op, Prog.bind_ret, Prog.pure_eq_ret]
  iintro ⟨#HI, #Hl, #HrS, #HrA, Hr11, HO, Hw12, Hw13⟩ HK
  iapply (ldRs c 11 rfl) $$ Hr11
  iintro Hr11
  iapply (rsGet (cont J) κ c 12 hO rfl) $$ [HO Hw12]
  · isplitr; · iexact HI
    isplitr; · iexact Hl
    isplitl [HO]; · iexact HO
    iexact Hw12
  iintro ⟨HO, Hp12, Hr12⟩
  iapply (ldRs c 12 rfl) $$ Hr12
  iintro Hr12
  iapply (rsGet (cont J) κ c 13 hO rfl) $$ [HO Hw13]
  · isplitr; · iexact HI
    isplitr; · iexact Hl
    isplitl [HO]; · iexact HO
    iexact Hw13
  iintro ⟨HO, Hp13, Hr13⟩
  iapply (ldRs c 13 rfl) $$ Hr13
  iintro Hr13
  iapply (wpDone c (show (⟨k0_pay17 (r1099 (own J c) (peer J c)) (peer J c 11) (peer J c 12) (peer J c 13), 1#32⟩ : (Σ' (v1135 : FVec F S64x768 .f32), BitVec 32)) = ⟨(r1135 (own J c) (peer J c)), 1#32⟩ from rfl))
  iapply HK
  isplitl [Hr11]
  · iexact Hr11
  isplitl [HO]
  · iexact HO
  isplitl [Hp12]
  · iexact Hp12
  isplitl [Hr12]
  · iexact Hr12
  isplitl [Hp13]
  · iexact Hp13
  iexact Hr13

/-- Part 18 of the body on device c. -/
theorem wp18 (O : Tal) (Xs : Flat F) (Xo : Vec F S1x64x768 .f32) (hO : Over (rsIx c) (sumAg c 1 15 + O)) (v2 : BitVec 32) (k0_h18 : k0_cond18 c = 1#1) (c1_i32_910 : BitVec 32) {Q : _ → Prp F} :
    iprop(Invs (cont J) κ ∗ levAts LL lv ∗ reached ER (rsSendCell c) 0 ∗ reached ER (agSendCell c) 0 ∗ owing c (sumAg c 1 15 + O) ∗ rsIn c 14 ∗ owns (c.tc : Thread nD τ) srcA fullShare Xs ∗ owns (c.tc : Thread nD τ) (outM c) fullShare Xo ∗ agKits c 1 15)
      ⊢ iprop(((atPos ER (rsRecvCell c 14) 1 ∅ 0 ∗ rsHas (cont J) c 14 ∗ owns (c.tc : Thread nD τ) (outM c) fullShare (ownOf (own J c) (peer J c)) ∗ agSt (cont J) c O 1 14) -∗ Q (Scalar.addi v2 2#32)) -∗ WP c (P18 c v2 k0_h18 (r1135 (own J c) (peer J c)) c1_i32_910) Q) := by
  unfold P18
  rw [k0_part18_eq_skeleton]
  unfold k0_part18_skel
  simp only [Prog.lift, Prog.bind_op, Prog.bind_ret, Prog.pure_eq_ret]
  iintro ⟨#HI, #Hl, #HrS, #HrA, HO, Hw14, Hs, Hoo, Hkk⟩ HK
  iapply (rsGet (cont J) κ c 14 hO rfl) $$ [HO Hw14]
  · isplitr; · iexact HI
    isplitr; · iexact Hl
    isplitl [HO]; · iexact HO
    iexact Hw14
  iintro ⟨HO, Hp14, Hr14⟩
  iapply (ldRs c 14 rfl) $$ Hr14
  iintro Hr14
  iapply (ld c) $$ Hs
  iintro Hs
  iapply (stSrc c (off := ![0, 0]) (by decide)) $$ Hs
  iintro Hs
  ihave Hs := (flatAt c (show (k0_pay19 (r1135 (own J c) (peer J c)) (peer J c 14)) = (cont J).red c from rfl)) $$ [Hs]
  · iexact Hs
  iapply (ldOut c c (k0_off36_eq c)) $$ Hoo
  iintro Hoo
  iapply (stOut c c (k0_off36_eq c)) $$ Hoo
  iintro Hoo
  ihave Hst := (show iprop(owing c (sumAg c 1 15 + O) ∗ agKits c 1 15 ∗ owns (c.tc : Thread nD τ) srcA fullShare ((cont J).red c) ∗ emp) ⊢ agSt (cont J) c O 0 15 from .rfl) $$ [HO Hkk Hs]
  · isplitl [HO]; · iexact HO
    isplitl [Hkk]; · iexact Hkk
    isplitl [Hs]; · iexact Hs
    iempintro
  iapply (agPut (cont J) κ c 0 (by decide) rfl rfl (Fin.ext (k0_dev47_eq c))) $$ [Hst]
  · isplitr; · iexact HI
    isplitr; · iexact HrA
    iexact Hst
  iintro Hst
  iapply (wpDone c rfl)
  iapply HK
  isplitl [Hp14]
  · iexact Hp14
  isplitl [Hr14]
  · iexact Hr14
  isplitl [Hoo]
  · iexact Hoo
  iexact Hst

/-- Part 19 of the body on device c. -/
theorem wp19 (O : Tal) (v2 : BitVec 32) (k0_h18 : k0_cond18 c = 1#1) (v1168 : BitVec 32) {Q : _ → Prp F} :
    iprop(Invs (cont J) κ ∗ levAts LL lv ∗ reached ER (rsSendCell c) 0 ∗ reached ER (agSendCell c) 0 ∗ agSt (cont J) c O 1 14)
      ⊢ iprop(((agSt (cont J) c O 4 11) -∗ Q ⟨⟩) -∗ WP c (P19 c v2 k0_h18 v1168) Q) := by
  unfold P19
  rw [k0_part19_eq_skeleton]
  unfold k0_part19_skel
  simp only [Prog.lift, Prog.bind_op, Prog.bind_ret, Prog.pure_eq_ret]
  iintro ⟨#HI, #Hl, #HrS, #HrA, Hst⟩ HK
  iapply (agPut (cont J) κ c 1 (by decide) rfl rfl (Fin.ext (k0_dev48_eq c))) $$ [Hst]
  · isplitr; · iexact HI
    isplitr; · iexact HrA
    iexact Hst
  iintro Hst
  iapply (agPut (cont J) κ c 2 (by decide) rfl rfl (Fin.ext (k0_dev49_eq c))) $$ [Hst]
  · isplitr; · iexact HI
    isplitr; · iexact HrA
    iexact Hst
  iintro Hst
  iapply (agPut (cont J) κ c 3 (by decide) rfl rfl (Fin.ext (k0_dev50_eq c))) $$ [Hst]
  · isplitr; · iexact HI
    isplitr; · iexact HrA
    iexact Hst
  iintro Hst
  iapply (wpDone c rfl)
  iapply HK
  iexact Hst

/-- Part 20 of the body on device c. -/
theorem wp20 (O : Tal) (v2 : BitVec 32) (k0_h18 : k0_cond18 c = 1#1) {Q : _ → Prp F} :
    iprop(Invs (cont J) κ ∗ levAts LL lv ∗ reached ER (rsSendCell c) 0 ∗ reached ER (agSendCell c) 0 ∗ agSt (cont J) c O 4 11)
      ⊢ iprop(((agSt (cont J) c O 8 7) -∗ Q ⟨(Scalar.addi v2 9#32), 16#32⟩) -∗ WP c (P20 c v2 k0_h18) Q) := by
  unfold P20
  rw [k0_part20_eq_skeleton]
  unfold k0_part20_skel
  simp only [Prog.lift, Prog.bind_op, Prog.bind_ret, Prog.pure_eq_ret]
  iintro ⟨#HI, #Hl, #HrS, #HrA, Hst⟩ HK
  iapply (agPut (cont J) κ c 4 (by decide) rfl rfl (Fin.ext (k0_dev51_eq c))) $$ [Hst]
  · isplitr; · iexact HI
    isplitr; · iexact HrA
    iexact Hst
  iintro Hst
  iapply (agPut (cont J) κ c 5 (by decide) rfl rfl (Fin.ext (k0_dev52_eq c))) $$ [Hst]
  · isplitr; · iexact HI
    isplitr; · iexact HrA
    iexact Hst
  iintro Hst
  iapply (agPut (cont J) κ c 6 (by decide) rfl rfl (Fin.ext (k0_dev53_eq c))) $$ [Hst]
  · isplitr; · iexact HI
    isplitr; · iexact HrA
    iexact Hst
  iintro Hst
  iapply (agPut (cont J) κ c 7 (by decide) rfl rfl (Fin.ext (k0_dev54_eq c))) $$ [Hst]
  · isplitr; · iexact HI
    isplitr; · iexact HrA
    iexact Hst
  iintro Hst
  iapply (wpDone c rfl)
  iapply HK
  iexact Hst

/-- Part 21 of the body on device c. -/
theorem wp21 (O : Tal) (v2 : BitVec 32) (k0_h18 : k0_cond18 c = 1#1) (v1224 : BitVec 32) (c16_i32_990 : BitVec 32) {Q : _ → Prp F} :
    iprop(Invs (cont J) κ ∗ levAts LL lv ∗ reached ER (rsSendCell c) 0 ∗ reached ER (agSendCell c) 0 ∗ agSt (cont J) c O 8 7)
      ⊢ iprop(((agSt (cont J) c O 11 4) -∗ Q ⟨⟩) -∗ WP c (P21 c v2 k0_h18 v1224 c16_i32_990) Q) := by
  unfold P21
  rw [k0_part21_eq_skeleton]
  unfold k0_part21_skel
  simp only [Prog.lift, Prog.bind_op, Prog.bind_ret, Prog.pure_eq_ret]
  iintro ⟨#HI, #Hl, #HrS, #HrA, Hst⟩ HK
  iapply (agPut (cont J) κ c 8 (by decide) rfl rfl (Fin.ext (k0_dev55_eq c))) $$ [Hst]
  · isplitr; · iexact HI
    isplitr; · iexact HrA
    iexact Hst
  iintro Hst
  iapply (agPut (cont J) κ c 9 (by decide) rfl rfl (Fin.ext (k0_dev56_eq c))) $$ [Hst]
  · isplitr; · iexact HI
    isplitr; · iexact HrA
    iexact Hst
  iintro Hst
  iapply (agPut (cont J) κ c 10 (by decide) rfl rfl (Fin.ext (k0_dev57_eq c))) $$ [Hst]
  · isplitr; · iexact HI
    isplitr; · iexact HrA
    iexact Hst
  iintro Hst
  iapply (wpDone c rfl)
  iapply HK
  iexact Hst

end Cert.KernelIdeal.Talk
-- ==== Proof.PartsD.lean ====
/-
  The all-gather: each slot is waited for and copied out; the waits for the sends.
-/
module

public import proofs.«01_k».proof.Proof.Data

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

abbrev P40 := k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P41 := k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P42 := k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P43 := k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P44 := k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P45 := k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P46 := k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P47 := k0_part47 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P48 := k0_part48 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P49 := k0_part49 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P50 := k0_part50 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P51 := k0_part51 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P52 := k0_part52 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

variable (J : Dev nD → Ins F) (κ : GSem nD τ sig → ℕ) (c : Dev nD)

/-- Slot j of the all-gather, landed and copied out. -/
def agFin (j : Fin 15) : Prp F :=
  iprop(atPos ER (agRecvCell c j) 1 ∅ 0 ∗ agHas (cont J) c j ∗ owns (c.tc : Thread nD τ) (outM (snd c j)) fullShare (k0_pay79 (up ((cont J).red (snd c j)))))
theorem agFin_intro (j : Fin 15) :
    iprop(atPos ER (agRecvCell c j) 1 ∅ 0 ∗ agHas (cont J) c j ∗ owns (c.tc : Thread nD τ) (outM (snd c j)) fullShare (k0_pay79 (up ((cont J).red (snd c j))))) ⊢ agFin J c j := .rfl

/-- Part 40 of the body on device c. -/
theorem wp40 (Z1 : Vec F S1x64x768 .f32) (v2 : BitVec 32) {Q : _ → Prp F} :
    iprop(Invs (cont J) κ ∗ levAts LL lv ∗ reached ER (rsSendCell c) 0 ∗ reached ER (agSendCell c) 0 ∗ owing c (0) ∗ agIn c 1 ∗ owns (c.tc : Thread nD τ) (outM (snd c 1)) fullShare Z1 ∗ agIn c 2)
      ⊢ iprop(((owing c (0) ∗ atPos ER (agRecvCell c 2) 1 ∅ 0 ∗ agHas (cont J) c 2 ∗ agFin J c 1) -∗ Q (Scalar.remsi (Scalar.addi (Scalar.addi v2 2#32) 1#32) 16#32)) -∗ WP c (P40 c v2) Q) := by
  unfold P40
  rw [k0_part40_eq_skeleton]
  unfold k0_part40_skel
  simp only [Prog.lift, Prog.bind_op, Prog.bind_ret, Prog.pure_eq_ret]
  iintro ⟨#HI, #Hl, #HrS, #HrA, HO, Hv1, Ho1, Hv2⟩ HK
  iapply (agGet (cont J) κ c 1 rfl) $$ [HO Hv1]
  · isplitr; · iexact HI
    isplitr; · iexact Hl
    isplitl [HO]; · iexact HO
    iexact Hv1
  iintro ⟨HO, Hq1, Hg1⟩
  iapply (ldAg c 1 rfl) $$ Hg1
  iintro Hg1
  iapply (ldOut c (snd c 1) (off37 c 1)) $$ Ho1
  iintro Ho1
  iapply (stOut c (snd c 1) (off37 c 1)) $$ Ho1
  iintro Ho1
  iapply (agGet (cont J) κ c 2 rfl) $$ [HO Hv2]
  · isplitr; · iexact HI
    isplitr; · iexact Hl
    isplitl [HO]; · iexact HO
    iexact Hv2
  iintro ⟨HO, Hq2, Hg2⟩
  iapply (wpDone c rfl)
  iapply HK
  isplitl [HO]
  · iexact HO
  isplitl [Hq2]
  · iexact Hq2
  isplitl [Hg2]
  · iexact Hg2
  iapply (agFin_intro J c 1); isplitl [Hq1]; · iexact Hq1
  isplitl [Hg1]; · iexact Hg1
  iexact Ho1

/-- Part 41 of the body on device c. -/
theorem wp41 (Z2 : Vec F S1x64x768 .f32) (Z3 : Vec F S1x64x768 .f32) (v2 : BitVec 32) (v628 : BitVec 32) {Q : _ → Prp F} :
    iprop(Invs (cont J) κ ∗ levAts LL lv ∗ reached ER (rsSendCell c) 0 ∗ reached ER (agSendCell c) 0 ∗ agHas (cont J) c 2 ∗ owns (c.tc : Thread nD τ) (outM (snd c 2)) fullShare Z2 ∗ atPos ER (agRecvCell c 2) 1 ∅ 0 ∗ owing c (0) ∗ agIn c 3 ∗ owns (c.tc : Thread nD τ) (outM (snd c 3)) fullShare Z3)
      ⊢ iprop(((owing c (0) ∗ atPos ER (agRecvCell c 3) 1 ∅ 0 ∗ agHas (cont J) c 3 ∗ owns (c.tc : Thread nD τ) (outM (snd c 3)) fullShare Z3 ∗ agFin J c 2) -∗ Q (k0_pay82 (up ((cont J).red (snd c 3))))) -∗ WP c (P41 c v2 v628) Q) := by
  unfold P41
  rw [k0_part41_eq_skeleton]
  unfold k0_part41_skel
  simp only [Prog.lift, Prog.bind_op, Prog.bind_ret, Prog.pure_eq_ret]
  iintro ⟨#HI, #Hl, #HrS, #HrA, Hg2, Ho2, Hq2, HO, Hv3, Ho3⟩ HK
  iapply (ldAg c 2 rfl) $$ Hg2
  iintro Hg2
  iapply (ldOut c (snd c 2) (off37 c 2)) $$ Ho2
  iintro Ho2
  iapply (stOut c (snd c 2) (off37 c 2)) $$ Ho2
  iintro Ho2
  iapply (agGet (cont J) κ c 3 rfl) $$ [HO Hv3]
  · isplitr; · iexact HI
    isplitr; · iexact Hl
    isplitl [HO]; · iexact HO
    iexact Hv3
  iintro ⟨HO, Hq3, Hg3⟩
  iapply (ldAg c 3 rfl) $$ Hg3
  iintro Hg3
  iapply (ldOut c (snd c 3) (off37 c 3)) $$ Ho3
  iintro Ho3
  iapply (wpDone c rfl)
  iapply HK
  isplitl [HO]
  · iexact HO
  isplitl [Hq3]
  · iexact Hq3
  isplitl [Hg3]
  · iexact Hg3
  isplitl [Ho3]
  · iexact Ho3
  iapply (agFin_intro J c 2); isplitl [Hq2]; · iexact Hq2
  isplitl [Hg2]; · iexact Hg2
  iexact Ho2

/-- Part 42 of the body on device c. -/
theorem wp42 (Z3 : Vec F S1x64x768 .f32) (Z4 : Vec F S1x64x768 .f32) (v2 : BitVec 32) {Q : _ → Prp F} :
    iprop(Invs (cont J) κ ∗ levAts LL lv ∗ reached ER (rsSendCell c) 0 ∗ reached ER (agSendCell c) 0 ∗ owns (c.tc : Thread nD τ) (outM (snd c 3)) fullShare Z3 ∗ atPos ER (agRecvCell c 3) 1 ∅ 0 ∗ agHas (cont J) c 3 ∗ owing c (0) ∗ agIn c 4 ∗ owns (c.tc : Thread nD τ) (outM (snd c 4)) fullShare Z4)
      ⊢ iprop(((owing c (0) ∗ agFin J c 3 ∗ agFin J c 4) -∗ Q ⟨⟩) -∗ WP c (P42 c v2 (k0_pay82 (up ((cont J).red (snd c 3))))) Q) := by
  unfold P42
  rw [k0_part42_eq_skeleton]
  unfold k0_part42_skel
  simp only [Prog.lift, Prog.bind_op, Prog.bind_ret, Prog.pure_eq_ret]
  iintro ⟨#HI, #Hl, #HrS, #HrA, Ho3, Hq3, Hg3, HO, Hv4, Ho4⟩ HK
  iapply (stOut c (snd c 3) (off37 c 3)) $$ Ho3
  iintro Ho3
  iapply (agGet (cont J) κ c 4 rfl) $$ [HO Hv4]
  · isplitr; · iexact HI
    isplitr; · iexact Hl
    isplitl [HO]; · iexact HO
    iexact Hv4
  iintro ⟨HO, Hq4, Hg4⟩
  iapply (ldAg c 4 rfl) $$ Hg4
  iintro Hg4
  iapply (ldOut c (snd c 4) (off37 c 4)) $$ Ho4
  iintro Ho4
  iapply (stOut c (snd c 4) (off37 c 4)) $$ Ho4
  iintro Ho4
  iapply (wpDone c rfl)
  iapply HK
  isplitl [HO]
  · iexact HO
  isplitl [Hq3 Hg3 Ho3]
  · iapply (agFin_intro J c 3); isplitl [Hq3]; · iexact Hq3
    isplitl [Hg3]; · iexact Hg3
    iexact Ho3
  iapply (agFin_intro J c 4); isplitl [Hq4]; · iexact Hq4
  isplitl [Hg4]; · iexact Hg4
  iexact Ho4

/-- Part 43 of the body on device c. -/
theorem wp43 (Z5 : Vec F S1x64x768 .f32) (v2 : BitVec 32) {Q : _ → Prp F} :
    iprop(Invs (cont J) κ ∗ levAts LL lv ∗ reached ER (rsSendCell c) 0 ∗ reached ER (agSendCell c) 0 ∗ owing c (0) ∗ agIn c 5 ∗ owns (c.tc : Thread nD τ) (outM (snd c 5)) fullShare Z5 ∗ agIn c 6)
      ⊢ iprop(((owing c (0) ∗ atPos ER (agRecvCell c 6) 1 ∅ 0 ∗ agHas (cont J) c 6 ∗ agFin J c 5) -∗ Q ⟨(Scalar.remsi (Scalar.addi (Scalar.addi v2 6#32) 1#32) 16#32), (k0_pay86 (up ((cont J).red (snd c 6)))), (Scalar.divsi (Scalar.remsi (Scalar.addi (Scalar.addi v2 6#32) 1#32) 16#32) 8#32)⟩) -∗ WP c (P43 c v2) Q) := by
  unfold P43
  rw [k0_part43_eq_skeleton]
  unfold k0_part43_skel
  simp only [Prog.lift, Prog.bind_op, Prog.bind_ret, Prog.pure_eq_ret]
  iintro ⟨#HI, #Hl, #HrS, #HrA, HO, Hv5, Ho5, Hv6⟩ HK
  iapply (agGet (cont J) κ c 5 rfl) $$ [HO Hv5]
  · isplitr; · iexact HI
    isplitr; · iexact Hl
    isplitl [HO]; · iexact HO
    iexact Hv5
  iintro ⟨HO, Hq5, Hg5⟩
  iapply (ldAg c 5 rfl) $$ Hg5
  iintro Hg5
  iapply (ldOut c (snd c 5) (off37 c 5)) $$ Ho5
  iintro Ho5
  iapply (stOut c (snd c 5) (off37 c 5)) $$ Ho5
  iintro Ho5
  iapply (agGet (cont J) κ c 6 rfl) $$ [HO Hv6]
  · isplitr; · iexact HI
    isplitr; · iexact Hl
    isplitl [HO]; · iexact HO
    iexact Hv6
  iintro ⟨HO, Hq6, Hg6⟩
  iapply (ldAg c 6 rfl) $$ Hg6
  iintro Hg6
  iapply (wpDone c (show (⟨(Scalar.remsi (Scalar.addi (Scalar.addi v2 6#32) 1#32) 16#32), k0_pay86 (up ((cont J).red (snd c 6))), (Scalar.divsi (Scalar.remsi (Scalar.addi (Scalar.addi v2 6#32) 1#32) 16#32) 8#32)⟩ : (Σ' (v716 : BitVec 32) (v719 : FVec F S64x768 .f32), BitVec 32)) = ⟨(Scalar.remsi (Scalar.addi (Scalar.addi v2 6#32) 1#32) 16#32), (k0_pay86 (up ((cont J).red (snd c 6)))), (Scalar.divsi (Scalar.remsi (Scalar.addi (Scalar.addi v2 6#32) 1#32) 16#32) 8#32)⟩ from rfl))
  iapply HK
  isplitl [HO]
  · iexact HO
  isplitl [Hq6]
  · iexact Hq6
  isplitl [Hg6]
  · iexact Hg6
  iapply (agFin_intro J c 5); isplitl [Hq5]; · iexact Hq5
  isplitl [Hg5]; · iexact Hg5
  iexact Ho5

/-- Part 44 of the body on device c. -/
theorem wp44 (Z6 : Vec F S1x64x768 .f32) (Z7 : Vec F S1x64x768 .f32) (v2 : BitVec 32) (v716 : BitVec 32) (v720 : BitVec 32) {Q : _ → Prp F} :
    iprop(Invs (cont J) κ ∗ levAts LL lv ∗ reached ER (rsSendCell c) 0 ∗ reached ER (agSendCell c) 0 ∗ owns (c.tc : Thread nD τ) (outM (snd c 6)) fullShare Z6 ∗ atPos ER (agRecvCell c 6) 1 ∅ 0 ∗ agHas (cont J) c 6 ∗ owing c (0) ∗ agIn c 7 ∗ owns (c.tc : Thread nD τ) (outM (snd c 7)) fullShare Z7)
      ⊢ iprop(((owing c (0) ∗ agFin J c 6 ∗ agFin J c 7) -∗ Q ⟨(Scalar.muli v2 1#32), 0#32⟩) -∗ WP c (P44 c v2 v716 (k0_pay86 (up ((cont J).red (snd c 6)))) v720) Q) := by
  unfold P44
  rw [k0_part44_eq_skeleton]
  unfold k0_part44_skel
  simp only [Prog.lift, Prog.bind_op, Prog.bind_ret, Prog.pure_eq_ret]
  iintro ⟨#HI, #Hl, #HrS, #HrA, Ho6, Hq6, Hg6, HO, Hv7, Ho7⟩ HK
  iapply (ldOut c (snd c 6) (off37 c 6)) $$ Ho6
  iintro Ho6
  iapply (stOut c (snd c 6) (off37 c 6)) $$ Ho6
  iintro Ho6
  iapply (agGet (cont J) κ c 7 rfl) $$ [HO Hv7]
  · isplitr; · iexact HI
    isplitr; · iexact Hl
    isplitl [HO]; · iexact HO
    iexact Hv7
  iintro ⟨HO, Hq7, Hg7⟩
  iapply (ldAg c 7 rfl) $$ Hg7
  iintro Hg7
  iapply (ldOut c (snd c 7) (off37 c 7)) $$ Ho7
  iintro Ho7
  iapply (stOut c (snd c 7) (off37 c 7)) $$ Ho7
  iintro Ho7
  iapply (wpDone c rfl)
  iapply HK
  isplitl [HO]
  · iexact HO
  isplitl [Hq6 Hg6 Ho6]
  · iapply (agFin_intro J c 6); isplitl [Hq6]; · iexact Hq6
    isplitl [Hg6]; · iexact Hg6
    iexact Ho6
  iapply (agFin_intro J c 7); isplitl [Hq7]; · iexact Hq7
  isplitl [Hg7]; · iexact Hg7
  iexact Ho7

/-- Part 45 of the body on device c. -/
theorem wp45 (Z8 : Vec F S1x64x768 .f32) (v2 : BitVec 32) (v750 : BitVec 32) (c0_i32_458 : BitVec 32) {Q : _ → Prp F} :
    iprop(Invs (cont J) κ ∗ levAts LL lv ∗ reached ER (rsSendCell c) 0 ∗ reached ER (agSendCell c) 0 ∗ owing c (0) ∗ agIn c 8 ∗ owns (c.tc : Thread nD τ) (outM (snd c 8)) fullShare Z8 ∗ agIn c 9)
      ⊢ iprop(((owing c (0) ∗ atPos ER (agRecvCell c 9) 1 ∅ 0 ∗ agHas (cont J) c 9 ∗ agFin J c 8) -∗ Q ⟨(Scalar.addi (Scalar.addi v2 9#32) 1#32), 16#32⟩) -∗ WP c (P45 c v2 v750 c0_i32_458) Q) := by
  unfold P45
  rw [k0_part45_eq_skeleton]
  unfold k0_part45_skel
  simp only [Prog.lift, Prog.bind_op, Prog.bind_ret, Prog.pure_eq_ret]
  iintro ⟨#HI, #Hl, #HrS, #HrA, HO, Hv8, Ho8, Hv9⟩ HK
  iapply (agGet (cont J) κ c 8 rfl) $$ [HO Hv8]
  · isplitr; · iexact HI
    isplitr; · iexact Hl
    isplitl [HO]; · iexact HO
    iexact Hv8
  iintro ⟨HO, Hq8, Hg8⟩
  iapply (ldAg c 8 rfl) $$ Hg8
  iintro Hg8
  iapply (ldOut c (snd c 8) (off37 c 8)) $$ Ho8
  iintro Ho8
  iapply (stOut c (snd c 8) (off37 c 8)) $$ Ho8
  iintro Ho8
  iapply (agGet (cont J) κ c 9 rfl) $$ [HO Hv9]
  · isplitr; · iexact HI
    isplitr; · iexact Hl
    isplitl [HO]; · iexact HO
    iexact Hv9
  iintro ⟨HO, Hq9, Hg9⟩
  iapply (wpDone c rfl)
  iapply HK
  isplitl [HO]
  · iexact HO
  isplitl [Hq9]
  · iexact Hq9
  isplitl [Hg9]
  · iexact Hg9
  iapply (agFin_intro J c 8); isplitl [Hq8]; · iexact Hq8
  isplitl [Hg8]; · iexact Hg8
  iexact Ho8

/-- Part 46 of the body on device c. -/
theorem wp46 (Z9 : Vec F S1x64x768 .f32) (Z10 : Vec F S1x64x768 .f32) (v2 : BitVec 32) (v781 : BitVec 32) (c16_i32_484 : BitVec 32) {Q : _ → Prp F} :
    iprop(Invs (cont J) κ ∗ levAts LL lv ∗ reached ER (rsSendCell c) 0 ∗ reached ER (agSendCell c) 0 ∗ agHas (cont J) c 9 ∗ owns (c.tc : Thread nD τ) (outM (snd c 9)) fullShare Z9 ∗ atPos ER (agRecvCell c 9) 1 ∅ 0 ∗ owing c (0) ∗ agIn c 10 ∗ owns (c.tc : Thread nD τ) (outM (snd c 10)) fullShare Z10)
      ⊢ iprop(((owing c (0) ∗ atPos ER (agRecvCell c 10) 1 ∅ 0 ∗ agHas (cont J) c 10 ∗ owns (c.tc : Thread nD τ) (outM (snd c 10)) fullShare Z10 ∗ agFin J c 9) -∗ Q ⟨(k0_pay91 (up ((cont J).red (snd c 10)))), Z10⟩) -∗ WP c (P46 c v2 v781 c16_i32_484) Q) := by
  unfold P46
  rw [k0_part46_eq_skeleton]
  unfold k0_part46_skel
  simp only [Prog.lift, Prog.bind_op, Prog.bind_ret, Prog.pure_eq_ret]
  iintro ⟨#HI, #Hl, #HrS, #HrA, Hg9, Ho9, Hq9, HO, Hv10, Ho10⟩ HK
  iapply (ldAg c 9 rfl) $$ Hg9
  iintro Hg9
  iapply (ldOut c (snd c 9) (off37 c 9)) $$ Ho9
  iintro Ho9
  iapply (stOut c (snd c 9) (off37 c 9)) $$ Ho9
  iintro Ho9
  iapply (agGet (cont J) κ c 10 rfl) $$ [HO Hv10]
  · isplitr; · iexact HI
    isplitr; · iexact Hl
    isplitl [HO]; · iexact HO
    iexact Hv10
  iintro ⟨HO, Hq10, Hg10⟩
  iapply (ldAg c 10 rfl) $$ Hg10
  iintro Hg10
  iapply (ldOut c (snd c 10) (off37 c 10)) $$ Ho10
  iintro Ho10
  iapply (wpDone c (show (⟨k0_pay91 (up ((cont J).red (snd c 10))), Z10⟩ : (Σ' (v807 : FVec F S64x768 .f32), Vec F S1x64x768 .f32)) = ⟨(k0_pay91 (up ((cont J).red (snd c 10)))), Z10⟩ from rfl))
  iapply HK
  isplitl [HO]
  · iexact HO
  isplitl [Hq10]
  · iexact Hq10
  isplitl [Hg10]
  · iexact Hg10
  isplitl [Ho10]
  · iexact Ho10
  iapply (agFin_intro J c 9); isplitl [Hq9]; · iexact Hq9
  isplitl [Hg9]; · iexact Hg9
  iexact Ho9

/-- Part 47 of the body on device c. -/
theorem wp47 (Z10 : Vec F S1x64x768 .f32) (Z11 : Vec F S1x64x768 .f32) (v2 : BitVec 32) (v813 : Vec F S1x64x768 .f32) {Q : _ → Prp F} :
    iprop(Invs (cont J) κ ∗ levAts LL lv ∗ reached ER (rsSendCell c) 0 ∗ reached ER (agSendCell c) 0 ∗ owns (c.tc : Thread nD τ) (outM (snd c 10)) fullShare Z10 ∗ atPos ER (agRecvCell c 10) 1 ∅ 0 ∗ agHas (cont J) c 10 ∗ owing c (0) ∗ agIn c 11 ∗ owns (c.tc : Thread nD τ) (outM (snd c 11)) fullShare Z11)
      ⊢ iprop(((owing c (0) ∗ agFin J c 10 ∗ agFin J c 11) -∗ Q ⟨⟩) -∗ WP c (P47 c v2 (k0_pay91 (up ((cont J).red (snd c 10)))) v813) Q) := by
  unfold P47
  rw [k0_part47_eq_skeleton]
  unfold k0_part47_skel
  simp only [Prog.lift, Prog.bind_op, Prog.bind_ret, Prog.pure_eq_ret]
  iintro ⟨#HI, #Hl, #HrS, #HrA, Ho10, Hq10, Hg10, HO, Hv11, Ho11⟩ HK
  iapply (stOut c (snd c 10) (off37 c 10)) $$ Ho10
  iintro Ho10
  iapply (agGet (cont J) κ c 11 rfl) $$ [HO Hv11]
  · isplitr; · iexact HI
    isplitr; · iexact Hl
    isplitl [HO]; · iexact HO
    iexact Hv11
  iintro ⟨HO, Hq11, Hg11⟩
  iapply (ldAg c 11 rfl) $$ Hg11
  iintro Hg11
  iapply (ldOut c (snd c 11) (off37 c 11)) $$ Ho11
  iintro Ho11
  iapply (stOut c (snd c 11) (off37 c 11)) $$ Ho11
  iintro Ho11
  iapply (wpDone c rfl)
  iapply HK
  isplitl [HO]
  · iexact HO
  isplitl [Hq10 Hg10 Ho10]
  · iapply (agFin_intro J c 10); isplitl [Hq10]; · iexact Hq10
    isplitl [Hg10]; · iexact Hg10
    iexact Ho10
  iapply (agFin_intro J c 11); isplitl [Hq11]; · iexact Hq11
  isplitl [Hg11]; · iexact Hg11
  iexact Ho11

/-- Part 48 of the body on device c. -/
theorem wp48 (Z12 : Vec F S1x64x768 .f32) (v2 : BitVec 32) {Q : _ → Prp F} :
    iprop(Invs (cont J) κ ∗ levAts LL lv ∗ reached ER (rsSendCell c) 0 ∗ reached ER (agSendCell c) 0 ∗ owing c (0) ∗ agIn c 12 ∗ owns (c.tc : Thread nD τ) (outM (snd c 12)) fullShare Z12 ∗ agIn c 13)
      ⊢ iprop(((owing c (0) ∗ atPos ER (agRecvCell c 13) 1 ∅ 0 ∗ agHas (cont J) c 13 ∗ agFin J c 12) -∗ Q ⟨(Scalar.remsi (Scalar.addi (Scalar.addi v2 13#32) 1#32) 16#32), (k0_pay95 (up ((cont J).red (snd c 13)))), 8#32⟩) -∗ WP c (P48 c v2) Q) := by
  unfold P48
  rw [k0_part48_eq_skeleton]
  unfold k0_part48_skel
  simp only [Prog.lift, Prog.bind_op, Prog.bind_ret, Prog.pure_eq_ret]
  iintro ⟨#HI, #Hl, #HrS, #HrA, HO, Hv12, Ho12, Hv13⟩ HK
  iapply (agGet (cont J) κ c 12 rfl) $$ [HO Hv12]
  · isplitr; · iexact HI
    isplitr; · iexact Hl
    isplitl [HO]; · iexact HO
    iexact Hv12
  iintro ⟨HO, Hq12, Hg12⟩
  iapply (ldAg c 12 rfl) $$ Hg12
  iintro Hg12
  iapply (ldOut c (snd c 12) (off37 c 12)) $$ Ho12
  iintro Ho12
  iapply (stOut c (snd c 12) (off37 c 12)) $$ Ho12
  iintro Ho12
  iapply (agGet (cont J) κ c 13 rfl) $$ [HO Hv13]
  · isplitr; · iexact HI
    isplitr; · iexact Hl
    isplitl [HO]; · iexact HO
    iexact Hv13
  iintro ⟨HO, Hq13, Hg13⟩
  iapply (ldAg c 13 rfl) $$ Hg13
  iintro Hg13
  iapply (wpDone c (show (⟨(Scalar.remsi (Scalar.addi (Scalar.addi v2 13#32) 1#32) 16#32), k0_pay95 (up ((cont J).red (snd c 13))), 8#32⟩ : (Σ' (v870 : BitVec 32) (v873 : FVec F S64x768 .f32), BitVec 32)) = ⟨(Scalar.remsi (Scalar.addi (Scalar.addi v2 13#32) 1#32) 16#32), (k0_pay95 (up ((cont J).red (snd c 13)))), 8#32⟩ from rfl))
  iapply HK
  isplitl [HO]
  · iexact HO
  isplitl [Hq13]
  · iexact Hq13
  isplitl [Hg13]
  · iexact Hg13
  iapply (agFin_intro J c 12); isplitl [Hq12]; · iexact Hq12
  isplitl [Hg12]; · iexact Hg12
  iexact Ho12

/-- Part 49 of the body on device c. -/
theorem wp49 (Z13 : Vec F S1x64x768 .f32) (Z14 : Vec F S1x64x768 .f32) (v2 : BitVec 32) (v870 : BitVec 32) (c8_i32_564 : BitVec 32) {Q : _ → Prp F} :
    iprop(Invs (cont J) κ ∗ levAts LL lv ∗ reached ER (rsSendCell c) 0 ∗ reached ER (agSendCell c) 0 ∗ owns (c.tc : Thread nD τ) (outM (snd c 13)) fullShare Z13 ∗ atPos ER (agRecvCell c 13) 1 ∅ 0 ∗ agHas (cont J) c 13 ∗ owing c (0) ∗ agIn c 14 ∗ owns (c.tc : Thread nD τ) (outM (snd c 14)) fullShare Z14)
      ⊢ iprop(((owing c (0) ∗ agFin J c 13 ∗ agFin J c 14) -∗ Q ⟨⟩) -∗ WP c (P49 c v2 v870 (k0_pay95 (up ((cont J).red (snd c 13)))) c8_i32_564) Q) := by
  unfold P49
  rw [k0_part49_eq_skeleton]
  unfold k0_part49_skel
  simp only [Prog.lift, Prog.bind_op, Prog.bind_ret, Prog.pure_eq_ret]
  iintro ⟨#HI, #Hl, #HrS, #HrA, Ho13, Hq13, Hg13, HO, Hv14, Ho14⟩ HK
  iapply (ldOut c (snd c 13) (off37 c 13)) $$ Ho13
  iintro Ho13
  iapply (stOut c (snd c 13) (off37 c 13)) $$ Ho13
  iintro Ho13
  iapply (agGet (cont J) κ c 14 rfl) $$ [HO Hv14]
  · isplitr; · iexact HI
    isplitr; · iexact Hl
    isplitl [HO]; · iexact HO
    iexact Hv14
  iintro ⟨HO, Hq14, Hg14⟩
  iapply (ldAg c 14 rfl) $$ Hg14
  iintro Hg14
  iapply (ldOut c (snd c 14) (off37 c 14)) $$ Ho14
  iintro Ho14
  iapply (stOut c (snd c 14) (off37 c 14)) $$ Ho14
  iintro Ho14
  iapply (wpDone c rfl)
  iapply HK
  isplitl [HO]
  · iexact HO
  isplitl [Hq13 Hg13 Ho13]
  · iapply (agFin_intro J c 13); isplitl [Hq13]; · iexact Hq13
    isplitl [Hg13]; · iexact Hg13
    iexact Ho13
  iapply (agFin_intro J c 14); isplitl [Hq14]; · iexact Hq14
  isplitl [Hg14]; · iexact Hg14
  iexact Ho14

/-- Part 50 of the body on device c. -/
theorem wp50  {Q : _ → Prp F} :
    iprop(Invs (cont J) κ ∗ levAts LL lv ∗ reached ER (rsSendCell c) 0 ∗ reached ER (agSendCell c) 0 ∗ owing c (0) ∗ rsDr (cont J) c 0 15 ∗ agDr (cont J) c 0 15)
      ⊢ iprop(((owing c (0) ∗ rsDr (cont J) c 4 11 ∗ agDr (cont J) c 4 11) -∗ Q ⟨⟩) -∗ WP c (P50 ) Q) := by
  unfold P50
  rw [k0_part50_eq_skeleton]
  unfold k0_part50_skel
  simp only [Prog.lift, Prog.bind_op, Prog.bind_ret, Prog.pure_eq_ret]
  iintro ⟨#HI, #Hl, #HrS, #HrA, HO, Hdr, Hda⟩ HK
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (wpDone c rfl)
  iapply HK
  isplitl [HO]
  · iexact HO
  isplitl [Hdr]
  · iexact Hdr
  iexact Hda

/-- Part 51 of the body on device c. -/
theorem wp51  {Q : _ → Prp F} :
    iprop(Invs (cont J) κ ∗ levAts LL lv ∗ reached ER (rsSendCell c) 0 ∗ reached ER (agSendCell c) 0 ∗ owing c (0) ∗ rsDr (cont J) c 4 11 ∗ agDr (cont J) c 4 11)
      ⊢ iprop(((owing c (0) ∗ rsDr (cont J) c 8 7 ∗ agDr (cont J) c 7 8) -∗ Q ⟨⟩) -∗ WP c (P51 ) Q) := by
  unfold P51
  rw [k0_part51_eq_skeleton]
  unfold k0_part51_skel
  simp only [Prog.lift, Prog.bind_op, Prog.bind_ret, Prog.pure_eq_ret]
  iintro ⟨#HI, #Hl, #HrS, #HrA, HO, Hdr, Hda⟩ HK
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (wpDone c rfl)
  iapply HK
  isplitl [HO]
  · iexact HO
  isplitl [Hdr]
  · iexact Hdr
  iexact Hda

/-- Part 52 of the body on device c. -/
theorem wp52  {Q : _ → Prp F} :
    iprop(Invs (cont J) κ ∗ levAts LL lv ∗ reached ER (rsSendCell c) 0 ∗ reached ER (agSendCell c) 0 ∗ owing c (0) ∗ agDr (cont J) c 7 8 ∗ rsDr (cont J) c 8 7)
      ⊢ iprop(((owing c (0) ∗ agDr (cont J) c 11 4 ∗ rsDr (cont J) c 11 4) -∗ Q ⟨⟩) -∗ WP c (P52 ) Q) := by
  unfold P52
  rw [k0_part52_eq_skeleton]
  unfold k0_part52_skel
  simp only [Prog.lift, Prog.bind_op, Prog.bind_ret, Prog.pure_eq_ret]
  iintro ⟨#HI, #Hl, #HrS, #HrA, HO, Hda, Hdr⟩ HK
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (wpDone c rfl)
  iapply HK
  isplitl [HO]
  · iexact HO
  isplitl [Hda]
  · iexact Hda
  iexact Hdr

end Cert.KernelIdeal.Talk
-- ==== Proof.Bundle.lean ====
/-
  What device c holds, gathered into lists: the chunks still to be sent and those sent, the slots to be waited for and those landed; and what
  the reduction of the device's own chunk takes and leaves.
-/
module

public import proofs.«01_k».proof.Proof.PartsA
public import proofs.«01_k».proof.Proof.PartsB
public import proofs.«01_k».proof.Proof.PartsC
public import proofs.«01_k».proof.Proof.PartsD

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (J : Dev nD → Ins F) (C : Cont F) (c : Dev nD)

/-- Chunks still to be computed and sent. -/
def jobs : List (Dev nD) → Prp F
  | [] => iprop(emp)
  | t :: l => iprop((∃ X, owns (c.tc : Thread nD τ) (accM t) fullShare X) ∗ rsKit c t ∗ jobs l)
/-- Chunks whose sends are started. -/
def outs : List (Dev nD) → Prp F
  | [] => iprop(emp)
  | t :: l => iprop(rsOut C c t ∗ outs l)
/-- Slots of the reduce-scatter still to be waited for. -/
def rsIns : List (Fin 15) → Prp F
  | [] => iprop(emp)
  | j :: l => iprop(rsIn c j ∗ rsIns l)
/-- Slots of the reduce-scatter landed. -/
def rsFins : List (Fin 15) → Prp F
  | [] => iprop(emp)
  | j :: l => iprop((atPos ER (rsRecvCell c j) 1 ∅ 0 ∗ rsHas C c j) ∗ rsFins l)
/-- Slots of the all-gather still to be waited for, with the places of the output they go to. -/
def agJobs : List (Fin 15) → Prp F
  | [] => iprop(emp)
  | j :: l => iprop(agIn c j ∗ (∃ X, owns (c.tc : Thread nD τ) (outM (snd c j)) fullShare X) ∗ agJobs l)
/-- Slots of the all-gather landed and copied out. -/
def agFins : List (Fin 15) → Prp F
  | [] => iprop(emp)
  | j :: l => iprop(agFin J c j ∗ agFins l)

abbrev all15 : List (Fin 15) := [0, 1, 2, 3, 4, 5, 6, 7, 8, 9, 10, 11, 12, 13, 14]

/-- What the reduction of the device's own chunk takes, beside that chunk. -/
def redIn : Prp F :=
  iprop(rsIns c all15 ∗ agKits c 1 15 ∗ (∃ X, owns (c.tc : Thread nD τ) srcA fullShare X) ∗ (∃ X, owns (c.tc : Thread nD τ) (outM c) fullShare X))
/-- What it leaves. -/
def redOut : Prp F :=
  iprop(rsFins (cont J) c all15 ∗ owns (c.tc : Thread nD τ) srcA (sh 15) ((cont J).red c) ∗ creds (agSendCell c) 15
    ∗ owns (c.tc : Thread nD τ) (outM c) fullShare (ownOf (own J c) (peer J c)))
/-- Half way through: the first eight devices have reduced. -/
def redMid : Prp F := if c.val < 8 then redOut J c else redIn c
/-- The all-gather's arrivals still owed half way through. -/
def owedAg : Tal := if c.val < 8 then 0 else sumAg c 1 15

theorem owing_eq {O O' : Tal} (h : O = O') : (owing c O : Prp F) ⊢ owing c O' := by subst h; exact .rfl

theorem outs_open {l : List (Dev nD)} (h : c ∈ l) :
    outs C c l ⊢ iprop(owns (c.tc : Thread nD τ) (accM c) fullShare (C.val c c) ∗ (owns (c.tc : Thread nD τ) (accM c) fullShare (C.val c c) -∗ outs C c l)) := by
  induction l with
  | nil => exact absurd h (List.not_mem_nil)
  | cons t l ih =>
    rcases eq_or_ne t c with rfl | ht
    · unfold outs rsOut
      rw [if_pos rfl]
      iintro ⟨Ho, Hl⟩
      isplitl [Ho]; · iexact Ho
      iintro Ho
      isplitl [Ho]; · iexact Ho
      iexact Hl
    · have hm : c ∈ l := by rcases List.mem_cons.mp h with h | h; · exact absurd h.symm ht
                            · exact h
      unfold outs
      iintro ⟨Ho, Hl⟩
      ihave H := (ih hm) $$ Hl
      icases H with ⟨Hc, Hw⟩
      isplitl [Hc]; · iexact Hc
      iintro Hc
      isplitl [Ho]; · iexact Ho
      iapply Hw
      iexact Hc

theorem outs_none {l : List (Dev nD)} (h : c ∉ l) : outs C c l ⊢ creds (rsSendCell c) l.length := by
  induction l with
  | nil => exact .rfl
  | cons t l ih =>
    have ht : t ≠ c := fun e => h (e ▸ List.mem_cons_self ..)
    have hm : c ∉ l := fun e => h (List.mem_cons_of_mem _ e)
    show iprop(rsOut C c t ∗ outs C c l) ⊢ iprop(cred (tallyAt (rsSendCell c) 5 N) ∗ creds (rsSendCell c) l.length)
    unfold rsOut
    rw [if_neg ht]
    iintro ⟨Ho, Hl⟩
    isplitl [Ho]; · iexact Ho
    iapply (ih hm)
    iexact Hl

theorem outs_all {l : List (Dev nD)} {n : ℕ} (h : c ∈ l) (hd : l.Nodup) (hn : l.length = n + 1) :
    outs C c l ⊢ iprop(owns (c.tc : Thread nD τ) (accM c) fullShare (C.val c c) ∗ creds (rsSendCell c) n) := by
  induction l generalizing n with
  | nil => exact absurd h (List.not_mem_nil)
  | cons t l ih =>
    obtain ⟨ht', hd'⟩ := List.nodup_cons.mp hd
    have hl : l.length = n := Nat.succ.inj hn
    rcases eq_or_ne t c with rfl | ht
    · show iprop(rsOut C t t ∗ outs C t l) ⊢ _
      unfold rsOut
      rw [if_pos rfl]
      iintro ⟨Ho, Hl⟩
      isplitl [Ho]; · iexact Ho
      rw [← hl]
      iapply (outs_none C t ht')
      iexact Hl
    · have hm : c ∈ l := by rcases List.mem_cons.mp h with h | h; · exact absurd h.symm ht
                            · exact h
      obtain ⟨m, hm'⟩ : ∃ m, n = m + 1 := ⟨n - 1, by have := List.length_pos_of_mem hm; omega⟩
      subst hm'
      show iprop(rsOut C c t ∗ outs C c l) ⊢ iprop(_ ∗ (cred (tallyAt (rsSendCell c) 5 N) ∗ creds (rsSendCell c) m))
      unfold rsOut
      rw [if_neg ht]
      iintro ⟨Ho, Hl⟩
      ihave H := (ih hm hd' hl) $$ Hl
      icases H with ⟨Hc, Hw⟩
      isplitl [Hc]; · iexact Hc
      isplitl [Ho]; · iexact Ho
      iexact Hw

theorem outs_cons (t : Dev nD) (l : List (Dev nD)) : iprop(rsOut C c t ∗ outs C c l) ⊢ outs C c (t :: l) := .rfl
theorem rsFins_cons (j : Fin 15) (l : List (Fin 15)) : iprop(atPos ER (rsRecvCell c j) 1 ∅ 0 ∗ rsHas C c j ∗ rsFins C c l) ⊢ rsFins C c (j :: l) := by
  show _ ⊢ iprop((atPos ER (rsRecvCell c j) 1 ∅ 0 ∗ rsHas C c j) ∗ rsFins C c l)
  iintro ⟨Ha, Hb, Hc⟩
  isplitl [Ha Hb]
  · isplitl [Ha]; · iexact Ha
    iexact Hb
  iexact Hc
theorem agFins_cons (j : Fin 15) (l : List (Fin 15)) : iprop(agFin J c j ∗ agFins J c l) ⊢ agFins J c (j :: l) := .rfl
theorem jobs_uncons (t : Dev nD) (l : List (Dev nD)) :
    (jobs c (t :: l) : Prp F) ⊢ iprop((∃ X, owns (c.tc : Thread nD τ) (accM t) fullShare X) ∗ rsKit c t ∗ jobs c l) := .rfl
theorem rsIns_uncons (j : Fin 15) (l : List (Fin 15)) : (rsIns c (j :: l) : Prp F) ⊢ iprop(rsIn c j ∗ rsIns c l) := .rfl
theorem agJobs_uncons (j : Fin 15) (l : List (Fin 15)) :
    (agJobs c (j :: l) : Prp F) ⊢ iprop(agIn c j ∗ (∃ X, owns (c.tc : Thread nD τ) (outM (snd c j)) fullShare X) ∗ agJobs c l) := .rfl

/-- The reduction is over: nothing of the all-gather is owed any more. -/
theorem redDone (O : Tal) :
    iprop(agSt (cont J) c O 15 0 ∗ rsFins (cont J) c all15 ∗ owns (c.tc : Thread nD τ) (outM c) fullShare (ownOf (own J c) (peer J c)))
      ⊢ iprop(owing c O ∗ redOut J c) := by
  unfold agSt redOut
  iintro ⟨⟨HO, _, Hs, Hc⟩, Hf, Hoo⟩
  isplitl [HO]
  · iapply (owing_eq c (zero_add O))
    iexact HO
  isplitl [Hf]; · iexact Hf
  isplitl [Hs]; · iexact Hs
  isplitl [Hc] <;> iassumption

theorem over_ord2 (h : c.val < 8) : Over (rsIx c) (sumAg c 1 15 + sumRs c ord2) := by
  have e : rsIx c = 2 := if_pos h
  rw [e]
  exact (over_sumAg (by decide) _ _ _).add (over_sumRs c _ (by decide))
theorem over_none : Over (rsIx c) (sumAg c 1 15 + 0) :=
  (over_sumAg (by unfold rsIx; split <;> decide) _ _ _).add (Over.zero _)
theorem over_ord2' (h : c.val < 8) : Over (rsIx c) (sumRs c ord2) := by
  have e : rsIx c = 2 := if_pos h
  rw [e]
  exact over_sumRs c _ (by decide)

theorem redMid_first (h : c.val < 8) : redOut J c ⊢ redMid J c := by unfold redMid; rw [if_pos h]
theorem redMid_second (h : ¬ c.val < 8) : (redIn c : Prp F) ⊢ redMid J c := by unfold redMid; rw [if_neg h]
theorem redMid_out (h : c.val < 8) : redMid J c ⊢ redOut J c := by unfold redMid; rw [if_pos h]
theorem redMid_in (h : ¬ c.val < 8) : redMid J c ⊢ redIn c := by unfold redMid; rw [if_neg h]
theorem owedAg_first (h : c.val < 8) : owedAg c = 0 := if_pos h
theorem owedAg_second (h : ¬ c.val < 8) : owedAg c = sumAg c 1 15 := if_neg h
theorem mem_ord1 (h : c.val < 8) : c ∈ ([7, 3, 6, 2, 5, 1, 4, 0] : List (Dev nD)) := by revert c; decide
theorem mem_all (c : Dev nD) : c ∈ ([15, 11, 14, 10, 13, 9, 12, 8, 7, 3, 6, 2, 5, 1, 4, 0] : List (Dev nD)) := by revert c; decide

end Cert.KernelIdeal.Talk
-- ==== Proof.Red.lean ====
/-
  The reduction of a device's own chunk, in the two places the body has it.
-/
module

public import proofs.«01_k».proof.Proof.Bundle

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

abbrev P11 := k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P22 := k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P32 := k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev P39 := k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

variable (J : Dev nD → Ins F) (κ : GSem nD τ sig → ℕ) (c : Dev nD)

/-- Part 11 of the body on device c: the reduction of the device's own chunk, and the all-gather's sends but the last. -/
theorem wp11 (O : Tal) (hO : Over (rsIx c) (sumAg c 1 15 + O)) (v2 : BitVec 32) (h : k0_cond9 c = 1#1) {Q : _ → Prp F} :
    iprop(Invs (cont J) κ ∗ levAts LL lv ∗ reached ER (rsSendCell c) 0 ∗ reached ER (agSendCell c) 0 ∗ owing c (sumAg c 1 15 + O) ∗ owns (c.tc : Thread nD τ) (accM c) fullShare ((cont J).val c c) ∗ redIn c)
      ⊢ iprop(((agSt (cont J) c O 14 1 ∗ owns (c.tc : Thread nD τ) (accM c) fullShare ((cont J).val c c) ∗ rsFins (cont J) c all15 ∗ owns (c.tc : Thread nD τ) (outM c) fullShare (ownOf (own J c) (peer J c))) -∗ Q ⟨⟩)
        -∗ WP c (P11 c v2 h) Q) := by
  unfold P11
  rw [k0_part11_eq_skeleton]
  unfold k0_part11_skel
  simp only [Prog.lift, Prog.bind_op, Prog.bind_ret, Prog.pure_eq_ret]
  unfold redIn
  iintro ⟨#HI, #Hl, #HrS, #HrA, HO, Hown, HW, Hkk, ⟨%Xs, Hs⟩, ⟨%Xo, Hoo⟩⟩ HK
  ihave HW := (rsIns_uncons c 0 [1, 2, 3, 4, 5, 6, 7, 8, 9, 10, 11, 12, 13, 14]) $$ HW
  icases HW with ⟨Hw0, HW⟩
  ihave HW := (rsIns_uncons c 1 [2, 3, 4, 5, 6, 7, 8, 9, 10, 11, 12, 13, 14]) $$ HW
  icases HW with ⟨Hw1, HW⟩
  iapply wpBind
  iapply (wp1 J κ c (sumAg c 1 15 + O) (hO) _ _) $$ [Hown HO Hw0 Hw1]
  · isplitr; · iexact HI
    isplitr; · iexact Hl
    isplitr; · iexact HrS
    isplitr; · iexact HrA
    isplitl [Hown]; · iexact Hown
    isplitl [HO]; · iexact HO
    isplitl [Hw0]; · iexact Hw0
    iexact Hw1
  iintro ⟨Hown, HO, Hp0, Hr0, Hp1, Hr1⟩
  try dsimp only
  ihave HW := (rsIns_uncons c 2 [3, 4, 5, 6, 7, 8, 9, 10, 11, 12, 13, 14]) $$ HW
  icases HW with ⟨Hw2, HW⟩
  ihave HW := (rsIns_uncons c 3 [4, 5, 6, 7, 8, 9, 10, 11, 12, 13, 14]) $$ HW
  icases HW with ⟨Hw3, HW⟩
  iapply wpBind
  iapply (wp2 J κ c (sumAg c 1 15 + O) (hO) _ _) $$ [HO Hw2 Hw3]
  · isplitr; · iexact HI
    isplitr; · iexact Hl
    isplitr; · iexact HrS
    isplitr; · iexact HrA
    isplitl [HO]; · iexact HO
    isplitl [Hw2]; · iexact Hw2
    iexact Hw3
  iintro ⟨HO, Hp2, Hr2, Hp3, Hr3⟩
  try dsimp only
  ihave HW := (rsIns_uncons c 4 [5, 6, 7, 8, 9, 10, 11, 12, 13, 14]) $$ HW
  icases HW with ⟨Hw4, HW⟩
  ihave HW := (rsIns_uncons c 5 [6, 7, 8, 9, 10, 11, 12, 13, 14]) $$ HW
  icases HW with ⟨Hw5, HW⟩
  ihave HW := (rsIns_uncons c 6 [7, 8, 9, 10, 11, 12, 13, 14]) $$ HW
  icases HW with ⟨Hw6, HW⟩
  iapply wpBind
  iapply (wp3 J κ c (sumAg c 1 15 + O) (hO) _) $$ [HO Hw4 Hw5 Hw6]
  · isplitr; · iexact HI
    isplitr; · iexact Hl
    isplitr; · iexact HrS
    isplitr; · iexact HrA
    isplitl [HO]; · iexact HO
    isplitl [Hw4]; · iexact Hw4
    isplitl [Hw5]; · iexact Hw5
    iexact Hw6
  iintro ⟨HO, Hp4, Hr4, Hp5, Hr5, Hp6, Hr6⟩
  try dsimp only
  ihave HW := (rsIns_uncons c 7 [8, 9, 10, 11, 12, 13, 14]) $$ HW
  icases HW with ⟨Hw7, HW⟩
  ihave HW := (rsIns_uncons c 8 [9, 10, 11, 12, 13, 14]) $$ HW
  icases HW with ⟨Hw8, HW⟩
  iapply wpBind
  iapply (wp4 J κ c (sumAg c 1 15 + O) (hO) _) $$ [HO Hw7 Hw8]
  · isplitr; · iexact HI
    isplitr; · iexact Hl
    isplitr; · iexact HrS
    isplitr; · iexact HrA
    isplitl [HO]; · iexact HO
    isplitl [Hw7]; · iexact Hw7
    iexact Hw8
  iintro ⟨HO, Hp7, Hr7, Hp8, Hr8⟩
  try dsimp only
  ihave HW := (rsIns_uncons c 9 [10, 11, 12, 13, 14]) $$ HW
  icases HW with ⟨Hw9, HW⟩
  ihave HW := (rsIns_uncons c 10 [11, 12, 13, 14]) $$ HW
  icases HW with ⟨Hw10, HW⟩
  ihave HW := (rsIns_uncons c 11 [12, 13, 14]) $$ HW
  icases HW with ⟨Hw11, HW⟩
  iapply wpBind
  iapply (wp5 J κ c (sumAg c 1 15 + O) (hO) _) $$ [HO Hw9 Hw10 Hw11]
  · isplitr; · iexact HI
    isplitr; · iexact Hl
    isplitr; · iexact HrS
    isplitr; · iexact HrA
    isplitl [HO]; · iexact HO
    isplitl [Hw9]; · iexact Hw9
    isplitl [Hw10]; · iexact Hw10
    iexact Hw11
  iintro ⟨HO, Hp9, Hr9, Hp10, Hr10, Hp11, Hr11⟩
  try dsimp only
  ihave HW := (rsIns_uncons c 12 [13, 14]) $$ HW
  icases HW with ⟨Hw12, HW⟩
  ihave HW := (rsIns_uncons c 13 [14]) $$ HW
  icases HW with ⟨Hw13, HW⟩
  iapply wpBind
  iapply (wp6 J κ c (sumAg c 1 15 + O) (hO) _) $$ [Hr11 HO Hw12 Hw13]
  · isplitr; · iexact HI
    isplitr; · iexact Hl
    isplitr; · iexact HrS
    isplitr; · iexact HrA
    isplitl [Hr11]; · iexact Hr11
    isplitl [HO]; · iexact HO
    isplitl [Hw12]; · iexact Hw12
    iexact Hw13
  iintro ⟨Hr11, HO, Hp12, Hr12, Hp13, Hr13⟩
  try dsimp only
  ihave HW := (rsIns_uncons c 14 []) $$ HW
  icases HW with ⟨Hw14, HW⟩
  iapply wpBind
  iapply (wp7 J κ c (O) Xs Xo (hO) _ _ _) $$ [HO Hw14 Hs Hoo Hkk]
  · isplitr; · iexact HI
    isplitr; · iexact Hl
    isplitr; · iexact HrS
    isplitr; · iexact HrA
    isplitl [HO]; · iexact HO
    isplitl [Hw14]; · iexact Hw14
    isplitl [Hs]; · iexact Hs
    isplitl [Hoo]; · iexact Hoo
    iexact Hkk
  iintro ⟨Hp14, Hr14, Hoo, Hst⟩
  try dsimp only
  iapply wpBind
  iapply (wp8 J κ c (O) _ _ _) $$ [Hst]
  · isplitr; · iexact HI
    isplitr; · iexact Hl
    isplitr; · iexact HrS
    isplitr; · iexact HrA
    iexact Hst
  iintro Hst
  try dsimp only
  iapply wpBind
  iapply (wp9 J κ c (O) _ _) $$ [Hst]
  · isplitr; · iexact HI
    isplitr; · iexact Hl
    isplitr; · iexact HrS
    isplitr; · iexact HrA
    iexact Hst
  iintro Hst
  try dsimp only
  iapply wpBind
  iapply (wp10 J κ c (O) _ _ _ _) $$ [Hst]
  · isplitr; · iexact HI
    isplitr; · iexact Hl
    isplitr; · iexact HrS
    isplitr; · iexact HrA
    iexact Hst
  iintro Hst
  try dsimp only
  iapply (agPut (cont J) κ c 11 (by decide) rfl rfl (Fin.ext (k0_dev35_eq c))) $$ [Hst]
  · isplitr; · iexact HI
    isplitr; · iexact HrA
    iexact Hst
  iintro Hst
  iapply (agPut (cont J) κ c 12 (by decide) rfl rfl (Fin.ext (k0_dev36_eq c))) $$ [Hst]
  · isplitr; · iexact HI
    isplitr; · iexact HrA
    iexact Hst
  iintro Hst
  iapply (agPut (cont J) κ c 13 (by decide) rfl rfl (Fin.ext (k0_dev37_eq c))) $$ [Hst]
  · isplitr; · iexact HI
    isplitr; · iexact HrA
    iexact Hst
  iintro Hst
  iapply (wpDone c rfl)
  iapply HK
  isplitl [Hst]
  · iexact Hst
  isplitl [Hown]
  · iexact Hown
  isplitr [Hoo]
  · iapply (rsFins_cons (cont J) c 0 [1, 2, 3, 4, 5, 6, 7, 8, 9, 10, 11, 12, 13, 14])
    isplitl [Hp0]; · iexact Hp0
    isplitl [Hr0]; · iexact Hr0
    iapply (rsFins_cons (cont J) c 1 [2, 3, 4, 5, 6, 7, 8, 9, 10, 11, 12, 13, 14])
    isplitl [Hp1]; · iexact Hp1
    isplitl [Hr1]; · iexact Hr1
    iapply (rsFins_cons (cont J) c 2 [3, 4, 5, 6, 7, 8, 9, 10, 11, 12, 13, 14])
    isplitl [Hp2]; · iexact Hp2
    isplitl [Hr2]; · iexact Hr2
    iapply (rsFins_cons (cont J) c 3 [4, 5, 6, 7, 8, 9, 10, 11, 12, 13, 14])
    isplitl [Hp3]; · iexact Hp3
    isplitl [Hr3]; · iexact Hr3
    iapply (rsFins_cons (cont J) c 4 [5, 6, 7, 8, 9, 10, 11, 12, 13, 14])
    isplitl [Hp4]; · iexact Hp4
    isplitl [Hr4]; · iexact Hr4
    iapply (rsFins_cons (cont J) c 5 [6, 7, 8, 9, 10, 11, 12, 13, 14])
    isplitl [Hp5]; · iexact Hp5
    isplitl [Hr5]; · iexact Hr5
    iapply (rsFins_cons (cont J) c 6 [7, 8, 9, 10, 11, 12, 13, 14])
    isplitl [Hp6]; · iexact Hp6
    isplitl [Hr6]; · iexact Hr6
    iapply (rsFins_cons (cont J) c 7 [8, 9, 10, 11, 12, 13, 14])
    isplitl [Hp7]; · iexact Hp7
    isplitl [Hr7]; · iexact Hr7
    iapply (rsFins_cons (cont J) c 8 [9, 10, 11, 12, 13, 14])
    isplitl [Hp8]; · iexact Hp8
    isplitl [Hr8]; · iexact Hr8
    iapply (rsFins_cons (cont J) c 9 [10, 11, 12, 13, 14])
    isplitl [Hp9]; · iexact Hp9
    isplitl [Hr9]; · iexact Hr9
    iapply (rsFins_cons (cont J) c 10 [11, 12, 13, 14])
    isplitl [Hp10]; · iexact Hp10
    isplitl [Hr10]; · iexact Hr10
    iapply (rsFins_cons (cont J) c 11 [12, 13, 14])
    isplitl [Hp11]; · iexact Hp11
    isplitl [Hr11]; · iexact Hr11
    iapply (rsFins_cons (cont J) c 12 [13, 14])
    isplitl [Hp12]; · iexact Hp12
    isplitl [Hr12]; · iexact Hr12
    iapply (rsFins_cons (cont J) c 13 [14])
    isplitl [Hp13]; · iexact Hp13
    isplitl [Hr13]; · iexact Hr13
    iapply (rsFins_cons (cont J) c 14 [])
    isplitl [Hp14]; · iexact Hp14
    isplitl [Hr14]; · iexact Hr14
    iempintro
  iexact Hoo

/-- Part 22 of the body on device c: the reduction of the device's own chunk, and the all-gather's sends but the last. -/
theorem wp22 (O : Tal) (hO : Over (rsIx c) (sumAg c 1 15 + O)) (v2 : BitVec 32) (h : k0_cond18 c = 1#1) {Q : _ → Prp F} :
    iprop(Invs (cont J) κ ∗ levAts LL lv ∗ reached ER (rsSendCell c) 0 ∗ reached ER (agSendCell c) 0 ∗ owing c (sumAg c 1 15 + O) ∗ owns (c.tc : Thread nD τ) (accM c) fullShare ((cont J).val c c) ∗ redIn c)
      ⊢ iprop(((agSt (cont J) c O 14 1 ∗ owns (c.tc : Thread nD τ) (accM c) fullShare ((cont J).val c c) ∗ rsFins (cont J) c all15 ∗ owns (c.tc : Thread nD τ) (outM c) fullShare (ownOf (own J c) (peer J c))) -∗ Q ⟨⟩)
        -∗ WP c (P22 c v2 h) Q) := by
  unfold P22
  rw [k0_part22_eq_skeleton]
  unfold k0_part22_skel
  simp only [Prog.lift, Prog.bind_op, Prog.bind_ret, Prog.pure_eq_ret]
  unfold redIn
  iintro ⟨#HI, #Hl, #HrS, #HrA, HO, Hown, HW, Hkk, ⟨%Xs, Hs⟩, ⟨%Xo, Hoo⟩⟩ HK
  ihave HW := (rsIns_uncons c 0 [1, 2, 3, 4, 5, 6, 7, 8, 9, 10, 11, 12, 13, 14]) $$ HW
  icases HW with ⟨Hw0, HW⟩
  ihave HW := (rsIns_uncons c 1 [2, 3, 4, 5, 6, 7, 8, 9, 10, 11, 12, 13, 14]) $$ HW
  icases HW with ⟨Hw1, HW⟩
  iapply wpBind
  iapply (wp12 J κ c (sumAg c 1 15 + O) (hO) _ _) $$ [Hown HO Hw0 Hw1]
  · isplitr; · iexact HI
    isplitr; · iexact Hl
    isplitr; · iexact HrS
    isplitr; · iexact HrA
    isplitl [Hown]; · iexact Hown
    isplitl [HO]; · iexact HO
    isplitl [Hw0]; · iexact Hw0
    iexact Hw1
  iintro ⟨Hown, HO, Hp0, Hr0, Hp1, Hr1⟩
  try dsimp only
  ihave HW := (rsIns_uncons c 2 [3, 4, 5, 6, 7, 8, 9, 10, 11, 12, 13, 14]) $$ HW
  icases HW with ⟨Hw2, HW⟩
  ihave HW := (rsIns_uncons c 3 [4, 5, 6, 7, 8, 9, 10, 11, 12, 13, 14]) $$ HW
  icases HW with ⟨Hw3, HW⟩
  iapply wpBind
  iapply (wp13 J κ c (sumAg c 1 15 + O) (hO) _ _) $$ [HO Hw2 Hw3]
  · isplitr; · iexact HI
    isplitr; · iexact Hl
    isplitr; · iexact HrS
    isplitr; · iexact HrA
    isplitl [HO]; · iexact HO
    isplitl [Hw2]; · iexact Hw2
    iexact Hw3
  iintro ⟨HO, Hp2, Hr2, Hp3, Hr3⟩
  try dsimp only
  ihave HW := (rsIns_uncons c 4 [5, 6, 7, 8, 9, 10, 11, 12, 13, 14]) $$ HW
  icases HW with ⟨Hw4, HW⟩
  ihave HW := (rsIns_uncons c 5 [6, 7, 8, 9, 10, 11, 12, 13, 14]) $$ HW
  icases HW with ⟨Hw5, HW⟩
  ihave HW := (rsIns_uncons c 6 [7, 8, 9, 10, 11, 12, 13, 14]) $$ HW
  icases HW with ⟨Hw6, HW⟩
  iapply wpBind
  iapply (wp14 J κ c (sumAg c 1 15 + O) (hO) _) $$ [HO Hw4 Hw5 Hw6]
  · isplitr; · iexact HI
    isplitr; · iexact Hl
    isplitr; · iexact HrS
    isplitr; · iexact HrA
    isplitl [HO]; · iexact HO
    isplitl [Hw4]; · iexact Hw4
    isplitl [Hw5]; · iexact Hw5
    iexact Hw6
  iintro ⟨HO, Hp4, Hr4, Hp5, Hr5, Hp6, Hr6⟩
  try dsimp only
  ihave HW := (rsIns_uncons c 7 [8, 9, 10, 11, 12, 13, 14]) $$ HW
  icases HW with ⟨Hw7, HW⟩
  ihave HW := (rsIns_uncons c 8 [9, 10, 11, 12, 13, 14]) $$ HW
  icases HW with ⟨Hw8, HW⟩
  iapply wpBind
  iapply (wp15 J κ c (sumAg c 1 15 + O) (hO) _) $$ [HO Hw7 Hw8]
  · isplitr; · iexact HI
    isplitr; · iexact Hl
    isplitr; · iexact HrS
    isplitr; · iexact HrA
    isplitl [HO]; · iexact HO
    isplitl [Hw7]; · iexact Hw7
    iexact Hw8
  iintro ⟨HO, Hp7, Hr7, Hp8, Hr8⟩
  try dsimp only
  ihave HW := (rsIns_uncons c 9 [10, 11, 12, 13, 14]) $$ HW
  icases HW with ⟨Hw9, HW⟩
  ihave HW := (rsIns_uncons c 10 [11, 12, 13, 14]) $$ HW
  icases HW with ⟨Hw10, HW⟩
  ihave HW := (rsIns_uncons c 11 [12, 13, 14]) $$ HW
  icases HW with ⟨Hw11, HW⟩
  iapply wpBind
  iapply (wp16 J κ c (sumAg c 1 15 + O) (hO) _) $$ [HO Hw9 Hw10 Hw11]
  · isplitr; · iexact HI
    isplitr; · iexact Hl
    isplitr; · iexact HrS
    isplitr; · iexact HrA
    isplitl [HO]; · iexact HO
    isplitl [Hw9]; · iexact Hw9
    isplitl [Hw10]; · iexact Hw10
    iexact Hw11
  iintro ⟨HO, Hp9, Hr9, Hp10, Hr10, Hp11, Hr11⟩
  try dsimp only
  ihave HW := (rsIns_uncons c 12 [13, 14]) $$ HW
  icases HW with ⟨Hw12, HW⟩
  ihave HW := (rsIns_uncons c 13 [14]) $$ HW
  icases HW with ⟨Hw13, HW⟩
  iapply wpBind
  iapply (wp17 J κ c (sumAg c 1 15 + O) (hO) _) $$ [Hr11 HO Hw12 Hw13]
  · isplitr; · iexact HI
    isplitr; · iexact Hl
    isplitr; · iexact HrS
    isplitr; · iexact HrA
    isplitl [Hr11]; · iexact Hr11
    isplitl [HO]; · iexact HO
    isplitl [Hw12]; · iexact Hw12
    iexact Hw13
  iintro ⟨Hr11, HO, Hp12, Hr12, Hp13, Hr13⟩
  try dsimp only
  ihave HW := (rsIns_uncons c 14 []) $$ HW
  icases HW with ⟨Hw14, HW⟩
  iapply wpBind
  iapply (wp18 J κ c (O) Xs Xo (hO) _ _ _) $$ [HO Hw14 Hs Hoo Hkk]
  · isplitr; · iexact HI
    isplitr; · iexact Hl
    isplitr; · iexact HrS
    isplitr; · iexact HrA
    isplitl [HO]; · iexact HO
    isplitl [Hw14]; · iexact Hw14
    isplitl [Hs]; · iexact Hs
    isplitl [Hoo]; · iexact Hoo
    iexact Hkk
  iintro ⟨Hp14, Hr14, Hoo, Hst⟩
  try dsimp only
  iapply wpBind
  iapply (wp19 J κ c (O) _ _ _) $$ [Hst]
  · isplitr; · iexact HI
    isplitr; · iexact Hl
    isplitr; · iexact HrS
    isplitr; · iexact HrA
    iexact Hst
  iintro Hst
  try dsimp only
  iapply wpBind
  iapply (wp20 J κ c (O) _ _) $$ [Hst]
  · isplitr; · iexact HI
    isplitr; · iexact Hl
    isplitr; · iexact HrS
    isplitr; · iexact HrA
    iexact Hst
  iintro Hst
  try dsimp only
  iapply wpBind
  iapply (wp21 J κ c (O) _ _ _ _) $$ [Hst]
  · isplitr; · iexact HI
    isplitr; · iexact Hl
    isplitr; · iexact HrS
    isplitr; · iexact HrA
    iexact Hst
  iintro Hst
  try dsimp only
  iapply (agPut (cont J) κ c 11 (by decide) rfl rfl (Fin.ext (k0_dev58_eq c))) $$ [Hst]
  · isplitr; · iexact HI
    isplitr; · iexact HrA
    iexact Hst
  iintro Hst
  iapply (agPut (cont J) κ c 12 (by decide) rfl rfl (Fin.ext (k0_dev59_eq c))) $$ [Hst]
  · isplitr; · iexact HI
    isplitr; · iexact HrA
    iexact Hst
  iintro Hst
  iapply (agPut (cont J) κ c 13 (by decide) rfl rfl (Fin.ext (k0_dev60_eq c))) $$ [Hst]
  · isplitr; · iexact HI
    isplitr; · iexact HrA
    iexact Hst
  iintro Hst
  iapply (wpDone c rfl)
  iapply HK
  isplitl [Hst]
  · iexact Hst
  isplitl [Hown]
  · iexact Hown
  isplitr [Hoo]
  · iapply (rsFins_cons (cont J) c 0 [1, 2, 3, 4, 5, 6, 7, 8, 9, 10, 11, 12, 13, 14])
    isplitl [Hp0]; · iexact Hp0
    isplitl [Hr0]; · iexact Hr0
    iapply (rsFins_cons (cont J) c 1 [2, 3, 4, 5, 6, 7, 8, 9, 10, 11, 12, 13, 14])
    isplitl [Hp1]; · iexact Hp1
    isplitl [Hr1]; · iexact Hr1
    iapply (rsFins_cons (cont J) c 2 [3, 4, 5, 6, 7, 8, 9, 10, 11, 12, 13, 14])
    isplitl [Hp2]; · iexact Hp2
    isplitl [Hr2]; · iexact Hr2
    iapply (rsFins_cons (cont J) c 3 [4, 5, 6, 7, 8, 9, 10, 11, 12, 13, 14])
    isplitl [Hp3]; · iexact Hp3
    isplitl [Hr3]; · iexact Hr3
    iapply (rsFins_cons (cont J) c 4 [5, 6, 7, 8, 9, 10, 11, 12, 13, 14])
    isplitl [Hp4]; · iexact Hp4
    isplitl [Hr4]; · iexact Hr4
    iapply (rsFins_cons (cont J) c 5 [6, 7, 8, 9, 10, 11, 12, 13, 14])
    isplitl [Hp5]; · iexact Hp5
    isplitl [Hr5]; · iexact Hr5
    iapply (rsFins_cons (cont J) c 6 [7, 8, 9, 10, 11, 12, 13, 14])
    isplitl [Hp6]; · iexact Hp6
    isplitl [Hr6]; · iexact Hr6
    iapply (rsFins_cons (cont J) c 7 [8, 9, 10, 11, 12, 13, 14])
    isplitl [Hp7]; · iexact Hp7
    isplitl [Hr7]; · iexact Hr7
    iapply (rsFins_cons (cont J) c 8 [9, 10, 11, 12, 13, 14])
    isplitl [Hp8]; · iexact Hp8
    isplitl [Hr8]; · iexact Hr8
    iapply (rsFins_cons (cont J) c 9 [10, 11, 12, 13, 14])
    isplitl [Hp9]; · iexact Hp9
    isplitl [Hr9]; · iexact Hr9
    iapply (rsFins_cons (cont J) c 10 [11, 12, 13, 14])
    isplitl [Hp10]; · iexact Hp10
    isplitl [Hr10]; · iexact Hr10
    iapply (rsFins_cons (cont J) c 11 [12, 13, 14])
    isplitl [Hp11]; · iexact Hp11
    isplitl [Hr11]; · iexact Hr11
    iapply (rsFins_cons (cont J) c 12 [13, 14])
    isplitl [Hp12]; · iexact Hp12
    isplitl [Hr12]; · iexact Hr12
    iapply (rsFins_cons (cont J) c 13 [14])
    isplitl [Hp13]; · iexact Hp13
    isplitl [Hr13]; · iexact Hr13
    iapply (rsFins_cons (cont J) c 14 [])
    isplitl [Hp14]; · iexact Hp14
    isplitl [Hr14]; · iexact Hr14
    iempintro
  iexact Hoo

/-- Part 32 of the body on device c: the last two chunks of the first half of the rows, and the reduction on the first eight devices. -/
theorem wp32 (X3 X7 : Chunk F) (v2 : BitVec 32) {Q : _ → Prp F} :
    iprop(Invs (cont J) κ ∗ levAts LL lv ∗ reached ER (rsSendCell c) 0 ∗ reached ER (agSendCell c) 0 ∗ owns (c.tc : Thread nD τ) (accM 3) fullShare X3 ∗ owns (c.tc : Thread nD τ) (accM 7) fullShare X7
        ∗ owing c (sumRs c [3, 7] + (sumRs c ord2 + sumAg c 1 15)) ∗ rsKit c 3 ∗ rsKit c 7 ∗ outs (cont J) c [6, 2, 5, 1, 4, 0] ∗ redIn c ∗ ins c (J c))
      ⊢ iprop(((outs (cont J) c [7, 3, 6, 2, 5, 1, 4, 0] ∗ owing c (sumRs c ord2 + owedAg c) ∗ redMid J c ∗ ins c (J c)) -∗ Q ⟨v342 (J c), v345 (J c)⟩)
        -∗ WP c (P32 c v2 (v302 (J c)) (v306 (J c))) Q) := by
  unfold P32
  rw [k0_part32_eq_skeleton]
  unfold k0_part32_skel
  simp only [Prog.lift, Prog.bind_op, Prog.bind_ret, Prog.pure_eq_ret]
  generalize hOO : sumRs c ord2 + sumAg c 1 15 = O
  iintro ⟨#HI, #Hl, #HrS, #HrA, Ha3, Ha7, HO, Hk3, Hk7, Hout, Hred, Hin⟩ HK
  iapply (stAcc c 3 rfl) $$ Ha3
  iintro Ha3
  ihave Ha3 := (chunkAt c 3 ((show v306 (J c) = acc3 (J c) from rfl).trans (val3 J c).symm)) $$ [Ha3]
  · iexact Ha3
  iapply (ldAcc c 7 rfl) $$ Ha7
  iintro Ha7
  iapply (stAcc c 7 rfl) $$ Ha7
  iintro Ha7
  ihave Ha7 := (chunkAt c 7 ((show k0_pay49 (v302 (J c)) = acc7 (J c) from rfl).trans (val7 J c).symm)) $$ [Ha7]
  · iexact Ha7
  iapply (sendIf (cont J) κ c (t := 3) (O := O) (place3 c).1 rfl (place3 c).2.1 (place3 c).2.2 (fun _ => Fin.ext k0_dev22_eq)) $$ [HO Hk3 Ha3]
  · isplitr; · iexact HI
    isplitr; · iexact HrS
    isplitl [HO]; · iexact HO
    isplitl [Hk3]; · iexact Hk3
    iexact Ha3
  iintro ⟨HO, Ha3⟩
  iapply (sendIf (cont J) κ c (t := 7) (O := O) (place7 c).1 rfl (place7 c).2.1 (place7 c).2.2 (fun _ => Fin.ext k0_dev23_eq)) $$ [HO Hk7 Ha7]
  · isplitr; · iexact HI
    isplitr; · iexact HrS
    isplitl [HO]; · iexact HO
    isplitl [Hk7]; · iexact Hk7
    iexact Ha7
  iintro ⟨HO, Ha7⟩
  subst hOO
  ihave Hout := (outs_cons (cont J) c 3 [6, 2, 5, 1, 4, 0]) $$ [Ha3 Hout]
  · isplitl [Ha3]; · iexact Ha3
    iexact Hout
  ihave Hout := (outs_cons (cont J) c 7 [3, 6, 2, 5, 1, 4, 0]) $$ [Ha7 Hout]
  · isplitl [Ha7]; · iexact Ha7
    iexact Hout
  by_cases h9 : k0_cond9 c = 1#1
  · have hc := (first_iff c).mp h9
    rw [dif_pos h9]
    ihave HO := (owing_eq c (show sumRs c [] + (sumRs c ord2 + sumAg c 1 15) = sumAg c 1 15 + sumRs c ord2 from (zero_add _).trans (add_comm _ _))) $$ HO
    ihave Hout := (outs_open (cont J) c (mem_ord1 c hc)) $$ Hout
    icases Hout with ⟨Hown, Hback⟩
    iapply wpBind
    iapply (wp11 J κ c (sumRs c ord2) (over_ord2 c hc) _ h9) $$ [HO Hown Hred]
    · isplitr; · iexact HI
      isplitr; · iexact Hl
      isplitr; · iexact HrS
      isplitr; · iexact HrA
      isplitl [HO]; · iexact HO
      isplitl [Hown]; · iexact Hown
      iexact Hred
    iintro ⟨Hst, Hown, Hf, Hoo⟩
    try dsimp only
    iapply (agPut (cont J) κ c 14 (by decide) rfl rfl (Fin.ext (k0_dev38_eq c))) $$ [Hst]
    · isplitr; · iexact HI
      isplitr; · iexact HrA
      iexact Hst
    iintro Hst
    ihave Hst := (redDone J c _) $$ [Hst Hf Hoo]
    · isplitl [Hst]; · iexact Hst
      isplitl [Hf]; · iexact Hf
      iexact Hoo
    icases Hst with ⟨HO, Hred⟩
    ihave Hout := Hback $$ Hown
    ihave Hred := (redMid_first J c hc) $$ Hred
    ihave HO := (owing_eq c (show sumRs c ord2 = sumRs c ord2 + owedAg c from by rw [owedAg_first c hc]; exact (add_zero _).symm)) $$ HO
    iapply (ldX c) $$ Hin
    iintro Hin
    iapply (ldWq c) $$ Hin
    iintro Hin
    iapply (wpDone c (show (⟨k0_pay50 (v320 (J c)) (v322 (J c)), k0_pay51 (v320 (J c)) (v322 (J c))⟩ : (Σ' (v342 : FVec F S8x512x64 .bf16), FVec F S8x128x64 .bf16)) = ⟨v342 (J c), v345 (J c)⟩ from rfl))
    iapply HK
    isplitl [Hout]; · iexact Hout
    isplitl [HO]; · iexact HO
    isplitl [Hred]; · iexact Hred
    iexact Hin
  · have hc : ¬ c.val < 8 := fun h => h9 ((first_iff c).mpr h)
    rw [dif_neg h9]
    ihave Hred := (redMid_second J c hc) $$ Hred
    ihave HO := (owing_eq c (show sumRs c [] + (sumRs c ord2 + sumAg c 1 15) = sumRs c ord2 + owedAg c from by rw [owedAg_second c hc]; exact zero_add _)) $$ HO
    iapply (ldX c) $$ Hin
    iintro Hin
    iapply (ldWq c) $$ Hin
    iintro Hin
    iapply (wpDone c (show (⟨k0_pay50 (v320 (J c)) (v322 (J c)), k0_pay51 (v320 (J c)) (v322 (J c))⟩ : (Σ' (v342 : FVec F S8x512x64 .bf16), FVec F S8x128x64 .bf16)) = ⟨v342 (J c), v345 (J c)⟩ from rfl))
    iapply HK
    isplitl [Hout]; · iexact Hout
    isplitl [HO]; · iexact HO
    isplitl [Hred]; · iexact Hred
    iexact Hin

/-- Part 39 of the body on device c: the last send, the reduction on the last eight devices, and the all-gather's first slot. -/
theorem wp39 (Z0 : Vec F S1x64x768 .f32) (v2 : BitVec 32) (v568 : BitVec 1) {Q : _ → Prp F} :
    iprop(Invs (cont J) κ ∗ levAts LL lv ∗ reached ER (rsSendCell c) 0 ∗ reached ER (agSendCell c) 0 ∗ owns (c.tc : Thread nD τ) (accM 15) fullShare ((cont J).val c 15)
        ∗ owing c (sumRs c [15] + owedAg c) ∗ rsKit c 15 ∗ outs (cont J) c [11, 14, 10, 13, 9, 12, 8, 7, 3, 6, 2, 5, 1, 4, 0] ∗ redMid J c ∗ agIn c 0 ∗ owns (c.tc : Thread nD τ) (outM (snd c 0)) fullShare Z0)
      ⊢ iprop(((outs (cont J) c [15, 11, 14, 10, 13, 9, 12, 8, 7, 3, 6, 2, 5, 1, 4, 0] ∗ owing c 0 ∗ redOut J c ∗ agFin J c 0) -∗ Q ⟨⟩)
        -∗ WP c (P39 c v2 v568) Q) := by
  unfold P39
  rw [k0_part39_eq_skeleton]
  unfold k0_part39_skel
  simp only [Prog.lift, Prog.bind_op, Prog.bind_ret, Prog.pure_eq_ret]
  generalize hOO : owedAg c = O
  iintro ⟨#HI, #Hl, #HrS, #HrA, Ha15, HO, Hk15, Hout, Hred, Hv0, Ho0⟩ HK
  iapply (sendIf (cont J) κ c (t := 15) (O := O) (place15 c).1 rfl (place15 c).2.1 (place15 c).2.2 (fun _ => Fin.ext k0_dev46_eq)) $$ [HO Hk15 Ha15]
  · isplitr; · iexact HI
    isplitr; · iexact HrS
    isplitl [HO]; · iexact HO
    isplitl [Hk15]; · iexact Hk15
    iexact Ha15
  iintro ⟨HO, Ha15⟩
  subst hOO
  ihave Hout := (outs_cons (cont J) c 15 [11, 14, 10, 13, 9, 12, 8, 7, 3, 6, 2, 5, 1, 4, 0]) $$ [Ha15 Hout]
  · isplitl [Ha15]; · iexact Ha15
    iexact Hout
  by_cases h18 : k0_cond18 c = 1#1
  · have hc := (second_iff c).mp h18
    ihave Hred := (redMid_in J c hc) $$ Hred
    rw [dif_pos h18]
    ihave HO := (owing_eq c (show sumRs c [] + owedAg c = sumAg c 1 15 + 0 from by rw [owedAg_second c hc]; exact (zero_add _).trans (add_zero _).symm)) $$ HO
    ihave Hout := (outs_open (cont J) c (mem_all c)) $$ Hout
    icases Hout with ⟨Hown, Hback⟩
    iapply wpBind
    iapply (wp22 J κ c (0) (over_none c) _ h18) $$ [HO Hown Hred]
    · isplitr; · iexact HI
      isplitr; · iexact Hl
      isplitr; · iexact HrS
      isplitr; · iexact HrA
      isplitl [HO]; · iexact HO
      isplitl [Hown]; · iexact Hown
      iexact Hred
    iintro ⟨Hst, Hown, Hf, Hoo⟩
    try dsimp only
    iapply (agPut (cont J) κ c 14 (by decide) rfl rfl (Fin.ext (k0_dev61_eq c))) $$ [Hst]
    · isplitr; · iexact HI
      isplitr; · iexact HrA
      iexact Hst
    iintro Hst
    ihave Hst := (redDone J c _) $$ [Hst Hf Hoo]
    · isplitl [Hst]; · iexact Hst
      isplitl [Hf]; · iexact Hf
      iexact Hoo
    icases Hst with ⟨HO, Hred⟩
    ihave Hout := Hback $$ Hown
    iapply (agGet (cont J) κ c 0 rfl) $$ [HO Hv0]
    · isplitr; · iexact HI
      isplitr; · iexact Hl
      isplitl [HO]; · iexact HO
      iexact Hv0
    iintro ⟨HO, Hq0, Hg0⟩
    iapply (ldAg c 0 rfl) $$ Hg0
    iintro Hg0
    iapply (ldOut c (snd c 0) (off37 c 0)) $$ Ho0
    iintro Ho0
    iapply (stOut c (snd c 0) (off37 c 0)) $$ Ho0
    iintro Ho0
    iapply (wpDone c rfl)
    iapply HK
    isplitl [Hout]; · iexact Hout
    isplitl [HO]; · iexact HO
    isplitl [Hred]; · iexact Hred
    iapply (agFin_intro J c 0)
    isplitl [Hq0]; · iexact Hq0
    isplitl [Hg0]; · iexact Hg0
    iexact Ho0
  · have hc : c.val < 8 := by by_contra h; exact h18 ((second_iff c).mpr h)
    rw [dif_neg h18]
    ihave Hred := (redMid_out J c hc) $$ Hred
    ihave HO := (owing_eq c (show sumRs c [] + owedAg c = 0 from by rw [owedAg_first c hc]; exact zero_add _)) $$ HO
    iapply (agGet (cont J) κ c 0 rfl) $$ [HO Hv0]
    · isplitr; · iexact HI
      isplitr; · iexact Hl
      isplitl [HO]; · iexact HO
      iexact Hv0
    iintro ⟨HO, Hq0, Hg0⟩
    iapply (ldAg c 0 rfl) $$ Hg0
    iintro Hg0
    iapply (ldOut c (snd c 0) (off37 c 0)) $$ Ho0
    iintro Ho0
    iapply (stOut c (snd c 0) (off37 c 0)) $$ Ho0
    iintro Ho0
    iapply (wpDone c rfl)
    iapply HK
    isplitl [Hout]; · iexact Hout
    isplitl [HO]; · iexact HO
    isplitl [Hred]; · iexact Hred
    iapply (agFin_intro J c 0)
    isplitl [Hq0]; · iexact Hq0
    isplitl [Hg0]; · iexact Hg0
    iexact Ho0

end Cert.KernelIdeal.Talk
-- ==== Proof.Start.lean ====
/-
  What device c has once the barrier is passed: the slots of the other devices, beside its own tokens.
-/
module

public import proofs.«01_k».proof.Proof.Red

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (J : Dev nD → Ins F) (C : Cont F) (c : Dev nD)

/-- The tokens of the four duties device c pays for device t. -/
def tok (t : Dev nD) : Prp F :=
  iprop(dutyTok ER (rsSendCell c) 0 t ∗ dutyTok ER (rsRecvCell t (sl c t)) 0 c ∗ dutyTok ER (agSendCell c) 0 t ∗ dutyTok ER (agRecvCell t (sl c t)) 0 c)

theorem kits_of (t : Dev nD) (ht : t ≠ c) : iprop(barPay c t ∗ tok c t) ⊢ iprop((rsKit c t : Prp F) ∗ agKit c t) := by
  unfold barPay tok rsKit agKit
  rw [if_neg ht]
  iintro ⟨⟨Hx, Hy, Hr, Hs⟩, H1, H2, H3, H4⟩
  isplitl [H1 H2 Hx Hr]
  · isplitl [H1]; · iexact H1
    isplitl [H2]; · iexact H2
    isplitl [Hx] <;> iassumption
  isplitl [H3]; · iexact H3
  isplitl [H4]; · iexact H4
  isplitl [Hy] <;> iassumption

/-- A separating conjunction over a list. -/
def lsep {β : Type} (f : β → Prp F) : List β → Prp F
  | [] => iprop(emp)
  | t :: l => iprop(f t ∗ lsep f l)
theorem lsep_eq {β : Type} [DecidableEq β] (f : β → Prp F) : ∀ l : List β, l.Nodup → bigSep l.toFinset f = lsep f l
  | [], _ => bigSep_empty
  | t :: l, h => by
    obtain ⟨h1, h2⟩ := List.nodup_cons.mp h
    rw [List.toFinset_cons, bigSep_insert (by rwa [List.mem_toFinset]), lsep_eq f l h2]; rfl

abbrev all16 : List (Dev nD) := [0, 4, 1, 5, 2, 6, 3, 7, 8, 12, 9, 13, 10, 14, 11, 15]
theorem all16_eq : all16.toFinset = Finset.univ := by decide
theorem all15_eq : all15.toFinset = Finset.univ := by decide
/-- The other devices, in the order of their places from device c. -/
def round (c : Dev nD) : List (Dev nD) := [fwd c 1, fwd c 2, fwd c 3, fwd c 4, fwd c 5, fwd c 6, fwd c 7, fwd c 8, fwd c 9, fwd c 10, fwd c 11, fwd c 12, fwd c 13, fwd c 14, fwd c 15]
theorem round_eq (c : Dev nD) : (round c).toFinset = Finset.univ.erase c := by revert c; decide
theorem round_nodup (c : Dev nD) : (round c).Nodup := by revert c; decide

theorem agKits_of : bigSep (Finset.univ.erase c) (agKit c) ⊢ (agKits c 1 15 : Prp F) := by
  rw [← round_eq c, lsep_eq _ _ (round_nodup c)]; exact .rfl
theorem barKits_of : bigSep (Finset.univ.erase c) (barKit c) ⊢ (barKits c 1 15 : Prp F) := by
  rw [← round_eq c, lsep_eq _ _ (round_nodup c)]; exact .rfl
theorem jobs_of_lists (l : List (Dev nD)) :
    iprop(lsep (fun t => iprop(∃ X, owns (c.tc : Thread nD τ) (accM t) fullShare X)) l ∗ lsep (rsKit c) l) ⊢ (jobs c l : Prp F) := by
  induction l with
  | nil =>
    show _ ⊢ iprop(emp)
    iintro _
    iempintro
  | cons t l ih =>
    show iprop(((∃ X, owns (c.tc : Thread nD τ) (accM t) fullShare X) ∗ lsep _ l) ∗ (rsKit c t ∗ lsep (rsKit c) l)) ⊢ iprop((∃ X, owns (c.tc : Thread nD τ) (accM t) fullShare X) ∗ rsKit c t ∗ jobs c l)
    iintro ⟨⟨Ha, Hl⟩, Hk, Hm⟩
    isplitl [Ha]; · iexact Ha
    isplitl [Hk]; · iexact Hk
    iapply ih
    isplitl [Hl] <;> iassumption

theorem rsKit_self : (iprop(emp) : Prp F) ⊢ rsKit c c := by unfold rsKit; rw [if_pos rfl]

/-- Past the barrier: all that the sends take. -/
theorem kitsReady :
    iprop((bigSep (Finset.univ.erase c) fun p => barPay c p) ∗ bigSep (Finset.univ.erase c) (tok c)
        ∗ bigSep Finset.univ fun t => iprop(∃ X, owns (c.tc : Thread nD τ) (accM t) fullShare X))
      ⊢ iprop((jobs c all16 : Prp F) ∗ agKits c 1 15) := by
  iintro ⟨Hb, Ht, Ha⟩
  ihave H := (show iprop((bigSep (Finset.univ.erase c) fun p => barPay c p) ∗ bigSep (Finset.univ.erase c) (tok c))
      ⊢ iprop(bigSep (Finset.univ.erase c) (rsKit c : Dev nD → Prp F) ∗ bigSep (Finset.univ.erase c) (agKit c)) from by
    refine (Entails.of_eq (bigSep_sep ..).symm).trans ((bigSep_mono fun t ht => kits_of c t (Finset.ne_of_mem_erase ht)).trans (Entails.of_eq (bigSep_sep ..)))) $$ [Hb Ht]
  · isplitl [Hb] <;> iassumption
  icases H with ⟨Hr, Hg⟩
  isplitl [Hr Ha]
  · iapply (jobs_of_lists c all16)
    rw [← lsep_eq _ all16 (by decide), ← lsep_eq _ all16 (by decide), all16_eq]
    isplitl [Ha]; · iexact Ha
    iapply (show iprop((rsKit c c : Prp F) ∗ bigSep (Finset.univ.erase c) (rsKit c)) ⊢ bigSep Finset.univ (rsKit c) from
      Entails.of_eq (bigSep_erase (Finset.mem_univ c)).symm)
    isplitr
    · iapply (rsKit_self c); iempintro
    iexact Hr
  iapply (agKits_of c)
  iexact Hg

/-- What device c starts with, beside the barrier's part and the inputs. -/
def start0 : Prp F :=
  iprop(bigSep (Finset.univ.erase c) (tok c) ∗ (bigSep Finset.univ fun t => iprop(∃ X, owns (c.tc : Thread nD τ) (accM t) fullShare X))
    ∗ rsIns c all15 ∗ (∃ X, owns (c.tc : Thread nD τ) srcA fullShare X) ∗ (∃ X, owns (c.tc : Thread nD τ) (outM c) fullShare X)
    ∗ agJobs c all15 ∗ atPos ER (rsSendCell c) 0 ∅ 0 ∗ atPos ER (agSendCell c) 0 ∅ 0)
/-- What it ends with. -/
def end0 : Prp F :=
  iprop(rsFins (cont J) c all15 ∗ owns (c.tc : Thread nD τ) srcA (sh 15) ((cont J).red c) ∗ owns (c.tc : Thread nD τ) (outM c) fullShare (ownOf (own J c) (peer J c))
    ∗ agFins J c [14, 13, 12, 11, 10, 9, 8, 7, 6, 5, 4, 3, 2, 1, 0] ∗ owns (c.tc : Thread nD τ) (accM c) fullShare ((cont J).val c c)
    ∗ drained ER (Rd (cont J)) (rsSendCell c) 0 N 15 ∗ drained ER (Rd (cont J)) (agSendCell c) 0 N 15)
theorem start_ready :
    iprop((bigSep (Finset.univ.erase c) fun p => barPay c p) ∗ start0 c)
      ⊢ iprop((jobs c all16 : Prp F) ∗ redIn c ∗ agJobs c all15 ∗ atPos ER (rsSendCell c) 0 ∅ 0 ∗ atPos ER (agSendCell c) 0 ∅ 0) := by
  unfold start0 redIn
  iintro ⟨Hb, Ht, Ha, Hw, Hs, Ho, Hj, Hd, He⟩
  ihave H := (kitsReady c) $$ [Hb Ht Ha]
  · isplitl [Hb]; · iexact Hb
    isplitl [Ht]; · iexact Ht
    iexact Ha
  icases H with ⟨Hjobs, Hkk⟩
  isplitl [Hjobs]; · iexact Hjobs
  isplitl [Hw Hkk Hs Ho]
  · isplitl [Hw]; · iexact Hw
    isplitl [Hkk]; · iexact Hkk
    isplitl [Hs] <;> iassumption
  isplitl [Hj]; · iexact Hj
  isplitl [Hd] <;> iassumption

theorem over_start : Over 1 (sumRs c ord1 + (sumRs c ord2 + sumAg c 1 15)) :=
  (over_sumRs c _ (by decide)).add ((over_sumRs c _ (by decide)).add (over_sumAg (by decide) _ _ _))

end Cert.KernelIdeal.Talk
-- ==== Proof.Body.lean ====
/-
  The body on one device, put together from its parts.
-/
module

public import proofs.«01_k».proof.Proof.Start

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

abbrev P53 := k0_part53 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
abbrev PB := cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

variable (J : Dev nD → Ins F) (κ : GSem nD τ sig → ℕ) (c : Dev nD)

set_option maxHeartbeats 4000000 in
/-- All of the body but its last waits. -/
theorem wp53 {Q : _ → Prp F} :
    iprop(Invs (cont J) κ ∗ levAts LL lv ∗ reached ER (rsSendCell c) 0 ∗ reached ER (agSendCell c) 0 ∗ owing c (O₀ c) ∗ barKits c 1 15 ∗ cred (tallyAt (barCell c) 1 15) ∗ atPos ER (barCell c) 0 ∅ 0 ∗ ins c (J c) ∗ start0 c)
      ⊢ iprop(((owing c 0 ∗ atPos ER (barCell c) 1 ∅ 0 ∗ ins c (J c) ∗ rsFins (cont J) c all15 ∗ owns (c.tc : Thread nD τ) srcA (sh 15) ((cont J).red c) ∗ owns (c.tc : Thread nD τ) (outM c) fullShare (ownOf (own J c) (peer J c)) ∗ agFins J c [14, 13, 12, 11, 10, 9, 8, 7, 6, 5, 4, 3, 2, 1, 0] ∗ owns (c.tc : Thread nD τ) (accM c) fullShare ((cont J).val c c) ∗ rsDr (cont J) c 13 2 ∗ agDr (cont J) c 13 2) -∗ Q ⟨⟩) -∗ WP c P53 Q) := by
  unfold P53
  rw [k0_part53_eq_skeleton]
  unfold k0_part53_skel
  iintro ⟨#HI, #Hl, #HrS, #HrA, HO, Hbk, Hbc, Hbp, Hin, Hst0⟩ HK
  iapply wpBind
  iapply (wp23 J κ c (sumRs c ord1 + (sumRs c ord2 + sumAg c 1 15))) $$ [HO Hbk]
  · isplitr; · iexact HI
    isplitr; · iexact Hl
    isplitr; · iexact HrS
    isplitr; · iexact HrA
    isplitl [HO]; · iexact HO
    iexact Hbk
  iintro ⟨HO, Hbk⟩
  try dsimp only
  iapply wpBind
  iapply (wp24 J κ c (sumRs c ord1 + (sumRs c ord2 + sumAg c 1 15)) _ _ _) $$ [HO Hbk]
  · isplitr; · iexact HI
    isplitr; · iexact Hl
    isplitr; · iexact HrS
    isplitr; · iexact HrA
    isplitl [HO]; · iexact HO
    iexact Hbk
  iintro ⟨HO, Hbk⟩
  try dsimp only
  iapply wpBind
  iapply (wp25 J κ c (sumRs c ord1 + (sumRs c ord2 + sumAg c 1 15)) (over_start c) _ _ _) $$ [HO Hbk Hbc Hbp Hin]
  · isplitr; · iexact HI
    isplitr; · iexact Hl
    isplitr; · iexact HrS
    isplitr; · iexact HrA
    isplitl [HO]; · iexact HO
    isplitl [Hbk]; · iexact Hbk
    isplitl [Hbc]; · iexact Hbc
    isplitl [Hbp]; · iexact Hbp
    iexact Hin
  iintro ⟨HO, Hbk, Hbp, Hall, Hin⟩
  try dsimp only
  ihave H := (start_ready c) $$ [Hall Hst0]
  · isplitl [Hall]; · iexact Hall
    iexact Hst0
  icases H with ⟨Hj, Hred, Hgj, Hd, He⟩
  ihave Hout := (show (iprop(emp) : Prp F) ⊢ outs (cont J) c [] from .rfl) $$ []
  · iempintro
  ihave Hfin := (show (iprop(emp) : Prp F) ⊢ agFins J c [] from .rfl) $$ []
  · iempintro
  iapply wpBind
  iapply (wp26 J κ c ) $$ [Hin]
  · isplitr; · iexact HI
    isplitr; · iexact Hl
    isplitr; · iexact HrS
    isplitr; · iexact HrA
    iexact Hin
  iintro Hin
  try dsimp only
  ihave Hj := (jobs_uncons c 0 [4, 1, 5, 2, 6, 3, 7, 8, 12, 9, 13, 10, 14, 11, 15]) $$ Hj
  icases Hj with ⟨⟨%X0, Ha0⟩, Hk0, Hj⟩
  ihave Hj := (jobs_uncons c 4 [1, 5, 2, 6, 3, 7, 8, 12, 9, 13, 10, 14, 11, 15]) $$ Hj
  icases Hj with ⟨⟨%X4, Ha4⟩, Hk4, Hj⟩
  iapply wpBind
  iapply (wp27 J κ c (sumRs c ord2 + sumAg c 1 15) [1, 5, 2, 6, 3, 7] X0 X4 _) $$ [Ha0 Ha4 HO Hk0 Hk4 Hin]
  · isplitr; · iexact HI
    isplitr; · iexact Hl
    isplitr; · iexact HrS
    isplitr; · iexact HrA
    isplitl [Ha0]; · iexact Ha0
    isplitl [Ha4]; · iexact Ha4
    isplitl [HO]; · iexact HO
    isplitl [Hk0]; · iexact Hk0
    isplitl [Hk4]; · iexact Hk4
    iexact Hin
  iintro ⟨Ha0, Ha4, HO, Hin⟩
  try dsimp only
  ihave Hout := (outs_cons (cont J) c 0 []) $$ [Ha0 Hout]
  · isplitl [Ha0]; · iexact Ha0
    iexact Hout
  ihave Hout := (outs_cons (cont J) c 4 [0]) $$ [Ha4 Hout]
  · isplitl [Ha4]; · iexact Ha4
    iexact Hout
  ihave Hj := (jobs_uncons c 1 [5, 2, 6, 3, 7, 8, 12, 9, 13, 10, 14, 11, 15]) $$ Hj
  icases Hj with ⟨⟨%X1, Ha1⟩, Hk1, Hj⟩
  iapply wpBind
  iapply (wp28 J κ c X1) $$ [Hin Ha1]
  · isplitr; · iexact HI
    isplitr; · iexact Hl
    isplitr; · iexact HrS
    isplitr; · iexact HrA
    isplitl [Hin]; · iexact Hin
    iexact Ha1
  iintro ⟨Hin, Ha1⟩
  try dsimp only
  ihave Hj := (jobs_uncons c 5 [2, 6, 3, 7, 8, 12, 9, 13, 10, 14, 11, 15]) $$ Hj
  icases Hj with ⟨⟨%X5, Ha5⟩, Hk5, Hj⟩
  iapply wpBind
  iapply (wp29 J κ c (sumRs c ord2 + sumAg c 1 15) [2, 6, 3, 7] X5 _) $$ [Ha5 HO Ha1 Hk1 Hk5 Hin]
  · isplitr; · iexact HI
    isplitr; · iexact Hl
    isplitr; · iexact HrS
    isplitr; · iexact HrA
    isplitl [Ha5]; · iexact Ha5
    isplitl [HO]; · iexact HO
    isplitl [Ha1]; · iexact Ha1
    isplitl [Hk1]; · iexact Hk1
    isplitl [Hk5]; · iexact Hk5
    iexact Hin
  iintro ⟨Ha5, HO, Ha1, Hin⟩
  try dsimp only
  ihave Hout := (outs_cons (cont J) c 1 [4, 0]) $$ [Ha1 Hout]
  · isplitl [Ha1]; · iexact Ha1
    iexact Hout
  ihave Hout := (outs_cons (cont J) c 5 [1, 4, 0]) $$ [Ha5 Hout]
  · isplitl [Ha5]; · iexact Ha5
    iexact Hout
  ihave Hj := (jobs_uncons c 2 [6, 3, 7, 8, 12, 9, 13, 10, 14, 11, 15]) $$ Hj
  icases Hj with ⟨⟨%X2, Ha2⟩, Hk2, Hj⟩
  ihave Hj := (jobs_uncons c 6 [3, 7, 8, 12, 9, 13, 10, 14, 11, 15]) $$ Hj
  icases Hj with ⟨⟨%X6, Ha6⟩, Hk6, Hj⟩
  iapply wpBind
  iapply (wp30 J κ c (sumRs c ord2 + sumAg c 1 15) [3, 7] X2 X6 _) $$ [Ha2 Ha6 HO Hk2 Hk6 Hin]
  · isplitr; · iexact HI
    isplitr; · iexact Hl
    isplitr; · iexact HrS
    isplitr; · iexact HrA
    isplitl [Ha2]; · iexact Ha2
    isplitl [Ha6]; · iexact Ha6
    isplitl [HO]; · iexact HO
    isplitl [Hk2]; · iexact Hk2
    isplitl [Hk6]; · iexact Hk6
    iexact Hin
  iintro ⟨Ha2, Ha6, HO, Hin⟩
  try dsimp only
  ihave Hout := (outs_cons (cont J) c 2 [5, 1, 4, 0]) $$ [Ha2 Hout]
  · isplitl [Ha2]; · iexact Ha2
    iexact Hout
  ihave Hout := (outs_cons (cont J) c 6 [2, 5, 1, 4, 0]) $$ [Ha6 Hout]
  · isplitl [Ha6]; · iexact Ha6
    iexact Hout
  ihave Hj := (jobs_uncons c 3 [7, 8, 12, 9, 13, 10, 14, 11, 15]) $$ Hj
  icases Hj with ⟨⟨%X3, Ha3⟩, Hk3, Hj⟩
  iapply wpBind
  iapply (wp31 J κ c X3) $$ [Hin Ha3]
  · isplitr; · iexact HI
    isplitr; · iexact Hl
    isplitr; · iexact HrS
    isplitr; · iexact HrA
    isplitl [Hin]; · iexact Hin
    iexact Ha3
  iintro ⟨Hin, Ha3⟩
  try dsimp only
  ihave Hj := (jobs_uncons c 7 [8, 12, 9, 13, 10, 14, 11, 15]) $$ Hj
  icases Hj with ⟨⟨%X7, Ha7⟩, Hk7, Hj⟩
  iapply wpBind
  iapply (wp32 J κ c X3 X7 _) $$ [Ha3 Ha7 HO Hk3 Hk7 Hout Hred Hin]
  · isplitr; · iexact HI
    isplitr; · iexact Hl
    isplitr; · iexact HrS
    isplitr; · iexact HrA
    isplitl [Ha3]; · iexact Ha3
    isplitl [Ha7]; · iexact Ha7
    isplitl [HO]; · iexact HO
    isplitl [Hk3]; · iexact Hk3
    isplitl [Hk7]; · iexact Hk7
    isplitl [Hout]; · iexact Hout
    isplitl [Hred]; · iexact Hred
    iexact Hin
  iintro ⟨Hout, HO, Hred, Hin⟩
  try dsimp only
  iapply wpBind
  iapply (wp33 J κ c ) $$ [Hin]
  · isplitr; · iexact HI
    isplitr; · iexact Hl
    isplitr; · iexact HrS
    isplitr; · iexact HrA
    iexact Hin
  iintro Hin
  try dsimp only
  ihave Hj := (jobs_uncons c 8 [12, 9, 13, 10, 14, 11, 15]) $$ Hj
  icases Hj with ⟨⟨%X8, Ha8⟩, Hk8, Hj⟩
  ihave Hj := (jobs_uncons c 12 [9, 13, 10, 14, 11, 15]) $$ Hj
  icases Hj with ⟨⟨%X12, Ha12⟩, Hk12, Hj⟩
  iapply wpBind
  iapply (wp34 J κ c (owedAg c) [9, 13, 10, 14, 11, 15] X8 X12 _) $$ [Ha8 Ha12 HO Hk8 Hk12 Hin]
  · isplitr; · iexact HI
    isplitr; · iexact Hl
    isplitr; · iexact HrS
    isplitr; · iexact HrA
    isplitl [Ha8]; · iexact Ha8
    isplitl [Ha12]; · iexact Ha12
    isplitl [HO]; · iexact HO
    isplitl [Hk8]; · iexact Hk8
    isplitl [Hk12]; · iexact Hk12
    iexact Hin
  iintro ⟨Ha8, Ha12, HO, Hin⟩
  try dsimp only
  ihave Hout := (outs_cons (cont J) c 8 [7, 3, 6, 2, 5, 1, 4, 0]) $$ [Ha8 Hout]
  · isplitl [Ha8]; · iexact Ha8
    iexact Hout
  ihave Hout := (outs_cons (cont J) c 12 [8, 7, 3, 6, 2, 5, 1, 4, 0]) $$ [Ha12 Hout]
  · isplitl [Ha12]; · iexact Ha12
    iexact Hout
  ihave Hj := (jobs_uncons c 9 [13, 10, 14, 11, 15]) $$ Hj
  icases Hj with ⟨⟨%X9, Ha9⟩, Hk9, Hj⟩
  ihave Hj := (jobs_uncons c 13 [10, 14, 11, 15]) $$ Hj
  icases Hj with ⟨⟨%X13, Ha13⟩, Hk13, Hj⟩
  iapply wpBind
  iapply (wp35 J κ c (owedAg c) [10, 14, 11, 15] X9 X13 _) $$ [Ha9 Ha13 HO Hk9 Hk13]
  · isplitr; · iexact HI
    isplitr; · iexact Hl
    isplitr; · iexact HrS
    isplitr; · iexact HrA
    isplitl [Ha9]; · iexact Ha9
    isplitl [Ha13]; · iexact Ha13
    isplitl [HO]; · iexact HO
    isplitl [Hk9]; · iexact Hk9
    iexact Hk13
  iintro ⟨Ha9, Ha13, HO⟩
  try dsimp only
  ihave Hout := (outs_cons (cont J) c 9 [12, 8, 7, 3, 6, 2, 5, 1, 4, 0]) $$ [Ha9 Hout]
  · isplitl [Ha9]; · iexact Ha9
    iexact Hout
  ihave Hout := (outs_cons (cont J) c 13 [9, 12, 8, 7, 3, 6, 2, 5, 1, 4, 0]) $$ [Ha13 Hout]
  · isplitl [Ha13]; · iexact Ha13
    iexact Hout
  iapply wpBind
  iapply (wp36 J κ c ) $$ [Hin]
  · isplitr; · iexact HI
    isplitr; · iexact Hl
    isplitr; · iexact HrS
    isplitr; · iexact HrA
    iexact Hin
  iintro Hin
  try dsimp only
  ihave Hj := (jobs_uncons c 10 [14, 11, 15]) $$ Hj
  icases Hj with ⟨⟨%X10, Ha10⟩, Hk10, Hj⟩
  ihave Hj := (jobs_uncons c 14 [11, 15]) $$ Hj
  icases Hj with ⟨⟨%X14, Ha14⟩, Hk14, Hj⟩
  iapply wpBind
  iapply (wp37 J κ c (owedAg c) [11, 15] X10 X14 _) $$ [Ha10 Ha14 HO Hk10 Hk14 Hin]
  · isplitr; · iexact HI
    isplitr; · iexact Hl
    isplitr; · iexact HrS
    isplitr; · iexact HrA
    isplitl [Ha10]; · iexact Ha10
    isplitl [Ha14]; · iexact Ha14
    isplitl [HO]; · iexact HO
    isplitl [Hk10]; · iexact Hk10
    isplitl [Hk14]; · iexact Hk14
    iexact Hin
  iintro ⟨Ha10, Ha14, HO, Hin⟩
  try dsimp only
  ihave Hout := (outs_cons (cont J) c 10 [13, 9, 12, 8, 7, 3, 6, 2, 5, 1, 4, 0]) $$ [Ha10 Hout]
  · isplitl [Ha10]; · iexact Ha10
    iexact Hout
  ihave Hout := (outs_cons (cont J) c 14 [10, 13, 9, 12, 8, 7, 3, 6, 2, 5, 1, 4, 0]) $$ [Ha14 Hout]
  · isplitl [Ha14]; · iexact Ha14
    iexact Hout
  ihave Hj := (jobs_uncons c 11 [15]) $$ Hj
  icases Hj with ⟨⟨%X11, Ha11⟩, Hk11, Hj⟩
  ihave Hj := (jobs_uncons c 15 []) $$ Hj
  icases Hj with ⟨⟨%X15, Ha15⟩, Hk15, Hj⟩
  iapply wpBind
  iapply (wp38 J κ c (owedAg c) [15] X11 X15 _) $$ [Ha11 Ha15 HO Hk11]
  · isplitr; · iexact HI
    isplitr; · iexact Hl
    isplitr; · iexact HrS
    isplitr; · iexact HrA
    isplitl [Ha11]; · iexact Ha11
    isplitl [Ha15]; · iexact Ha15
    isplitl [HO]; · iexact HO
    iexact Hk11
  iintro ⟨Ha11, Ha15, HO⟩
  try dsimp only
  ihave Hout := (outs_cons (cont J) c 11 [14, 10, 13, 9, 12, 8, 7, 3, 6, 2, 5, 1, 4, 0]) $$ [Ha11 Hout]
  · isplitl [Ha11]; · iexact Ha11
    iexact Hout
  ihave Hgj := (agJobs_uncons c 0 [1, 2, 3, 4, 5, 6, 7, 8, 9, 10, 11, 12, 13, 14]) $$ Hgj
  icases Hgj with ⟨Hv0, ⟨%Z0, Ho0⟩, Hgj⟩
  iapply wpBind
  iapply (wp39 J κ c Z0 _ _) $$ [Ha15 HO Hk15 Hout Hred Hv0 Ho0]
  · isplitr; · iexact HI
    isplitr; · iexact Hl
    isplitr; · iexact HrS
    isplitr; · iexact HrA
    isplitl [Ha15]; · iexact Ha15
    isplitl [HO]; · iexact HO
    isplitl [Hk15]; · iexact Hk15
    isplitl [Hout]; · iexact Hout
    isplitl [Hred]; · iexact Hred
    isplitl [Hv0]; · iexact Hv0
    iexact Ho0
  iintro ⟨Hout, HO, Hred, Hf0⟩
  try dsimp only
  ihave Hfin := (agFins_cons J c 0 []) $$ [Hf0 Hfin]
  · isplitl [Hf0]; · iexact Hf0
    iexact Hfin
  ihave Hgj := (agJobs_uncons c 1 [2, 3, 4, 5, 6, 7, 8, 9, 10, 11, 12, 13, 14]) $$ Hgj
  icases Hgj with ⟨Hv1, ⟨%Z1, Ho1⟩, Hgj⟩
  ihave Hgj := (agJobs_uncons c 2 [3, 4, 5, 6, 7, 8, 9, 10, 11, 12, 13, 14]) $$ Hgj
  icases Hgj with ⟨Hv2, ⟨%Z2, Ho2⟩, Hgj⟩
  iapply wpBind
  iapply (wp40 J κ c Z1 _) $$ [HO Hv1 Ho1 Hv2]
  · isplitr; · iexact HI
    isplitr; · iexact Hl
    isplitr; · iexact HrS
    isplitr; · iexact HrA
    isplitl [HO]; · iexact HO
    isplitl [Hv1]; · iexact Hv1
    isplitl [Ho1]; · iexact Ho1
    iexact Hv2
  iintro ⟨HO, Hq2, Hg2, Hf1⟩
  try dsimp only
  ihave Hfin := (agFins_cons J c 1 [0]) $$ [Hf1 Hfin]
  · isplitl [Hf1]; · iexact Hf1
    iexact Hfin
  ihave Hgj := (agJobs_uncons c 3 [4, 5, 6, 7, 8, 9, 10, 11, 12, 13, 14]) $$ Hgj
  icases Hgj with ⟨Hv3, ⟨%Z3, Ho3⟩, Hgj⟩
  iapply wpBind
  iapply (wp41 J κ c Z2 Z3 _ _) $$ [Hg2 Ho2 Hq2 HO Hv3 Ho3]
  · isplitr; · iexact HI
    isplitr; · iexact Hl
    isplitr; · iexact HrS
    isplitr; · iexact HrA
    isplitl [Hg2]; · iexact Hg2
    isplitl [Ho2]; · iexact Ho2
    isplitl [Hq2]; · iexact Hq2
    isplitl [HO]; · iexact HO
    isplitl [Hv3]; · iexact Hv3
    iexact Ho3
  iintro ⟨HO, Hq3, Hg3, Ho3, Hf2⟩
  try dsimp only
  ihave Hfin := (agFins_cons J c 2 [1, 0]) $$ [Hf2 Hfin]
  · isplitl [Hf2]; · iexact Hf2
    iexact Hfin
  ihave Hgj := (agJobs_uncons c 4 [5, 6, 7, 8, 9, 10, 11, 12, 13, 14]) $$ Hgj
  icases Hgj with ⟨Hv4, ⟨%Z4, Ho4⟩, Hgj⟩
  iapply wpBind
  iapply (wp42 J κ c Z3 Z4 _) $$ [Ho3 Hq3 Hg3 HO Hv4 Ho4]
  · isplitr; · iexact HI
    isplitr; · iexact Hl
    isplitr; · iexact HrS
    isplitr; · iexact HrA
    isplitl [Ho3]; · iexact Ho3
    isplitl [Hq3]; · iexact Hq3
    isplitl [Hg3]; · iexact Hg3
    isplitl [HO]; · iexact HO
    isplitl [Hv4]; · iexact Hv4
    iexact Ho4
  iintro ⟨HO, Hf3, Hf4⟩
  try dsimp only
  ihave Hfin := (agFins_cons J c 3 [2, 1, 0]) $$ [Hf3 Hfin]
  · isplitl [Hf3]; · iexact Hf3
    iexact Hfin
  ihave Hfin := (agFins_cons J c 4 [3, 2, 1, 0]) $$ [Hf4 Hfin]
  · isplitl [Hf4]; · iexact Hf4
    iexact Hfin
  ihave Hgj := (agJobs_uncons c 5 [6, 7, 8, 9, 10, 11, 12, 13, 14]) $$ Hgj
  icases Hgj with ⟨Hv5, ⟨%Z5, Ho5⟩, Hgj⟩
  ihave Hgj := (agJobs_uncons c 6 [7, 8, 9, 10, 11, 12, 13, 14]) $$ Hgj
  icases Hgj with ⟨Hv6, ⟨%Z6, Ho6⟩, Hgj⟩
  iapply wpBind
  iapply (wp43 J κ c Z5 _) $$ [HO Hv5 Ho5 Hv6]
  · isplitr; · iexact HI
    isplitr; · iexact Hl
    isplitr; · iexact HrS
    isplitr; · iexact HrA
    isplitl [HO]; · iexact HO
    isplitl [Hv5]; · iexact Hv5
    isplitl [Ho5]; · iexact Ho5
    iexact Hv6
  iintro ⟨HO, Hq6, Hg6, Hf5⟩
  try dsimp only
  ihave Hfin := (agFins_cons J c 5 [4, 3, 2, 1, 0]) $$ [Hf5 Hfin]
  · isplitl [Hf5]; · iexact Hf5
    iexact Hfin
  ihave Hgj := (agJobs_uncons c 7 [8, 9, 10, 11, 12, 13, 14]) $$ Hgj
  icases Hgj with ⟨Hv7, ⟨%Z7, Ho7⟩, Hgj⟩
  iapply wpBind
  iapply (wp44 J κ c Z6 Z7 _ _ _) $$ [Ho6 Hq6 Hg6 HO Hv7 Ho7]
  · isplitr; · iexact HI
    isplitr; · iexact Hl
    isplitr; · iexact HrS
    isplitr; · iexact HrA
    isplitl [Ho6]; · iexact Ho6
    isplitl [Hq6]; · iexact Hq6
    isplitl [Hg6]; · iexact Hg6
    isplitl [HO]; · iexact HO
    isplitl [Hv7]; · iexact Hv7
    iexact Ho7
  iintro ⟨HO, Hf6, Hf7⟩
  try dsimp only
  ihave Hfin := (agFins_cons J c 6 [5, 4, 3, 2, 1, 0]) $$ [Hf6 Hfin]
  · isplitl [Hf6]; · iexact Hf6
    iexact Hfin
  ihave Hfin := (agFins_cons J c 7 [6, 5, 4, 3, 2, 1, 0]) $$ [Hf7 Hfin]
  · isplitl [Hf7]; · iexact Hf7
    iexact Hfin
  ihave Hgj := (agJobs_uncons c 8 [9, 10, 11, 12, 13, 14]) $$ Hgj
  icases Hgj with ⟨Hv8, ⟨%Z8, Ho8⟩, Hgj⟩
  ihave Hgj := (agJobs_uncons c 9 [10, 11, 12, 13, 14]) $$ Hgj
  icases Hgj with ⟨Hv9, ⟨%Z9, Ho9⟩, Hgj⟩
  iapply wpBind
  iapply (wp45 J κ c Z8 _ _ _) $$ [HO Hv8 Ho8 Hv9]
  · isplitr; · iexact HI
    isplitr; · iexact Hl
    isplitr; · iexact HrS
    isplitr; · iexact HrA
    isplitl [HO]; · iexact HO
    isplitl [Hv8]; · iexact Hv8
    isplitl [Ho8]; · iexact Ho8
    iexact Hv9
  iintro ⟨HO, Hq9, Hg9, Hf8⟩
  try dsimp only
  ihave Hfin := (agFins_cons J c 8 [7, 6, 5, 4, 3, 2, 1, 0]) $$ [Hf8 Hfin]
  · isplitl [Hf8]; · iexact Hf8
    iexact Hfin
  ihave Hgj := (agJobs_uncons c 10 [11, 12, 13, 14]) $$ Hgj
  icases Hgj with ⟨Hv10, ⟨%Z10, Ho10⟩, Hgj⟩
  iapply wpBind
  iapply (wp46 J κ c Z9 Z10 _ _ _) $$ [Hg9 Ho9 Hq9 HO Hv10 Ho10]
  · isplitr; · iexact HI
    isplitr; · iexact Hl
    isplitr; · iexact HrS
    isplitr; · iexact HrA
    isplitl [Hg9]; · iexact Hg9
    isplitl [Ho9]; · iexact Ho9
    isplitl [Hq9]; · iexact Hq9
    isplitl [HO]; · iexact HO
    isplitl [Hv10]; · iexact Hv10
    iexact Ho10
  iintro ⟨HO, Hq10, Hg10, Ho10, Hf9⟩
  try dsimp only
  ihave Hfin := (agFins_cons J c 9 [8, 7, 6, 5, 4, 3, 2, 1, 0]) $$ [Hf9 Hfin]
  · isplitl [Hf9]; · iexact Hf9
    iexact Hfin
  ihave Hgj := (agJobs_uncons c 11 [12, 13, 14]) $$ Hgj
  icases Hgj with ⟨Hv11, ⟨%Z11, Ho11⟩, Hgj⟩
  iapply wpBind
  iapply (wp47 J κ c Z10 Z11 _ _) $$ [Ho10 Hq10 Hg10 HO Hv11 Ho11]
  · isplitr; · iexact HI
    isplitr; · iexact Hl
    isplitr; · iexact HrS
    isplitr; · iexact HrA
    isplitl [Ho10]; · iexact Ho10
    isplitl [Hq10]; · iexact Hq10
    isplitl [Hg10]; · iexact Hg10
    isplitl [HO]; · iexact HO
    isplitl [Hv11]; · iexact Hv11
    iexact Ho11
  iintro ⟨HO, Hf10, Hf11⟩
  try dsimp only
  ihave Hfin := (agFins_cons J c 10 [9, 8, 7, 6, 5, 4, 3, 2, 1, 0]) $$ [Hf10 Hfin]
  · isplitl [Hf10]; · iexact Hf10
    iexact Hfin
  ihave Hfin := (agFins_cons J c 11 [10, 9, 8, 7, 6, 5, 4, 3, 2, 1, 0]) $$ [Hf11 Hfin]
  · isplitl [Hf11]; · iexact Hf11
    iexact Hfin
  ihave Hgj := (agJobs_uncons c 12 [13, 14]) $$ Hgj
  icases Hgj with ⟨Hv12, ⟨%Z12, Ho12⟩, Hgj⟩
  ihave Hgj := (agJobs_uncons c 13 [14]) $$ Hgj
  icases Hgj with ⟨Hv13, ⟨%Z13, Ho13⟩, Hgj⟩
  iapply wpBind
  iapply (wp48 J κ c Z12 _) $$ [HO Hv12 Ho12 Hv13]
  · isplitr; · iexact HI
    isplitr; · iexact Hl
    isplitr; · iexact HrS
    isplitr; · iexact HrA
    isplitl [HO]; · iexact HO
    isplitl [Hv12]; · iexact Hv12
    isplitl [Ho12]; · iexact Ho12
    iexact Hv13
  iintro ⟨HO, Hq13, Hg13, Hf12⟩
  try dsimp only
  ihave Hfin := (agFins_cons J c 12 [11, 10, 9, 8, 7, 6, 5, 4, 3, 2, 1, 0]) $$ [Hf12 Hfin]
  · isplitl [Hf12]; · iexact Hf12
    iexact Hfin
  ihave Hgj := (agJobs_uncons c 14 []) $$ Hgj
  icases Hgj with ⟨Hv14, ⟨%Z14, Ho14⟩, Hgj⟩
  iapply wpBind
  iapply (wp49 J κ c Z13 Z14 _ _ _) $$ [Ho13 Hq13 Hg13 HO Hv14 Ho14]
  · isplitr; · iexact HI
    isplitr; · iexact Hl
    isplitr; · iexact HrS
    isplitr; · iexact HrA
    isplitl [Ho13]; · iexact Ho13
    isplitl [Hq13]; · iexact Hq13
    isplitl [Hg13]; · iexact Hg13
    isplitl [HO]; · iexact HO
    isplitl [Hv14]; · iexact Hv14
    iexact Ho14
  iintro ⟨HO, Hf13, Hf14⟩
  try dsimp only
  ihave Hfin := (agFins_cons J c 13 [12, 11, 10, 9, 8, 7, 6, 5, 4, 3, 2, 1, 0]) $$ [Hf13 Hfin]
  · isplitl [Hf13]; · iexact Hf13
    iexact Hfin
  ihave Hfin := (agFins_cons J c 14 [13, 12, 11, 10, 9, 8, 7, 6, 5, 4, 3, 2, 1, 0]) $$ [Hf14 Hfin]
  · isplitl [Hf14]; · iexact Hf14
    iexact Hfin
  ihave Hout := (outs_all (cont J) c (n := 15) (mem_all c) (by decide) rfl) $$ Hout
  icases Hout with ⟨Hown, Hcr⟩
  ihave Hred := (show redOut J c ⊢ iprop(rsFins (cont J) c all15 ∗ owns (c.tc : Thread nD τ) srcA (sh 15) ((cont J).red c) ∗ creds (agSendCell c) 15 ∗ owns (c.tc : Thread nD τ) (outM c) fullShare (ownOf (own J c) (peer J c))) from .rfl) $$ Hred
  icases Hred with ⟨Hrf, Hs, Hca, Hoo⟩
  ihave Hdr := (show iprop(drained ER (Rd (cont J)) (rsSendCell c) 0 N 0 ∗ creds (rsSendCell c) 15) ⊢ rsDr (cont J) c 0 15 from .rfl) $$ [Hd Hcr]
  · isplitl [Hd]
    · iapply drained_zero; iexact Hd
    iexact Hcr
  ihave Hda := (show iprop(drained ER (Rd (cont J)) (agSendCell c) 0 N 0 ∗ creds (agSendCell c) 15) ⊢ agDr (cont J) c 0 15 from .rfl) $$ [He Hca]
  · isplitl [He]
    · iapply drained_zero; iexact He
    iexact Hca
  iapply wpBind
  iapply (wp50 J κ c ) $$ [HO Hdr Hda]
  · isplitr; · iexact HI
    isplitr; · iexact Hl
    isplitr; · iexact HrS
    isplitr; · iexact HrA
    isplitl [HO]; · iexact HO
    isplitl [Hdr]; · iexact Hdr
    iexact Hda
  iintro ⟨HO, Hdr, Hda⟩
  try dsimp only
  iapply wpBind
  iapply (wp51 J κ c ) $$ [HO Hdr Hda]
  · isplitr; · iexact HI
    isplitr; · iexact Hl
    isplitr; · iexact HrS
    isplitr; · iexact HrA
    isplitl [HO]; · iexact HO
    isplitl [Hdr]; · iexact Hdr
    iexact Hda
  iintro ⟨HO, Hdr, Hda⟩
  try dsimp only
  iapply wpBind
  iapply (wp52 J κ c ) $$ [HO Hda Hdr]
  · isplitr; · iexact HI
    isplitr; · iexact Hl
    isplitr; · iexact HrS
    isplitr; · iexact HrA
    isplitl [HO]; · iexact HO
    isplitl [Hda]; · iexact Hda
    iexact Hdr
  iintro ⟨HO, Hda, Hdr⟩
  try dsimp only
  simp only [Prog.lift, Prog.bind_op, Prog.bind_ret, Prog.pure_eq_ret]
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (wpDone c rfl)
  iapply HK
  isplitl [HO]; · iexact HO
  isplitl [Hbp]; · iexact Hbp
  isplitl [Hin]; · iexact Hin
  isplitl [Hrf]; · iexact Hrf
  isplitl [Hs]; · iexact Hs
  isplitl [Hoo]; · iexact Hoo
  isplitl [Hfin]; · iexact Hfin
  isplitl [Hown]; · iexact Hown
  isplitl [Hdr]; · iexact Hdr
  iexact Hda

/-- The body on device c, from what the launch hands it to what it leaves. -/
theorem wpBody {Q : _ → Prp F} :
    iprop(Invs (cont J) κ ∗ levAts LL lv ∗ reached ER (rsSendCell c) 0 ∗ reached ER (agSendCell c) 0 ∗ owing c (O₀ c) ∗ barKits c 1 15 ∗ cred (tallyAt (barCell c) 1 15) ∗ atPos ER (barCell c) 0 ∅ 0 ∗ ins c (J c) ∗ start0 c)
      ⊢ iprop(((owing c 0 ∗ atPos ER (barCell c) 1 ∅ 0 ∗ ins c (J c) ∗ end0 J c) -∗ Q ⟨⟩) -∗ WP c PB Q) := by
  unfold PB
  rw [cc0__body_eq_skeleton]
  unfold cc0__body_skel
  iintro ⟨#HI, #Hl, #HrS, #HrA, Hpre⟩ HK
  iapply wpBind
  iapply (wp53 J κ c) $$ [Hpre]
  · isplitr; · iexact HI
    isplitr; · iexact Hl
    isplitr; · iexact HrS
    isplitr; · iexact HrA
    iexact Hpre
  iintro ⟨HO, Hbp, Hin, Hrf, Hs, Hoo, Hfin, Hown, Hdr, Hda⟩
  simp only [Prog.lift, Prog.bind_op, Prog.bind_ret, Prog.pure_eq_ret]
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (rsDone (cont J) κ c) $$ [HO Hdr]
  · isplitr; · iexact HI
    isplitr; · iexact Hl
    isplitl [HO]; · iexact HO
    iexact Hdr
  iintro ⟨HO, Hdr⟩
  iapply (agDone (cont J) κ c) $$ [HO Hda]
  · isplitr; · iexact HI
    isplitr; · iexact Hl
    isplitl [HO]; · iexact HO
    iexact Hda
  iintro ⟨HO, Hda⟩
  iapply (wpDone c rfl)
  iapply HK
  ihave Hdr := (show rsDr (cont J) c 15 0 ⊢ iprop(drained ER (Rd (cont J)) (rsSendCell c) 0 N 15 ∗ creds (rsSendCell c) 0) from .rfl) $$ Hdr
  icases Hdr with ⟨Hdr, _⟩
  ihave Hda := (show agDr (cont J) c 15 0 ⊢ iprop(drained ER (Rd (cont J)) (agSendCell c) 0 N 15 ∗ creds (agSendCell c) 0) from .rfl) $$ Hda
  icases Hda with ⟨Hda, _⟩
  isplitl [HO]; · iexact HO
  isplitl [Hbp]; · iexact Hbp
  isplitl [Hin]; · iexact Hin
  unfold end0
  isplitl [Hrf]; · iexact Hrf
  isplitl [Hs]; · iexact Hs
  isplitl [Hoo]; · iexact Hoo
  isplitl [Hfin]; · iexact Hfin
  isplitl [Hown]; · iexact Hown
  isplitl [Hdr]; · iexact Hdr
  iexact Hda

end Cert.KernelIdeal.Talk
-- ==== Proof.Split.lean ====
/-
  The buffers split into chunks and slots, and joined again.
-/
module

public import proofs.«01_k».proof.Proof.Body

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (J : Dev nD → Ins F) (C : Cont F) (c : Dev nD)

/-! ## The rectangles -/

theorem acc_disj : ∀ t t' : Fin 16, t ≠ t' → Disjoint (rAcc t).set (rAcc t').set := fun t t' h => by
  rw [Finset.disjoint_left]
  intro i h1 h2
  have a : t.val ≤ (i 0).val ∧ (i 0).val < t.val + 1 := Rect.mem_set_unit.mp h1 0
  have b : t'.val ≤ (i 0).val ∧ (i 0).val < t'.val + 1 := Rect.mem_set_unit.mp h2 0
  exact h (Fin.ext (by omega))
theorem slot_disj : ∀ t t' : Fin 15, t ≠ t' → Disjoint (rSlot t).set (rSlot t').set := fun t t' h => by
  rw [Finset.disjoint_left]
  intro i h1 h2
  have a : t.val ≤ (i 0).val ∧ (i 0).val < t.val + 1 := Rect.mem_set_unit.mp h1 0
  have b : t'.val ≤ (i 0).val ∧ (i 0).val < t'.val + 1 := Rect.mem_set_unit.mp h2 0
  exact h (Fin.ext (by omega))
theorem out_disj : ∀ t t' : Fin 16, t ≠ t' → Disjoint (rOut t).set (rOut t').set := fun t t' h => by
  rw [Finset.disjoint_left]
  intro i h1 h2
  have a : t.val / 8 ≤ (i 0).val ∧ (i 0).val < t.val / 8 + 1 := Rect.mem_set_unit.mp h1 0
  have b : t'.val / 8 ≤ (i 0).val ∧ (i 0).val < t'.val / 8 + 1 := Rect.mem_set_unit.mp h2 0
  have a' : 64 * (t.val % 8) ≤ (i 1).val ∧ (i 1).val < 64 * (t.val % 8) + 64 := Rect.mem_set_unit.mp h1 1
  have b' : 64 * (t'.val % 8) ≤ (i 1).val ∧ (i 1).val < 64 * (t'.val % 8) + 64 := Rect.mem_set_unit.mp h2 1
  exact h (Fin.ext (by omega))

theorem acc_cov : (Finset.univ : Finset (Fin 16)).biUnion (fun t => (rAcc t).set) = Finset.univ :=
  Finset.eq_univ_of_forall fun i => Finset.mem_biUnion.mpr ⟨⟨(i 0).val, (i 0).isLt⟩, Finset.mem_univ _, Rect.mem_set_unit.mpr fun a => by
    have h1 : (i 1).val < 64 := (i 1).isLt
    have h2 : (i 2).val < 768 := (i 2).isLt
    match a with
    | 0 => exact ⟨le_refl (i 0).val, Nat.lt_succ_self (i 0).val⟩
    | 1 => exact ⟨Nat.zero_le _, (show (i 1).val < 0 + 64 by omega)⟩
    | 2 => exact ⟨Nat.zero_le _, (show (i 2).val < 0 + 768 by omega)⟩⟩
theorem slot_cov : (Finset.univ : Finset (Fin 15)).biUnion (fun t => (rSlot t).set) = Finset.univ :=
  Finset.eq_univ_of_forall fun i => Finset.mem_biUnion.mpr ⟨⟨(i 0).val, (i 0).isLt⟩, Finset.mem_univ _, Rect.mem_set_unit.mpr fun a => by
    have h1 : (i 1).val < 64 := (i 1).isLt
    have h2 : (i 2).val < 768 := (i 2).isLt
    match a with
    | 0 => exact ⟨le_refl (i 0).val, Nat.lt_succ_self (i 0).val⟩
    | 1 => exact ⟨Nat.zero_le _, (show (i 1).val < 0 + 64 by omega)⟩
    | 2 => exact ⟨Nat.zero_le _, (show (i 2).val < 0 + 768 by omega)⟩⟩

/-- The chunk that an index of the output lies in, and its index there. -/
def tileOf (i : S2x512x768.Idx) : Fin 16 := ⟨8 * (i 0).val + (i 1).val / 64, by
  have h0 : (i 0).val < 2 := (i 0).isLt
  have h1 : (i 1).val < 512 := (i 1).isLt
  omega⟩
/-- An index of a chunk. -/
def chIx (r : Fin 64) (n : Fin 768) : S1x64x768.Idx := fun | 0 => (0 : Fin 1) | 1 => r | 2 => n
@[inherit_doc tileOf] def inTile (i : S2x512x768.Idx) : S1x64x768.Idx := chIx ⟨(i 1).val % 64, Nat.mod_lt _ (by decide)⟩ (i 2)

theorem out_cov : (Finset.univ : Finset (Fin 16)).biUnion (fun t => (rOut t).set) = Finset.univ :=
  Finset.eq_univ_of_forall fun i => Finset.mem_biUnion.mpr ⟨tileOf i, Finset.mem_univ _, Rect.mem_set_unit.mpr fun a => by
    have h0 : (i 0).val < 2 := (i 0).isLt
    have h1 : (i 1).val < 512 := (i 1).isLt
    have h2 : (i 2).val < 768 := (i 2).isLt
    match a with
    | 0 =>
      show (8 * (i 0).val + (i 1).val / 64) / 8 ≤ (i 0).val ∧ (i 0).val < (8 * (i 0).val + (i 1).val / 64) / 8 + 1
      omega
    | 1 =>
      show 64 * ((8 * (i 0).val + (i 1).val / 64) % 8) ≤ (i 1).val ∧ (i 1).val < 64 * ((8 * (i 0).val + (i 1).val / 64) % 8) + 64
      omega
    | 2 => exact ⟨Nat.zero_le _, (show (i 2).val < 0 + 768 by omega)⟩⟩

theorem chIx_eta (j : S1x64x768.Idx) : chIx (j 1) (j 2) = j := by
  funext a
  match a with
  | 0 => exact Fin.ext (by have h : (j 0).val < 1 := (j 0).isLt; show 0 = (j 0).val; omega)
  | 1 => rfl
  | 2 => rfl

theorem unit_emb {s : Shape} (off size : Fin s.rank → ℕ) (inb) (j : (Rect.unit off size inb).shape.Idx) (a : Fin s.rank) :
    ((Rect.unit off size inb).emb j a : ℕ) = off a + j a := by
  rw [Rect.emb_apply]; show off a + 1 * (j a : ℕ) = _; omega
theorem acc_emb (t : Fin 16) (j : S1x64x768.Idx) : ((rAcc t).emb j 0).val = t.val ∧ (rAcc t).emb j 1 = j 1 ∧ (rAcc t).emb j 2 = j 2 := by
  have h (a : Fin 3) := unit_emb (s := S16x64x768) ![t.val, 0, 0] S1x64x768.size (inb16 t) j a
  have h0 : ((rAcc t).emb j 0).val = t.val + (j 0).val := h 0
  have h1 : ((rAcc t).emb j 1).val = 0 + (j 1).val := h 1
  have h2 : ((rAcc t).emb j 2).val = 0 + (j 2).val := h 2
  have hj : (j 0).val < 1 := (j 0).isLt
  exact ⟨by omega, Fin.ext (by omega), Fin.ext (by omega)⟩
theorem slot_emb (t : Fin 15) (j : S1x64x768.Idx) : ((rSlot t).emb j 0).val = t.val ∧ (rSlot t).emb j 1 = j 1 ∧ (rSlot t).emb j 2 = j 2 := by
  have h (a : Fin 3) := unit_emb (s := S15x64x768) ![t.val, 0, 0] S1x64x768.size (inb15 t) j a
  have h0 : ((rSlot t).emb j 0).val = t.val + (j 0).val := h 0
  have h1 : ((rSlot t).emb j 1).val = 0 + (j 1).val := h 1
  have h2 : ((rSlot t).emb j 2).val = 0 + (j 2).val := h 2
  have hj : (j 0).val < 1 := (j 0).isLt
  exact ⟨by omega, Fin.ext (by omega), Fin.ext (by omega)⟩
theorem out_emb (t : Fin 16) (j : S1x64x768.Idx) : tileOf ((rOut t).emb j) = t ∧ inTile ((rOut t).emb j) = j := by
  have h (a : Fin 3) := unit_emb (s := S2x512x768) ![t.val / 8, 64 * (t.val % 8), 0] S1x64x768.size (inbOut t) j a
  have h0 : ((rOut t).emb j 0).val = t.val / 8 + (j 0).val := h 0
  have h1 : ((rOut t).emb j 1).val = 64 * (t.val % 8) + (j 1).val := h 1
  have h2 : ((rOut t).emb j 2).val = 0 + (j 2).val := h 2
  have hj : (j 0).val < 1 := (j 0).isLt
  have hj1 : (j 1).val < 64 := (j 1).isLt
  refine ⟨Fin.ext ?_, ?_⟩
  · show 8 * ((rOut t).emb j 0).val + ((rOut t).emb j 1).val / 64 = t.val
    omega
  · rw [← chIx_eta j]
    unfold inTile
    congr 1
    · exact Fin.ext (by show ((rOut t).emb (chIx (j 1) (j 2)) 1).val % 64 = (j 1).val; rw [chIx_eta]; omega)
    · exact Fin.ext (by rw [chIx_eta]; omega)

/-! ## Contents put together from chunks -/

/-- The buffer with the given chunks. -/
def rows16 (X : Fin 16 → Chunk F) : Vec F S16x64x768 .bf16 := fun i => X (i 0) (chIx (i 1) (i 2))
@[inherit_doc rows16] def rows15 (X : Fin 15 → Chunk F) : Vec F S15x64x768 .bf16 := fun i => X (i 0) (chIx (i 1) (i 2))
/-- The output with the given chunks. -/
def rowsOut (X : Fin 16 → Vec F S1x64x768 .f32) : Vec F S2x512x768 .f32 := fun i => X (tileOf i) (inTile i)

theorem rows16_emb (X : Fin 16 → Chunk F) (t : Fin 16) : (fun j => rows16 X ((rAcc t).emb j)) = X t := by
  funext j
  obtain ⟨h0, h1, h2⟩ := acc_emb t j
  have h0' : (rAcc t).emb j 0 = t := Fin.ext h0
  show X ((rAcc t).emb j 0) (chIx ((rAcc t).emb j 1) ((rAcc t).emb j 2)) = X t j
  rw [h1, h2, h0', chIx_eta]
theorem rows15_emb (X : Fin 15 → Chunk F) (t : Fin 15) : (fun j => rows15 X ((rSlot t).emb j)) = X t := by
  funext j
  obtain ⟨h0, h1, h2⟩ := slot_emb t j
  have h0' : (rSlot t).emb j 0 = t := Fin.ext h0
  show X ((rSlot t).emb j 0) (chIx ((rSlot t).emb j 1) ((rSlot t).emb j 2)) = X t j
  rw [h1, h2, h0', chIx_eta]
theorem rowsOut_emb (X : Fin 16 → Vec F S1x64x768 .f32) (t : Fin 16) : (fun j => rowsOut X ((rOut t).emb j)) = X t := by
  funext j
  obtain ⟨h0, h1⟩ := out_emb t j
  show X (tileOf ((rOut t).emb j)) (inTile ((rOut t).emb j)) = X t j
  rw [h0, h1]

/-! ## Splitting and joining -/

theorem any_owns {sh : Shape} {e : EltTy} (m : Memref sig .tc .vmem sh e) (X : sh.Idx → Elt F e) :
    (owns (c.tc : Thread nD τ) m fullShare X : Prp F) ⊢ iprop(∃ X, owns (c.tc : Thread nD τ) m fullShare X) := by
  iintro H
  iexists X
  iexact H

theorem split_acc (X : Vec F S16x64x768 .bf16) :
    (owns (c.tc : Thread nD τ) accA fullShare X : Prp F) ⊢ bigSep Finset.univ fun t => iprop(∃ X, owns (c.tc : Thread nD τ) (accM t) fullShare X) :=
  (owns_rects (c.tc : Thread nD τ) accA fullShare rAcc (fun _ _ => rfl) acc_disj acc_cov X).trans (bigSep_mono fun t _ => any_owns c _ _)
theorem split_rs (X : Vec F S15x64x768 .bf16) :
    (owns (c.tc : Thread nD τ) rsA fullShare X : Prp F) ⊢ bigSep Finset.univ fun t => iprop(∃ X, owns (c.tc : Thread nD τ) (rsM t) fullShare X) :=
  (owns_rects (c.tc : Thread nD τ) rsA fullShare rSlot (fun _ _ => rfl) slot_disj slot_cov X).trans (bigSep_mono fun t _ => any_owns c _ _)
theorem split_ag (X : Vec F S15x64x768 .bf16) :
    (owns (c.tc : Thread nD τ) agA fullShare X : Prp F) ⊢ bigSep Finset.univ fun t => iprop(∃ X, owns (c.tc : Thread nD τ) (agM t) fullShare X) :=
  (owns_rects (c.tc : Thread nD τ) agA fullShare rSlot (fun _ _ => rfl) slot_disj slot_cov X).trans (bigSep_mono fun t _ => any_owns c _ _)
theorem split_out (X : Vec F S2x512x768 .f32) :
    (owns (c.tc : Thread nD τ) outA fullShare X : Prp F) ⊢ bigSep Finset.univ fun t => iprop(∃ X, owns (c.tc : Thread nD τ) (outM t) fullShare X) :=
  (owns_rects (c.tc : Thread nD τ) outA fullShare rOut (fun _ _ => rfl) out_disj out_cov X).trans (bigSep_mono fun t _ => any_owns c _ _)

theorem join_acc (X : Fin 16 → Chunk F) :
    bigSep Finset.univ (fun t => owns (c.tc : Thread nD τ) (accM t) fullShare (X t)) ⊢ (owns (c.tc : Thread nD τ) accA fullShare (rows16 X) : Prp F) :=
  (Entails.of_eq (bigSep_congr fun t _ => by rw [← rows16_emb X t])).trans
    (owns_of_rects (c.tc : Thread nD τ) accA fullShare rAcc (fun _ _ => rfl) acc_disj acc_cov (rows16 X))
theorem join_rs (X : Fin 15 → Chunk F) :
    bigSep Finset.univ (fun t => owns (c.tc : Thread nD τ) (rsM t) fullShare (X t)) ⊢ (owns (c.tc : Thread nD τ) rsA fullShare (rows15 X) : Prp F) :=
  (Entails.of_eq (bigSep_congr fun t _ => by rw [← rows15_emb X t])).trans
    (owns_of_rects (c.tc : Thread nD τ) rsA fullShare rSlot (fun _ _ => rfl) slot_disj slot_cov (rows15 X))
theorem join_ag (X : Fin 15 → Chunk F) :
    bigSep Finset.univ (fun t => owns (c.tc : Thread nD τ) (agM t) fullShare (X t)) ⊢ (owns (c.tc : Thread nD τ) agA fullShare (rows15 X) : Prp F) :=
  (Entails.of_eq (bigSep_congr fun t _ => by rw [← rows15_emb X t])).trans
    (owns_of_rects (c.tc : Thread nD τ) agA fullShare rSlot (fun _ _ => rfl) slot_disj slot_cov (rows15 X))
theorem join_out (X : Fin 16 → Vec F S1x64x768 .f32) :
    bigSep Finset.univ (fun t => owns (c.tc : Thread nD τ) (outM t) fullShare (X t)) ⊢ (owns (c.tc : Thread nD τ) outA fullShare (rowsOut X) : Prp F) :=
  (Entails.of_eq (bigSep_congr fun t _ => by rw [← rowsOut_emb X t])).trans
    (owns_of_rects (c.tc : Thread nD τ) outA fullShare rOut (fun _ _ => rfl) out_disj out_cov (rowsOut X))

/-! ## The other devices, slot by slot -/

/-- The devices that write the slots of device c. -/
def sndEmb : Fin 15 ↪ Dev nD := ⟨snd c, fun a b h => by have := congrArg (fun p => sl p c) h; simpa only [sl_snd] using this⟩
theorem map_snd : Finset.univ.map (sndEmb c) = Finset.univ.erase c := by revert c; decide
theorem bigSep_others (Φ : Dev nD → Prp F) : bigSep (Finset.univ.erase c) Φ = bigSep Finset.univ fun j : Fin 15 => Φ (snd c j) := by
  rw [← map_snd c, bigSep_map]; rfl
theorem sum_others {A : Type} [AddCommMonoid A] (f : Dev nD → A) : ∑ p ∈ Finset.univ.erase c, f p = ∑ j : Fin 15, f (snd c j) := by
  rw [← map_snd c, Finset.sum_map]; rfl

/-! ## The reduced chunk's shares -/

/-- The fifteen shares lent and the one kept make the whole. -/
theorem join_src (X : Flat F) (n : ℕ) :
    iprop((bigSep (Finset.range n) fun k => owns (c.tc : Thread nD τ) srcA (sh k).left X) ∗ owns (c.tc : Thread nD τ) srcA (sh n) X)
      ⊢ (owns (c.tc : Thread nD τ) srcA fullShare X : Prp F) := by
  induction n with
  | zero =>
    iintro ⟨-, H⟩
    iexact H
  | succ n ih =>
    rw [Finset.range_add_one]
    iintro ⟨Hs, Hr⟩
    ihave Hs := (show (bigSep (insert n (Finset.range n)) fun k => owns (c.tc : Thread nD τ) srcA (sh k).left X)
        ⊢ iprop((owns (c.tc : Thread nD τ) srcA (sh n).left X : Prp F) ∗ bigSep (Finset.range n) fun k => owns (c.tc : Thread nD τ) srcA (sh k).left X) from
      Entails.of_eq (bigSep_insert Finset.notMem_range_self)) $$ Hs
    icases Hs with ⟨Hl, Hs⟩
    iapply ih
    isplitl [Hs]; · iexact Hs
    iapply (owns_halves (c.tc : Thread nD τ) srcA (sh n) X).2
    isplitl [Hl]; · iexact Hl
    iexact Hr

theorem dist_snd (j : Fin 15) : dist c (snd c j) - 1 = j.val := dist_fwd c j
theorem join_src' (X : Flat F) :
    iprop((bigSep (Finset.univ.erase c) fun p => owns (c.tc : Thread nD τ) srcA (sh (dist c p - 1)).left X) ∗ owns (c.tc : Thread nD τ) srcA (sh 15) X)
      ⊢ (owns (c.tc : Thread nD τ) srcA fullShare X : Prp F) := by
  rw [bigSep_others]
  have e : (bigSep Finset.univ fun j : Fin 15 => (owns (c.tc : Thread nD τ) srcA (sh (dist c (snd c j) - 1)).left X : Prp F))
      = bigSep (Finset.range 15) fun k => owns (c.tc : Thread nD τ) srcA (sh k).left X := by
    rw [show Finset.range 15 = (Finset.univ : Finset (Fin 15)).map Fin.valEmbedding from by decide, bigSep_map]
    exact bigSep_congr fun j _ => by rw [dist_snd]; rfl
  rw [e]
  exact join_src c X 15

end Cert.KernelIdeal.Talk
-- ==== Proof.Fund.lean ====
/-
  What a device is dealt at the launch: its tokens device by device, and its share of the launch's credit.
-/
module

public import proofs.«01_k».proof.Proof.Split
public import Idealize.ShloMosaic.Lib.Pipeline.TalkSites

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (J : Dev nD → Ins F) (C : Cont F) (c : Dev nD)

/-! ## The tokens -/

/-- The duties device c pays with device p in mind. -/
def five (p : Dev nD) : Finset (GSem nD τ sig × ℕ × Dev nD) :=
  {(barCell p, 0, c), (rsSendCell c, 0, p), (rsRecvCell p (sl c p), 0, c), (agSendCell c, 0, p), (agRecvCell p (sl c p), 0, c)}
/-- The device a duty is paid for, and which of the five it is. -/
def keyP (x : GSem nD τ sig × ℕ × Dev nD) : Dev nD := match x.1.2 with | .reg _ => x.1.1.1 | .dma s => if s.val < 8 then x.2.2 else x.1.1.1
@[inherit_doc keyP] def keyN (x : GSem nD τ sig × ℕ × Dev nD) : ℕ := match x.1.2 with | .reg _ => 0 | .dma s => if s.val = 6 then 1 else if s.val = 7 then 2 else if s.val < 23 then 3 else 4

theorem e8 (j : Fin 15) : ¬ (rsRecvS j).val < 8 := by show ¬ 8 + j.val < 8; omega
theorem e9 (j : Fin 15) : ¬ (agRecvS j).val < 8 := by show ¬ 23 + j.val < 8; omega
theorem keyN_rs (j : Fin 15) (p d : Dev nD) : keyN (rsRecvCell p j, 0, d) = 3 := by
  have h := j.isLt
  show (if 8 + j.val = 6 then 1 else if 8 + j.val = 7 then 2 else if 8 + j.val < 23 then 3 else 4) = 3
  rw [if_neg (by omega), if_neg (by omega), if_pos (by omega)]
theorem keyN_ag (j : Fin 15) (p d : Dev nD) : keyN (agRecvCell p j, 0, d) = 4 := by
  have h := j.isLt
  show (if 23 + j.val = 6 then 1 else if 23 + j.val = 7 then 2 else if 23 + j.val < 23 then 3 else 4) = 4
  rw [if_neg (by omega), if_neg (by omega), if_neg (by omega)]
theorem keyN_bar (p d : Dev nD) : keyN (barCell p, 0, d) = 0 := rfl
theorem keyN_rss (p d : Dev nD) : keyN (rsSendCell p, 0, d) = 1 := rfl
theorem keyN_ags (p d : Dev nD) : keyN (agSendCell p, 0, d) = 2 := rfl

theorem keyP_five (p : Dev nD) : ∀ x ∈ five c p, keyP x = p := by
  intro x hx
  unfold five at hx
  simp only [Finset.mem_insert, Finset.mem_singleton] at hx
  rcases hx with rfl | rfl | rfl | rfl | rfl
  · rfl
  · rfl
  · exact if_neg (e8 _)
  · rfl
  · exact if_neg (e9 _)

theorem five_eq (p : Dev nD) (Φ : GSem nD τ sig × ℕ × Dev nD → Prp F) : bigSep (five c p) Φ
    = iprop(Φ (barCell p, 0, c) ∗ Φ (rsSendCell c, 0, p) ∗ Φ (rsRecvCell p (sl c p), 0, c) ∗ Φ (agSendCell c, 0, p) ∗ Φ (agRecvCell p (sl c p), 0, c)) := by
  have d1 : (agSendCell c, 0, p) ∉ ({(agRecvCell p (sl c p), 0, c)} : Finset (GSem nD τ sig × ℕ × Dev nD)) := fun h => by
    have := congrArg keyN (Finset.mem_singleton.mp h)
    simp [keyN_rs, keyN_ag, keyN_bar, keyN_rss, keyN_ags] at this
  have d2 : (rsRecvCell p (sl c p), 0, c) ∉ ({(agSendCell c, 0, p), (agRecvCell p (sl c p), 0, c)} : Finset (GSem nD τ sig × ℕ × Dev nD)) := fun h => by
    simp only [Finset.mem_insert, Finset.mem_singleton] at h
    rcases h with h | h <;> have := congrArg keyN h <;> simp [keyN_rs, keyN_ag, keyN_bar, keyN_rss, keyN_ags] at this
  have d3 : (rsSendCell c, 0, p) ∉ ({(rsRecvCell p (sl c p), 0, c), (agSendCell c, 0, p), (agRecvCell p (sl c p), 0, c)} : Finset (GSem nD τ sig × ℕ × Dev nD)) := fun h => by
    simp only [Finset.mem_insert, Finset.mem_singleton] at h
    rcases h with h | h | h <;> have := congrArg keyN h <;> simp [keyN_rs, keyN_ag, keyN_bar, keyN_rss, keyN_ags] at this
  have d4 : (barCell p, 0, c) ∉ ({(rsSendCell c, 0, p), (rsRecvCell p (sl c p), 0, c), (agSendCell c, 0, p), (agRecvCell p (sl c p), 0, c)} : Finset (GSem nD τ sig × ℕ × Dev nD)) := fun h => by
    simp only [Finset.mem_insert, Finset.mem_singleton] at h
    rcases h with h | h | h | h <;> have := congrArg keyN h <;> simp [keyN_rs, keyN_ag, keyN_bar, keyN_rss, keyN_ags] at this
  unfold five
  rw [bigSep_insert d4, bigSep_insert d3, bigSep_insert d2, bigSep_insert d1, bigSep_singleton]
  rfl

theorem toks_five (Φ : GSem nD τ sig × ℕ × Dev nD → Prp F) : bigSep (toksOf c) Φ = bigSep (Finset.univ.erase c) fun p => bigSep (five c p) Φ := by
  have hd : ∀ p ∈ Finset.univ.erase c, ∀ p' ∈ Finset.univ.erase c, p ≠ p' → Disjoint (five c p) (five c p') := fun p _ p' _ h =>
    Finset.disjoint_left.mpr fun x h1 h2 => h ((keyP_five c p x h1).symm.trans (keyP_five c p' x h2))
  have e : toksOf c = (Finset.univ.erase c).biUnion (five c) := rfl
  rw [e, bigSep_biUnion_eq _ _ _ hd]

/-- The tokens of device c, device by device. -/
theorem toks_deal : bigSep (toksOf c) (fun x => dutyTok ER x.1 x.2.1 x.2.2)
    ⊢ iprop((bigSep Finset.univ fun j : Fin 15 => dutyTok ER (barCell (snd c j)) 0 c) ∗ bigSep (Finset.univ.erase c) (tok c : Dev nD → Prp F)) :=
  (Entails.of_eq (toks_five c _)).trans ((Entails.of_eq (bigSep_congr fun p _ => five_eq c p _)).trans
    ((Entails.of_eq (bigSep_sep' ..)).trans (BI.sep_mono (Entails.of_eq (bigSep_others c _)) (Entails.of_eq (bigSep_congr fun p _ => rfl)))))

/-! ## The credit -/

theorem sumBar_eq (o n : ℕ) : sumBar c o n = ∑ i ∈ Finset.range n, dBar c (o + i) := by
  induction n generalizing o with
  | zero => rfl
  | succ n ih =>
    rw [Finset.sum_range_succ', add_zero, add_comm (∑ k ∈ Finset.range n, dBar c (o + (k + 1)))]
    show dBar c o + sumBar c (o + 1) n = _
    rw [ih (o + 1)]
    exact congrArg _ (Finset.sum_congr rfl fun i _ => congrArg (dBar c) (by omega))
theorem sumAg_eq (o n : ℕ) : sumAg c o n = ∑ i ∈ Finset.range n, dAg c (o + i) := by
  induction n generalizing o with
  | zero => rfl
  | succ n ih =>
    rw [Finset.sum_range_succ', add_zero, add_comm (∑ k ∈ Finset.range n, dAg c (o + (k + 1)))]
    show dAg c o + sumAg c (o + 1) n = _
    rw [ih (o + 1)]
    exact congrArg _ (Finset.sum_congr rfl fun i _ => congrArg (dAg c) (by omega))
theorem sumRs_eq (l : List (Dev nD)) (h : l.Nodup) : sumRs c l = ∑ p ∈ l.toFinset, dRs c p := by
  induction l with
  | nil => rfl
  | cons p l ih =>
    obtain ⟨h1, h2⟩ := List.nodup_cons.mp h
    rw [List.toFinset_cons, Finset.sum_insert (by rwa [List.mem_toFinset]), ← ih h2]; rfl

/-- What device d owes device p. -/
def tBar (_d p : Dev nD) : Tal := tallyAt (barCell p) 1 1
@[inherit_doc tBar] def tRs (d p : Dev nD) : Tal := tallyAt (rsRecvCell p (sl d p)) (rsIx p) N
@[inherit_doc tBar] def tAg (d p : Dev nD) : Tal := tallyAt (agRecvCell p (sl d p)) 4 N

theorem due_bar : sumBar c 1 15 = ∑ p ∈ Finset.univ.erase c, tBar c p := by
  rw [sumBar_eq, sum_others, Finset.sum_range]
  exact Finset.sum_congr rfl fun j _ => by show dBar c (1 + j.val) = _; rw [add_comm]; rfl
theorem due_ag : sumAg c 1 15 = ∑ p ∈ Finset.univ.erase c, tAg c p := by
  rw [sumAg_eq, sum_others, Finset.sum_range]
  exact Finset.sum_congr rfl fun j _ => by show dAg c (1 + j.val) = _; rw [add_comm]; rfl
theorem due_rs : sumRs c ord1 + sumRs c ord2 = ∑ p ∈ Finset.univ.erase c, tRs c p := by
  rw [sumRs_eq c _ (by decide), sumRs_eq c _ (by decide), ← Finset.sum_union (by decide),
    show ord1.toFinset ∪ ord2.toFinset = (Finset.univ : Finset (Dev nD)) from by decide,
    ← Finset.add_sum_erase _ _ (Finset.mem_univ c), show dRs c c = 0 from if_pos rfl, zero_add]
  exact Finset.sum_congr rfl fun p hp => if_neg (Finset.ne_of_mem_erase hp)

theorem due_all : O₀ c = (∑ p ∈ Finset.univ.erase c, tBar c p) + ((∑ p ∈ Finset.univ.erase c, tRs c p) + ∑ p ∈ Finset.univ.erase c, tAg c p) := by
  unfold O₀
  rw [← add_assoc (sumRs c ord1), due_bar, due_rs, due_ag]

theorem erase_comm (f : Dev nD → Dev nD → Tal) : (∑ d : Dev nD, ∑ p ∈ Finset.univ.erase d, f d p) = ∑ p : Dev nD, ∑ d ∈ Finset.univ.erase p, f d p :=
  Finset.sum_comm' fun d p => by simp only [Finset.mem_erase, Finset.mem_univ, true_and, and_true]; exact ne_comm

/-- A device's credit under dues that name a cell of the device owed. -/
theorem cred_of (f : Dev nD → Dev nD → Tal) (hf : ∀ d p g, f d p g ≠ 0 → g.1 = (p.tc : Thread nD τ)) :
    (Pipeline.launchCred (fun d => ∑ p ∈ Finset.univ.erase d, f d p) c : Prp F) = cred (∑ j : Fin 15, f (snd c j) c) := by
  rw [← sum_others c (fun d => f d c)]
  refine Pipeline.launchCred_of_sum _ (fun p => ∑ d ∈ Finset.univ.erase p, f d p) (erase_comm f) (fun p g h => ?_) c
  rw [Finset.sum_apply] at h
  obtain ⟨d, -, hd⟩ := Finset.exists_ne_zero_of_sum_ne_zero h
  exact hf d p g hd

theorem cell_of {g : GSem nD τ sig} {p : Dev nD} {sm : SemLoc sig} {i n : ℕ} (h : (tallyAt ((p.tc : Thread nD τ), sm) i n : Tal) g ≠ 0) : g.1 = (p.tc : Thread nD τ) := by
  obtain ⟨k, hk⟩ := DFunLike.ne_iff.mp h
  have hk' : (tallyAt ((p.tc : Thread nD τ), sm) i n : Tal) g k ≠ 0 := hk
  rw [tallyAt_apply] at hk'
  by_cases e : g = ((p.tc : Thread nD τ), sm) ∧ k = i
  · rw [e.1]
  · exact absurd (if_neg e) hk'

theorem cred_sum {ι : Type} [DecidableEq ι] (s : Finset ι) (f : ι → Tal) : (cred (∑ j ∈ s, f j) : Prp F) = bigSep s fun j => cred (f j) := by
  induction s using Finset.induction_on with
  | empty => rw [Finset.sum_empty, bigSep_empty, cred_zero]; rfl
  | insert a s ha ih => rw [Finset.sum_insert ha, bigSep_insert ha, ← ih]; exact BI.Entails.antisymm (cred_add _ _).1 (cred_add _ _).2

theorem tallyAt_sum (g : GSem nD τ sig) (i : ℕ) (n : ℕ) : (∑ _j : Fin n, (tallyAt g i 1 : Tal)) = tallyAt g i n := by
  induction n with
  | zero => rw [tallyAt_zero]; rfl
  | succ n ih => rw [Fin.sum_univ_castSucc, ih, tallyAt_add]

/-- A device's share of the launch's credit. -/
theorem cred_deal : (Pipeline.launchCred O₀ c : Prp F)
    = iprop(cred (tallyAt (barCell c) 1 15) ∗ ((bigSep Finset.univ fun j => cred (tallyAt (rsRecvCell c j) (rsIx c) N))
        ∗ bigSep Finset.univ fun j => cred (tallyAt (agRecvCell c j) 4 N))) := by
  rw [show (O₀ : Dev nD → Tal) = fun d => (∑ p ∈ Finset.univ.erase d, tBar d p) + ((∑ p ∈ Finset.univ.erase d, tRs d p) + ∑ p ∈ Finset.univ.erase d, tAg d p) from
      funext fun d => due_all d,
    Pipeline.launchCred_add, Pipeline.launchCred_add, cred_of c tBar (fun _ _ _ h => cell_of h), cred_of c tRs (fun _ _ _ h => cell_of h),
    cred_of c tAg (fun _ _ _ h => cell_of h), cred_sum, cred_sum, cred_sum]
  rw [← cred_sum, show (∑ j : Fin 15, tBar (snd c j) c) = tallyAt (barCell c) 1 15 from tallyAt_sum _ _ _]
  have e (j : Fin 15) : sl (snd c j) c = j := sl_snd c j
  simp only [tRs, tAg, e]

end Cert.KernelIdeal.Talk
-- ==== Proof.Whole.lean ====
/-
  The body on one device, from whole buffers and opened semaphores to whole buffers and closed semaphores.
-/
module

public import proofs.«01_k».proof.Proof.Fund

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (J : Dev nD → Ins F) (κ : GSem nD τ sig → ℕ) (c : Dev nD)

/-! ## The kernel's own semaphores -/

def rsE : Fin 15 ↪ SemLoc sig := ⟨fun j => .dma (rsRecvS j), by decide⟩
def agE : Fin 15 ↪ SemLoc sig := ⟨fun j => .dma (agRecvS j), by decide⟩
theorem osems_eq : (osems : Finset (SemLoc sig)) = insert (.dma rsSendS) (insert (.dma agSendS) (Finset.univ.map rsE ∪ Finset.univ.map agE)) := by decide
theorem bigSep_osems (Φ : SemLoc sig → Prp F) : bigSep osems Φ
    = iprop(Φ (.dma rsSendS) ∗ Φ (.dma agSendS) ∗ (bigSep Finset.univ fun j => Φ (.dma (rsRecvS j))) ∗ bigSep Finset.univ fun j => Φ (.dma (agRecvS j))) := by
  have d1 : (SemLoc.dma agSendS : SemLoc sig) ∉ Finset.univ.map rsE ∪ Finset.univ.map agE := by decide
  have d2 : (SemLoc.dma rsSendS : SemLoc sig) ∉ insert (SemLoc.dma agSendS : SemLoc sig) (Finset.univ.map rsE ∪ Finset.univ.map agE) := by decide
  have d3 : Disjoint (Finset.univ.map rsE : Finset (SemLoc sig)) (Finset.univ.map agE) := by decide
  rw [osems_eq, bigSep_insert d2, bigSep_insert d1, bigSep_union d3, bigSep_map, bigSep_map]
  rfl

/-! ## Lists and families -/

theorem rsIns_eq (l : List (Fin 15)) : (rsIns c l : Prp F) = lsep (rsIn c) l := by
  induction l with
  | nil => rfl
  | cons j l ih => unfold rsIns lsep; rw [ih]
theorem rsFins_eq (l : List (Fin 15)) : (rsFins (cont J) c l : Prp F) = lsep (fun j => iprop(atPos ER (rsRecvCell c j) 1 ∅ 0 ∗ rsHas (cont J) c j)) l := by
  induction l with
  | nil => rfl
  | cons j l ih => unfold rsFins lsep; rw [ih]
theorem agFins_eq (l : List (Fin 15)) : agFins J c l = lsep (agFin J c) l := by
  induction l with
  | nil => rfl
  | cons j l ih => unfold agFins lsep; rw [ih]
theorem agJobs_of (l : List (Fin 15)) :
    iprop(lsep (agIn c) l ∗ lsep (fun j => iprop(∃ X, owns (c.tc : Thread nD τ) (outM (snd c j)) fullShare X)) l) ⊢ (agJobs c l : Prp F) := by
  induction l with
  | nil =>
    show _ ⊢ iprop(emp)
    iintro _
    iempintro
  | cons j l ih =>
    show iprop((agIn c j ∗ lsep (agIn c) l) ∗ ((∃ X, owns (c.tc : Thread nD τ) (outM (snd c j)) fullShare X) ∗ lsep _ l)) ⊢ iprop(agIn c j ∗ (∃ X, owns (c.tc : Thread nD τ) (outM (snd c j)) fullShare X) ∗ agJobs c l)
    iintro ⟨⟨Ha, Hl⟩, Hk, Hm⟩
    isplitl [Ha]; · iexact Ha
    isplitl [Hk]; · iexact Hk
    iapply ih
    isplitl [Hl] <;> iassumption
theorem lsep15 (f : Fin 15 → Prp F) : bigSep Finset.univ f = lsep f all15 := by rw [← lsep_eq f all15 (by decide), all15_eq]
theorem lsep15r (f : Fin 15 → Prp F) : bigSep Finset.univ f = lsep f [14, 13, 12, 11, 10, 9, 8, 7, 6, 5, 4, 3, 2, 1, 0] := by
  rw [← lsep_eq f _ (by decide), show ([14, 13, 12, 11, 10, 9, 8, 7, 6, 5, 4, 3, 2, 1, 0] : List (Fin 15)).toFinset = Finset.univ from by decide]

/-! ## Before the body -/

/-- The kernel's semaphores opened, beside what the launch hands out. -/
def opened : Prp F :=
  iprop(Invs (cont J) κ ∗ levAts LL lv ∗ atPos ER (barCell c) 0 ∅ 0 ∗ (bigSep Finset.univ fun j : Fin 15 => reached ER (barCell (snd c j)) 0)
    ∗ (bigSep osems fun s => iprop(atPos ER ((c.tc : Thread nD τ), s) 0 ∅ 0 ∗ reached ER ((c.tc : Thread nD τ), s) 0))
    ∗ (bigSep Finset.univ fun j : Fin 15 => dutyTok ER (barCell (snd c j)) 0 c) ∗ bigSep (Finset.univ.erase c) (tok c : Dev nD → Prp F)
    ∗ cred (tallyAt (barCell c) 1 15) ∗ (bigSep Finset.univ fun j => cred (tallyAt (rsRecvCell c j) (rsIx c) N))
    ∗ bigSep Finset.univ fun j => cred (tallyAt (agRecvCell c j) 4 N))
/-- The scratch buffers at some contents. -/
def scratch : Prp F :=
  iprop((∃ X, owns (c.tc : Thread nD τ) accA fullShare X) ∗ (∃ X, owns (c.tc : Thread nD τ) rsA fullShare X)
    ∗ (∃ X, owns (c.tc : Thread nD τ) srcA fullShare X) ∗ ∃ X, owns (c.tc : Thread nD τ) agA fullShare X)

theorem barKit_of (j : Fin 15) :
    iprop(dutyTok ER (barCell (snd c j)) 0 c ∗ (∃ X, owns (c.tc : Thread nD τ) (rsM j) fullShare X) ∗ (∃ X, owns (c.tc : Thread nD τ) (agM j) fullShare X)
        ∗ reached ER (rsRecvCell c j) 0 ∗ reached ER (agRecvCell c j) 0 ∗ reached ER (barCell (snd c j)) 0)
      ⊢ (barKit c (snd c j) : Prp F) := by
  unfold barKit barPay
  rw [sl_snd c j]
  iintro ⟨H1, H2, H3, H4, H5, H6⟩
  isplitl [H1]; · iexact H1
  isplitl [H2 H3 H4 H5]
  · isplitl [H2]; · iexact H2
    isplitl [H3]; · iexact H3
    isplitl [H4] <;> iassumption
  iexact H6

theorem barKits_all :
    iprop((bigSep Finset.univ fun j : Fin 15 => dutyTok ER (barCell (snd c j)) 0 c) ∗ (bigSep Finset.univ fun j => iprop(∃ X, owns (c.tc : Thread nD τ) (rsM j) fullShare X))
        ∗ (bigSep Finset.univ fun j => iprop(∃ X, owns (c.tc : Thread nD τ) (agM j) fullShare X)) ∗ (bigSep Finset.univ fun j => reached ER (rsRecvCell c j) 0)
        ∗ (bigSep Finset.univ fun j => reached ER (agRecvCell c j) 0) ∗ bigSep Finset.univ fun j : Fin 15 => reached ER (barCell (snd c j)) 0)
      ⊢ (barKits c 1 15 : Prp F) := by
  refine (?_ : _ ⊢ _).trans (barKits_of c)
  rw [bigSep_others]
  refine (Entails.of_eq ?_).trans (bigSep_mono fun j _ => barKit_of c j)
  rw [bigSep_sep', bigSep_sep', bigSep_sep', bigSep_sep', bigSep_sep']

theorem rsIns_all : iprop((bigSep Finset.univ fun j => cred (tallyAt (rsRecvCell c j) (rsIx c) N)) ∗ bigSep Finset.univ fun j => atPos ER (rsRecvCell c j) 0 ∅ 0) ⊢ (rsIns c all15 : Prp F) := by
  rw [rsIns_eq, ← lsep15, ← bigSep_sep']; exact .rfl
theorem agJobs_all : iprop((bigSep Finset.univ fun j => cred (tallyAt (agRecvCell c j) 4 N)) ∗ (bigSep Finset.univ fun j => atPos ER (agRecvCell c j) 0 ∅ 0)
    ∗ bigSep Finset.univ fun j => iprop(∃ X, owns (c.tc : Thread nD τ) (outM (snd c j)) fullShare X)) ⊢ (agJobs c all15 : Prp F) := by
  refine (?_ : _ ⊢ _).trans (agJobs_of c all15)
  rw [← lsep15, ← lsep15]
  unfold agIn
  rw [bigSep_sep']
  iintro ⟨H1, H2, H3⟩
  isplitl [H1 H2]
  · isplitl [H1] <;> iassumption
  iexact H3

theorem out_deal (X : Vec F S2x512x768 .f32) : (owns (c.tc : Thread nD τ) outA fullShare X : Prp F)
    ⊢ iprop((∃ X, owns (c.tc : Thread nD τ) (outM c) fullShare X) ∗ bigSep Finset.univ fun j => iprop(∃ X, owns (c.tc : Thread nD τ) (outM (snd c j)) fullShare X)) := by
  refine (split_out c X).trans ?_
  rw [← bigSep_others c (fun t => iprop(∃ X, owns (c.tc : Thread nD τ) (outM t) fullShare X))]
  exact Entails.of_eq (bigSep_erase (Finset.mem_univ c))

theorem reached_split : (bigSep osems fun s => iprop(atPos ER ((c.tc : Thread nD τ), s) 0 ∅ 0 ∗ reached ER ((c.tc : Thread nD τ), s) 0))
    ⊢ iprop(((atPos ER (rsSendCell c) 0 ∅ 0 ∗ reached ER (rsSendCell c) 0) ∗ (atPos ER (agSendCell c) 0 ∅ 0 ∗ reached ER (agSendCell c) 0))
      ∗ ((bigSep Finset.univ fun j => atPos ER (rsRecvCell c j) 0 ∅ 0) ∗ bigSep Finset.univ fun j => reached ER (rsRecvCell c j) 0)
      ∗ (bigSep Finset.univ fun j => atPos ER (agRecvCell c j) 0 ∅ 0) ∗ (bigSep Finset.univ fun j => reached ER (agRecvCell c j) 0 : Prp F)) := by
  rw [bigSep_osems, bigSep_sep', bigSep_sep']
  iintro ⟨H1, H2, H3⟩
  isplitl [H1 H2]
  · isplitl [H1] <;> iassumption
  iexact H3

/-- What the body starts from, out of whole buffers. -/
theorem body_pre :
    iprop(opened J κ c ∗ scratch c ∗ ins c (J c) ∗ (∃ X, owns (c.tc : Thread nD τ) outA fullShare X) ∗ owing c (O₀ c))
      ⊢ iprop(Invs (cont J) κ ∗ levAts LL lv ∗ reached ER (rsSendCell c) 0 ∗ reached ER (agSendCell c) 0 ∗ owing c (O₀ c) ∗ barKits c 1 15 ∗ cred (tallyAt (barCell c) 1 15) ∗ atPos ER (barCell c) 0 ∅ 0 ∗ ins c (J c) ∗ start0 c) := by
  unfold opened scratch start0
  iintro ⟨⟨HI, Hl, Hbar, Hrb, Hos, Htb, Htk, Hcb, Hcr, Hca⟩, ⟨⟨%Xa, Hacc⟩, ⟨%Xr, Hrs⟩, Hsrc, ⟨%Xg, Hag⟩⟩, Hin, ⟨%Xo, Hout⟩, HO⟩
  ihave Ho := (reached_split c) $$ Hos
  icases Ho with ⟨⟨⟨Hp1, Hr1⟩, ⟨Hp2, Hr2⟩⟩, ⟨Hp3, Hr3⟩, ⟨Hp4, Hr4⟩⟩
  ihave Hacc := (split_acc c Xa) $$ Hacc
  ihave Hrs := (split_rs c Xr) $$ Hrs
  ihave Hag := (split_ag c Xg) $$ Hag
  ihave Hout := (out_deal c Xo) $$ Hout
  icases Hout with ⟨Hoc, Hoo⟩
  isplitl [HI]; · iexact HI
  isplitl [Hl]; · iexact Hl
  isplitl [Hr1]; · iexact Hr1
  isplitl [Hr2]; · iexact Hr2
  isplitl [HO]; · iexact HO
  isplitl [Htb Hrs Hag Hr3 Hr4 Hrb]
  · iapply (barKits_all c)
    isplitl [Htb]; · iexact Htb
    isplitl [Hrs]; · iexact Hrs
    isplitl [Hag]; · iexact Hag
    isplitl [Hr3]; · iexact Hr3
    isplitl [Hr4]; · iexact Hr4
    iexact Hrb
  isplitl [Hcb]; · iexact Hcb
  isplitl [Hbar]; · iexact Hbar
  isplitl [Hin]; · iexact Hin
  isplitl [Htk]; · iexact Htk
  isplitl [Hacc]; · iexact Hacc
  isplitl [Hcr Hp3]
  · iapply (rsIns_all c)
    isplitl [Hcr] <;> iassumption
  isplitl [Hsrc]; · iexact Hsrc
  isplitl [Hoc]; · iexact Hoc
  isplitl [Hca Hp4 Hoo]
  · iapply (agJobs_all c)
    isplitl [Hca]; · iexact Hca
    isplitl [Hp4] <;> iassumption
  isplitl [Hp1] <;> iassumption

/-! ## After the body -/

/-- The result of device c. -/
def outVal (c : Dev nD) : Vec F S2x512x768 .f32 := rowsOut fun t => if t = c then ownOf (own J c) (peer J c) else k0_pay79 (up ((cont J).red t))

theorem out_join :
    iprop(owns (c.tc : Thread nD τ) (outM c) fullShare (ownOf (own J c) (peer J c))
        ∗ bigSep Finset.univ fun j : Fin 15 => owns (c.tc : Thread nD τ) (outM (snd c j)) fullShare (k0_pay79 (up ((cont J).red (snd c j)))))
      ⊢ (owns (c.tc : Thread nD τ) outA fullShare (outVal J c) : Prp F) := by
  refine (?_ : _ ⊢ _).trans (join_out c _)
  refine (?_ : _ ⊢ _).trans (Entails.of_eq (bigSep_erase (Φ := fun t : Dev nD => (owns (c.tc : Thread nD τ) (outM t) fullShare
    (if t = c then ownOf (own J c) (peer J c) else k0_pay79 (up ((cont J).red t))) : Prp F)) (Finset.mem_univ c)).symm)
  rw [bigSep_others, if_pos rfl]
  refine Entails.of_eq (congrArg _ (bigSep_congr fun j _ => ?_))
  rw [if_neg (snd_ne c j)]

theorem acc_join :
    iprop(owns (c.tc : Thread nD τ) (accM c) fullShare ((cont J).val c c) ∗ bigSep (Finset.univ.erase c) fun d => owns (c.tc : Thread nD τ) (accM d) fullShare ((cont J).val c d))
      ⊢ (owns (c.tc : Thread nD τ) accA fullShare (rows16 ((cont J).val c)) : Prp F) := by
  refine (?_ : _ ⊢ _).trans (join_acc c _)
  exact Entails.of_eq (bigSep_erase (Φ := fun d : Dev nD => (owns (c.tc : Thread nD τ) (accM d) fullShare ((cont J).val c d) : Prp F)) (Finset.mem_univ c)).symm

theorem rs_back : (bigSep ((Rd (cont J)).duties (rsSendCell c) 0) fun d => (Rd (cont J)).payload (rsSendCell c) 0 d)
    = bigSep (Finset.univ.erase c) fun d => owns (c.tc : Thread nD τ) (accM d) fullShare ((cont J).val c d) := by
  rw [duties_rsSend]
  exact bigSep_congr fun d hd => payload_rsSend (cont J) c d
theorem ag_back : (bigSep ((Rd (cont J)).duties (agSendCell c) 0) fun d => (Rd (cont J)).payload (agSendCell c) 0 d)
    = bigSep (Finset.univ.erase c) fun d => owns (c.tc : Thread nD τ) srcA (sh (dist c d - 1)).left ((cont J).red c) := by
  rw [duties_agSend]
  exact bigSep_congr fun d hd => payload_agSend (cont J) c d

/-- One of the kernel's own semaphores closed. -/
theorem shut (s : DmaSem sig) (h : 6 ≤ s.val) : iprop(Invs (cont J) κ ∗ atPos ER ((c.tc : Thread nD τ), .dma s) 1 ∅ 0) ⊢ (|={Set.univ}=> semVal ((c.tc : Thread nD τ), .dma s) 0 : Prp F) := by
  iintro ⟨HI, Hp⟩
  ihave Hc := (inv_dma (cont J) κ c s h) $$ HI
  iapply (cell_close ER (Rd (cont J)) (R := 1) (Set.mem_univ _) id (duties_later (cont J) _))
  isplitl [Hc] <;> iassumption
theorem shut_bar : iprop(Invs (cont J) κ ∗ atPos ER (barCell c) 1 ∅ 0) ⊢ (|={Set.univ}=> semVal (barCell c) 0 : Prp F) := by
  iintro ⟨HI, Hp⟩
  ihave Hc := (inv_bar (cont J) κ c) $$ HI
  iapply (cell_close ER (Rd (cont J)) (R := 1) (Set.mem_univ _) id (duties_later (cont J) _))
  isplitl [Hc] <;> iassumption
theorem shut_all (f : Fin 15 → DmaSem sig) (h : ∀ j, 6 ≤ (f j).val) :
    iprop(Invs (cont J) κ ∗ bigSep Finset.univ fun j => atPos ER ((c.tc : Thread nD τ), .dma (f j)) 1 ∅ 0)
      ⊢ (|={Set.univ}=> bigSep Finset.univ fun j => semVal ((c.tc : Thread nD τ), .dma (f j)) 0 : Prp F) :=
  (bigSep_with_persistent fun j _ => shut J κ c (f j) (h j)).trans (bigSep_fupd _ _)

theorem close_send {g : GSem nD τ sig} (h : Invs (cont J) κ ⊢ cellInv ER (Rd (cont J)) (κ g) g) (he : (Rd (cont J)).expect g 0 = 15 * N) :
    iprop(Invs (cont J) κ ∗ drained ER (Rd (cont J)) g 0 N 15)
      ⊢ (|={Set.univ}=> (semVal g 0 ∗ bigSep ((Rd (cont J)).duties g 0) fun d => (Rd (cont J)).payload g 0 d) : Prp F) := by
  iintro ⟨#HI, Hd⟩
  ihave #Hc := h $$ HI
  imod (drained_done (E := ER) (Rd := Rd (cont J)) (g := g) (R := 0) (N := N) (Set.mem_univ (κ g)) (n := 15) he) $$ [Hd] with ⟨Hp, -, Hb⟩
  · isplitr; · iexact Hc
    iexact Hd
  imod (cell_close ER (Rd (cont J)) (g := g) (R := 0 + 1) (Set.mem_univ (κ g)) id (duties_later (cont J) _)) $$ [Hp] with Hv
  · isplitr; · iexact Hc
    iexact Hp
  imodintro
  isplitl [Hv] <;> iassumption

theorem rsFins_all : (rsFins (cont J) c all15 : Prp F)
    ⊢ iprop((bigSep Finset.univ fun j => atPos ER (rsRecvCell c j) 1 ∅ 0) ∗ bigSep Finset.univ fun j => rsHas (cont J) c j) := by
  rw [rsFins_eq, ← lsep15, bigSep_sep']
theorem agFins_all : agFins J c [14, 13, 12, 11, 10, 9, 8, 7, 6, 5, 4, 3, 2, 1, 0]
    ⊢ iprop((bigSep Finset.univ fun j => atPos ER (agRecvCell c j) 1 ∅ 0) ∗ (bigSep Finset.univ fun j => agHas (cont J) c j)
      ∗ bigSep Finset.univ fun j : Fin 15 => owns (c.tc : Thread nD τ) (outM (snd c j)) fullShare (k0_pay79 (up ((cont J).red (snd c j))))) := by
  rw [agFins_eq, ← lsep15r]
  unfold agFin
  rw [bigSep_sep', bigSep_sep']

/-- What the body leaves, with every semaphore closed at zero. -/
def closed : Prp F :=
  iprop(owing c 0 ∗ ins c (J c) ∗ owns (c.tc : Thread nD τ) outA fullShare (outVal J c) ∗ scratch c ∗ (bigSep osems fun s => semVal ((c.tc : Thread nD τ), s) 0) ∗ semVal (barCell c) 0)

theorem body_post : iprop(Invs (cont J) κ ∗ owing c 0 ∗ atPos ER (barCell c) 1 ∅ 0 ∗ ins c (J c) ∗ end0 J c) ⊢ (|={Set.univ}=> closed J c : Prp F) := by
  unfold end0 closed scratch
  iintro ⟨#HI, HO, Hbar, Hin, Hrf, Hsrc, Hoc, Haf, Hac, Hds, Hda⟩
  imod (shut_bar J κ c) $$ [Hbar] with Hbar
  · isplitr; · iexact HI
    iexact Hbar
  imod (close_send J κ (inv_rsSend (cont J) κ c) (expect_rsSend (cont J) c)) $$ [Hds] with ⟨Hv1, Hb1⟩
  · isplitr; · iexact HI
    iexact Hds
  imod (close_send J κ (inv_agSend (cont J) κ c) (expect_agSend (cont J) c)) $$ [Hda] with ⟨Hv2, Hb2⟩
  · isplitr; · iexact HI
    iexact Hda
  ihave Hrf := (rsFins_all J c) $$ Hrf
  icases Hrf with ⟨Hp3, Hrs⟩
  ihave Haf := (agFins_all J c) $$ Haf
  icases Haf with ⟨Hp4, Hag, Hout⟩
  imod (shut_all J κ c rsRecvS (fun j => by show 6 ≤ 8 + j.val; omega)) $$ [Hp3] with Hv3
  · isplitr; · iexact HI
    iexact Hp3
  imod (shut_all J κ c agRecvS (fun j => by show 6 ≤ 23 + j.val; omega)) $$ [Hp4] with Hv4
  · isplitr; · iexact HI
    iexact Hp4
  imodintro
  isplitl [HO]; · iexact HO
  isplitl [Hin]; · iexact Hin
  isplitl [Hoc Hout]
  · iapply (out_join J c)
    isplitl [Hoc] <;> iassumption
  isplitl [Hac Hb1 Hrs Hsrc Hb2 Hag]
  · isplitl [Hac Hb1]
    · iexists _
      iapply (acc_join J c)
      isplitl [Hac]; · iexact Hac
      iapply (Entails.of_eq (rs_back J c)); iexact Hb1
    isplitl [Hrs]
    · iexists _
      iapply (join_rs c (fun j => (cont J).val (snd c j) c)); iexact Hrs
    isplitl [Hsrc Hb2]
    · iexists _
      iapply (join_src' c ((cont J).red c))
      isplitl [Hb2]
      · iapply (Entails.of_eq (ag_back J c)); iexact Hb2
      iexact Hsrc
    iexists _
    iapply (join_ag c (fun j => up ((cont J).red (snd c j)))); iexact Hag
  isplitl [Hv1 Hv2 Hv3 Hv4]
  · iapply (Entails.of_eq (bigSep_osems (fun s => semVal ((c.tc : Thread nD τ), s) 0)).symm)
    isplitl [Hv1]; · iexact Hv1
    isplitl [Hv2]; · iexact Hv2
    isplitl [Hv3] <;> iassumption
  iexact Hbar

/-- The body on device c, from whole buffers to whole buffers. -/
theorem wpWhole {Q : _ → Prp F} :
    iprop((opened J κ c ∗ scratch c ∗ ins c (J c) ∗ (∃ X, owns (c.tc : Thread nD τ) outA fullShare X) ∗ owing c (O₀ c)) ∗ (closed J c -∗ Q ⟨⟩)) ⊢ WP c PB Q := by
  refine (?_ : _ ⊢ _).trans (wp_fupd _ _ _ _ _)
  iintro ⟨H, HK⟩
  ihave H := (body_pre J κ c) $$ H
  icases H with ⟨#HI, H⟩
  iapply (wpBody J κ c) $$ [H]
  · isplitr; · iexact HI
    iexact H
  iintro H
  imod (body_post J κ c) $$ [H] with H
  · isplitr; · iexact HI
    iexact H
  imodintro
  iapply HK
  iexact H

end Cert.KernelIdeal.Talk
-- ==== Proof.Dats.lean ====
/-
  The launch's proof data: what the windows' arrays hold, what the body finds staged and what it leaves, and the body's obligation at the one point.
-/
module

public import proofs.«01_k».proof.Proof.Whole
public import proofs.«01_k».proof.Proof.Gen.KernelIdeal.Regions
public import proofs.«01_k».proof.Proof.Gen.KernelIdeal.Points
public import Idealize.ShloMosaic.Lib.Pipeline.FrameBody
public import Idealize.ShloMosaic.Lib.Pipeline.Value

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

/-- What device d's host operations stage for the kernel. -/
def J (d : Dev nD) : Ins F := ⟨V1 m d main_v15, V1 m d main_v16, V1 m d main_v19, V1 m d main_v21, V1 m d main_v17⟩

/-- What the kernel leaves in its result array on device c. -/
def res : Vec F S2x512x768 .f32 := outVal (J m) c
/-- Core c's buffers after the kernel. -/
def VE : Valuation τ sig (Elt F) := Function.update (V1 m c) main_v22 (res m c)

/-- The kernel's own semaphores, numbered. -/
def osem (k : Fin 32) : SemLoc sig := .dma ⟨6 + k.val, by have := k.isLt; show 6 + k.val < 38; omega⟩
theorem osem_facts : Pipeline.OwnSemFacts spec0 osem := by decide
theorem osems_map : (osems : Finset (SemLoc sig)) = Finset.univ.map ⟨osem, osem_facts.inj⟩ := by decide
theorem ownSems_eq : (Pipeline.ownSems0 osem c : Prp F) = bigSep osems fun s => semVal ((c.tc : Thread nD τ), s) 0 := by
  unfold Pipeline.ownSems0
  rw [osems_map, bigSep_map]; rfl

/-- Before the body. -/
def Xk : Prp F := iprop(∃ κ, opened (J m) κ c)
def phi0 : Prp F := iprop(scratch c ∗ (∃ r, prngReg c r) ∗ Xk m c)
/-- After it. -/
def phi1 : Prp F := iprop(scratch c ∗ (∃ r, prngReg c r) ∗ (bigSep osems fun s => semVal ((c.tc : Thread nD τ), s) 0) ∗ semVal (barCell c) 0)

def dat : Dat τ (Elt F) ℕ ℕ UU ℕ cfg0 c where
  A w := match w with
    | 0 => V1 m c main_v15 | 1 => V1 m c main_v16 | 2 => V1 m c main_v19 | 3 => V1 m c main_v21 | 4 => V1 m c main_v17 | 5 => V1 m c main_v22
    | ⟨_ + 6, h⟩ => absurd h (Nat.not_lt.2 (Nat.le_add_left _ _))
  after w _ := match w with
    | 0 => (J m c).x | 1 => (J m c).wq | 2 => (J m c).K | 3 => (J m c).V | 4 => (J m c).wo | 5 => res m c
    | ⟨_ + 6, h⟩ => absurd h (Nat.not_lt.2 (Nat.le_add_left _ _))
  Φ t := if t.val = 0 then phi0 m c else phi1 c
  q _ := fullShare
  owed t := if t.val = 0 then O₀ c else 0

def pdats : (p : Fin 1) → (c : Dev nD) → Dat τ (Elt F) ℕ ℕ UU ℕ (cfgs p) c
  | 0 => dat m
  | ⟨_ + 1, h⟩ => absurd h (Nat.not_lt.2 (Nat.le_add_left _ _))

theorem before_0 (t : Fin cfg0.N) (d) : (dat m c).before 0 t d = (J m c).x := by
  unfold Dat.before; rw [if_pos (fetch0_0 t)]
  funext j
  unfold Dat.fetched Pipeline.Window.fill
  rw [dif_pos ((Pipeline.Window.moved_iff _ _ _).mpr fun a => (j a).isLt)]
  show V1 m c main_v15 _ = V1 m c main_v15 j
  congr 1
  funext a
  apply Fin.ext
  show 0 * _ + 1 * (j a).val = (j a).val
  rw [Nat.zero_mul, Nat.one_mul, Nat.zero_add]

theorem before_1 (t : Fin cfg0.N) (d) : (dat m c).before 1 t d = (J m c).wq := by
  unfold Dat.before; rw [if_pos (fetch0_1 t)]
  funext j
  unfold Dat.fetched Pipeline.Window.fill
  rw [dif_pos ((Pipeline.Window.moved_iff _ _ _).mpr fun a => (j a).isLt)]
  show V1 m c main_v16 _ = V1 m c main_v16 j
  congr 1
  funext a
  apply Fin.ext
  show 0 * _ + 1 * (j a).val = (j a).val
  rw [Nat.zero_mul, Nat.one_mul, Nat.zero_add]

theorem before_2 (t : Fin cfg0.N) (d) : (dat m c).before 2 t d = (J m c).K := by
  unfold Dat.before; rw [if_pos (fetch0_2 t)]
  funext j
  unfold Dat.fetched Pipeline.Window.fill
  rw [dif_pos ((Pipeline.Window.moved_iff _ _ _).mpr fun a => (j a).isLt)]
  show V1 m c main_v19 _ = V1 m c main_v19 j
  congr 1
  funext a
  apply Fin.ext
  show 0 * _ + 1 * (j a).val = (j a).val
  rw [Nat.zero_mul, Nat.one_mul, Nat.zero_add]

theorem before_3 (t : Fin cfg0.N) (d) : (dat m c).before 3 t d = (J m c).V := by
  unfold Dat.before; rw [if_pos (fetch0_3 t)]
  funext j
  unfold Dat.fetched Pipeline.Window.fill
  rw [dif_pos ((Pipeline.Window.moved_iff _ _ _).mpr fun a => (j a).isLt)]
  show V1 m c main_v21 _ = V1 m c main_v21 j
  congr 1
  funext a
  apply Fin.ext
  show 0 * _ + 1 * (j a).val = (j a).val
  rw [Nat.zero_mul, Nat.one_mul, Nat.zero_add]

theorem before_4 (t : Fin cfg0.N) (d) : (dat m c).before 4 t d = (J m c).wo := by
  unfold Dat.before; rw [if_pos (fetch0_4 t)]
  funext j
  unfold Dat.fetched Pipeline.Window.fill
  rw [dif_pos ((Pipeline.Window.moved_iff _ _ _).mpr fun a => (j a).isLt)]
  show V1 m c main_v17 _ = V1 m c main_v17 j
  congr 1
  funext a
  apply Fin.ext
  show 0 * _ + 1 * (j a).val = (j a).val
  rw [Nat.zero_mul, Nat.one_mul, Nat.zero_add]

theorem arrEnd (c : Dev nD) : (dat m c).arrAt 5 cfg0.N = res m c := by
  rw [show cfg0.N = 0 + 1 from N_0]
  unfold Dat.arrAt
  rw [dif_pos (show 0 < cfg0.N by rw [show cfg0.N = 1 from N_0]; decide), if_pos (flush0_5 _)]
  refine (View.write_whole_slice_unit main_v22 _ _ _ _ _).trans ?_
  funext j
  unfold updateSlice
  rw [dif_pos (show _ from fun a => ⟨(Nat.zero_mul _).trans_le (Nat.zero_le _), (j a).isLt.trans_le (Nat.le_add_left _ _)⟩)]
  show res m c _ = res m c j
  congr 1
  funext a
  apply Fin.ext
  show (j a).val - 0 * _ = (j a).val
  rw [Nat.zero_mul, Nat.sub_zero]

end Cert.KernelIdeal.Talk
-- ==== Proof.Region.lean ====
/-
  The kernel's region: the body's obligation, the opening of its semaphores, and the region's record.
-/
module

public import proofs.«01_k».proof.Proof.Dats
public import Idealize.ShloMosaic.Lib.Pipeline.RegionTalk
public import Idealize.ShloMosaic.Lib.Quiescent

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

theorem owed_first : (dat m c).owed t0_0.castSucc = O₀ c := by
  show (if (t0_0.castSucc : Fin (cfg0.N + 1)).val = 0 then O₀ c else 0) = O₀ c; exact if_pos rfl
theorem owed_zero : (dat m c).owed 0 = O₀ c := by
  show (if (0 : Fin (cfg0.N + 1)).val = 0 then O₀ c else 0) = O₀ c; exact if_pos rfl
theorem owed_last : (dat m c).owed (Fin.last _) = 0 := by
  show (if (Fin.last cfg0.N).val = 0 then O₀ c else 0) = 0
  rw [Fin.val_last, if_neg (by rw [show cfg0.N = 1 from N_0]; decide)]
theorem phi_zero : (dat m c).Φ 0 = phi0 m c := by
  show (if (0 : Fin (cfg0.N + 1)).val = 0 then phi0 m c else phi1 c) = _; exact if_pos rfl
theorem phi_first : (dat m c).Φ t0_0.castSucc = phi0 m c := by
  show (if (t0_0.castSucc : Fin (cfg0.N + 1)).val = 0 then phi0 m c else phi1 c) = _; exact if_pos rfl
theorem phi_last : (dat m c).Φ (Fin.last _) = phi1 c := by
  show (if (Fin.last cfg0.N).val = 0 then phi0 m c else phi1 c) = _
  rw [Fin.val_last, if_neg (by rw [show cfg0.N = 1 from N_0]; decide)]

theorem owesAt_intro {d : Dev nD} (dt : Dat τ (Elt F) ℕ ℕ UU ℕ cfg0 d) (t : Fin (cfg0.N + 1)) (O : Tal) (h0 : dt.owed t = O) (hr : dt.recorded t = Set.univ) :
    (owing d O : Prp F) ⊢ dt.owesAt 0 t := by
  unfold Dat.owesAt Pipeline.owesWithin Dat.bound owing; rw [h0, hr]
  iintro ⟨%W, HO⟩; iexists W; isplitr; · ipureintro; exact fun _ _ => Or.inl trivial
  iexact HO
theorem owesAt_elim {d : Dev nD} (dt : Dat τ (Elt F) ℕ ℕ UU ℕ cfg0 d) (t : Fin (cfg0.N + 1)) (O : Tal) (h0 : dt.owed t = O) :
    dt.owesAt 0 t ⊢ (owing d O : Prp F) := by
  unfold Dat.owesAt Pipeline.owesWithin owing; rw [h0]
  iintro ⟨%W, -, HO⟩; iexists W; iexact HO

/-- What the windows' staging buffers hold as the body finds them. -/
def found : Prp F := iprop((∃ d, owns (c.tc : Thread nD τ) xA fullShare ((dat m c).before 0 t0_0 d)) ∗ (∃ d, owns (c.tc : Thread nD τ) wqA fullShare ((dat m c).before 1 t0_0 d))
  ∗ (∃ d, owns (c.tc : Thread nD τ) kA fullShare ((dat m c).before 2 t0_0 d)) ∗ (∃ d, owns (c.tc : Thread nD τ) vA fullShare ((dat m c).before 3 t0_0 d))
  ∗ (∃ d, owns (c.tc : Thread nD τ) woA fullShare ((dat m c).before 4 t0_0 d)) ∗ ∃ d, owns (c.tc : Thread nD τ) outA fullShare ((dat m c).before 5 t0_0 d))
theorem found_elim : found m c ⊢ iprop(ins c (J m c) ∗ ∃ X, owns (c.tc : Thread nD τ) outA fullShare X) := by
  unfold found ins
  iintro ⟨⟨%d0, H0⟩, ⟨%d1, H1⟩, ⟨%d2, H2⟩, ⟨%d3, H3⟩, ⟨%d4, H4⟩, ⟨%d5, H5⟩⟩
  isplitr [H5]
  · isplitl [H0]; · iapply (Entails.of_eq (congrArg (owns (c.tc : Thread nD τ) xA fullShare) (before_0 m c t0_0 d0))) $$ H0
    isplitl [H1]; · iapply (Entails.of_eq (congrArg (owns (c.tc : Thread nD τ) wqA fullShare) (before_1 m c t0_0 d1))) $$ H1
    isplitl [H2]; · iapply (Entails.of_eq (congrArg (owns (c.tc : Thread nD τ) kA fullShare) (before_2 m c t0_0 d2))) $$ H2
    isplitl [H3]; · iapply (Entails.of_eq (congrArg (owns (c.tc : Thread nD τ) vA fullShare) (before_3 m c t0_0 d3))) $$ H3
    iapply (Entails.of_eq (congrArg (owns (c.tc : Thread nD τ) woA fullShare) (before_4 m c t0_0 d4))) $$ H4
  iexists _; iexact H5
/-- What it leaves in them. -/
def leaves : Prp F := iprop(owns (c.tc : Thread nD τ) xA fullShare (J m c).x ∗ owns (c.tc : Thread nD τ) wqA fullShare (J m c).wq
  ∗ owns (c.tc : Thread nD τ) kA fullShare (J m c).K ∗ owns (c.tc : Thread nD τ) vA fullShare (J m c).V
  ∗ owns (c.tc : Thread nD τ) woA fullShare (J m c).wo ∗ owns (c.tc : Thread nD τ) outA fullShare (res m c))
theorem leaves_intro : iprop(ins c (J m c) ∗ owns (c.tc : Thread nD τ) outA fullShare (res m c)) ⊢ leaves m c := by
  unfold leaves ins
  iintro ⟨⟨H0, H1, H2, H3, H4⟩, H5⟩
  isplitl [H0]; · iexact H0
  isplitl [H1]; · iexact H1
  isplitl [H2]; · iexact H2
  isplitl [H3]; · iexact H3
  isplitl [H4] <;> iassumption

/-- The body's run, in the obligation's shape. -/
theorem bodyRun {Q : _ → Prp F} : iprop((phi0 m c ∗ (dat m c).owesAt 0 t0_0.castSucc ∗ found m c)
      ∗ ((phi1 c ∗ (dat m c).owesAt 0 t0_0.succ ∗ leaves m c) -∗ Q ⟨⟩))
    ⊢ WP c PB Q := by
  unfold phi0 Xk
  iintro ⟨⟨⟨Hs, Hp, ⟨%κ, Ho⟩⟩, HO, Hf⟩, HQ⟩
  ihave HO' := (owesAt_elim (dat m c) _ (O₀ c) (owed_first m c)) $$ HO
  ihave Hf' := (found_elim m c) $$ Hf
  icases Hf' with ⟨Hi, Hx⟩
  iapply (wpWhole (J m) κ c)
  isplitl [Ho Hs Hi Hx HO']
  · isplitl [Ho]; · iexact Ho
    isplitl [Hs]; · iexact Hs
    isplitl [Hi]; · iexact Hi
    isplitl [Hx] <;> iassumption
  unfold closed phi1
  iintro ⟨HO, Hi, Hx, Hs, Hsem, Hb⟩
  iapply HQ
  isplitl [Hs Hp Hsem Hb]
  · isplitl [Hs]; · iexact Hs
    isplitl [Hp]; · iexact Hp
    isplitl [Hsem] <;> iassumption
  isplitl [HO]
  · iapply (owesAt_intro (dat m c) t0_0.succ 0 (owed_last m c) rfl) $$ HO
  iapply (leaves_intro m c)
  isplitl [Hi]; · iexact Hi
  iexact Hx

theorem prog_eq : defs₀ (F := F) .tc cfg0.body (cfg0.bodyArgs t0_0 (cfg0.slots t0_0)) = PB := by
  show bodyAt0 t0_0 = PB
  rfl

theorem body : BodyObligation (dat m c) defs₀ 𝒱₀ 0 Set.univ := fun t => by
  obtain rfl := fin_N0 t
  rw [bigSep_W0, bigSep_W0, phi_first m c, show (dat m c).Φ t0_0.succ = phi1 c from phi_last m c, prog_eq]
  iintro ⟨H, HO, H0, H1, H2, H3, H4, H5⟩
  iapply (bodyRun m c)
  isplitl [H HO H0 H1 H2 H3 H4 H5]
  · unfold found
    isplitl [H]; · iexact H
    isplitl [HO]; · iexact HO
    isplitl [H0]; · iexact H0
    isplitl [H1]; · iexact H1
    isplitl [H2]; · iexact H2
    isplitl [H3]; · iexact H3
    isplitl [H4]; · iexact H4
    iexact H5
  · unfold leaves
    iintro ⟨H, HO, H0, H1, H2, H3, H4, H5⟩
    isplitl [H]; · iexact H
    isplitl [HO]; · iexact HO
    isplitl [H0]; · iexact H0
    isplitl [H1]; · iexact H1
    isplitl [H2]; · iexact H2
    isplitl [H3]; · iexact H3
    isplitl [H4]; · iexact H4
    iexact H5

end Cert.KernelIdeal.Talk
-- ==== Proof.Launch.lean ====
/-
  The launch: every cell funded, the region's record, and the run of the whole program: the arguments as launched, the result array at the
  reduced sum of products, every semaphore at zero.
-/
module

public import proofs.«01_k».proof.Proof.Region

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## What the launch keeps for the kernel, and the opening of its semaphores -/

/-- What device c holds from the launch: every cell's invariant, its place at the barrier, the right to open its own cells, the duties it pays and the credit paid to it. -/
def Tk : Prp F :=
  iprop((∃ κ, Invs (cont (J m)) κ) ∗ atPos ER (barCell c) 0 ∅ 0 ∗ (bigSep Finset.univ fun j : Fin 15 => reached ER (barCell (snd c j)) 0)
    ∗ (bigSep osems fun s => openTok ER ((c.tc : Thread nD τ), s))
    ∗ (bigSep Finset.univ fun j : Fin 15 => dutyTok ER (barCell (snd c j)) 0 c) ∗ bigSep (Finset.univ.erase c) (tok c : Dev nD → Prp F)
    ∗ cred (tallyAt (barCell c) 1 15) ∗ (bigSep Finset.univ fun j => cred (tallyAt (rsRecvCell c j) (rsIx c) N))
    ∗ bigSep Finset.univ fun j => cred (tallyAt (agRecvCell c j) 4 N))

theorem invs_osems (κ : GSem nD τ sig → ℕ) :
    Invs (cont (J m)) κ ⊢ (bigSep osems fun s => cellInv ER (Rd (cont (J m))) (κ ((c.tc : Thread nD τ), s)) ((c.tc : Thread nD τ), s) : Prp F) :=
  bigSep_intro_persistent fun s hs => by
    obtain ⟨d, hd, rfl⟩ := Finset.mem_image.mp hs
    exact inv_dma (cont (J m)) κ c d (Finset.mem_filter.mp hd).2

theorem hopen : iprop(Tk m c ∗ Pipeline.ownSems0 osem c ∗ levAts LL lv) ⊢ (|={Set.univ}=> Xk m c : Prp F) := by
  rw [ownSems_eq]
  unfold Tk Xk opened
  iintro ⟨⟨⟨%κ, #HI⟩, Hat, #Hr, Hop, Hd, Ht, H1, H2, H3⟩, Hs, #HL⟩
  ihave HI' := (invs_osems m c κ) $$ HI
  imod (cells_open ER (Rd (cont (J m))) osems (fun s => ((c.tc : Thread nD τ), s)) (fun s => κ ((c.tc : Thread nD τ), s)) (Es := Set.univ) (fun _ _ => Set.mem_univ _)) $$ [HI' Hop Hs] with Ho
  · isplitl [HI' Hop]
    · iapply (show iprop((bigSep osems fun s => cellInv ER (Rd (cont (J m))) (κ ((c.tc : Thread nD τ), s)) ((c.tc : Thread nD τ), s))
          ∗ bigSep osems fun s => openTok ER ((c.tc : Thread nD τ), s)) ⊢ (bigSep osems fun s => iprop(cellInv ER (Rd (cont (J m))) (κ ((c.tc : Thread nD τ), s)) ((c.tc : Thread nD τ), s)
            ∗ openTok ER ((c.tc : Thread nD τ), s)) : Prp F) from Entails.of_eq (bigSep_sep' _ _ _).symm)
      isplitl [HI'] <;> iassumption
    iexact Hs
  imodintro
  iexists κ
  isplitr; · iexact HI
  isplitr; · iexact HL
  isplitl [Hat]; · iexact Hat
  isplitr; · iexact Hr
  isplitl [Ho]; · iexact Ho
  isplitl [Hd]; · iexact Hd
  isplitl [Ht]; · iexact Ht
  isplitl [H1]; · iexact H1
  isplitl [H2] <;> iassumption

/-! ## The region's record -/

theorem scratch_eq : (Pipeline.scopedRest (Ix := ℕ) (Name := ℕ) (U := UU) (Lvl := ℕ) (Val := Elt F) spec0 c : Prp F) = scratch c := by
  rw [scopedRest0_eq]; unfold scratch
  simp only [owns_whole]
  rfl

theorem held_empty (W : Valuation τ sig (Elt F)) : (StableHlo.held (c.tc : Thread nD τ) ∅ W : Prp F) = BI.emp := by
  unfold StableHlo.held; exact BI.bigSep_empty

def Yk : Prp F := semVal (barCell c) 0

theorem hin : iprop(Pipeline.scopedRest spec0 c ∗ (∃ r, prngReg c r) ∗ StableHlo.held (c.tc : Thread nD τ) ∅ (V1 m c) ∗ Xk m c) ⊢ (dat m c).Φ 0 := by
  rw [phi_zero, scratch_eq, held_empty]
  unfold phi0
  iintro ⟨Hs, Hp, -, HX⟩
  isplitl [Hs]; · iexact Hs
  isplitl [Hp] <;> iassumption
theorem hout : (dat m c).Φ (Fin.last cfg0.N)
    ⊢ iprop(Pipeline.scopedRest spec0 c ∗ (∃ r, prngReg c r) ∗ StableHlo.held (c.tc : Thread nD τ) ∅ (VE m c) ∗ Pipeline.ownSems0 osem c ∗ Yk c) := by
  rw [phi_last, scratch_eq, held_empty, ownSems_eq]
  unfold phi1 Yk
  iintro ⟨Hs, Hp, Ho, Hb⟩
  isplitl [Hs]; · iexact Hs
  isplitl [Hp]; · iexact Hp
  isplitr; · iempintro
  isplitl [Ho] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem over_O₀ : Over 0 (O₀ c) := by
  unfold O₀
  refine Over.add (over_sumBar c 1 15) (Over.add (over_sumRs c ord1 ?_) (Over.add (over_sumRs c ord2 ?_) (over_sumAg (by decide) c 1 15))) <;>
  · intro p _; unfold rsIx; split <;> decide

theorem cutD (t : Fin (cfg0.N + 1)) (g : GSem nD τ sig) (i : ℕ) (h : 0 < (dat m c).owed t g i) : i ∈ LL g ∧ (0 : ℕ) < lv g i := by
  have e : (dat m c).owed t = if t.val = 0 then O₀ c else 0 := rfl
  rw [e] at h
  split at h
  · exact over_O₀ c g i h
  · exact absurd h (Nat.lt_irrefl 0)

/-- The buffers the kernel does not stage. -/
abbrev Sr : Finset (DevRef τ sig) := Pipeline.ucRefs τ sig \ Pipeline.arrRefs spec0
theorem arrs_sub : Pipeline.arrRefs (τ := τ) spec0 ⊆ Pipeline.ucRefs τ sig := Pipeline.arrRefs_sub_ucRefs _ (by decide)
theorem VE_rest (b : DevRef τ sig) (hb : b ∈ Sr \ ∅) : VE m c b = V1 m c b := by
  have hb' := (Finset.mem_sdiff.mp (Finset.mem_sdiff.mp hb).1).2
  refine Function.update_of_ne (fun h => hb' ?_) _ _
  rw [h]
  decide
theorem VE_out : VE m c main_v22 = res m c := Function.update_self _ _ _
theorem VE_of (r : Ref sig .tc) (h : r ≠ main_v22) : VE m c r = V1 m c r :=
  Function.update_of_ne (StableHlo.devRef_ne_of_ne h) _ _

theorem hW (w : Fin 6) : (dat m c).arrAt w 0 = V1 m c (Proc.devRef .tc (Pipeline.arrRef spec0 w)) := by
  match w with
  | 0 => rfl | 1 => rfl | 2 => rfl | 3 => rfl | 4 => rfl | 5 => rfl
theorem hW' (w : Fin 6) : (dat m c).arrAt w cfg0.N = VE m c (Proc.devRef .tc (Pipeline.arrRef spec0 w)) := by
  match w with
  | 0 => exact ((dat m c).arrAt_in 0 rfl _).trans (VE_of m c main_v15 (by decide)).symm
  | 1 => exact ((dat m c).arrAt_in 1 rfl _).trans (VE_of m c main_v16 (by decide)).symm
  | 2 => exact ((dat m c).arrAt_in 2 rfl _).trans (VE_of m c main_v19 (by decide)).symm
  | 3 => exact ((dat m c).arrAt_in 3 rfl _).trans (VE_of m c main_v21 (by decide)).symm
  | 4 => exact ((dat m c).arrAt_in 4 rfl _).trans (VE_of m c main_v17 (by decide)).symm
  | 5 => exact (arrEnd m c).trans (VE_out m c).symm

theorem mem_LL (s : SemLoc sig) : 0 ∈ LL ((c.tc : Thread nD τ), s) := by
  unfold LL SiteBlocks.L; rw [if_pos rfl]; decide

set_option backward.isDefEq.respectTransparency.types false in
def reg0 : Pipeline.RegionSeg (pcfgs (F := F)) adm (pdats m) 0 defs₀ 𝒱₀ LL lv 0 :=
  Pipeline.RegionSeg.ofTalk (pcfgs (F := F)) adm (pdats m) 0 defs₀ 𝒱₀ LL lv 0 osem osem_facts
    ∅ Sr (Finset.empty_subset _) kitP rfl (fun c => (body m c).loose)
    (fun _ => 0) O₀ (fun c => (owed_zero m c).trans (zero_add _).symm) (owed_last m) (fun _ => rfl) (fun c w => by unfold Dat.share; split <;> rfl)
    (V1 m) (VE m) (VE_rest m) (Tk m) Yk (Xk m) Yk (hopen m) (hin m) (hout m) (fun c => by iintro H; imodintro; iexact H)
    (fun _ => 0) ⟨fun c w s => mem_LL c _, fun c w s => le_refl 0, fun c t g i h => cutD m c t g i h⟩ (fun _ => iprop(emp)) (hW m) (hW' m)

end Cert.KernelIdeal.Talk
-- ==== Proof.Run.lean ====
/-
  The run of the whole program: the launch's funds dealt, and every device ending with its arguments as launched, its result array at the reduced
  product and its semaphores at zero.
-/
module

public import proofs.«01_k».proof.Proof.Launch

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## The launch's funds -/

/-- A resource as a per-device family: all of it on device d. -/
def onDev (d : Dev nD) (X : Prp F) (c : Dev nD) : Prp F := if c = d then X else iprop(emp)
theorem bigSep_onDev (d : Dev nD) (X : Prp F) : bigSep Finset.univ (onDev d X) = X := by
  rw [bigSep_univ_at _ d, bigSep_congr (s := Finset.univ.erase d) (Ψ := fun _ => (BI.emp : Prp F))
      fun c hc => by unfold onDev; rw [if_neg (Finset.ne_of_mem_erase hc)]; rfl, BI.bigSep_emp_const]
  unfold onDev; rw [if_pos rfl]
  exact BI.equiv_iff.mp sep_emp

/-- The launch element. -/
def u₀ : UU := (initOf (Pipeline.cells cfgs cellOf_inj) (Pipeline.launchToks cfgs cellOf_inj), launchOf fam.S fam.Sd fam.T)
def G : Dev nD → Prp F := onDev 0 (BI.own (ER (launchOf fam.S fam.Sd fam.T)))

theorem unscoped_eq (sm : SemLoc sig) (h : sm.isScoped .tc = false) : sm = .reg barS :=
  (by decide : ∀ sm : SemLoc sig, sm.isScoped .tc = false → sm = .reg barS) sm h
theorem sems_eq : (unscopedSems0 c : Prp F) = semVal (barCell c) 0 := by
  unfold unscopedSems0
  rw [show (Finset.univ.filter fun sm : SemLoc sig => ¬ sm.isScoped .tc) = {SemLoc.reg barS} from by decide, BI.bigSep_singleton]

/-- The devices device c signals. -/
def nb (c : Dev nD) : Finset (Dev nD) := Finset.univ.erase c

theorem Tk_intro : iprop(Pipeline.launchCred O₀ c ∗ fam.launched ER (Rd (cont (J m))) nb c) ⊢ Tk m c := by
  unfold TalkSites.Fam.launched TalkSites.Fam.barPos Tk nb
  rw [cred_deal, bigSep_others, show (Finset.univ : Finset (Fin 1)) = {0} from by decide, BI.bigSep_singleton]
  unfold TalkSites.Fam.rides
  iintro ⟨⟨H1, H2, H3⟩, ⟨⟨⟨%κ, #HI⟩, Hat, Hr⟩, -, Hop, Htok⟩⟩
  ihave Ht' := (show (bigSep (fam.toks c 0) fun x => dutyTok ER x.1 x.2.1 x.2.2) ⊢ (bigSep (toksOf c) fun x => dutyTok ER x.1 x.2.1 x.2.2 : Prp F) from Entails.of_eq rfl) $$ Htok
  ihave Ht := (toks_deal c) $$ Ht'
  icases Ht with ⟨Hd, Ht⟩
  isplitr; · iexists κ; rw [Invs_eq]; iexact HI
  isplitl [Hat]; · iexact Hat
  isplitl [Hr]; · iexact Hr
  isplitl [Hop]; · iexact Hop
  isplitl [Hd]; · iexact Hd
  isplitl [Ht]; · iexact Ht
  isplitl [H1]; · iexact H1
  isplitl [H2] <;> iassumption

theorem fund_all : iprop((bigSep Finset.univ fun c : Dev nD => iprop(semVal (barCell c) 0 ∗ Pipeline.launchCred O₀ c)) ∗ BI.own (ER (launchOf fam.S fam.Sd fam.T)))
    ⊢ (|={Set.univ}=> bigSep Finset.univ (Tk m) : Prp F) := by
  have h := TalkSites.pass O₀ (fam.funds ER (Rd (cont (J m))) (fun _ _ h => h) nb (Es := Set.univ))
  have e : (fun d : Dev nD => (0 : Tal) + O₀ d) = O₀ := funext fun d => zero_add _
  rw [e] at h
  refine (show _ ⊢ _ from h).trans (BI.fupd_mono (bigSep_mono fun c _ => Tk_intro m c))

/-- What each device carries to the kernel beside its buffers. -/
def Rest : Prp F := iprop((∃ r, prngReg c r) ∗ Tk m c ∗ owing c (O₀ c))

theorem init (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts LL lv)
      ⊢ (|={Set.univ}=> bigSep Finset.univ (Rest m) : Prp F) := by
  have h1 : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => iprop(semVal (barCell c) 0 ∗ Pipeline.launchCred O₀ c))
        ∗ (bigSep Finset.univ fun c : Dev nD => iprop((∃ r, prngReg c r) ∗ owing c (O₀ c))) ∗ bigSep Finset.univ G) : Prp F) := by
    rw [← bigSep_sep', ← bigSep_sep']
    refine bigSep_mono fun c _ => ?_
    show iprop(unscopedSems0 c ∗ owes (c : Thread nD τ) (O₀ c) ∅ ∗ Pipeline.launchCred O₀ c ∗ prngReg c (ρ c) ∗ G c)
      ⊢ (iprop((semVal (barCell c) 0 ∗ Pipeline.launchCred O₀ c) ∗ ((∃ r, prngReg c r) ∗ owing c (O₀ c)) ∗ G c) : Prp F)
    rw [sems_eq]; unfold owing
    iintro ⟨Hs, HO, Hc, Hp, HG⟩
    isplitl [Hs Hc]; · isplitl [Hs] <;> iassumption
    isplitl [HO Hp]
    · isplitl [Hp]; · iexists _; iexact Hp
      iexists _; iexact HO
    iexact HG
  have h2 : iprop((bigSep Finset.univ (Tk m)) ∗ bigSep Finset.univ fun c : Dev nD => iprop((∃ r, prngReg c r) ∗ owing c (O₀ c)))
      ⊢ (bigSep Finset.univ (Rest m) : Prp F) := by
    rw [← bigSep_sep']
    refine bigSep_mono fun c _ => ?_
    show iprop(Tk m c ∗ ((∃ r, prngReg c r) ∗ owing c (O₀ c))) ⊢ (Rest m c : Prp F)
    unfold Rest
    iintro ⟨H, Hp, HO⟩
    isplitl [Hp]; · iexact Hp
    isplitl [H] <;> iassumption
  iintro ⟨H, -⟩
  ihave H' := h1 $$ H
  icases H' with ⟨Hs, Hp, HG⟩
  ihave HG' := (show bigSep Finset.univ G ⊢ (BI.own (ER (launchOf fam.S fam.Sd fam.T)) : Prp F) from Entails.of_eq (bigSep_onDev 0 _)) $$ HG
  imod (fund_all m) $$ [Hs HG'] with HT
  · isplitl [Hs] <;> iassumption
  imodintro
  iapply h2
  isplitl [HT] <;> iassumption

/-! ## Entering and leaving the region -/

theorem reg0_pre : iprop(StableHlo.held (c : Thread nD τ) (Pipeline.ucRefs τ sig) (V1 m c) ∗ Rest m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + O₀ c) Wd)
  rw [zero_add, StableHlo.held_sub_split (c.tc : Thread nD τ) arrs_sub (V1 m c)]
  unfold Rest owing
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

/-- Device c at the end. -/
def Tn : Prp F := iprop(StableHlo.held (c : Thread nD τ) (Pipeline.ucRefs τ sig) (VE m c) ∗ semVal (barCell c) 0)

theorem reg0_post : (reg0 m).post c ⊢ iprop(Tn m c ∗ ∃ W, owes (c : Thread nD τ) (0 : Tal) W) := by
  show iprop(StableHlo.held (c.tc : Thread nD τ) (Pipeline.arrRefs (τ := τ) spec0) (VE m c) ∗ (∃ r, prngReg c r)
    ∗ (StableHlo.held (c.tc : Thread nD τ) Sr (VE m c) ∗ emp) ∗ Yk c ∗ ∃ Wd, owes (c : Thread nD τ) (0 : Tal) Wd) ⊢ _
  unfold Tn Yk
  rw [StableHlo.held_sub_split (c.tc : Thread nD τ) arrs_sub (VE m c)]
  iintro ⟨Ha, -, ⟨Hr, -⟩, Hb, HO⟩
  isplitr [HO]
  · isplitl [Ha Hr]
    · isplitl [Ha] <;> iassumption
    iexact Hb
  iexact HO

theorem VE_arg (r : Ref sig .tc) (h : r ≠ main_v22) (h' : r ∉ hostOps0_W) : VE m c r = m ((c.tc : Thread nD τ).loc r) :=
  (VE_of m c r h).trans ((V1_of m c r h').trans rfl)

/-! ## The run -/

/-- What a device ends with. -/
def Ends (s : MemSt nD τ sig (Elt F)) : Prop :=
  (s.mem ((c.tc : Thread nD τ).loc main_v22) = res m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.sem (barCell c) = 0

theorem fin (s' : Phys nD τ sig (Elt F)) : iprop(Tn m c ∗ SI s') ⊢ (|={Set.univ}=> iprop(⌜Ends m c s'.mem⌝ ∗ SI s') : Prp F) := by
  unfold Tn StableHlo.held
  iintro ⟨⟨Hh, Hb⟩, HSI⟩
  icombine HSI Hb gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro
    exact ⟨⟨(h (Proc.devRef .tc main_v22) (Finset.mem_filter.mpr ⟨StableHlo.devRef_mem_tcRefs main_v22, by decide⟩)).trans (VE_out m c),
      (h (Proc.devRef .tc main_arg0) (Finset.mem_filter.mpr ⟨StableHlo.devRef_mem_tcRefs main_arg0, by decide⟩)).trans (VE_arg m c main_arg0 (by decide) (by decide)),
      (h (Proc.devRef .tc main_arg1) (Finset.mem_filter.mpr ⟨StableHlo.devRef_mem_tcRefs main_arg1, by decide⟩)).trans (VE_arg m c main_arg1 (by decide) (by decide)),
      (h (Proc.devRef .tc main_arg2) (Finset.mem_filter.mpr ⟨StableHlo.devRef_mem_tcRefs main_arg2, by decide⟩)).trans (VE_arg m c main_arg2 (by decide) (by decide)),
      (h (Proc.devRef .tc main_arg3) (Finset.mem_filter.mpr ⟨StableHlo.devRef_mem_tcRefs main_arg3, by decide⟩)).trans (VE_arg m c main_arg3 (by decide) (by decide)),
      (h (Proc.devRef .tc main_arg4) (Finset.mem_filter.mpr ⟨StableHlo.devRef_mem_tcRefs main_arg4, by decide⟩)).trans (VE_arg m c main_arg4 (by decide) (by decide))⟩,
      by simpa using hb⟩
  iexact HSI

theorem LL_ne (g : GSem nD τ sig) (h : g.1.2 ≠ .tc) : LL g = ∅ := by
  unfold LL SiteBlocks.L; exact if_neg h

set_option backward.isDefEq.respectTransparency.types false in
/-- The whole program, run from any memory with its counters at zero: every device ends with its result array at res, its arguments unchanged,
    and every counter at zero. -/
theorem run_main (ρ : Dev nD → PrngReg) : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats m) 0 cellOf_inj EP defs₀ 𝒱₀ LL lv m ρ main
    (segs m 𝒱₀ LL lv (fun _ => Rest m) 0 (pdats m) (reg0 m))
    (fun c Q => by
      rewrite [main_chain c, Pipeline.Seg.run_eq_chain,
        show (segs m 𝒱₀ LL lv (fun _ => Rest m) 0 (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := LL_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (Pipeline.ucRefs τ sig) (V0 m c) ∗ Rest m c)) (Tₙ := Tn m)
    (hch := fun c => ⟨.rfl, reg0_pre m c, reg0_post m c⟩)
    (hinit := by
      have hsplit : (bigSep Finset.univ fun c : Dev nD => iprop(unscopedBufs c (fun b => m ((c.tc : Thread nD τ).loc b)) ∗ unscopedSems0 c
            ∗ owes (c.tc : Thread nD τ) (O₀ c) ∅ ∗ Pipeline.launchCred O₀ c ∗ prngReg c (ρ c) ∗ G c))
          ⊢ (iprop((bigSep Finset.univ fun c : Dev nD => StableHlo.held (c : Thread nD τ) (Pipeline.ucRefs τ sig) (V0 m c))
              ∗ bigSep Finset.univ fun c : Dev nD => iprop(unscopedSems0 c ∗ owes (c : Thread nD τ) (O₀ c) ∅ ∗ Pipeline.launchCred O₀ c ∗ prngReg c (ρ c) ∗ G c)) : Prp F) := by
        rw [← bigSep_sep']
        exact bigSep_mono fun c _ => by rw [← Pipeline.unscopedBufs_held (Ix := ℕ) (Name := ℕ) (U := UU) (Lvl := ℕ) c (V0 m c)]; exact BI.Entails.refl _
      iintro ⟨H, Hla⟩
      ihave H' := hsplit $$ H
      icases H' with ⟨Hh, Hr⟩
      imod (init m ρ) $$ [Hr Hla] with HE
      · isplitl [Hr]; · iexact Hr
        iexact Hla
      imodintro
      rw [bigSep_sep']
      isplitl [Hh]; · iexact Hh
      iexact HE)
    (QY := fun c s => Ends m c s)
    (hfin := fun c s' => fin m c s')
    (hQ := fun s h hs => ⟨h, sem_eq_zero hs fun c sm hsm => by
        obtain rfl := unscoped_eq sm hsm
        exact (h c).2⟩)

end Cert.KernelIdeal.Talk
-- ==== Proof.Frames.lean ====
/-
  The frames: the kernel, its idealized program and the reference each run to the end, leave their arguments unchanged and every counter at zero.
-/
module

public import proofs.«01_k».proof.Proof.Run
public import proofs.«01_k».proof.Proof.Gen.Kernel
public import proofs.«01_k».proof.Proof.Gen.ReferenceIdeal.Run
public import proofs.«01_k».proof.Defs
public import Idealize.ShloMosaic.Lib.Quiescent

@[expose] public section

noncomputable section

namespace Cert.Proof

open Idealize.ShloMosaic Idealize.SL.Sem

/-- The frame, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1.2, h.2⟩) (Cert.KernelIdeal.Talk.run_main m ρ)

/-- The two programs' kernel bodies are one text. -/
theorem bodies_eq {F : FTy → Type} [FloatOps F] : @Cert.Kernel.defs₀ F _ _ = @Cert.KernelIdeal.defs₀ F _ _ := by
  unfold Cert.Kernel.defs₀ Cert.KernelIdeal.defs₀
  refine congrArg Defs.onTc (funext fun l => funext fun x => ?_)
  match l, x with
  | 0, (t, s) => rfl
theorem defs_eq {F : FTy → Type} [FloatOps F] : @Cert.Kernel.defs F _ _ = @Cert.KernelIdeal.defs F _ _ := by
  unfold Cert.Kernel.defs Cert.KernelIdeal.defs
  exact congrArg (Pipeline.defs _) bodies_eq

/-- The kernel's frame: its text is the idealized program's. -/
theorem frame_kernel : Cert.quiescent_Kernel := by
  intro m ρ _
  rw [defs_eq]
  exact frame_any (F := Bits) m ρ

/-- The idealized kernel's frame: frame_any at the exact values. -/
theorem frame_ideal : Cert.quiescent_KernelIdeal := fun m ρ _ => frame_any (F := Ideal) m ρ

/-- The reference's frame; it declares no counter. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.RefCanon.lean ====
/-
  The reference's result, by named steps.
-/
module

public import proofs.«01_k».proof.Proof.Gen.ReferenceIdeal.Run
public import Idealize.ShloMosaic.Lib.Pointwise
public import Idealize.ShloMosaic.Lib.Tactic.CleanTypes

@[expose] public section

noncomputable section

namespace Cert.ReferenceIdeal.Steps

open Cert.ReferenceIdeal Cert.ReferenceIdeal.Gen Idealize.ShloMosaic Idealize.ShloMosaic.TcCoe Idealize.SL.Sem

variable {F : FTy → Type} [FloatOps F]

/-- The divisor 64 at every position. -/
def c64 : IVec S512 32 := broadcastInDim S512 ![] bcast_S_S512 (id (constantI S_ 32 64#32))
/-- The positions divided by 64, rounded towards zero. -/
def quo : IVec S512 32 := Host.divsi (iotaInDim S512 32 0) c64
/-- The number of each position's block of 64. -/
def blk : IVec S512 32 :=
  select (andi (cmpi .ne (signi (iotaInDim S512 32 0)) (broadcastInDim S512 ![] bcast_S_S512 (signi (id (constantI S_ 32 64#32)))))
    (cmpi .ne (Host.remsi (iotaInDim S512 32 0) c64) (broadcastInDim S512 ![] bcast_S_S512 (constantI S_ 32 0#32))))
    (subi quo (broadcastInDim S512 ![] bcast_S_S512 (constantI S_ 32 1#32))) quo
/-- The block numbers as a column. -/
def col : IVec S512x1 32 := broadcastInDim S512x1 ![0] bcast_S512_S512x1_0 blk
/-- The block numbers as a row. -/
def row : IVec S1x512 32 := broadcastInDim S1x512 ![1] bcast_S512_S1x512_1 blk
/-- The modulus 4. -/
def c4 : IVec S_ 32 := select (cmpi .eq (id (constantI S_ 32 4#32)) (constantI S_ 32 0#32)) (constantI S_ 32 1#32) (id (constantI S_ 32 4#32))
def neg4 : IVec S_ 1 := cmpi .slt c4 (constantI S_ 32 0#32)
def row4 : IVec S1x512 32 := broadcastInDim S1x512 ![] bcast_S_S1x512 c4
def rowRem : IVec S1x512 32 := Host.remsi row row4
def rowZero : IVec S1x512 32 := broadcastInDim S1x512 ![] bcast_S_S1x512 (constantI S_ 32 0#32)
/-- The block numbers modulo 4, as a row. -/
def rowMod : IVec S1x512 32 :=
  select (andi (cmpi .ne (cmpi .slt rowRem rowZero) (broadcastInDim S1x512 ![] bcast_S_S1x512 neg4)) (cmpi .ne rowRem rowZero)) (addi rowRem row4) rowRem
def col4 : IVec S512x1 32 := broadcastInDim S512x1 ![] bcast_S_S512x1 c4
def colRem : IVec S512x1 32 := Host.remsi col col4
def colZero : IVec S512x1 32 := broadcastInDim S512x1 ![] bcast_S_S512x1 (constantI S_ 32 0#32)
/-- The block numbers modulo 4, as a column. -/
def colMod : IVec S512x1 32 :=
  select (andi (cmpi .ne (cmpi .slt colRem colZero) (broadcastInDim S512x1 ![] bcast_S_S512x1 neg4)) (cmpi .ne colRem colZero)) (addi colRem col4) colRem
/-- The mask: same block, or same block number modulo 4. -/
def mask : IVec S512x512 1 :=
  ori (cmpi .eq (broadcastInDim S512x512 ![0, 1] bcast_S512x1_S512x512_0_1 col) (broadcastInDim S512x512 ![0, 1] bcast_S1x512_S512x512_0_1 row))
    (cmpi .eq (broadcastInDim S512x512 ![0, 1] bcast_S1x512_S512x512_0_1 rowMod) (broadcastInDim S512x512 ![0, 1] bcast_S512x1_S512x512_0_1 colMod))
/-- The rows that keep some key. -/
def keep : IVec S1x1x512x1 1 :=
  broadcastInDim S1x1x512x1 ![2] bcast_S512_S1x1x512x1_2 (Host.reduce IntOp.ori mask (constantI S_ 1 0#1) reducesTo_S512x512_S512_d1 h_S_)

variable (x : FVec F S2x512x768 .f32) (wq : FVec F S768x8192 .f32) (K V : FVec F S2x512x128x64 .f32) (wo : FVec F S8192x768 .f32)

/-- The queries per head. -/
def heads : FVec F S2x512x128x64 .f32 :=
  shapeCast _ (Host.dotGeneral dot_S2x512x768_S768x8192_S2x512x8192_2_0_01_1_n_n none x wq) shapeCasts_S2x512x8192_S2x512x128x64
/-- The scaled scores. -/
def scores : FVec F S2x128x512x512 .f32 :=
  mulf (Host.dotGeneral dot_S2x512x128x64_S2x512x128x64_S2x128x512x512_3_3_1_1_02_02 none (heads x wq) K)
    (broadcastInDim S2x128x512x512 ![] bcast_S_S2x128x512x512 (constant S_ .f32 0x3E000000#32))
/-- The scores with −∞ where the mask is off. -/
def masked : FVec F S2x128x512x512 .f32 :=
  select (broadcastInDim S2x128x512x512 ![0, 1, 2, 3] bcast_S1x1x512x512_S2x128x512x512_0_1_2_3 (broadcastInDim S1x1x512x512 ![2, 3] bcast_S512x512_S1x1x512x512_2_3 mask))
    (scores x wq K) (broadcastInDim S2x128x512x512 ![] bcast_S_S2x128x512x512 (id (constant S_ .f32 0xFF800000#32)))
/-- The largest masked score of each row. -/
def top : FVec F S2x128x512 .f32 :=
  Host.reduce FloatOps.maximumf (masked x wq K) (constant S_ .f32 0xFF800000#32) reducesTo_S2x128x512x512_S2x128x512_d3 h_S_
/-- The weights before they are divided by their sum. -/
def expd : FVec F S2x128x512x512 .f32 :=
  Host.exp (subf (masked x wq K) (broadcastInDim S2x128x512x512 ![0, 1, 2, 3] bcast_S2x128x512x1_S2x128x512x512_0_1_2_3
    (broadcastInDim S2x128x512x1 ![0, 1, 2] bcast_S2x128x512_S2x128x512x1_0_1_2 (top x wq K))))
/-- The sum of a row's weights, 1 for a row that keeps no key. -/
def total : FVec F S2x128x512x1 .f32 :=
  select (broadcastInDim S2x128x512x1 ![0, 1, 2, 3] bcast_S1x1x512x1_S2x128x512x1_0_1_2_3 keep)
    (broadcastInDim S2x128x512x1 ![0, 1, 2] bcast_S2x128x512_S2x128x512x1_0_1_2
      (Host.reduceAdd (expd x wq K) (constant S_ .f32 0x00000000#32) reducesTo_S2x128x512x512_S2x128x512_d3 h_S_))
    (broadcastInDim S2x128x512x1 ![] bcast_S_S2x128x512x1 (id (constant S_ .f32 0x3F800000#32)))
/-- The weights. -/
def weights : FVec F S2x128x512x512 .f32 :=
  select (broadcastInDim S2x128x512x512 ![0, 1, 2, 3] bcast_S1x1x512x1_S2x128x512x512_0_1_2_3 keep)
    (Host.divf (expd x wq K) (broadcastInDim S2x128x512x512 ![0, 1, 2, 3] bcast_S2x128x512x1_S2x128x512x512_0_1_2_3 (total x wq K)))
    (broadcastInDim S2x128x512x512 ![] bcast_S_S2x128x512x512 (id (constant S_ .f32 0x00000000#32)))
/-- The attention, the heads side by side. -/
def context : FVec F S2x512x8192 .f32 :=
  shapeCast _ (transpose S2x512x128x64 [0, 3, 1, 2]
    (Host.dotGeneral dot_S2x512x128x64_S2x128x512x512_S2x128x64x512_1_3_3_2_02_01 none V (weights x wq K))
    transposes_S2x128x64x512_S2x512x128x64_0_3_1_2) shapeCasts_S2x512x128x64_S2x512x8192
/-- The result. -/
def result : FVec F S2x512x768 .f32 :=
  Host.dotGeneral dot_S2x512x8192_S8192x768_S2x512x768_2_0_01_1_n_n none (context x wq K V) wo

omit x wq K V wo in
/-- The run's value is the result of these steps. -/
theorem run_eq (m : (ℓ : Loc nD τ sig) → Buf (Elt F) ℓ) (c : Dev nD) :
    Cert.ReferenceIdeal.Value.res_main_v39 m c = result (m (c.tc.loc main_arg0)) (m (c.tc.loc main_arg1)) (m (c.tc.loc main_arg2)) (m (c.tc.loc main_arg3)) (m (c.tc.loc main_arg4)) := by
  unfold Cert.ReferenceIdeal.Value.res_main_v39
  rfl

end Cert.ReferenceIdeal.Steps
-- ==== Proof.RefVal.lean ====
/-
  The reference's steps over the extended reals, read at an index.
-/
module

public import proofs.«01_k».proof.Proof.RefCanon
public import Idealize.ShloMosaic.Lib.IdealHost
public import Idealize.ShloMosaic.Lib.Routing.OpsOrder

@[expose] public section

noncomputable section

namespace Cert.ReferenceIdeal.Steps

open Cert.ReferenceIdeal Cert.ReferenceIdeal.Gen Idealize.ShloMosaic Idealize.ShloMosaic.TcCoe

/-! ## The mask -/

/-- A word's quotient by 64, rounded down, as the program computes it. -/
theorem blk_aux : ∀ t : Fin 512, Scalar.select
    (IntOp.andi (IntOp.cmpi .ne (if BitVec.ofNat 32 t.val = 0 then 0 else if (BitVec.ofNat 32 t.val).msb then -1 else 1) 1#32)
      (IntOp.cmpi .ne (IntOp.remsi .host (BitVec.ofNat 32 t.val) 64#32) 0#32))
    (IntOp.subi (IntOp.divsi .host (BitVec.ofNat 32 t.val) 64#32) 1#32) (IntOp.divsi .host (BitVec.ofNat 32 t.val) 64#32) = BitVec.ofNat 32 (t.val / 64) := by
  decide +kernel

theorem blk_word (t : Fin 512) : blk (ix1 t) = BitVec.ofNat 32 (t.val / 64) := by
  pointwise [blk, quo, c64]
  exact blk_aux t

/-- A block number modulo 4, as the program computes it. -/
theorem mod_aux : ∀ q : Fin 8, Scalar.select
    (IntOp.andi (IntOp.cmpi .ne (IntOp.cmpi .slt (IntOp.remsi .host (BitVec.ofNat 32 q.val) 4#32) 0#32) (IntOp.cmpi .slt (4#32 : BitVec 32) 0#32))
      (IntOp.cmpi .ne (IntOp.remsi .host (BitVec.ofNat 32 q.val) 4#32) 0#32))
    (IntOp.addi (IntOp.remsi .host (BitVec.ofNat 32 q.val) 4#32) 4#32) (IntOp.remsi .host (BitVec.ofNat 32 q.val) 4#32) = BitVec.ofNat 32 (q.val % 4) := by
  decide +kernel

theorem c4_apply : c4 ix0 = 4#32 := rfl

theorem colMod_apply (t : Fin 512) : colMod (ix2 t 0) = BitVec.ofNat 32 (t.val / 64 % 4) := by
  pointwise [colMod, colRem, col, col4, colZero, neg4, c4_apply, blk_word]
  exact mod_aux ⟨t.val / 64, by omega⟩

theorem rowMod_apply (t : Fin 512) : rowMod (ix2 0 t) = BitVec.ofNat 32 (t.val / 64 % 4) := by
  pointwise [rowMod, rowRem, row, row4, rowZero, neg4, c4_apply, blk_word]
  exact mod_aux ⟨t.val / 64, by omega⟩

variable (x : FVec Ideal S2x512x768 .f32) (wq : FVec Ideal S768x8192 .f32) (K V : FVec Ideal S2x512x128x64 .f32) (wo : FVec Ideal S8192x768 .f32)

theorem heads_apply (b : Fin 2) (t : Fin 512) (h : Fin 128) (e : Fin 64) :
    heads x wq (ix4 b t h e) = ∑ k : Fin 768, x (ix3 b t k) * wq (ix2 k (⟨h.val * 64 + e.val, by omega⟩ : Fin 8192)) := by
  pointwise [heads]

theorem scores_apply (b : Fin 2) (h : Fin 128) (t u : Fin 512) :
    scores x wq K (ix4 b h t u) = (∑ e : Fin 64, heads x wq (ix4 b t h e) * K (ix4 b u h e)) * Ideal.ofBits .f32 0x3E000000#32 := by
  pointwise [scores]

theorem masked_apply (b : Fin 2) (h : Fin 128) (t u : Fin 512) :
    masked x wq K (ix4 b h t u) = Scalar.select (mask (ix2 t u)) (scores x wq K (ix4 b h t u)) (Ideal.ofBits .f32 0xFF800000#32) := by
  pointwise [masked]
  rfl

theorem top_apply (b : Fin 2) (h : Fin 128) (t : Fin 512) :
    top x wq K (ix3 b h t) = Finset.univ.fold max (Ideal.ofBits .f32 0xFF800000#32) fun u : Fin 512 => masked x wq K (ix4 b h t u) := by
  pointwise [top]

theorem expd_apply (b : Fin 2) (h : Fin 128) (t u : Fin 512) :
    expd x wq K (ix4 b h t u) = Ideal.exp (masked x wq K (ix4 b h t u) - top x wq K (ix3 b h t)) := by
  pointwise [expd]

theorem total_apply (b : Fin 2) (h : Fin 128) (t : Fin 512) :
    total x wq K (ix4 b h t 0) = Scalar.select (keep (ix4 0 0 t 0)) (∑ u : Fin 512, expd x wq K (ix4 b h t u)) (1 : EReal) := by
  pointwise [total]
  exact congrArg _ Ideal.ofBits_one_f32

theorem weights_apply (b : Fin 2) (h : Fin 128) (t u : Fin 512) :
    weights x wq K (ix4 b h t u) = Scalar.select (keep (ix4 0 0 t 0)) (Ideal.div (expd x wq K (ix4 b h t u)) (total x wq K (ix4 b h t 0))) (0 : EReal) := by
  pointwise [weights]
  exact congrArg _ Ideal.ofBits_zero_f32

theorem context_apply (b : Fin 2) (t : Fin 512) (k : Fin 8192) :
    context x wq K V (ix3 b t k) = ∑ u : Fin 512, V (ix4 b u (⟨k.val / 64, by omega⟩ : Fin 128) (⟨k.val % 64, by omega⟩ : Fin 64)) * weights x wq K (ix4 b (⟨k.val / 64, by omega⟩ : Fin 128) t u) := by
  pointwise [context]

theorem result_apply (b : Fin 2) (t : Fin 512) (n : Fin 768) :
    result x wq K V wo (ix3 b t n) = ∑ k : Fin 8192, context x wq K V (ix3 b t k) * wo (ix2 k n) := by
  pointwise [result]

theorem keep_apply (t : Fin 512) : keep (ix4 0 0 t 0) = Finset.univ.fold IntOp.ori 0#1 fun u : Fin 512 => mask (ix2 t u) := by
  pointwise [keep]

theorem mask_aux : ∀ p q : Fin 8, IntOp.ori (IntOp.cmpi .eq (BitVec.ofNat 32 p.val) (BitVec.ofNat 32 q.val))
    (IntOp.cmpi .eq (BitVec.ofNat 32 (q.val % 4)) (BitVec.ofNat 32 (p.val % 4))) = 1#1 ↔ p.val % 4 = q.val % 4 := by
  decide +kernel

/-- A query row keeps exactly the keys whose block number agrees with its own modulo 4. -/
theorem mask_apply (t u : Fin 512) : mask (ix2 t u) = 1#1 ↔ t.val / 64 % 4 = u.val / 64 % 4 := by
  pointwise [mask, row, col, rowMod_apply, colMod_apply, blk_word]
  exact mask_aux ⟨t.val / 64, by omega⟩ ⟨u.val / 64, by omega⟩

/-- Every row keeps some key: the one at its own position. -/
theorem keep_one (t : Fin 512) : keep (ix4 0 0 t 0) = 1#1 := by
  rw [keep_apply, Routing.fold_ori]
  exact ⟨t, Finset.mem_univ _, (mask_apply t t).2 rfl⟩

end Cert.ReferenceIdeal.Steps
-- ==== Proof.Softmax.lean ====
/-
  A softmax of real scores over a masked row, and over the kept positions alone, as extended reals.
-/
module

public import proofs.«01_k».proof.Proof.RefVal

@[expose] public section

noncomputable section

namespace Cert.ReferenceIdeal.Soft

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The mask's constant is −∞. -/
theorem neg_inf : Ideal.ofBits .f32 0xFF800000#32 = (⊥ : EReal) := by simp [Ideal.ofBits, Ideal.ieee]

/-- The scores' scale is the real number one eighth. -/
theorem scale_real : Ideal.ofBits .f32 0x3E000000#32 = (((1 : ℝ) / 8 : ℝ) : EReal) := by
  simp [Ideal.ofBits, Ideal.ieee, -EReal.coe_mul]; norm_num

/-- The quotient of two reals. -/
theorem div_real (a b : ℝ) (hb : b ≠ 0) : Ideal.div (a : EReal) (b : EReal) = ((a / b : ℝ) : EReal) := by
  rw [Ideal.div_coe hb, ← EReal.coe_mul, mul_one_div]

section

variable {α β : Type} [Fintype α] [Fintype β] [Nonempty β] (s : α → ℝ) (p : α → Prop) [DecidablePred p]
  (g : β → α) (hg : Function.Injective g) (hp : ∀ a, p a ↔ ∃ b, g b = a)

include hp in
/-- The largest of the kept scores is a real number. -/
theorem top_real : IsReal (Finset.univ.fold max (⊥ : EReal) fun a => if p a then (s a : EReal) else ⊥) := by
  obtain ⟨b⟩ := ‹Nonempty β›
  have hb : ⊥ < Finset.univ.fold max (⊥ : EReal) fun a => if p a then (s a : EReal) else ⊥ :=
    (Finset.lt_fold_max _).2 (Or.inr ⟨g b, Finset.mem_univ _, by rw [if_pos ((hp _).2 ⟨b, rfl⟩)]; exact EReal.bot_lt_coe _⟩)
  have ht : (Finset.univ.fold max (⊥ : EReal) fun a => if p a then (s a : EReal) else ⊥) < ⊤ :=
    (Finset.fold_max_lt _).2 ⟨bot_lt_top, fun a _ => by split_ifs; exacts [EReal.coe_lt_top _, bot_lt_top]⟩
  exact ⟨_, (EReal.coe_toReal ht.ne hb.ne').symm⟩

/-- A masked score less the row's largest, exponentiated: 0 where the mask is off. -/
theorem exp_masked (M : ℝ) (a : α) : Ideal.exp ((if p a then (s a : EReal) else ⊥) - (M : EReal)) = ((if p a then Real.exp (s a - M) else 0 : ℝ) : EReal) := by
  by_cases h : p a
  · rw [if_pos h, if_pos h, ← EReal.coe_sub, Ideal.exp_coe]
  · rw [if_neg h, if_neg h, EReal.bot_sub, Ideal.exp_bot, EReal.coe_zero]

include hg hp in
/-- A sum whose terms are 0 where the mask is off is the sum over the kept positions. -/
theorem sum_kept {M : Type} [AddCommMonoid M] (f : α → M) (hf : ∀ a, ¬ p a → f a = 0) : ∑ a, f a = ∑ b, f (g b) :=
  (Fintype.sum_of_injective g hg (fun b => f (g b)) f (fun a ha => hf a fun h => ha ((hp a).1 h)) fun _ => rfl).symm

include hg hp in
/-- The masked softmax's weighted sum is the softmax over the kept positions alone, without the shift by the largest
    score. -/
theorem softmax (v : α → EReal) (top : EReal) (htop : top = Finset.univ.fold max (⊥ : EReal) fun a => if p a then (s a : EReal) else ⊥) :
    ∑ a, v a * Ideal.div (Ideal.exp ((if p a then (s a : EReal) else ⊥) - top)) (∑ a', Ideal.exp ((if p a' then (s a' : EReal) else ⊥) - top))
      = ∑ b, Ideal.div (Ideal.exp (s (g b) : EReal)) (∑ b', Ideal.exp (s (g b') : EReal)) * v (g b) := by
  obtain ⟨M, hM⟩ := top_real s p g hp
  rw [← htop] at hM
  subst hM
  have hpos : 0 < ∑ b : β, Real.exp (s (g b)) := Finset.sum_pos (fun b _ => Real.exp_pos _) Finset.univ_nonempty
  have hsum : ∑ a, (if p a then Real.exp (s a - M) else 0 : ℝ) = (∑ b : β, Real.exp (s (g b))) / Real.exp M := by
    rw [sum_kept p g hg hp _ (fun a h => if_neg h), Finset.sum_div]
    exact Finset.sum_congr rfl fun b _ => by rw [if_pos ((hp _).2 ⟨b, rfl⟩), Real.exp_sub]
  have hne : (∑ b : β, Real.exp (s (g b))) / Real.exp M ≠ 0 := (div_pos hpos (Real.exp_pos M)).ne'
  simp only [exp_masked, ← coe_sum, hsum, Ideal.exp_coe]
  rw [sum_kept p g hg hp _ (fun a h => by rw [if_neg h, div_real _ _ hne, zero_div, EReal.coe_zero, mul_zero])]
  refine Finset.sum_congr rfl fun b _ => ?_
  rw [if_pos ((hp _).2 ⟨b, rfl⟩), div_real _ _ hne, div_real _ _ hpos.ne', mul_comm, Real.exp_sub, div_div_div_cancel_right₀ (Real.exp_pos M).ne']

end

end Cert.ReferenceIdeal.Soft
-- ==== Proof.Canon.lean ====
/-
  The chunks of the partial product, all by one formula: the attention of one group of rows over the same group of keys, laid side by side,
  and its product with the rows of the output projection the device holds.
-/
module

public import proofs.«01_k».proof.Proof.Dats

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

/-! ## The formula -/

/-- Two groups of 64 rows, one above the other, per head. -/
def glue (a b : FVec F S8x64x64 .bf16) : FVec F S8x128x64 .bf16 :=
  concatenate S8x128x64 1 [⟨S8x64x64, a⟩, ⟨S8x64x64, b⟩] concatenates_S8x64x64_S8x64x64_S8x128x64_d1

/-- The same of two loads. -/
def glue' (a b : Vec F S1x8x64x64 .bf16) : FVec F S8x128x64 .bf16 :=
  glue (shapeCast S8x64x64 a shapeCasts_S1x8x64x64_S8x64x64) (shapeCast S8x64x64 b shapeCasts_S1x8x64x64_S8x64x64)

/-- The weights before they are divided by their sum. -/
def expOf (Q K : FVec F S8x128x64 .bf16) : FVec F S8x128x128 .f32 :=
  exp (mulf (matmul dot_S8x128x64_S8x128x64_S8x128x128_2_2_1_1_0_0 none Q K (constant S8x128x128 .f32 0x00000000#32))
    (broadcast S8x128x128 (Scalar.ofBits .f32 0x3E000000#32)))

/-- The weights. -/
def wgtOf (Q K : FVec F S8x128x64 .bf16) : FVec F S8x128x128 .bf16 :=
  truncf .bf16 (divf (expOf Q K) (broadcastTo S8x128x128 (shapeCast S8x128x1
    (multiReduction .add [2] S8x128 (expOf Q K) 0x00000000#32 reduces_S8x128x128_S8x128 (.inl rfl) rfl)
    shapeCasts_S8x128_S8x128x1) broadcasts_S8x128x1_S8x128x128)) bitsLt_bf16_f32

/-- The attention of the group: the values under the weights. -/
def ctxOf (Q K V : FVec F S8x128x64 .bf16) : FVec F S8x128x64 .bf16 :=
  truncf .bf16 (matmul dot_S8x128x128_S8x128x64_S8x128x64_2_1_1_2_0_0 none (wgtOf Q K) V (constant S8x128x64 .f32 0x00000000#32)) bitsLt_bf16_f32

/-- The eight heads side by side. -/
def flatOf (C : FVec F S8x128x64 .bf16) : FVec F S128x512 .bf16 :=
  concatenate S128x512 1 [
    ⟨S128x64, shapeCast S128x64 (extractStridedSlice S1x128x64 ![0, 0, 0] C slices_S8x128x64_o0_0_0_S1x128x64) shapeCasts_S1x128x64_S128x64⟩,
    ⟨S128x64, shapeCast S128x64 (extractStridedSlice S1x128x64 ![1, 0, 0] C slices_S8x128x64_o1_0_0_S1x128x64) shapeCasts_S1x128x64_S128x64⟩,
    ⟨S128x64, shapeCast S128x64 (extractStridedSlice S1x128x64 ![2, 0, 0] C slices_S8x128x64_o2_0_0_S1x128x64) shapeCasts_S1x128x64_S128x64⟩,
    ⟨S128x64, shapeCast S128x64 (extractStridedSlice S1x128x64 ![3, 0, 0] C slices_S8x128x64_o3_0_0_S1x128x64) shapeCasts_S1x128x64_S128x64⟩,
    ⟨S128x64, shapeCast S128x64 (extractStridedSlice S1x128x64 ![4, 0, 0] C slices_S8x128x64_o4_0_0_S1x128x64) shapeCasts_S1x128x64_S128x64⟩,
    ⟨S128x64, shapeCast S128x64 (extractStridedSlice S1x128x64 ![5, 0, 0] C slices_S8x128x64_o5_0_0_S1x128x64) shapeCasts_S1x128x64_S128x64⟩,
    ⟨S128x64, shapeCast S128x64 (extractStridedSlice S1x128x64 ![6, 0, 0] C slices_S8x128x64_o6_0_0_S1x128x64) shapeCasts_S1x128x64_S128x64⟩,
    ⟨S128x64, shapeCast S128x64 (extractStridedSlice S1x128x64 ![7, 0, 0] C slices_S8x128x64_o7_0_0_S1x128x64) shapeCasts_S1x128x64_S128x64⟩]
    concatenates_S128x64_S128x64_S128x64_S128x64_S128x64_S128x64_S128x64_S128x64_S128x512_d1

/-- The product with the device's rows of the output projection. -/
def partOf (wo : FVec F S512x768 .bf16) (C : FVec F S8x128x64 .bf16) : FVec F S128x768 .bf16 :=
  truncf .bf16 (matmul dot_S128x512_S512x768_S128x768_1_0_0_1_n_n none (flatOf C) wo (constant S128x768 .f32 0x00000000#32)) bitsLt_bf16_f32

/-- The upper 64 rows as a chunk. -/
def loOf (P : FVec F S128x768 .bf16) : Chunk F :=
  shapeCast S1x64x768 (extractStridedSlice S64x768 ![0, 0] P slices_S128x768_o0_0_S64x768) shapeCasts_S64x768_S1x64x768
/-- The lower 64 rows as a chunk. -/
def hiOf (P : FVec F S128x768 .bf16) : Chunk F :=
  shapeCast S1x64x768 (extractStridedSlice S64x768 ![64, 0] P slices_S128x768_o64_0_S64x768) shapeCasts_S64x768_S1x64x768

/-! ## Each group by the formula -/

/-- The product of group 0 of batch 0. -/
def prod00 (I : Ins F) : FVec F S128x768 .bf16 :=
  partOf (v65 I) (ctxOf (glue (extractStridedSlice S8x64x64 ![0, 0, 0] (v88 I) slices_S8x512x64_o0_0_0_S8x64x64)
    (extractStridedSlice S8x64x64 ![0, 256, 0] (v88 I) slices_S8x512x64_o0_256_0_S8x64x64)) (glue' (v92 I) (v94 I)) (glue' (v97 I) (v99 I)))
theorem chunk0_eq (I : Ins F) : chunk I 0 = loOf (prod00 I) := rfl
theorem chunk4_eq (I : Ins F) : chunk I 4 = hiOf (prod00 I) := rfl

/-- The product of group 1 of batch 0. -/
def prod01 (I : Ins F) : FVec F S128x768 .bf16 :=
  partOf (v65 I) (ctxOf (glue (extractStridedSlice S8x64x64 ![0, 64, 0] (v88 I) slices_S8x512x64_o0_64_0_S8x64x64)
    (extractStridedSlice S8x64x64 ![0, 320, 0] (v88 I) slices_S8x512x64_o0_320_0_S8x64x64)) (glue' (v149 I) (v151 I)) (glue' (v154 I) (v156 I)))
theorem chunk1_eq (I : Ins F) : chunk I 1 = loOf (prod01 I) := rfl
theorem chunk5_eq (I : Ins F) : chunk I 5 = hiOf (prod01 I) := rfl

/-- The product of group 2 of batch 0. -/
def prod02 (I : Ins F) : FVec F S128x768 .bf16 :=
  partOf (v65 I) (ctxOf (glue (extractStridedSlice S8x64x64 ![0, 128, 0] (v88 I) slices_S8x512x64_o0_128_0_S8x64x64)
    (extractStridedSlice S8x64x64 ![0, 384, 0] (v88 I) slices_S8x512x64_o0_384_0_S8x64x64)) (glue' (v206 I) (v208 I)) (glue' (v211 I) (v213 I)))
theorem chunk2_eq (I : Ins F) : chunk I 2 = loOf (prod02 I) := rfl
theorem chunk6_eq (I : Ins F) : chunk I 6 = hiOf (prod02 I) := rfl

/-- The product of group 3 of batch 0. -/
def prod03 (I : Ins F) : FVec F S128x768 .bf16 :=
  partOf (v65 I) (ctxOf (glue (extractStridedSlice S8x64x64 ![0, 192, 0] (v88 I) slices_S8x512x64_o0_192_0_S8x64x64)
    (extractStridedSlice S8x64x64 ![0, 448, 0] (v88 I) slices_S8x512x64_o0_448_0_S8x64x64)) (glue' (v263 I) (v265 I)) (glue' (v268 I) (v270 I)))
theorem chunk3_eq (I : Ins F) : chunk I 3 = loOf (prod03 I) := rfl
theorem chunk7_eq (I : Ins F) : chunk I 7 = hiOf (prod03 I) := rfl

/-- The product of group 0 of batch 1. -/
def prod10 (I : Ins F) : FVec F S128x768 .bf16 :=
  partOf (v65 I) (ctxOf (glue (extractStridedSlice S8x64x64 ![0, 0, 0] (v342 I) slices_S8x512x64_o0_0_0_S8x64x64)
    (extractStridedSlice S8x64x64 ![0, 256, 0] (v342 I) slices_S8x512x64_o0_256_0_S8x64x64)) (glue' (v346 I) (v348 I)) (glue' (v351 I) (v353 I)))
theorem chunk8_eq (I : Ins F) : chunk I 8 = loOf (prod10 I) := rfl
theorem chunk12_eq (I : Ins F) : chunk I 12 = hiOf (prod10 I) := rfl

/-- The product of group 1 of batch 1. -/
def prod11 (I : Ins F) : FVec F S128x768 .bf16 :=
  partOf (v65 I) (ctxOf (glue (extractStridedSlice S8x64x64 ![0, 64, 0] (v342 I) slices_S8x512x64_o0_64_0_S8x64x64)
    (extractStridedSlice S8x64x64 ![0, 320, 0] (v342 I) slices_S8x512x64_o0_320_0_S8x64x64)) (glue' (v403 I) (v405 I)) (glue' (v408 I) (v410 I)))
theorem chunk9_eq (I : Ins F) : chunk I 9 = loOf (prod11 I) := rfl
theorem chunk13_eq (I : Ins F) : chunk I 13 = hiOf (prod11 I) := rfl

/-- The product of group 2 of batch 1. -/
def prod12 (I : Ins F) : FVec F S128x768 .bf16 :=
  partOf (v65 I) (ctxOf (glue (extractStridedSlice S8x64x64 ![0, 128, 0] (v342 I) slices_S8x512x64_o0_128_0_S8x64x64)
    (extractStridedSlice S8x64x64 ![0, 384, 0] (v342 I) slices_S8x512x64_o0_384_0_S8x64x64)) (glue' (v460 I) (v462 I)) (glue' (v465 I) (v467 I)))
theorem chunk10_eq (I : Ins F) : chunk I 10 = loOf (prod12 I) := rfl
theorem chunk14_eq (I : Ins F) : chunk I 14 = hiOf (prod12 I) := rfl

/-- The product of group 3 of batch 1. -/
def prod13 (I : Ins F) : FVec F S128x768 .bf16 :=
  partOf (v65 I) (ctxOf (glue (extractStridedSlice S8x64x64 ![0, 192, 0] (v342 I) slices_S8x512x64_o0_192_0_S8x64x64)
    (extractStridedSlice S8x64x64 ![0, 448, 0] (v342 I) slices_S8x512x64_o0_448_0_S8x64x64)) (glue' (v517 I) (v519 I)) (glue' (v522 I) (v524 I)))
theorem chunk11_eq (I : Ins F) : chunk I 11 = loOf (prod13 I) := rfl
theorem chunk15_eq (I : Ins F) : chunk I 15 = hiOf (prod13 I) := rfl

/-- The queries per head of batch 0, by the formula of batch 1. -/
theorem v88_eq (I : Ins F) : v88 I = k0_pay50 (v66 I) (v68 I) := rfl

end Cert.KernelIdeal.Talk
-- ==== Proof.KernelVal.lean ====
/-
  The chunks of the partial product over the extended reals, read at an index.
-/
module

public import proofs.«01_k».proof.Proof.Canon
public import Idealize.ShloMosaic.Lib.Pointwise

@[expose] public section

noncomputable section

namespace Cert.KernelIdeal.Talk

open Idealize.ShloMosaic
open Idealize.ShloMosaic.TcCoe
open Cert.KernelIdeal Cert.KernelIdeal.Gen

/-- The scale of the scores. -/
abbrev scale : EReal := Ideal.ofBits .f32 0x3E000000#32

/-- Two groups of rows at an index. -/
theorem glue_apply (a b : FVec Ideal S8x64x64 .bf16) (h : Fin 8) (i : Fin 128) (e : Fin 64) :
    glue (F := Ideal) a b (ix3 h i e) = if hi : i.val < 64 then a (ix3 h ⟨i.val, hi⟩ e) else b (ix3 h ⟨i.val - 64, by omega⟩ e) := by
  pointwise [glue]

theorem expOf_apply (Q K : FVec Ideal S8x128x64 .bf16) (h : Fin 8) (i j : Fin 128) :
    expOf (F := Ideal) Q K (ix3 h i j) = FloatOps.exp (F := Ideal) (φ := .f32) ((∑ e : Fin 64, Q (ix3 h i e) * K (ix3 h j e)) * scale) := by
  pointwise [expOf]

theorem wgtOf_apply (Q K : FVec Ideal S8x128x64 .bf16) (h : Fin 8) (i j : Fin 128) :
    wgtOf (F := Ideal) Q K (ix3 h i j) = FloatOps.divf (F := Ideal) (φ := .f32) (expOf (F := Ideal) Q K (ix3 h i j)) (∑ j' : Fin 128, expOf (F := Ideal) Q K (ix3 h i j')) := by
  pointwise [wgtOf]

theorem ctxOf_apply (Q K V : FVec Ideal S8x128x64 .bf16) (h : Fin 8) (i : Fin 128) (e : Fin 64) :
    ctxOf (F := Ideal) Q K V (ix3 h i e) = ∑ j : Fin 128, wgtOf (F := Ideal) Q K (ix3 h i j) * V (ix3 h j e) := by
  pointwise [ctxOf]

theorem flatOf_apply (C : FVec Ideal S8x128x64 .bf16) (i : Fin 128) (k : Fin 512) :
    flatOf (F := Ideal) C (ix2 i k) = C (ix3 (⟨k.val / 64, by omega⟩ : Fin 8) i (⟨k.val % 64, by omega⟩ : Fin 64)) := by
  have key : ∀ (a a' : Fin 8) (e e' : Fin 64), a.val = a'.val → e.val = e'.val → C (ix3 a i e) = C (ix3 a' i e') := by
    intro a a' e e' h1 h2
    rw [Fin.ext h1, Fin.ext h2]
  have hk := k.isLt
  pointwise [flatOf]
  split_ifs <;> refine key _ _ _ _ ?_ ?_ <;> simp only [Fin.isValue, Fin.coe_ofNat_eq_mod] <;> omega

theorem partOf_apply (wo : FVec Ideal S512x768 .bf16) (C : FVec Ideal S8x128x64 .bf16) (i : Fin 128) (n : Fin 768) :
    partOf (F := Ideal) wo C (ix2 i n) = ∑ k : Fin 512, C (ix3 (⟨k.val / 64, by omega⟩ : Fin 8) i (⟨k.val % 64, by omega⟩ : Fin 64)) * wo (ix2 k n) := by
  pointwise [partOf]
  simp only [flatOf_apply]

theorem loOf_apply (P : FVec Ideal S128x768 .bf16) (i : Fin 64) (n : Fin 768) :
    loOf (F := Ideal) P (ix3 0 i n) = P (ix2 (⟨i.val, by omega⟩ : Fin 128) n) := by
  pointwise [loOf]
theorem hiOf_apply (P : FVec Ideal S128x768 .bf16) (i : Fin 64) (n : Fin 768) :
    hiOf (F := Ideal) P (ix3 0 i n) = P (ix2 (⟨64 + i.val, by omega⟩ : Fin 128) n) := by
  pointwise [hiOf]

theorem heads_apply (x : FVec Ideal S1x512x768 .bf16) (wq : FVec Ideal S768x512 .bf16) (h : Fin 8) (t : Fin 512) (e : Fin 64) :
    k0_pay50 (F := Ideal) x wq (ix3 h t e) = ∑ k : Fin 768, x (ix3 0 t k) * wq (ix2 k (⟨64 * h.val + e.val, by omega⟩ : Fin 512)) := by
  pointwise [k0_pay50]
  fin_vals h with hk
  all_goals simp only [hk, Nat.reduceSub, Nat.reduceLT, ↓reduceDIte]
  all_goals pointwise

/-! ## The value of a group, as sums -/

section

variable (I : Ins Ideal)

/-- The queries of the device: the product of row t of batch b with column m of the device's query projection. -/
def qv (b : Fin 2) (t m : Fin 512) : EReal := ∑ k : Fin 768, I.x (ix3 b t k) * I.wq (ix2 k m)

/-- Row i of group r: blocks r and r + 4 of 64 rows, one after the other. -/
def rho (r : Fin 4) (i : Fin 128) : Fin 512 :=
  if i.val < 64 then ⟨64 * r.val + i.val, by omega⟩ else ⟨64 * r.val + 192 + i.val, by omega⟩

/-- The scaled score of query row t against key row u, in head h. -/
def sv (b : Fin 2) (h : Fin 8) (t u : Fin 512) : EReal :=
  (∑ e : Fin 64, qv I b t ⟨64 * h.val + e.val, by omega⟩ * I.K (ix4 b h u e)) * scale

/-- The attention of query row t over the keys of group r. -/
def cv (b : Fin 2) (r : Fin 4) (h : Fin 8) (t : Fin 512) (e : Fin 64) : EReal :=
  ∑ j : Fin 128, Ideal.div (Ideal.exp (sv I b h t (rho r j))) (∑ j' : Fin 128, Ideal.exp (sv I b h t (rho r j'))) * I.V (ix4 b h (rho r j) e)

/-- The device's share of the result at row t and column n. -/
def pval (b : Fin 2) (r : Fin 4) (t : Fin 512) (n : Fin 768) : EReal :=
  ∑ k : Fin 512, cv I b r ⟨k.val / 64, by omega⟩ t ⟨k.val % 64, by omega⟩ * I.wo (ix2 k n)

theorem part_value {b : Fin 2} {r : Fin 4} {Q K V : FVec Ideal S8x128x64 .bf16} {wo : FVec Ideal S512x768 .bf16}
    (hQ : ∀ h i e, Q (ix3 h i e) = qv I b (rho r i) ⟨64 * h.val + e.val, by omega⟩)
    (hK : ∀ h i e, K (ix3 h i e) = I.K (ix4 b h (rho r i) e))
    (hV : ∀ h i e, V (ix3 h i e) = I.V (ix4 b h (rho r i) e))
    (hwo : ∀ k n, wo (ix2 k n) = I.wo (ix2 k n)) (i : Fin 128) (n : Fin 768) :
    partOf (F := Ideal) wo (ctxOf (F := Ideal) Q K V) (ix2 i n) = pval I b r (rho r i) n := by
  rw [partOf_apply]
  simp only [ctxOf_apply, wgtOf_apply, expOf_apply, hQ, hK, hV, hwo]
  rfl

end

/-- A load of one row block of one batch, read at an index. -/
theorem ld4 {α : Type} (f : S2x8x512x64.Idx → α) (b o : ℕ) (inb) (z : Fin 1) (h : Fin 8) (t e : Fin 64) (hb : b < 2) (ho : o + 64 ≤ 512) :
    f ((Rect.unit (s := S2x8x512x64) ![b, 0, o, 0] S1x8x64x64.size inb).emb (ix4 z h t e)) = f (ix4 (⟨b, hb⟩ : Fin 2) h (⟨o + t.val, by omega⟩ : Fin 512) e) := by
  have hz : z = 0 := Subsingleton.elim _ _
  subst hz
  refine congrArg f ?_
  funext a
  match a with
  | ⟨0, _⟩ => exact Fin.ext ((unit_emb _ _ _ _ _).trans (by show b + 0 = b; rfl))
  | ⟨1, _⟩ => exact Fin.ext ((unit_emb _ _ _ _ _).trans (by show 0 + h.val = h.val; omega))
  | ⟨2, _⟩ => exact Fin.ext ((unit_emb _ _ _ _ _).trans (by show o + t.val = o + t.val; rfl))
  | ⟨3, _⟩ => exact Fin.ext ((unit_emb _ _ _ _ _).trans (by show 0 + e.val = e.val; omega))

/-- A load of one batch of the rows, read at an index. -/
theorem ld3 {α : Type} (f : S2x512x768.Idx → α) (b : ℕ) (inb) (z : Fin 1) (t : Fin 512) (k : Fin 768) (hb : b < 2) :
    f ((Rect.unit (s := S2x512x768) ![b, 0, 0] S1x512x768.size inb).emb (ix3 z t k)) = f (ix3 (⟨b, hb⟩ : Fin 2) t k) := by
  have hz : z = 0 := Subsingleton.elim _ _
  subst hz
  refine congrArg f ?_
  funext a
  match a with
  | ⟨0, _⟩ => exact Fin.ext ((unit_emb _ _ _ _ _).trans (by show b + 0 = b; rfl))
  | ⟨1, _⟩ => exact Fin.ext ((unit_emb _ _ _ _ _).trans (by show 0 + t.val = t.val; omega))
  | ⟨2, _⟩ => exact Fin.ext ((unit_emb _ _ _ _ _).trans (by show 0 + k.val = k.val; omega))

/-- A load of a whole matrix, read at an index. -/
theorem ld2 {α : Type} {n m : ℕ} (f : (⟨2, ![n, m]⟩ : Shape).Idx → α) (inb) (i : Fin n) (j : Fin m) :
    f ((Rect.unit (s := ⟨2, ![n, m]⟩) ![0, 0] ![n, m] inb).emb (ix2 i j)) = f (ix2 i j) := by
  refine congrArg f ?_
  funext a
  match a with
  | ⟨0, _⟩ => exact Fin.ext ((unit_emb _ _ _ _ _).trans (by show 0 + i.val = i.val; omega))
  | ⟨1, _⟩ => exact Fin.ext ((unit_emb _ _ _ _ _).trans (by show 0 + j.val = j.val; omega))

section

variable (I : Ins Ideal)

theorem v65_apply (k : Fin 512) (n : Fin 768) : v65 I (ix2 k n) = I.wo (ix2 k n) := by
  pointwise [v65, k0_pay21]
  exact ld2 I.wo _ k n

theorem v66_apply (t : Fin 512) (k : Fin 768) : v66 I (ix3 0 t k) = I.x (ix3 0 t k) := ld3 I.x 0 _ 0 t k (by omega)
theorem v320_apply (t : Fin 512) (k : Fin 768) : v320 I (ix3 0 t k) = I.x (ix3 1 t k) := ld3 I.x 1 _ 0 t k (by omega)
theorem v68_apply (k : Fin 768) (m : Fin 512) : v68 I (ix2 k m) = I.wq (ix2 k m) := ld2 I.wq _ k m
theorem v322_apply (k : Fin 768) (m : Fin 512) : v322 I (ix2 k m) = I.wq (ix2 k m) := ld2 I.wq _ k m

theorem v88_apply (h : Fin 8) (t : Fin 512) (e : Fin 64) : v88 I (ix3 h t e) = qv I 0 t ⟨64 * h.val + e.val, by omega⟩ := by
  rw [v88_eq, heads_apply]
  simp only [v66_apply, v68_apply, qv]

theorem v342_apply (h : Fin 8) (t : Fin 512) (e : Fin 64) : v342 I (ix3 h t e) = qv I 1 t ⟨64 * h.val + e.val, by omega⟩ := by
  unfold v342
  rw [heads_apply]
  simp only [v320_apply, v322_apply, qv]

/-- Two loads of row blocks, one after the other, are the rows of a group. -/
theorem glue_rows {X : S2x8x512x64.Idx → EReal} {b : Fin 2} {r : Fin 4} {u w : Vec Ideal S1x8x64x64 .bf16}
    (hu : ∀ h t e, u (ix4 0 h t e) = X (ix4 b h (⟨64 * r.val + t.val, by omega⟩ : Fin 512) e))
    (hw : ∀ h t e, w (ix4 0 h t e) = X (ix4 b h (⟨64 * r.val + 256 + t.val, by omega⟩ : Fin 512) e)) (h : Fin 8) (i : Fin 128) (e : Fin 64) :
    glue' (F := Ideal) u w (ix3 h i e) = X (ix4 b h (rho r i) e) := by
  unfold glue'
  rw [glue_apply]
  unfold rho
  split_ifs with hi
  · refine Eq.trans ?_ (hu h ⟨i.val, hi⟩ e)
    pointwise
  · refine Eq.trans ?_ ((hw h ⟨i.val - 64, by omega⟩ e).trans ?_)
    · pointwise
    · exact congrArg (fun t => X (ix4 b h t e)) (Fin.ext (by show 64 * r.val + 256 + (i.val - 64) = 64 * r.val + 192 + i.val; omega))

/-- Two row blocks of the queries, one after the other, are the rows of a group. -/
theorem glue_queries {b : Fin 2} {r : Fin 4} {u w : FVec Ideal S8x64x64 .bf16}
    (hu : ∀ h t e, u (ix3 h t e) = qv I b ⟨64 * r.val + t.val, by omega⟩ ⟨64 * h.val + e.val, by omega⟩)
    (hw : ∀ h t e, w (ix3 h t e) = qv I b ⟨64 * r.val + 256 + t.val, by omega⟩ ⟨64 * h.val + e.val, by omega⟩) (h : Fin 8) (i : Fin 128) (e : Fin 64) :
    glue (F := Ideal) u w (ix3 h i e) = qv I b (rho r i) ⟨64 * h.val + e.val, by omega⟩ := by
  rw [glue_apply]
  unfold rho
  split_ifs with hi
  · exact hu h ⟨i.val, hi⟩ e
  · refine (hw h ⟨i.val - 64, by omega⟩ e).trans ?_
    exact congrArg (fun t => qv I b t _) (Fin.ext (by show 64 * r.val + 256 + (i.val - 64) = 64 * r.val + 192 + i.val; omega))

theorem prod00_apply (i : Fin 128) (n : Fin 768) : prod00 I (ix2 i n) = pval I 0 0 (rho 0 i) n := by
  unfold prod00
  refine part_value I (b := 0) (r := 0) (glue_queries I (b := 0) (r := 0) ?_ ?_) (glue_rows (X := I.K) (b := 0) (r := 0) ?_ ?_) (glue_rows (X := I.V) (b := 0) (r := 0) ?_ ?_) (v65_apply I) i n
  · intro h t e
    pointwise [v88_apply]
  · intro h t e
    pointwise [v88_apply]
  · intro h t e
    exact ld4 I.K 0 0 _ 0 h t e (by omega) (by omega)
  · intro h t e
    exact ld4 I.K 0 256 _ 0 h t e (by omega) (by omega)
  · intro h t e
    exact ld4 I.V 0 0 _ 0 h t e (by omega) (by omega)
  · intro h t e
    exact ld4 I.V 0 256 _ 0 h t e (by omega) (by omega)

theorem prod01_apply (i : Fin 128) (n : Fin 768) : prod01 I (ix2 i n) = pval I 0 1 (rho 1 i) n := by
  unfold prod01
  refine part_value I (b := 0) (r := 1) (glue_queries I (b := 0) (r := 1) ?_ ?_) (glue_rows (X := I.K) (b := 0) (r := 1) ?_ ?_) (glue_rows (X := I.V) (b := 0) (r := 1) ?_ ?_) (v65_apply I) i n
  · intro h t e
    pointwise [v88_apply]
  · intro h t e
    pointwise [v88_apply]
  · intro h t e
    exact ld4 I.K 0 64 _ 0 h t e (by omega) (by omega)
  · intro h t e
    exact ld4 I.K 0 320 _ 0 h t e (by omega) (by omega)
  · intro h t e
    exact ld4 I.V 0 64 _ 0 h t e (by omega) (by omega)
  · intro h t e
    exact ld4 I.V 0 320 _ 0 h t e (by omega) (by omega)

theorem prod02_apply (i : Fin 128) (n : Fin 768) : prod02 I (ix2 i n) = pval I 0 2 (rho 2 i) n := by
  unfold prod02
  refine part_value I (b := 0) (r := 2) (glue_queries I (b := 0) (r := 2) ?_ ?_) (glue_rows (X := I.K) (b := 0) (r := 2) ?_ ?_) (glue_rows (X := I.V) (b := 0) (r := 2) ?_ ?_) (v65_apply I) i n
  · intro h t e
    pointwise [v88_apply]
  · intro h t e
    pointwise [v88_apply]
  · intro h t e
    exact ld4 I.K 0 128 _ 0 h t e (by omega) (by omega)
  · intro h t e
    exact ld4 I.K 0 384 _ 0 h t e (by omega) (by omega)
  · intro h t e
    exact ld4 I.V 0 128 _ 0 h t e (by omega) (by omega)
  · intro h t e
    exact ld4 I.V 0 384 _ 0 h t e (by omega) (by omega)

theorem prod03_apply (i : Fin 128) (n : Fin 768) : prod03 I (ix2 i n) = pval I 0 3 (rho 3 i) n := by
  unfold prod03
  refine part_value I (b := 0) (r := 3) (glue_queries I (b := 0) (r := 3) ?_ ?_) (glue_rows (X := I.K) (b := 0) (r := 3) ?_ ?_) (glue_rows (X := I.V) (b := 0) (r := 3) ?_ ?_) (v65_apply I) i n
  · intro h t e
    pointwise [v88_apply]
  · intro h t e
    pointwise [v88_apply]
  · intro h t e
    exact ld4 I.K 0 192 _ 0 h t e (by omega) (by omega)
  · intro h t e
    exact ld4 I.K 0 448 _ 0 h t e (by omega) (by omega)
  · intro h t e
    exact ld4 I.V 0 192 _ 0 h t e (by omega) (by omega)
  · intro h t e
    exact ld4 I.V 0 448 _ 0 h t e (by omega) (by omega)

theorem prod10_apply (i : Fin 128) (n : Fin 768) : prod10 I (ix2 i n) = pval I 1 0 (rho 0 i) n := by
  unfold prod10
  refine part_value I (b := 1) (r := 0) (glue_queries I (b := 1) (r := 0) ?_ ?_) (glue_rows (X := I.K) (b := 1) (r := 0) ?_ ?_) (glue_rows (X := I.V) (b := 1) (r := 0) ?_ ?_) (v65_apply I) i n
  · intro h t e
    pointwise [v342_apply]
  · intro h t e
    pointwise [v342_apply]
  · intro h t e
    exact ld4 I.K 1 0 _ 0 h t e (by omega) (by omega)
  · intro h t e
    exact ld4 I.K 1 256 _ 0 h t e (by omega) (by omega)
  · intro h t e
    exact ld4 I.V 1 0 _ 0 h t e (by omega) (by omega)
  · intro h t e
    exact ld4 I.V 1 256 _ 0 h t e (by omega) (by omega)

theorem prod11_apply (i : Fin 128) (n : Fin 768) : prod11 I (ix2 i n) = pval I 1 1 (rho 1 i) n := by
  unfold prod11
  refine part_value I (b := 1) (r := 1) (glue_queries I (b := 1) (r := 1) ?_ ?_) (glue_rows (X := I.K) (b := 1) (r := 1) ?_ ?_) (glue_rows (X := I.V) (b := 1) (r := 1) ?_ ?_) (v65_apply I) i n
  · intro h t e
    pointwise [v342_apply]
  · intro h t e
    pointwise [v342_apply]
  · intro h t e
    exact ld4 I.K 1 64 _ 0 h t e (by omega) (by omega)
  · intro h t e
    exact ld4 I.K 1 320 _ 0 h t e (by omega) (by omega)
  · intro h t e
    exact ld4 I.V 1 64 _ 0 h t e (by omega) (by omega)
  · intro h t e
    exact ld4 I.V 1 320 _ 0 h t e (by omega) (by omega)

theorem prod12_apply (i : Fin 128) (n : Fin 768) : prod12 I (ix2 i n) = pval I 1 2 (rho 2 i) n := by
  unfold prod12
  refine part_value I (b := 1) (r := 2) (glue_queries I (b := 1) (r := 2) ?_ ?_) (glue_rows (X := I.K) (b := 1) (r := 2) ?_ ?_) (glue_rows (X := I.V) (b := 1) (r := 2) ?_ ?_) (v65_apply I) i n
  · intro h t e
    pointwise [v342_apply]
  · intro h t e
    pointwise [v342_apply]
  · intro h t e
    exact ld4 I.K 1 128 _ 0 h t e (by omega) (by omega)
  · intro h t e
    exact ld4 I.K 1 384 _ 0 h t e (by omega) (by omega)
  · intro h t e
    exact ld4 I.V 1 128 _ 0 h t e (by omega) (by omega)
  · intro h t e
    exact ld4 I.V 1 384 _ 0 h t e (by omega) (by omega)

theorem prod13_apply (i : Fin 128) (n : Fin 768) : prod13 I (ix2 i n) = pval I 1 3 (rho 3 i) n := by
  unfold prod13
  refine part_value I (b := 1) (r := 3) (glue_queries I (b := 1) (r := 3) ?_ ?_) (glue_rows (X := I.K) (b := 1) (r := 3) ?_ ?_) (glue_rows (X := I.V) (b := 1) (r := 3) ?_ ?_) (v65_apply I) i n
  · intro h t e
    pointwise [v342_apply]
  · intro h t e
    pointwise [v342_apply]
  · intro h t e
    exact ld4 I.K 1 192 _ 0 h t e (by omega) (by omega)
  · intro h t e
    exact ld4 I.K 1 448 _ 0 h t e (by omega) (by omega)
  · intro h t e
    exact ld4 I.V 1 192 _ 0 h t e (by omega) (by omega)
  · intro h t e
    exact ld4 I.V 1 448 _ 0 h t e (by omega) (by omega)

theorem chunk0_apply (i : Fin 64) (n : Fin 768) : chunk I 0 (ix3 0 i n) = pval I 0 0 (⟨0 + i.val, by omega⟩ : Fin 512) n := by
  rw [chunk0_eq, loOf_apply, prod00_apply]
  refine congrArg (fun t => pval I 0 0 t n) ?_
  unfold rho
  rw [if_pos (by show i.val < 64; omega)]
  exact Fin.ext (by show 64 * 0 + i.val = 0 + i.val; omega)
theorem chunk4_apply (i : Fin 64) (n : Fin 768) : chunk I 4 (ix3 0 i n) = pval I 0 0 (⟨256 + i.val, by omega⟩ : Fin 512) n := by
  rw [chunk4_eq, hiOf_apply, prod00_apply]
  refine congrArg (fun t => pval I 0 0 t n) ?_
  unfold rho
  rw [if_neg (by show ¬ 64 + i.val < 64; omega)]
  exact Fin.ext (by show 64 * 0 + 192 + (64 + i.val) = 256 + i.val; omega)
theorem chunk1_apply (i : Fin 64) (n : Fin 768) : chunk I 1 (ix3 0 i n) = pval I 0 1 (⟨64 + i.val, by omega⟩ : Fin 512) n := by
  rw [chunk1_eq, loOf_apply, prod01_apply]
  refine congrArg (fun t => pval I 0 1 t n) ?_
  unfold rho
  rw [if_pos (by show i.val < 64; omega)]
  exact Fin.ext (by show 64 * 1 + i.val = 64 + i.val; omega)
theorem chunk5_apply (i : Fin 64) (n : Fin 768) : chunk I 5 (ix3 0 i n) = pval I 0 1 (⟨320 + i.val, by omega⟩ : Fin 512) n := by
  rw [chunk5_eq, hiOf_apply, prod01_apply]
  refine congrArg (fun t => pval I 0 1 t n) ?_
  unfold rho
  rw [if_neg (by show ¬ 64 + i.val < 64; omega)]
  exact Fin.ext (by show 64 * 1 + 192 + (64 + i.val) = 320 + i.val; omega)
theorem chunk2_apply (i : Fin 64) (n : Fin 768) : chunk I 2 (ix3 0 i n) = pval I 0 2 (⟨128 + i.val, by omega⟩ : Fin 512) n := by
  rw [chunk2_eq, loOf_apply, prod02_apply]
  refine congrArg (fun t => pval I 0 2 t n) ?_
  unfold rho
  rw [if_pos (by show i.val < 64; omega)]
  exact Fin.ext (by show 64 * 2 + i.val = 128 + i.val; omega)
theorem chunk6_apply (i : Fin 64) (n : Fin 768) : chunk I 6 (ix3 0 i n) = pval I 0 2 (⟨384 + i.val, by omega⟩ : Fin 512) n := by
  rw [chunk6_eq, hiOf_apply, prod02_apply]
  refine congrArg (fun t => pval I 0 2 t n) ?_
  unfold rho
  rw [if_neg (by show ¬ 64 + i.val < 64; omega)]
  exact Fin.ext (by show 64 * 2 + 192 + (64 + i.val) = 384 + i.val; omega)
theorem chunk3_apply (i : Fin 64) (n : Fin 768) : chunk I 3 (ix3 0 i n) = pval I 0 3 (⟨192 + i.val, by omega⟩ : Fin 512) n := by
  rw [chunk3_eq, loOf_apply, prod03_apply]
  refine congrArg (fun t => pval I 0 3 t n) ?_
  unfold rho
  rw [if_pos (by show i.val < 64; omega)]
  exact Fin.ext (by show 64 * 3 + i.val = 192 + i.val; omega)
theorem chunk7_apply (i : Fin 64) (n : Fin 768) : chunk I 7 (ix3 0 i n) = pval I 0 3 (⟨448 + i.val, by omega⟩ : Fin 512) n := by
  rw [chunk7_eq, hiOf_apply, prod03_apply]
  refine congrArg (fun t => pval I 0 3 t n) ?_
  unfold rho
  rw [if_neg (by show ¬ 64 + i.val < 64; omega)]
  exact Fin.ext (by show 64 * 3 + 192 + (64 + i.val) = 448 + i.val; omega)
theorem chunk8_apply (i : Fin 64) (n : Fin 768) : chunk I 8 (ix3 0 i n) = pval I 1 0 (⟨0 + i.val, by omega⟩ : Fin 512) n := by
  rw [chunk8_eq, loOf_apply, prod10_apply]
  refine congrArg (fun t => pval I 1 0 t n) ?_
  unfold rho
  rw [if_pos (by show i.val < 64; omega)]
  exact Fin.ext (by show 64 * 0 + i.val = 0 + i.val; omega)
theorem chunk12_apply (i : Fin 64) (n : Fin 768) : chunk I 12 (ix3 0 i n) = pval I 1 0 (⟨256 + i.val, by omega⟩ : Fin 512) n := by
  rw [chunk12_eq, hiOf_apply, prod10_apply]
  refine congrArg (fun t => pval I 1 0 t n) ?_
  unfold rho
  rw [if_neg (by show ¬ 64 + i.val < 64; omega)]
  exact Fin.ext (by show 64 * 0 + 192 + (64 + i.val) = 256 + i.val; omega)
theorem chunk9_apply (i : Fin 64) (n : Fin 768) : chunk I 9 (ix3 0 i n) = pval I 1 1 (⟨64 + i.val, by omega⟩ : Fin 512) n := by
  rw [chunk9_eq, loOf_apply, prod11_apply]
  refine congrArg (fun t => pval I 1 1 t n) ?_
  unfold rho
  rw [if_pos (by show i.val < 64; omega)]
  exact Fin.ext (by show 64 * 1 + i.val = 64 + i.val; omega)
theorem chunk13_apply (i : Fin 64) (n : Fin 768) : chunk I 13 (ix3 0 i n) = pval I 1 1 (⟨320 + i.val, by omega⟩ : Fin 512) n := by
  rw [chunk13_eq, hiOf_apply, prod11_apply]
  refine congrArg (fun t => pval I 1 1 t n) ?_
  unfold rho
  rw [if_neg (by show ¬ 64 + i.val < 64; omega)]
  exact Fin.ext (by show 64 * 1 + 192 + (64 + i.val) = 320 + i.val; omega)
theorem chunk10_apply (i : Fin 64) (n : Fin 768) : chunk I 10 (ix3 0 i n) = pval I 1 2 (⟨128 + i.val, by omega⟩ : Fin 512) n := by
  rw [chunk10_eq, loOf_apply, prod12_apply]
  refine congrArg (fun t => pval I 1 2 t n) ?_
  unfold rho
  rw [if_pos (by show i.val < 64; omega)]
  exact Fin.ext (by show 64 * 2 + i.val = 128 + i.val; omega)
theorem chunk14_apply (i : Fin 64) (n : Fin 768) : chunk I 14 (ix3 0 i n) = pval I 1 2 (⟨384 + i.val, by omega⟩ : Fin 512) n := by
  rw [chunk14_eq, hiOf_apply, prod12_apply]
  refine congrArg (fun t => pval I 1 2 t n) ?_
  unfold rho
  rw [if_neg (by show ¬ 64 + i.val < 64; omega)]
  exact Fin.ext (by show 64 * 2 + 192 + (64 + i.val) = 384 + i.val; omega)
theorem chunk11_apply (i : Fin 64) (n : Fin 768) : chunk I 11 (ix3 0 i n) = pval I 1 3 (⟨192 + i.val, by omega⟩ : Fin 512) n := by
  rw [chunk11_eq, loOf_apply, prod13_apply]
  refine congrArg (fun t => pval I 1 3 t n) ?_
  unfold rho
  rw [if_pos (by show i.val < 64; omega)]
  exact Fin.ext (by show 64 * 3 + i.val = 192 + i.val; omega)
theorem chunk15_apply (i : Fin 64) (n : Fin 768) : chunk I 15 (ix3 0 i n) = pval I 1 3 (⟨448 + i.val, by omega⟩ : Fin 512) n := by
  rw [chunk15_eq, hiOf_apply, prod13_apply]
  refine congrArg (fun t => pval I 1 3 t n) ?_
  unfold rho
  rw [if_neg (by show ¬ 64 + i.val < 64; omega)]
  exact Fin.ext (by show 64 * 3 + 192 + (64 + i.val) = 448 + i.val; omega)

/-- The group of a row's block. -/
def grp (t : Fin 16) : Fin 4 := ⟨t.val % 4, by omega⟩
/-- The batch of a chunk. -/
def bat (t : Fin 16) : Fin 2 := ⟨t.val / 8, by omega⟩

theorem chunk_aux {t t0 : Fin 16} {b : Fin 2} {r : Fin 4} {k : ℕ} {i : Fin 64} {n : Fin 768} (h : t = t0) (hb : bat t0 = b) (hr : grp t0 = r)
    (hk : 64 * (t0.val % 8) = k) {lt : k + i.val < 512} (hc : chunk I t0 (ix3 0 i n) = pval I b r (⟨k + i.val, lt⟩ : Fin 512) n) :
    chunk I t (ix3 0 i n) = pval I (bat t) (grp t) (⟨64 * (t.val % 8) + i.val, by omega⟩ : Fin 512) n := by
  subst h hb hr hk
  exact hc

/-- Every chunk of the device's partial product, read at an index. -/
theorem chunk_apply (t : Fin 16) (i : Fin 64) (n : Fin 768) :
    chunk I t (ix3 0 i n) = pval I (bat t) (grp t) (⟨64 * (t.val % 8) + i.val, by omega⟩ : Fin 512) n :=
  match t with
  | ⟨0, _⟩ => chunk_aux I (t0 := 0) rfl rfl rfl rfl (chunk0_apply I i n)
  | ⟨1, _⟩ => chunk_aux I (t0 := 1) rfl rfl rfl rfl (chunk1_apply I i n)
  | ⟨2, _⟩ => chunk_aux I (t0 := 2) rfl rfl rfl rfl (chunk2_apply I i n)
  | ⟨3, _⟩ => chunk_aux I (t0 := 3) rfl rfl rfl rfl (chunk3_apply I i n)
  | ⟨4, _⟩ => chunk_aux I (t0 := 4) rfl rfl rfl rfl (chunk4_apply I i n)
  | ⟨5, _⟩ => chunk_aux I (t0 := 5) rfl rfl rfl rfl (chunk5_apply I i n)
  | ⟨6, _⟩ => chunk_aux I (t0 := 6) rfl rfl rfl rfl (chunk6_apply I i n)
  | ⟨7, _⟩ => chunk_aux I (t0 := 7) rfl rfl rfl rfl (chunk7_apply I i n)
  | ⟨8, _⟩ => chunk_aux I (t0 := 8) rfl rfl rfl rfl (chunk8_apply I i n)
  | ⟨9, _⟩ => chunk_aux I (t0 := 9) rfl rfl rfl rfl (chunk9_apply I i n)
  | ⟨10, _⟩ => chunk_aux I (t0 := 10) rfl rfl rfl rfl (chunk10_apply I i n)
  | ⟨11, _⟩ => chunk_aux I (t0 := 11) rfl rfl rfl rfl (chunk11_apply I i n)
  | ⟨12, _⟩ => chunk_aux I (t0 := 12) rfl rfl rfl rfl (chunk12_apply I i n)
  | ⟨13, _⟩ => chunk_aux I (t0 := 13) rfl rfl rfl rfl (chunk13_apply I i n)
  | ⟨14, _⟩ => chunk_aux I (t0 := 14) rfl rfl rfl rfl (chunk14_apply I i n)
  | ⟨15, _⟩ => chunk_aux I (t0 := 15) rfl rfl rfl rfl (chunk15_apply I i n)
  | ⟨k + 16, h⟩ => absurd h (by omega)

end

end Cert.KernelIdeal.Talk
-- ==== Proof.OutVal.lean ====
/-
  The result over the extended reals, read at an index: the sum over the devices of their shares.
-/
module

public import proofs.«01_k».proof.Proof.KernelVal

@[expose] public section

noncomputable section

namespace Cert.KernelIdeal.Talk

open Idealize.ShloMosaic
open Idealize.ShloMosaic.TcCoe
open Cert.KernelIdeal Cert.KernelIdeal.Gen

theorem up_apply (X : Flat Ideal) (i : Fin 64) (n : Fin 768) : up (F := Ideal) X (ix3 0 i n) = X (ix2 i n) := by
  unfold up
  refine congrArg X ?_
  rw [Equiv.symm_apply_eq]
  pointwise

theorem red_apply (X : Chunk Ideal) (Y : Fin 15 → Chunk Ideal) (i : Fin 64) (n : Fin 768) :
    redOf (F := Ideal) X Y (ix2 i n) = X (ix3 0 i n) + ∑ j : Fin 15, Y j (ix3 0 i n) := by
  pointwise [redOf, r1135, r1099, r1075, r1050, r1039, r1015, r991, k0_pay1, k0_pay2, k0_pay3, k0_pay4, k0_pay5, k0_pay6, k0_pay7, k0_pay8, k0_pay9]
  simp only [Fin.sum_univ_succ, Fin.sum_univ_zero, add_zero]
  simp only [add_assoc]
  rfl

theorem own_apply (X : Chunk Ideal) (Y : Fin 15 → Chunk Ideal) (i : Fin 64) (n : Fin 768) :
    ownOf (F := Ideal) X Y (ix3 0 i n) = X (ix3 0 i n) + ∑ j : Fin 15, Y j (ix3 0 i n) := by
  pointwise [ownOf, r1135, r1099, r1075, r1050, r1039, r1015, r991, k0_pay1, k0_pay2, k0_pay3, k0_pay4, k0_pay5, k0_pay6, k0_pay7, k0_pay8, k0_pay10]
  simp only [Fin.sum_univ_succ, Fin.sum_univ_zero, add_zero]
  simp only [add_assoc]
  rfl

theorem spread_apply (X : Chunk Ideal) (i : Fin 64) (n : Fin 768) : k0_pay79 (F := Ideal) X (ix3 0 i n) = X (ix3 0 i n) := by
  pointwise [k0_pay79]

/-- The owner and the fifteen senders are all the devices. -/
theorem all_devices (t : Fin 16) : Function.Bijective (Fin.cons t (snd t) : Fin 16 → Fin 16) := by
  rw [Fintype.bijective_iff_injective_and_card]
  refine ⟨?_, rfl⟩
  revert t
  decide

theorem sum_devices (t : Fin 16) (f : Fin 16 → EReal) : f t + ∑ j : Fin 15, f (snd t j) = ∑ d : Fin 16, f d := by
  rw [← (all_devices t).sum_comp f, Fin.sum_univ_succ]
  rfl

variable (J : Dev nD → Ins Ideal) (c : Dev nD)

/-- The result at an index: the sum of the devices' shares, whichever device holds it. -/
theorem outVal_apply (b : Fin 2) (t : Fin 512) (n : Fin 768) :
    outVal J c (ix3 b t n) = ∑ d : Fin 16, pval (J d) b ⟨t.val / 64 % 4, by omega⟩ t n := by
  have hb := b.isLt
  have ht := t.isLt
  obtain ⟨u, hu⟩ : ∃ u : Fin 16, u = tileOf (ix3 b t n) := ⟨_, rfl⟩
  have huv : u.val = 8 * b.val + t.val / 64 := by rw [hu]; rfl
  have hin : inTile (ix3 b t n) = ix3 0 (⟨t.val % 64, Nat.mod_lt _ (by decide)⟩ : Fin 64) n := by
    funext a
    match a with
    | ⟨0, _⟩ => rfl
    | ⟨1, _⟩ => rfl
    | ⟨2, _⟩ => rfl
  have hall : chunk (J u) u (ix3 0 (⟨t.val % 64, Nat.mod_lt _ (by decide)⟩ : Fin 64) n)
      + ∑ j : Fin 15, chunk (J (snd u j)) u (ix3 0 (⟨t.val % 64, Nat.mod_lt _ (by decide)⟩ : Fin 64) n)
      = ∑ d : Fin 16, pval (J d) b ⟨t.val / 64 % 4, by omega⟩ t n := by
    rw [sum_devices u fun d => chunk (J d) u (ix3 0 (⟨t.val % 64, Nat.mod_lt _ (by decide)⟩ : Fin 64) n)]
    refine Finset.sum_congr rfl fun d _ => ?_
    rw [chunk_apply]
    have h1 : bat u = b := Fin.ext (by show u.val / 8 = b.val; omega)
    have h2 : grp u = ⟨t.val / 64 % 4, by omega⟩ := Fin.ext (by show u.val % 4 = t.val / 64 % 4; omega)
    have h3 : (⟨64 * (u.val % 8) + t.val % 64, by omega⟩ : Fin 512) = t := Fin.ext (by show 64 * (u.val % 8) + t.val % 64 = t.val; omega)
    rw [h1, h2]
    exact congrArg (fun t => pval (J d) b _ t n) h3
  unfold outVal rowsOut
  rw [hin, ← hu]
  beta_reduce
  by_cases h : u = c
  · rw [if_pos h, own_apply, ← hall]
    subst h
    rfl
  · rw [if_neg h, spread_apply, up_apply, red_eq, red_apply, ← hall]
    rfl

end Cert.KernelIdeal.Talk
-- ==== Proof.Match.lean ====
/-
  The reference's result over the extended reals is the sum over the devices of their shares, where the activations, the
  query projection and the keys are real numbers.
-/
module

public import proofs.«01_k».proof.Proof.Softmax
public import proofs.«01_k».proof.Proof.OutVal

@[expose] public section

noncomputable section

namespace Cert.ReferenceIdeal.Soft

open Idealize.ShloMosaic Cert.ReferenceIdeal Cert.ReferenceIdeal.Steps Cert.KernelIdeal.Talk

/-- The kept keys of a row of group `r`: blocks `r` and `r + 4` of 64 rows each. -/
theorem rho_inj (r : Fin 4) : Function.Injective (rho r) := by
  intro i j h
  have h' := congrArg Fin.val h
  have hi := i.isLt
  have hj := j.isLt
  unfold rho at h'
  apply Fin.ext
  split_ifs at h' <;> simp only at h' <;> omega

theorem rho_range (r : Fin 4) (t u : Fin 512) (hr : t.val / 64 % 4 = r.val) : t.val / 64 % 4 = u.val / 64 % 4 ↔ ∃ j, rho r j = u := by
  have hu := u.isLt
  have h4 := r.isLt
  constructor
  · intro h
    by_cases hlt : u.val < 256
    · refine ⟨⟨u.val % 64, by omega⟩, Fin.ext ?_⟩
      unfold rho
      rw [if_pos (show (⟨u.val % 64, _⟩ : Fin 128).val < 64 from Nat.mod_lt _ (by decide))]
      show 64 * r.val + u.val % 64 = u.val
      omega
    · refine ⟨⟨64 + u.val % 64, by omega⟩, Fin.ext ?_⟩
      unfold rho
      rw [if_neg (show ¬ ((⟨64 + u.val % 64, _⟩ : Fin 128).val < 64) from Nat.not_lt.2 (Nat.le_add_right _ _))]
      show 64 * r.val + 192 + (64 + u.val % 64) = u.val
      omega
  · rintro ⟨j, rfl⟩
    have hj := j.isLt
    unfold rho
    split_ifs <;> simp only <;> omega

variable (x : FVec Ideal S2x512x768 .f32) (wq : FVec Ideal S768x8192 .f32) (K V : FVec Ideal S2x512x128x64 .f32) (wo : FVec Ideal S8192x768 .f32)

section

variable (hx : ∀ i, IsReal (x i)) (hwq : ∀ i, IsReal (wq i)) (hK : ∀ i, IsReal (K i))

include hx hwq hK in
/-- The scores of real activations, projection and keys are real. -/
theorem scores_real (b : Fin 2) (h : Fin 128) (t u : Fin 512) : IsReal (scores x wq K (ix4 b h t u)) := by
  rw [scores_apply]
  refine IsReal.mul (IsReal.sum _ _ fun e => IsReal.mul ?_ (hK _)) ⟨_, scale_real⟩
  rw [Steps.heads_apply]
  exact IsReal.sum _ _ fun k => IsReal.mul (hx _) (hwq _)

include hx hwq hK in
/-- The reference's attention at a row: the softmax over the row's 128 kept keys. -/
theorem context_eq (b : Fin 2) (r : Fin 4) (t : Fin 512) (hr : t.val / 64 % 4 = r.val) (k : Fin 8192) (h : Fin 128) (e : Fin 64)
    (hh : k.val / 64 = h.val) (he : k.val % 64 = e.val) :
    context x wq K V (ix3 b t k) = ∑ j : Fin 128, Ideal.div (Ideal.exp (scores x wq K (ix4 b h t (rho r j))))
      (∑ j' : Fin 128, Ideal.exp (scores x wq K (ix4 b h t (rho r j')))) * V (ix4 b (rho r j) h e) := by
  choose s hs using fun u => scores_real x wq K hx hwq hK b h t u
  rw [context_apply, show (⟨k.val / 64, by omega⟩ : Fin 128) = h from Fin.ext hh, show (⟨k.val % 64, by omega⟩ : Fin 64) = e from Fin.ext he]
  have hmask : ∀ u, masked x wq K (ix4 b h t u) = if t.val / 64 % 4 = u.val / 64 % 4 then (s u : EReal) else ⊥ := by
    intro u
    rw [masked_apply, neg_inf, hs u]
    by_cases h : t.val / 64 % 4 = u.val / 64 % 4
    · rw [if_pos h, (mask_apply t u).2 h]; rfl
    · rw [if_neg h]; exact if_neg fun e => h ((mask_apply t u).1 e)
  have hexp : ∀ u, expd x wq K (ix4 b h t u) = Ideal.exp ((if t.val / 64 % 4 = u.val / 64 % 4 then (s u : EReal) else ⊥) - top x wq K (ix3 b h t)) := by
    intro u
    rw [expd_apply, hmask]
  have hw : ∀ u, weights x wq K (ix4 b h t u) = Ideal.div (expd x wq K (ix4 b h t u)) (∑ u' : Fin 512, expd x wq K (ix4 b h t u')) := by
    intro u
    rw [weights_apply, total_apply, keep_one]
    rfl
  simp only [hw, hexp, hs]
  refine softmax s (fun u => t.val / 64 % 4 = u.val / 64 % 4) (rho r) (rho_inj r) (fun u => rho_range r t u hr) (fun u => V (ix4 b u h e)) _ ?_
  rw [top_apply, neg_inf]
  exact Finset.fold_congr fun u _ => hmask u

end

/-- A sum over 8192 rows, by 16 groups of 512. -/
theorem sum_groups (f : Fin 8192 → EReal) : ∑ k, f k = ∑ d : Fin 16, ∑ k : Fin 512, f ⟨512 * d.val + k.val, by omega⟩ := by
  rw [← Fintype.sum_prod_type' (f := fun (d : Fin 16) (k : Fin 512) => f ⟨512 * d.val + k.val, by omega⟩)]
  refine (Fintype.sum_equiv (finProdFinEquiv (m := 16) (n := 512)) _ _ fun q => ?_).symm
  refine congrArg f (Fin.ext ?_)
  show 512 * q.1.val + q.2.val = q.2.val + 512 * q.1.val
  omega

/-- What the devices hold of the whole arrays: all of the activations, 512 columns of the query projection and 512 rows of
    the output projection, and 8 of the 128 heads of the keys and of the values. -/
structure Holds (I : Fin 16 → Ins Ideal) : Prop where
  x : ∀ d b t k, (I d).x (ix3 b t k) = x (ix3 b t k)
  wq : ∀ (d : Fin 16) (k : Fin 768) (n : Fin 512), (I d).wq (ix2 k n) = wq (ix2 k (⟨512 * d.val + n.val, by omega⟩ : Fin 8192))
  K : ∀ (d : Fin 16) (b : Fin 2) (h : Fin 8) (u : Fin 512) (e : Fin 64), (I d).K (ix4 b h u e) = K (ix4 b u (⟨8 * d.val + h.val, by omega⟩ : Fin 128) e)
  V : ∀ (d : Fin 16) (b : Fin 2) (h : Fin 8) (u : Fin 512) (e : Fin 64), (I d).V (ix4 b h u e) = V (ix4 b u (⟨8 * d.val + h.val, by omega⟩ : Fin 128) e)
  wo : ∀ (d : Fin 16) (k : Fin 512) (n : Fin 768), (I d).wo (ix2 k n) = wo (ix2 (⟨512 * d.val + k.val, by omega⟩ : Fin 8192) n)

section

variable {x wq K V wo} {I : Fin 16 → Ins Ideal} (H : Holds x wq K V wo I)

include H in
/-- A device's scores are the reference's for the device's heads. -/
theorem sv_eq (d : Fin 16) (b : Fin 2) (h : Fin 8) (t u : Fin 512) :
    sv (I d) b h t u = scores x wq K (ix4 b (⟨8 * d.val + h.val, by omega⟩ : Fin 128) t u) := by
  rw [scores_apply]
  unfold sv
  refine congrArg (· * _) (Finset.sum_congr rfl fun e _ => ?_)
  rw [H.K, Steps.heads_apply]
  unfold qv
  refine congrArg (· * _) (Finset.sum_congr rfl fun k _ => ?_)
  rw [H.x, H.wq]
  refine congrArg (fun c => x (ix3 b t k) * wq (ix2 k c)) (Fin.ext ?_)
  show 512 * d.val + (64 * h.val + e.val) = (8 * d.val + h.val) * 64 + e.val
  omega

include H in
/-- The reference's result is the sum over the devices of their shares. -/
theorem result_eq (hx : ∀ i, IsReal (x i)) (hwq : ∀ i, IsReal (wq i)) (hK : ∀ i, IsReal (K i)) (b : Fin 2) (t : Fin 512) (n : Fin 768) :
    result x wq K V wo (ix3 b t n) = ∑ d : Fin 16, pval (I d) b (⟨t.val / 64 % 4, by omega⟩ : Fin 4) t n := by
  rw [result_apply, sum_groups]
  refine Finset.sum_congr rfl fun d _ => ?_
  unfold pval
  refine Finset.sum_congr rfl fun k _ => ?_
  rw [H.wo]
  refine congrArg (· * _) ?_
  rw [context_eq x wq K V hx hwq hK b (⟨t.val / 64 % 4, by omega⟩ : Fin 4) t rfl _ (⟨8 * d.val + k.val / 64, by omega⟩ : Fin 128) (⟨k.val % 64, by omega⟩ : Fin 64)
    (show (512 * d.val + k.val) / 64 = 8 * d.val + k.val / 64 by omega) (show (512 * d.val + k.val) % 64 = k.val % 64 by omega)]
  unfold cv
  simp only [sv_eq H, H.V]

end

end Cert.ReferenceIdeal.Soft
-- ==== Proof.HostVal.lean ====
/-
  What each device's host operations stage for the kernel, read at an index of the arguments.
-/
module

public import proofs.«01_k».proof.Proof.OutVal
public import Idealize.ShloMosaic.Lib.StableHlo.ReadAt
public import Idealize.ShloMosaic.Lib.DynamicIndex

@[expose] public section

noncomputable section

namespace Cert.KernelIdeal.Talk

open Idealize.ShloMosaic
open Idealize.ShloMosaic.TcCoe
open Cert.KernelIdeal Cert.KernelIdeal.Gen

variable (m : (ℓ : Loc nD τ sig) → Buf (Elt Ideal) ℓ) (d : Dev nD)

theorem x_apply (b : Fin 2) (t : Fin 512) (k : Fin 768) : (J m d).x (ix3 b t k) = m (d.tc.loc main_arg0) (ix3 b t k) := by
  show V1 m d main_v15 (ix3 b t k) = _
  unfold V1
  after_reads_at

theorem K_apply (b : Fin 2) (h : Fin 8) (t : Fin 512) (e : Fin 64) : (J m d).K (ix4 b h t e) = m (d.tc.loc main_arg2) (ix4 b t h e) := by
  show V1 m d main_v19 (ix4 b h t e) = _
  unfold V1
  after_reads_at

theorem V_apply (b : Fin 2) (h : Fin 8) (t : Fin 512) (e : Fin 64) : (J m d).V (ix4 b h t e) = m (d.tc.loc main_arg3) (ix4 b t h e) := by
  show V1 m d main_v21 (ix4 b h t e) = _
  unfold V1
  after_reads_at

theorem number_word : ∀ d : Dev nD, IntOp.remui .host (IntOp.divui .host d.word 1#32) 16#32 = BitVec.ofNat 32 d.val := by decide

/-- The device's number, as the program computes it. -/
theorem number (j : S_.Idx) : Host.remui (Host.divui (constantI S_ 32 d.word) (constantI S_ 32 1#32)) (constantI S_ 32 16#32) j = BitVec.ofNat 32 d.val := number_word d

theorem start_aux : ∀ d : Dev nD, BitVec.toInt (Scalar.select (IntOp.cmpi CmpIPredicate.slt (IntOp.muli (BitVec.ofNat 32 d.val) 512#32) 0#32) (IntOp.addi (IntOp.muli (BitVec.ofNat 32 d.val) 512#32) 8192#32) (IntOp.muli (BitVec.ofNat 32 d.val) 512#32)) = ((512 * d.val : ℕ) : ℤ) := by
  decide

/-- The first column (row) of the device's query (output) projection, as the program computes it. -/
theorem start_word (w : BitVec 32) (h : w = BitVec.ofNat 32 d.val) :
    BitVec.toInt (Scalar.select (IntOp.cmpi CmpIPredicate.slt (IntOp.muli w 512#32) 0#32) (IntOp.addi (IntOp.muli w 512#32) 8192#32) (IntOp.muli w 512#32)) = ((512 * d.val : ℕ) : ℤ) := by
  subst h
  exact start_aux d

theorem start_wq (j : S_.Idx) : BitVec.toInt ((StableHlo.upto (hostOps0 d) (V0 m d) 14 (Proc.devRef .tc main_v8) : S_.Idx → BitVec 32) j) = ((512 * d.val : ℕ) : ℤ) := by
  refine Eq.trans (congrArg BitVec.toInt ?_) (start_word d _ (number d j))
  after_reads_at
  rfl
theorem start_wo (j : S_.Idx) : BitVec.toInt ((StableHlo.upto (hostOps0 d) (V0 m d) 23 (Proc.devRef .tc main_v13) : S_.Idx → BitVec 32) j) = ((512 * d.val : ℕ) : ℤ) := by
  refine Eq.trans (congrArg BitVec.toInt ?_) (start_word d _ (number d j))
  after_reads_at
  rfl
theorem zero_wq (j : S_.Idx) : BitVec.toInt ((StableHlo.upto (hostOps0 d) (V0 m d) 14 (Proc.devRef .tc main_c_4) : S_.Idx → BitVec 32) j) = 0 := by
  refine Eq.trans (congrArg BitVec.toInt (?_ : _ = 0#32)) rfl
  after_reads_at
theorem zero_wo (j : S_.Idx) : BitVec.toInt ((StableHlo.upto (hostOps0 d) (V0 m d) 23 (Proc.devRef .tc main_c_8) : S_.Idx → BitVec 32) j) = 0 := by
  refine Eq.trans (congrArg BitVec.toInt (?_ : _ = 0#32)) rfl
  after_reads_at

theorem wq_apply (k : Fin 768) (n : Fin 512) : (J m d).wq (ix2 k n) = m (d.tc.loc main_arg1) (ix2 k (⟨512 * d.val + n.val, by have : d.val < 16 := d.isLt; omega⟩ : Fin 8192)) := by
  show V1 m d main_v16 (ix2 k n) = _
  have hd : d.val < 16 := d.isLt
  have h0 := zero_wq m d (Shape.Idx.first h_S_)
  have h1 := start_wq m d (Shape.Idx.first h_S_)
  unfold V1
  after_reads_at
  refine congrArg (m (d.tc.loc main_arg1)) ?_
  refine congrArg₂ ix2 (Fin.ext ?_) (Fin.ext ?_)
  · show (min (max (BitVec.toInt ((StableHlo.upto (hostOps0 d) (V0 m d) 14 (Proc.devRef .tc main_c_4) : S_.Idx → BitVec 32) (Shape.Idx.first h_S_))) 0) ((768 - 768 : ℕ) : ℤ)).toNat + k.val = k.val
    rw [h0]; omega
  · show (min (max (BitVec.toInt ((StableHlo.upto (hostOps0 d) (V0 m d) 14 (Proc.devRef .tc main_v8) : S_.Idx → BitVec 32) (Shape.Idx.first h_S_))) 0) ((8192 - 512 : ℕ) : ℤ)).toNat + n.val = 512 * d.val + n.val
    rw [h1]; omega

theorem wo_apply (k : Fin 512) (n : Fin 768) : (J m d).wo (ix2 k n) = m (d.tc.loc main_arg4) (ix2 (⟨512 * d.val + k.val, by have : d.val < 16 := d.isLt; omega⟩ : Fin 8192) n) := by
  show V1 m d main_v17 (ix2 k n) = _
  have hd : d.val < 16 := d.isLt
  have h0 := zero_wo m d (Shape.Idx.first h_S_)
  have h1 := start_wo m d (Shape.Idx.first h_S_)
  unfold V1
  after_reads_at
  refine congrArg (m (d.tc.loc main_arg4)) ?_
  refine congrArg₂ ix2 (Fin.ext ?_) (Fin.ext ?_)
  · show (min (max (BitVec.toInt ((StableHlo.upto (hostOps0 d) (V0 m d) 23 (Proc.devRef .tc main_v13) : S_.Idx → BitVec 32) (Shape.Idx.first h_S_))) 0) ((8192 - 512 : ℕ) : ℤ)).toNat + k.val = 512 * d.val + k.val
    rw [h1]; omega
  · show (min (max (BitVec.toInt ((StableHlo.upto (hostOps0 d) (V0 m d) 23 (Proc.devRef .tc main_c_8) : S_.Idx → BitVec 32) (Shape.Idx.first h_S_))) 0) ((768 - 768 : ℕ) : ℤ)).toNat + n.val = n.val
    rw [h0]; omega

end Cert.KernelIdeal.Talk
-- ==== Proof.Value.lean ====
/-
  The value claim: every device's result is the reference's result, over the extended reals, where the activations, the
  query projection and the keys are finite.
-/
module

public import proofs.«01_k».proof.Proof.Match
public import proofs.«01_k».proof.Proof.HostVal
public import proofs.«01_k».proof.Proof.Run
public import proofs.«01_k».proof.Proof.Gen.Pre_finite_KernelIdeal
public import proofs.«01_k».proof.Defs
public import Idealize.ShloMosaic.Lib.ReduceAll
public import Idealize.ShloMosaic.Lib.Layout

@[expose] public section

noncomputable section

namespace Cert.Proof

open Idealize.ShloMosaic Idealize.SL.Sem
open Cert.ReferenceIdeal.Soft (IsReal)

/-! ## The precondition -/

theorem pos_inf : Ideal.ofBits .f32 0x7F800000#32 = (⊤ : EReal) := by simp [Ideal.ofBits, Ideal.ieee]

/-- An extended real whose magnitude is below +∞ is a real number. -/
theorem real_of_abs (x : EReal) (h : max x (-x) < ⊤) : IsReal x := by
  have h1 : x ≠ ⊤ := fun e => by rw [e] at h; simp at h
  have h2 : x ≠ ⊥ := fun e => by rw [e] at h; simp at h
  exact ⟨x.toReal, (EReal.coe_toReal h1 h2).symm⟩

/-- One element's test. -/
theorem real_of_test (x y : EReal) (hy : y = ⊤) (h : Ideal.cmp .olt (max x (-x)) y = 1#1) : IsReal x :=
  real_of_abs x (hy ▸ (Ideal.cmp_olt_eq_one _ _).1 h)

theorem and_one (a b : BitVec 1) (h : IntOp.andi a b = 1#1) : a = 1#1 ∧ b = 1#1 := by
  revert a b; decide

open Cert.Pre_finite_KernelIdeal in
/-- The precondition says that the activations, the query projection and a device's keys are real numbers. -/
theorem finite_real (x : FVec Ideal S2x512x768 .f32) (wq : FVec Ideal S768x8192 .f32) (K V : FVec Ideal S2x512x8x64 .f32) (wo : FVec Ideal S8192x768 .f32)
    (h : Cert.Pre_finite_KernelIdeal.fn (F := Ideal) x wq K V wo = fun _ => 1#1) :
    (∀ i, IsReal (x i)) ∧ (∀ i, IsReal (wq i)) ∧ (∀ i, IsReal (K i)) := by
  have h0 := congrFun h ix0
  unfold Cert.Pre_finite_KernelIdeal.fn at h0
  obtain ⟨h12, h3⟩ := and_one _ _ h0
  obtain ⟨h1, h2⟩ := and_one _ _ h12
  haveI : Subsingleton S_.Idx := ⟨fun a b => funext fun k => k.elim0⟩
  exact ⟨fun i => real_of_test _ _ pos_inf (Host.reduce_andi_all _ _ _ _ _ h1 i), fun i => real_of_test _ _ pos_inf (Host.reduce_andi_all _ _ _ _ _ h2 i),
    fun i => real_of_test _ _ pos_inf (Host.reduce_andi_all _ _ _ _ _ h3 i)⟩

end Cert.Proof

namespace Cert.KernelIdeal.Talk

open Idealize.ShloMosaic Idealize.SL.Sem
open Cert.ReferenceIdeal.Soft (IsReal Holds)
open Cert.KernelIdeal

/-- A device's block of 8 heads of an array of 128 heads, at an index. -/
theorem block_at (v : (⟨4, ![2, 512, 128, 64]⟩ : Shape).Idx → EReal) (c : Fin 16) (b : Fin 2) (t : Fin 512) (h : Fin 8) (e : Fin 64) :
    Layout.block ⟨4, ![2, 512, 8, 64]⟩ ⟨4, ![2, 512, 128, 64]⟩ 2 16 c v (by decide) (ix4 b t h e) = v (ix4 b t (⟨8 * c.val + h.val, by omega⟩ : Fin 128) e) := by
  rw [Layout.block_apply]
  refine congrArg v (funext fun k => Fin.ext ?_)
  rw [Layout.Tiles.idx_val]
  match k with
  | 0 => rfl
  | 1 => rfl
  | 2 => exact congrArg (· + h.val) (Nat.mul_comm c.val 8)
  | 3 => rfl

/-- Every real number of the whole keys lies in some device's block. -/
theorem real_of_blocks (K : (⟨4, ![2, 512, 128, 64]⟩ : Shape).Idx → EReal)
    (h : ∀ (c : Fin 16) (b : Fin 2) (t : Fin 512) (k : Fin 8) (e : Fin 64), IsReal (K (ix4 b t (⟨8 * c.val + k.val, by omega⟩ : Fin 128) e))) (i) : IsReal (K i) := by
  have hk : (i 2).val < 128 := (i 2).isLt
  have key := h ⟨(i 2).val / 8, by omega⟩ (i 0) (i 1) ⟨(i 2).val % 8, by omega⟩ (i 3)
  have e : i = ix4 (i 0) (i 1) (⟨8 * ((i 2).val / 8) + (i 2).val % 8, by omega⟩ : Fin 128) (i 3) := by
    funext k
    match k with
    | 0 => rfl
    | 1 => rfl
    | 2 => exact Fin.ext (Nat.div_add_mod _ _).symm
    | 3 => rfl
  rw [e]
  exact key

variable (m : (ℓ : Loc nD τ sig) → Buf (Elt Ideal) ℓ)
  (x : FVec Ideal Cert.ReferenceIdeal.S2x512x768 .f32) (wq : FVec Ideal Cert.ReferenceIdeal.S768x8192 .f32)
  (K V : FVec Ideal Cert.ReferenceIdeal.S2x512x128x64 .f32) (wo : FVec Ideal Cert.ReferenceIdeal.S8192x768 .f32)

/-- From memories that hold the parts of the whole arrays, the kernel is handed them. -/
theorem holds (h0 : ∀ c : Dev nD, m (c.tc.loc main_arg0) = x) (h1 : ∀ c : Dev nD, m (c.tc.loc main_arg1) = wq)
    (h2 : ∀ c : Dev nD, m (c.tc.loc main_arg2) = Layout.block ⟨4, ![2, 512, 8, 64]⟩ ⟨4, ![2, 512, 128, 64]⟩ 2 16 c K)
    (h3 : ∀ c : Dev nD, m (c.tc.loc main_arg3) = Layout.block ⟨4, ![2, 512, 8, 64]⟩ ⟨4, ![2, 512, 128, 64]⟩ 2 16 c V)
    (h4 : ∀ c : Dev nD, m (c.tc.loc main_arg4) = wo) : Holds x wq K V wo (J m) where
  x d b t k := (x_apply m d b t k).trans (congrFun (h0 d) _)
  wq d k n := (wq_apply m d k n).trans (congrFun (h1 d) _)
  K d b h u e := (K_apply m d b h u e).trans ((congrFun (h2 d) _).trans (block_at K d b u h e))
  V d b h u e := (V_apply m d b h u e).trans ((congrFun (h3 d) _).trans (block_at V d b u h e))
  wo d k n := (wo_apply m d k n).trans (congrFun (h4 d) _)

/-- The kernel's result on every device is the reference's. -/
theorem res_eq (H : Holds x wq K V wo (J m)) (hx : ∀ i, IsReal (x i)) (hwq : ∀ i, IsReal (wq i)) (hK : ∀ i, IsReal (K i)) (c : Dev nD) :
    res m c = Cert.ReferenceIdeal.Steps.result x wq K V wo := by
  funext i
  have e : i = ix3 (i 0) (i 1) (i 2) := by
    funext k
    match k with
    | 0 => rfl
    | 1 => rfl
    | 2 => rfl
  rw [e]
  exact (outVal_apply (J m) c (i 0) (i 1) (i 2)).trans (Cert.ReferenceIdeal.Soft.result_eq H hx hwq hK (i 0) (i 1) (i 2)).symm

end Cert.KernelIdeal.Talk

namespace Cert.Proof

open Idealize.ShloMosaic Idealize.SL.Sem

/-- Over the extended reals, every device's result is the reference's result on the whole arrays. -/
theorem algebraic : Cert.algebraic_KernelIdeal_ReferenceIdeal_pre_finite_KernelIdeal := by
  intro m g m' g' hpre hin
  have hreal := fun c => finite_real _ _ _ _ _ (hpre c)
  have H := Cert.KernelIdeal.Talk.holds m _ _ _ _ _ (fun c => (hin c).1) (fun c => (hin c).2.1) (fun c => (hin c).2.2.1) (fun c => (hin c).2.2.2.1)
    (fun c => (hin c).2.2.2.2)
  have hx := (hreal 0).1
  have hwq := (hreal 0).2.1
  rw [(hin 0).1] at hx
  rw [(hin 0).2.1] at hwq
  have hK := Cert.KernelIdeal.Talk.real_of_blocks _ fun c b t k e => by
    have := (hreal c).2.2 (ix4 b t k e)
    rw [(hin c).2.2.1, Cert.KernelIdeal.Talk.block_at] at this
    exact this
  refine ⟨Cert.ReferenceIdeal.Value.res_main_v39 m' 0, (θ_run Cert.KernelIdeal.defs _ _).mono (fun r h c => ?_) (Cert.KernelIdeal.Talk.run_main m g),
    (θ_run Cert.ReferenceIdeal.defs _ _).mono (fun r h => ?_) (Cert.ReferenceIdeal.Value.run (F := Ideal) m' g')⟩
  · exact ⟨(h.1 c).1.1.trans ((Cert.KernelIdeal.Talk.res_eq m _ _ _ _ _ H hx hwq hK c).trans (Cert.ReferenceIdeal.Steps.run_eq m' 0).symm), (h.1 c).1.2⟩
  · exact ⟨(h 0).1, (h 0).2⟩

end Cert.Proof

end
-- ==== Proof.lean ====
/-
  The claims about the kernel, its idealized program and the reference, put together from the modules of Proof/.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m ρ _ => frame_ideal m ρ trivial, frame_reference, fun m ρ _ => frame_reference m ρ trivial, trivial, algebraic⟩

end Cert.Proof

end
